-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  IdealRules.named_const.Statement Cert.KernelIdeal.κ "scale" .f32 0x3DD105EC#32 (((Real.sqrt 96)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale_log2e" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v54)) (v3 : (c : Dev Cert.KernelIdeal.nD) → Buf (Elt Ideal) ((c.tc : Thread Cert.KernelIdeal.nD Cert.KernelIdeal.τ).loc Cert.KernelIdeal.main_v56)) (v4 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_v57) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v18)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v7)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v7) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v26) = v0 c
          ∧ r.2.mem ((c.tc : Thread Cert.Reference29Ideal.nD Cert.Reference29Ideal.τ).loc Cert.Reference29Ideal.main_v27) = v1 c
          ∧ r.2.mem ((c.tc : Thread Cert.Reference29Ideal.nD Cert.Reference29Ideal.τ).loc Cert.Reference29Ideal.main_v28) = v2 c
          ∧ r.2.mem ((c.tc : Thread Cert.Reference29Ideal.nD Cert.Reference29Ideal.τ).loc Cert.Reference29Ideal.main_v25) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v34) = v0 c
          ∧ r.2.mem ((c.tc : Thread Cert.Reference30Ideal.nD Cert.Reference30Ideal.τ).loc Cert.Reference30Ideal.main_v17) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v34) = v0 c
          ∧ r.2.mem ((c.tc : Thread Cert.Reference31Ideal.nD Cert.Reference31Ideal.τ).loc Cert.Reference31Ideal.main_v69) = v1 c
          ∧ r.2.mem ((c.tc : Thread Cert.Reference31Ideal.nD Cert.Reference31Ideal.τ).loc Cert.Reference31Ideal.main_v17) = v2 c
          ∧ r.2.mem ((c.tc : Thread Cert.Reference31Ideal.nD Cert.Reference31Ideal.τ).loc Cert.Reference31Ideal.main_v52) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v30) = v0 c
          ∧ r.2.mem ((c.tc : Thread Cert.Reference32Ideal.nD Cert.Reference32Ideal.τ).loc Cert.Reference32Ideal.main_v50) = v1 c
          ∧ r.2.mem ((c.tc : Thread Cert.Reference32Ideal.nD Cert.Reference32Ideal.τ).loc Cert.Reference32Ideal.main_v51) = v2 c
          ∧ r.2.mem ((c.tc : Thread Cert.Reference32Ideal.nD Cert.Reference32Ideal.τ).loc Cert.Reference32Ideal.main_v33) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg4 : FVec F S8192x8x64 .f32) (main_arg5 : FVec F S8192x8x64 .f32) (main_v3 : IVec S_ 1) (main_v7 : IVec S_ 1) (main_v11 : IVec S_ 1) (main_v15 : IVec S_ 1) : IVec S_ 1 :=
  let main_v16 : FVec F S8192x8x64 .f32 := Host.absf main_arg4
  let main_cst_6 : FVec F S_ .f32 := constant S_ .f32 0x7F800000#32
  let main_v17 : FVec F S8192x8x64 .f32 := broadcastInDim S8192x8x64 ![] bcast_S_S8192x8x64 main_cst_6
  let main_v18 : IVec S8192x8x64 1 := cmpf .olt main_v16 main_v17
  let main_c_7 : IVec S_ 1 := constantI S_ 1 1#1
  let main_v19 : IVec S_ 1 := (fun x v => Host.reduce IntOp.andi x v reducesTo_S8192x8x64_S_d0_1_2 h_S_) main_v18 main_c_7
  let main_v20 : FVec F S8192x8x64 .f32 := Host.absf main_arg5
  let main_cst_8 : FVec F S_ .f32 := constant S_ .f32 0x7F800000#32
  let main_v21 : FVec F S8192x8x64 .f32 := broadcastInDim S8192x8x64 ![] bcast_S_S8192x8x64 main_cst_8
  let main_v22 : IVec S8192x8x64 1 := cmpf .olt main_v20 main_v21
  let main_c_9 : IVec S_ 1 := constantI S_ 1 1#1
  let main_v23 : IVec S_ 1 := (fun x v => Host.reduce IntOp.andi x v reducesTo_S8192x8x64_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : FVec F S8192x32 .f32 := Host.absf main_arg3
  let main_cst_4 : FVec F S_ .f32 := constant S_ .f32 0x7F800000#32
  let main_v13 : FVec F S8192x32 .f32 := broadcastInDim S8192x32 ![] bcast_S_S8192x32 main_cst_4
  let main_v14 : IVec S8192x32 1 := cmpf .olt main_v12 main_v13
  let main_c_5 : IVec S_ 1 := constantI S_ 1 1#1
  let main_v15 : IVec S_ 1 := (fun x v => Host.reduce IntOp.andi x v reducesTo_S8192x32_S_d0_1 h_S_) main_v14 main_c_5
  fn_part1 (F := F) main_arg4 main_arg5 main_v3 main_v7 main_v11 main_v15
-- ==== Pre_finite5.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2816 .f32) (main_arg1 : FVec F S8192x2816 .f32) (main_arg2 : FVec F S2816x1024 .f32) (main_arg3 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Kernel.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8192x1x32 : Shape := ⟨3, ![8192, 1, 32]⟩
abbrev S8192x8x128 : Shape := ⟨3, ![8192, 8, 128]⟩
abbrev S8192x1024 : Shape := ⟨2, ![8192, 1024]⟩
abbrev S2048x128 : Shape := ⟨2, ![2048, 128]⟩
abbrev S8192x128 : Shape := ⟨2, ![8192, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S2048x256 : Shape := ⟨2, ![2048, 256]⟩
abbrev S1792x128 : Shape := ⟨2, ![1792, 128]⟩
abbrev S1792x256 : Shape := ⟨2, ![1792, 256]⟩
abbrev S1536x128 : Shape := ⟨2, ![1536, 128]⟩
abbrev S1536x256 : Shape := ⟨2, ![1536, 256]⟩
abbrev S1280x128 : Shape := ⟨2, ![1280, 128]⟩
abbrev S1280x256 : Shape := ⟨2, ![1280, 256]⟩
abbrev S1024x128 : Shape := ⟨2, ![1024, 128]⟩
abbrev S1024x256 : Shape := ⟨2, ![1024, 256]⟩
abbrev S768x128 : Shape := ⟨2, ![768, 128]⟩
abbrev S768x256 : Shape := ⟨2, ![768, 256]⟩
abbrev S512x128 : Shape := ⟨2, ![512, 128]⟩
abbrev S512x256 : Shape := ⟨2, ![512, 256]⟩

abbrev nBuf : Space → Nat
  | .hbm => 76
  | .vmem => 18
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x64x8192, .f32⟩
  | .hbm, ⟨38, _⟩ => ⟨S8192x8x64, .f32⟩
  | .hbm, ⟨39, _⟩ => ⟨S8x8192x1, .f32⟩
  | .hbm, ⟨40, _⟩ => ⟨S8x8192x1, .f32⟩
  | .hbm, ⟨41, _⟩ => ⟨S8192x8x1, .f32⟩
  | .hbm, ⟨42, _⟩ => ⟨S_, .f32⟩
  | .hbm, ⟨43, _⟩ => ⟨S8192x8x32, .f32⟩
  | .hbm, ⟨44, _⟩ => ⟨S_, .f32⟩
  | .hbm, ⟨45, _⟩ => ⟨S8192x8x64, .f32⟩
  | .hbm, ⟨46, _⟩ => ⟨S8192x1x32, .f32⟩
  | .hbm, ⟨47, _⟩ => ⟨S8192x8x32, .f32⟩
  | .hbm, ⟨48, _⟩ => ⟨S8192x8x128, .f32⟩
  | .hbm, ⟨49, _⟩ => ⟨S8192x1024, .f32⟩
  | .hbm, ⟨50, _⟩ => ⟨S8192x1024, .bf16⟩
  | .hbm, ⟨51, _⟩ => ⟨S8192x8x128, .f32⟩
  | .hbm, ⟨52, _⟩ => ⟨S8192x1024, .f32⟩
  | .hbm, ⟨53, _⟩ => ⟨S8192x1024, .bf16⟩
  | .hbm, ⟨54, _⟩ => ⟨S8192x8x128, .f32⟩
  | .hbm, ⟨55, _⟩ => ⟨S8192x1024, .f32⟩
  | .hbm, ⟨56, _⟩ => ⟨S8192x1024, .bf16⟩
  | .hbm, ⟨57, _⟩ => ⟨S8192x8x128, .f32⟩
  | .hbm, ⟨58, _⟩ => ⟨S8192x1024, .f32⟩
  | .hbm, ⟨59, _⟩ => ⟨S8192x8x128, .f32⟩
  | .hbm, ⟨60, _⟩ => ⟨S8192x1024, .f32⟩
  | .hbm, ⟨61, _⟩ => ⟨S8192x8x128, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x8x128, .f32⟩
  | .hbm, ⟨67, _⟩ => ⟨S8192x8x128, .f32⟩
  | .hbm, ⟨68, _⟩ => ⟨S8192x8x128, .f32⟩
  | .hbm, ⟨69, _⟩ => ⟨S8192x8x64, .f32⟩
  | .hbm, ⟨70, _⟩ => ⟨S8192x8x32, .f32⟩
  | .hbm, ⟨71, _⟩ => ⟨S8192x8x64, .f32⟩
  | .hbm, ⟨72, _⟩ => ⟨S8192x8x32, .f32⟩
  | .hbm, ⟨73, _⟩ => ⟨S_, .f32⟩
  | .hbm, ⟨74, _⟩ => ⟨S8192x32, .f32⟩
  | .hbm, ⟨75, _⟩ => ⟨S8192x8x64, .f32⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_84 : BitVec 32 := 0#32
  let c8_i32 : BitVec 32 := 8#32
  let arg1 : BitVec 32 := BitVec.ofNat 32 (i 1).val
  let v136 : BitVec 32 := Scalar.muli c8_i32 arg1
  let v137 : BitVec 32 := Scalar.subi v136 c0_i32_84
  let c1_i32 : BitVec 32 := 1#32
  let v139 : BitVec 32 := Scalar.divsi v137 c1_i32
  let v140 : BitVec 32 := Scalar.muli v139 c1_i32
  let v141 : BitVec 32 := Scalar.addi c0_i32_84 v140
  let c1_i32_85 : BitVec 32 := 1#32
  ⟨c0_i32_84, v141, c1_i32_85⟩
def k0_mult1 (i : grid0.Coords) (k0_t1 : Fin (k0_t1_loop i).trips) : BitVec 32 :=
  let c0_i32_84 : BitVec 32 := 0#32
  let c1_i32_85 : BitVec 32 := 1#32
  let arg11 : BitVec 32 := Scf.iv c0_i32_84 c1_i32_85 k0_t1
  let c256_i32_532 : BitVec 32 := 256#32
  let v1088 : BitVec 32 := Scalar.muli arg11 c256_i32_532
  v1088
def k0_off1 (i : grid0.Coords) (k0_t1 : Fin (k0_t1_loop i).trips) : Fin 2 → Nat :=
  let c0_i32_84 : BitVec 32 := 0#32
  let c1_i32_85 : BitVec 32 := 1#32
  let arg11 : BitVec 32 := Scf.iv c0_i32_84 c1_i32_85 k0_t1
  let c256_i32_532 : BitVec 32 := 256#32
  let v1088 : BitVec 32 := Scalar.muli arg11 c256_i32_532
  let v1089 : BitVec 32 := v1088
  let v1090 : Index := Scalar.indexCast v1089
  let c0_533 : Index := 0#32
  ![v1090.toNat, 0]
@[reducible] def k0_t2_loop (i : grid0.Coords) : Scf.Loop 32 :=
  let c0_i32_84 : BitVec 32 := 0#32
  let c8_i32 : BitVec 32 := 8#32
  let arg1 : BitVec 32 := BitVec.ofNat 32 (i 1).val
  let v136 : BitVec 32 := Scalar.muli c8_i32 arg1
  let v137 : BitVec 32 := Scalar.subi v136 c0_i32_84
  let c1_i32 : BitVec 32 := 1#32
  let v139 : BitVec 32 := Scalar.divsi v137 c1_i32
  let v140 : BitVec 32 := Scalar.muli v139 c1_i32
  let v141 : BitVec 32 := Scalar.addi c0_i32_84 v140
  let v138 : BitVec 32 := Scalar.addi c0_i32_84 v137
  let c1_i32_86 : BitVec 32 := 1#32
  ⟨v141, v138, c1_i32_86⟩
def k0_mult2 (i : grid0.Coords) (k0_t2 : Fin (k0_t2_loop i).trips) : BitVec 32 :=
  let c0_i32_84 : BitVec 32 := 0#32
  let c8_i32 : BitVec 32 := 8#32
  let arg1 : BitVec 32 := BitVec.ofNat 32 (i 1).val
  let v136 : BitVec 32 := Scalar.muli c8_i32 arg1
  let v137 : BitVec 32 := Scalar.subi v136 c0_i32_84
  let c1_i32 : BitVec 32 := 1#32
  let v139 : BitVec 32 := Scalar.divsi v137 c1_i32
  let v140 : BitVec 32 := Scalar.muli v139 c1_i32
  let v141 : BitVec 32 := Scalar.addi c0_i32_84 v140
  let c1_i32_86 : BitVec 32 := 1#32
  let arg11 : BitVec 32 := Scf.iv v141 c1_i32_86 k0_t2
  let c256_i32_532 : BitVec 32 := 256#32
  let v1088 : BitVec 32 := Scalar.muli arg11 c256_i32_532
  v1088
def k0_off2 (i : grid0.Coords) (k0_t2 : Fin (k0_t2_loop i).trips) : Fin 2 → Nat :=
  let c0_i32_84 : BitVec 32 := 0#32
  let c8_i32 : BitVec 32 := 8#32
  let arg1 : BitVec 32 := BitVec.ofNat 32 (i 1).val
  let v136 : BitVec 32 := Scalar.muli c8_i32 arg1
  let v137 : BitVec 32 := Scalar.subi v136 c0_i32_84
  let c1_i32 : BitVec 32 := 1#32
  let v139 : BitVec 32 := Scalar.divsi v137 c1_i32
  let v140 : BitVec 32 := Scalar.muli v139 c1_i32
  let v141 : BitVec 32 := Scalar.addi c0_i32_84 v140
  let c1_i32_86 : BitVec 32 := 1#32
  let arg11 : BitVec 32 := Scf.iv v141 c1_i32_86 k0_t2
  let c256_i32_532 : BitVec 32 := 256#32
  let v1088 : BitVec 32 := Scalar.muli arg11 c256_i32_532
  let v1089 : BitVec 32 := v1088
  let v1090 : Index := Scalar.indexCast v1089
  let c0_533 : Index := 0#32
  ![v1090.toNat, 0]
def k0_mult3 (i : grid0.Coords) : BitVec 32 :=
  let c8_i32_87 : BitVec 32 := 8#32
  let arg1 : BitVec 32 := BitVec.ofNat 32 (i 1).val
  let v142 : BitVec 32 := Scalar.muli c8_i32_87 arg1
  let c0_i32_88 : BitVec 32 := 0#32
  let v143 : BitVec 32 := Scalar.addi v142 c0_i32_88
  let c256_i32 : BitVec 32 := 256#32
  let v144 : BitVec 32 := Scalar.muli v143 c256_i32
  v144
def k0_off3 (i : grid0.Coords) (c0_i32_88 : BitVec 32) : Fin 2 → Nat :=
  let c8_i32_87 : BitVec 32 := 8#32
  let arg1 : BitVec 32 := BitVec.ofNat 32 (i 1).val
  let v142 : BitVec 32 := Scalar.muli c8_i32_87 arg1
  let v143 : BitVec 32 := Scalar.addi v142 c0_i32_88
  let c256_i32 : BitVec 32 := 256#32
  let v144 : BitVec 32 := Scalar.muli v143 c256_i32
  let v145 : BitVec 32 := v144
  let v146 : Index := Scalar.indexCast v145
  let c0_89 : Index := 0#32
  ![v146.toNat, 0]
def k0_mult4 (i : grid0.Coords) : BitVec 32 :=
  let c8_i32_174 : BitVec 32 := 8#32
  let arg1 : BitVec 32 := BitVec.ofNat 32 (i 1).val
  let v327 : BitVec 32 := Scalar.muli c8_i32_174 arg1
  let c1_i32_175 : BitVec 32 := 1#32
  let v328 : BitVec 32 := Scalar.addi v327 c1_i32_175
  let c256_i32_176 : BitVec 32 := 256#32
  let v329 : BitVec 32 := Scalar.muli v328 c256_i32_176
  v329
def k0_mult5 (i : grid0.Coords) : BitVec 32 :=
  let c8_i32_253 : BitVec 32 := 8#32
  let arg1 : BitVec 32 := BitVec.ofNat 32 (i 1).val
  let v493 : BitVec 32 := Scalar.muli c8_i32_253 arg1
  let c2_i32 : BitVec 32 := 2#32
  let v494 : BitVec 32 := Scalar.addi v493 c2_i32
  let c256_i32_254 : BitVec 32 := 256#32
  let v495 : BitVec 32 := Scalar.muli v494 c256_i32_254
  v495
def k0_mult6 (i : grid0.Coords) : BitVec 32 :=
  let c8_i32_322 : BitVec 32 := 8#32
  let arg1 : BitVec 32 := BitVec.ofNat 32 (i 1).val
  let v640 : BitVec 32 := Scalar.muli c8_i32_322 arg1
  let c3_i32 : BitVec 32 := 3#32
  let v641 : BitVec 32 := Scalar.addi v640 c3_i32
  let c256_i32_323 : BitVec 32 := 256#32
  let v642 : BitVec 32 := Scalar.muli v641 c256_i32_323
  v642
def k0_mult7 (i : grid0.Coords) : BitVec 32 :=
  let c8_i32_382 : BitVec 32 := 8#32
  let arg1 : BitVec 32 := BitVec.ofNat 32 (i 1).val
  let v768 : BitVec 32 := Scalar.muli c8_i32_382 arg1
  let c4_i32 : BitVec 32 := 4#32
  let v769 : BitVec 32 := Scalar.addi v768 c4_i32
  let c256_i32_383 : BitVec 32 := 256#32
  let v770 : BitVec 32 := Scalar.muli v769 c256_i32_383
  v770
def k0_mult8 (i : grid0.Coords) : BitVec 32 :=
  let c8_i32_433 : BitVec 32 := 8#32
  let arg1 : BitVec 32 := BitVec.ofNat 32 (i 1).val
  let v877 : BitVec 32 := Scalar.muli c8_i32_433 arg1
  let c5_i32 : BitVec 32 := 5#32
  let v878 : BitVec 32 := Scalar.addi v877 c5_i32
  let c256_i32_434 : BitVec 32 := 256#32
  let v879 : BitVec 32 := Scalar.muli v878 c256_i32_434
  v879
def k0_mult9 (i : grid0.Coords) : BitVec 32 :=
  let c8_i32_475 : BitVec 32 := 8#32
  let arg1 : BitVec 32 := BitVec.ofNat 32 (i 1).val
  let v967 : BitVec 32 := Scalar.muli c8_i32_475 arg1
  let c6_i32 : BitVec 32 := 6#32
  let v968 : BitVec 32 := Scalar.addi v967 c6_i32
  let c256_i32_476 : BitVec 32 := 256#32
  let v969 : BitVec 32 := Scalar.muli v968 c256_i32_476
  v969
def k0_mult10 (i : grid0.Coords) : BitVec 32 :=
  let c8_i32_508 : BitVec 32 := 8#32
  let arg1 : BitVec 32 := BitVec.ofNat 32 (i 1).val
  let v1038 : BitVec 32 := Scalar.muli c8_i32_508 arg1
  let c7_i32 : BitVec 32 := 7#32
  let v1039 : BitVec 32 := Scalar.addi v1038 c7_i32
  let c256_i32_509 : BitVec 32 := 256#32
  let v1040 : BitVec 32 := Scalar.muli v1039 c256_i32_509
  v1040
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x64 : Shape := ⟨3, ![8, 8192, 64]⟩

abbrev nBuf : Space → Nat
  | .hbm => 98
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x64x8192, .f32⟩
  | .hbm, ⟨67, _⟩ => ⟨S8192x8x64, .f32⟩
  | .hbm, ⟨68, _⟩ => ⟨S8x64x8192, .f32⟩
  | .hbm, ⟨69, _⟩ => ⟨S8x8192x8192, .f32⟩
  | .hbm, ⟨70, _⟩ => ⟨S8x64x8192, .f32⟩
  | .hbm, ⟨71, _⟩ => ⟨S8192x8x64, .f32⟩
  | .hbm, ⟨72, _⟩ => ⟨S8x8192x8192, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x1, .f32⟩
  | .hbm, ⟨78, _⟩ => ⟨S8x8192x1, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S8192x8192x8, .f32⟩
  | .hbm, ⟨92, _⟩ => ⟨S8192x8x32, .f32⟩
  | .hbm, ⟨93, _⟩ => ⟨S8192x32, .f32⟩
  | .hbm, ⟨94, _⟩ => ⟨S8x8192x64, .f32⟩
  | .hbm, ⟨95, _⟩ => ⟨S8192x8x64, .f32⟩
  | .hbm, ⟨96, _⟩ => ⟨S8x8192x64, .f32⟩
  | .hbm, ⟨97, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x2816 : Shape := ⟨2, ![8192, 2816]⟩
abbrev S1024x2816 : Shape := ⟨2, ![1024, 2816]⟩
abbrev S512x2816 : Shape := ⟨2, ![512, 2816]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x2816, .f32⟩
  | .hbm, ⟨4, _⟩ => ⟨S1024x5632, .bf16⟩
  | .hbm, ⟨5, _⟩ => ⟨S8192x2816, .bf16⟩
  | .hbm, ⟨6, _⟩ => ⟨S1024x2816, .bf16⟩
  | .hbm, ⟨7, _⟩ => ⟨S8192x2816, .bf16⟩
  | .hbm, ⟨8, _⟩ => ⟨S1024x2816, .bf16⟩
  | .hbm, ⟨9, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x1024 : Shape := ⟨2, ![8192, 1024]⟩
abbrev S1024x5632 : Shape := ⟨2, ![1024, 5632]⟩
abbrev S8192x2816 : Shape := ⟨2, ![8192, 2816]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x2816, .f32⟩
  | .hbm, ⟨4, _⟩ => ⟨S8192x5632, .f32⟩
  | .hbm, ⟨5, _⟩ => ⟨S8192x5632, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel6.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x2816, .f32⟩
  | .hbm, ⟨5, _⟩ => ⟨S8192x2816, .f32⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x1024 : Shape := ⟨2, ![8192, 1024]⟩
abbrev S1024x4256 : Shape := ⟨2, ![1024, 4256]⟩
abbrev S8192x512 : Shape := ⟨2, ![8192, 512]⟩
abbrev S8192x640 : Shape := ⟨2, ![8192, 640]⟩
abbrev S8192x32 : Shape := ⟨2, ![8192, 32]⟩
abbrev S8192x2048 : Shape := ⟨2, ![8192, 2048]⟩
abbrev S_ : Shape := ⟨0, ![]⟩
abbrev S8192x64 : Shape := ⟨2, ![8192, 64]⟩
abbrev S8192x768 : Shape := ⟨2, ![8192, 768]⟩
abbrev S1024x512 : Shape := ⟨2, ![1024, 512]⟩
abbrev S1024x640 : Shape := ⟨2, ![1024, 640]⟩
abbrev S1024x64 : Shape := ⟨2, ![1024, 64]⟩
abbrev S1024x32 : Shape := ⟨2, ![1024, 32]⟩
abbrev S1024x768 : Shape := ⟨2, ![1024, 768]⟩
abbrev S1024x2048 : Shape := ⟨2, ![1024, 2048]⟩
abbrev S512x512 : Shape := ⟨2, ![512, 512]⟩
abbrev S512x768 : Shape := ⟨2, ![512, 768]⟩
abbrev S512x2048 : Shape := ⟨2, ![512, 2048]⟩
abbrev S512x1024 : Shape := ⟨2, ![512, 1024]⟩

abbrev nBuf : Space → Nat
  | .hbm => 31
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x4256, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x640, .f32⟩
  | .hbm, ⟨6, _⟩ => ⟨S8192x32, .f32⟩
  | .hbm, ⟨7, _⟩ => ⟨S8192x2048, .f32⟩
  | .hbm, ⟨8, _⟩ => ⟨S1024x4256, .bf16⟩
  | .hbm, ⟨9, _⟩ => ⟨S_, .f32⟩
  | .hbm, ⟨10, _⟩ => ⟨S8192x64, .f32⟩
  | .hbm, ⟨11, _⟩ => ⟨S_, .f32⟩
  | .hbm, ⟨12, _⟩ => ⟨S8192x32, .f32⟩
  | .hbm, ⟨13, _⟩ => ⟨S8192x768, .f32⟩
  | .hbm, ⟨14, _⟩ => ⟨S8192x512, .bf16⟩
  | .hbm, ⟨15, _⟩ => ⟨S1024x512, .bf16⟩
  | .hbm, ⟨16, _⟩ => ⟨S8192x512, .bf16⟩
  | .hbm, ⟨17, _⟩ => ⟨S1024x512, .bf16⟩
  | .hbm, ⟨18, _⟩ => ⟨S8192x512, .bf16⟩
  | .hbm, ⟨19, _⟩ => ⟨S1024x512, .bf16⟩
  | .hbm, ⟨20, _⟩ => ⟨S8192x768, .bf16⟩
  | .hbm, ⟨21, _⟩ => ⟨S1024x640, .bf16⟩
  | .hbm, ⟨22, _⟩ => ⟨S_, .bf16⟩
  | .hbm, ⟨23, _⟩ => ⟨S1024x64, .bf16⟩
  | .hbm, ⟨24, _⟩ => ⟨S1024x32, .bf16⟩
  | .hbm, ⟨25, _⟩ => ⟨S_, .bf16⟩
  | .hbm, ⟨26, _⟩ => ⟨S1024x32, .bf16⟩
  | .hbm, ⟨27, _⟩ => ⟨S1024x768, .bf16⟩
  | .hbm, ⟨28, _⟩ => ⟨S8192x2048, .bf16⟩
  | .hbm, ⟨29, _⟩ => ⟨S1024x2048, .bf16⟩
  | .hbm, ⟨30, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S512x768, .bf16⟩
  | .local _ .vmem, ⟨10, _⟩ => ⟨S512x768, .bf16⟩
  | .local _ .vmem, ⟨11, _⟩ => ⟨S1024x768, .bf16⟩
  | .local _ .vmem, ⟨12, _⟩ => ⟨S512x2048, .bf16⟩
  | .local _ .vmem, ⟨13, _⟩ => ⟨S512x2048, .bf16⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S8192x1024 : Shape := ⟨2, ![8192, 1024]⟩
abbrev S1024x4256 : Shape := ⟨2, ![1024, 4256]⟩
abbrev S8192x512 : Shape := ⟨2, ![8192, 512]⟩
abbrev S8192x640 : Shape := ⟨2, ![8192, 640]⟩
abbrev S8192x32 : Shape := ⟨2, ![8192, 32]⟩
abbrev S8192x2048 : Shape := ⟨2, ![8192, 2048]⟩
abbrev S8192x4256 : Shape := ⟨2, ![8192, 4256]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4256, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x640, .f32⟩
  | .hbm, ⟨6, _⟩ => ⟨S8192x32, .f32⟩
  | .hbm, ⟨7, _⟩ => ⟨S8192x2048, .f32⟩
  | .hbm, ⟨8, _⟩ => ⟨S8192x4256, .f32⟩
  | .hbm, ⟨9, _⟩ => ⟨S8192x4256, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S8192x512, .bf16⟩
  | .hbm, ⟨5, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8192x1024 : Shape := ⟨2, ![8192, 1024]⟩
abbrev S1024x4256 : Shape := ⟨2, ![1024, 4256]⟩
abbrev S1024x640 : Shape := ⟨2, ![1024, 640]⟩
abbrev S_ : Shape := ⟨0, ![]⟩
abbrev S1024x64 : Shape := ⟨2, ![1024, 64]⟩
abbrev S1024x32 : Shape := ⟨2, ![1024, 32]⟩
abbrev S1024x768 : Shape := ⟨2, ![1024, 768]⟩
abbrev S8192x768 : Shape := ⟨2, ![8192, 768]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4256, .f32⟩
  | .hbm, ⟨2, _⟩ => ⟨S8192x1024, .bf16⟩
  | .hbm, ⟨3, _⟩ => ⟨S1024x4256, .bf16⟩
  | .hbm, ⟨4, _⟩ => ⟨S1024x640, .bf16⟩
  | .hbm, ⟨5, _⟩ => ⟨S_, .bf16⟩
  | .hbm, ⟨6, _⟩ => ⟨S1024x64, .bf16⟩
  | .hbm, ⟨7, _⟩ => ⟨S1024x32, .bf16⟩
  | .hbm, ⟨8, _⟩ => ⟨S_, .bf16⟩
  | .hbm, ⟨9, _⟩ => ⟨S1024x32, .bf16⟩
  | .hbm, ⟨10, _⟩ => ⟨S1024x768, .bf16⟩
  | .hbm, ⟨11, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x4256 : Shape := ⟨2, ![1024, 4256]⟩
abbrev S8192x4256 : Shape := ⟨2, ![8192, 4256]⟩
abbrev S8192x672 : Shape := ⟨2, ![8192, 672]⟩
abbrev S8192x640 : Shape := ⟨2, ![8192, 640]⟩
abbrev S_ : Shape := ⟨0, ![]⟩
abbrev S8192x64 : Shape := ⟨2, ![8192, 64]⟩
abbrev S8192x32 : Shape := ⟨2, ![8192, 32]⟩
abbrev S8192x768 : Shape := ⟨2, ![8192, 768]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4256, .f32⟩
  | .hbm, ⟨2, _⟩ => ⟨S8192x4256, .f32⟩
  | .hbm, ⟨3, _⟩ => ⟨S8192x672, .f32⟩
  | .hbm, ⟨4, _⟩ => ⟨S8192x640, .f32⟩
  | .hbm, ⟨5, _⟩ => ⟨S_, .f32⟩
  | .hbm, ⟨6, _⟩ => ⟨S8192x64, .f32⟩
  | .hbm, ⟨7, _⟩ => ⟨S8192x32, .f32⟩
  | .hbm, ⟨8, _⟩ => ⟨S_, .f32⟩
  | .hbm, ⟨9, _⟩ => ⟨S8192x32, .f32⟩
  | .hbm, ⟨10, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S8192x1024 : Shape := ⟨2, ![8192, 1024]⟩
abbrev S1024x672 : Shape := ⟨2, ![1024, 672]⟩
abbrev S8192x640 : Shape := ⟨2, ![8192, 640]⟩
abbrev S8192x32 : Shape := ⟨2, ![8192, 32]⟩
abbrev S_ : Shape := ⟨0, ![]⟩
abbrev S8192x64 : Shape := ⟨2, ![8192, 64]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x672, .f32⟩
  | .hbm, ⟨2, _⟩ => ⟨S8192x640, .f32⟩
  | .hbm, ⟨3, _⟩ => ⟨S8192x32, .f32⟩
  | .hbm, ⟨4, _⟩ => ⟨S_, .f32⟩
  | .hbm, ⟨5, _⟩ => ⟨S8192x64, .f32⟩
  | .hbm, ⟨6, _⟩ => ⟨S_, .f32⟩
  | .hbm, ⟨7, _⟩ => ⟨S8192x32, .f32⟩
  | .hbm, ⟨8, _⟩ => ⟨S8192x768, .f32⟩
  | .hbm, ⟨9, _⟩ => ⟨S8192x1024, .bf16⟩
  | .hbm, ⟨10, _⟩ => ⟨S8192x768, .bf16⟩
  | .hbm, ⟨11, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x672 : Shape := ⟨2, ![1024, 672]⟩
abbrev S8192x640 : Shape := ⟨2, ![8192, 640]⟩
abbrev S8192x32 : Shape := ⟨2, ![8192, 32]⟩
abbrev S8192x672 : Shape := ⟨2, ![8192, 672]⟩
abbrev S672x1024 : Shape := ⟨2, ![672, 1024]⟩
abbrev S1024x640 : Shape := ⟨2, ![1024, 640]⟩
abbrev S_ : Shape := ⟨0, ![]⟩
abbrev S1024x64 : Shape := ⟨2, ![1024, 64]⟩
abbrev S1024x32 : Shape := ⟨2, ![1024, 32]⟩
abbrev S1024x768 : Shape := ⟨2, ![1024, 768]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x672, .f32⟩
  | .hbm, ⟨2, _⟩ => ⟨S8192x640, .f32⟩
  | .hbm, ⟨3, _⟩ => ⟨S8192x32, .f32⟩
  | .hbm, ⟨4, _⟩ => ⟨S8192x672, .f32⟩
  | .hbm, ⟨5, _⟩ => ⟨S8192x672, .f32⟩
  | .hbm, ⟨6, _⟩ => ⟨S672x1024, .f32⟩
  | .hbm, ⟨7, _⟩ => ⟨S1024x672, .f32⟩
  | .hbm, ⟨8, _⟩ => ⟨S1024x640, .f32⟩
  | .hbm, ⟨9, _⟩ => ⟨S_, .f32⟩
  | .hbm, ⟨10, _⟩ => ⟨S1024x64, .f32⟩
  | .hbm, ⟨11, _⟩ => ⟨S1024x32, .f32⟩
  | .hbm, ⟨12, _⟩ => ⟨S_, .f32⟩
  | .hbm, ⟨13, _⟩ => ⟨S1024x32, .f32⟩
  | .hbm, ⟨14, _⟩ => ⟨S1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S512x1024, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x256 : Shape := ⟨2, ![8192, 256]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .hbm, ⟨5, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel22.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x256, .bf16⟩
  | .hbm, ⟨4, _⟩ => ⟨S8192x1024, .bf16⟩
  | .hbm, ⟨5, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S8192x8x64 : Shape := ⟨3, ![8192, 8, 64]⟩
abbrev S512x1024 : Shape := ⟨2, ![512, 1024]⟩
abbrev S_ : Shape := ⟨0, ![]⟩
abbrev S8192x8x128 : Shape := ⟨3, ![8192, 8, 128]⟩
abbrev S8192x1024 : Shape := ⟨2, ![8192, 1024]⟩
abbrev S8x64x1024 : Shape := ⟨3, ![8, 64, 1024]⟩
abbrev S8x128x1024 : Shape := ⟨3, ![8, 128, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S_, .i32⟩
  | .hbm, ⟨3, _⟩ => ⟨S_, .f32⟩
  | .hbm, ⟨4, _⟩ => ⟨S8192x8x128, .f32⟩
  | .hbm, ⟨5, _⟩ => ⟨S8192x1024, .f32⟩
  | .hbm, ⟨6, _⟩ => ⟨S512x1024, .bf16⟩
  | .hbm, ⟨7, _⟩ => ⟨S8x64x1024, .bf16⟩
  | .hbm, ⟨8, _⟩ => ⟨S_, .i32⟩
  | .hbm, ⟨9, _⟩ => ⟨S_, .bf16⟩
  | .hbm, ⟨10, _⟩ => ⟨S8x128x1024, .bf16⟩
  | .hbm, ⟨11, _⟩ => ⟨S1024x1024, .bf16⟩
  | .hbm, ⟨12, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x8x64 : Shape := ⟨3, ![8192, 8, 64]⟩
abbrev S512x1024 : Shape := ⟨2, ![512, 1024]⟩
abbrev S8192x512 : Shape := ⟨2, ![8192, 512]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x512, .f32⟩
  | .hbm, ⟨3, _⟩ => ⟨S8192x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S8192x8x64 : Shape := ⟨3, ![8192, 8, 64]⟩
abbrev S512x1024 : Shape := ⟨2, ![512, 1024]⟩
abbrev S8192x1024 : Shape := ⟨2, ![8192, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8x64x1024, .bf16⟩
  | .hbm, ⟨6, _⟩ => ⟨S_, .i32⟩
  | .hbm, ⟨7, _⟩ => ⟨S_, .bf16⟩
  | .hbm, ⟨8, _⟩ => ⟨S8x128x1024, .bf16⟩
  | .hbm, ⟨9, _⟩ => ⟨S1024x1024, .bf16⟩
  | .hbm, ⟨10, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x8x64 : Shape := ⟨3, ![8192, 8, 64]⟩
abbrev S512x1024 : Shape := ⟨2, ![512, 1024]⟩
abbrev S8192x1024 : Shape := ⟨2, ![8192, 1024]⟩
abbrev S8192x512 : Shape := ⟨2, ![8192, 512]⟩
abbrev S_ : Shape := ⟨0, ![]⟩
abbrev S8192x8x128 : Shape := ⟨3, ![8192, 8, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x1024, .f32⟩
  | .hbm, ⟨3, _⟩ => ⟨S8192x512, .f32⟩
  | .hbm, ⟨4, _⟩ => ⟨S8192x1024, .f32⟩
  | .hbm, ⟨5, _⟩ => ⟨S8192x512, .f32⟩
  | .hbm, ⟨6, _⟩ => ⟨S8192x8x64, .f32⟩
  | .hbm, ⟨7, _⟩ => ⟨S_, .f32⟩
  | .hbm, ⟨8, _⟩ => ⟨S8192x8x64, .f32⟩
  | .hbm, ⟨9, _⟩ => ⟨S8192x8x128, .f32⟩
  | .hbm, ⟨10, _⟩ => ⟨S8192x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel25.lean ====
abbrev S8192x8x64 : Shape := ⟨3, ![8192, 8, 64]⟩
abbrev S512x1024 : Shape := ⟨2, ![512, 1024]⟩
abbrev S8192x1024 : Shape := ⟨2, ![8192, 1024]⟩
abbrev S_ : Shape := ⟨0, ![]⟩
abbrev S8192x8x128 : Shape := ⟨3, ![8192, 8, 128]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x1024, .f32⟩
  | .hbm, ⟨3, _⟩ => ⟨S_, .i32⟩
  | .hbm, ⟨4, _⟩ => ⟨S_, .f32⟩
  | .hbm, ⟨5, _⟩ => ⟨S8192x8x128, .f32⟩
  | .hbm, ⟨6, _⟩ => ⟨S8192x1024, .f32⟩
  | .hbm, ⟨7, _⟩ => ⟨S8192x1024, .bf16⟩
  | .hbm, ⟨8, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8192x8x64 : Shape := ⟨3, ![8192, 8, 64]⟩
abbrev S512x1024 : Shape := ⟨2, ![512, 1024]⟩
abbrev S8192x1024 : Shape := ⟨2, ![8192, 1024]⟩
abbrev S8192x512 : Shape := ⟨2, ![8192, 512]⟩
abbrev S1024x512 : Shape := ⟨2, ![1024, 512]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x1024, .f32⟩
  | .hbm, ⟨3, _⟩ => ⟨S8192x512, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S8x64x1024, .f32⟩
  | .hbm, ⟨8, _⟩ => ⟨S_, .f32⟩
  | .hbm, ⟨9, _⟩ => ⟨S8x64x1024, .f32⟩
  | .hbm, ⟨10, _⟩ => ⟨S8x128x1024, .f32⟩
  | .hbm, ⟨11, _⟩ => ⟨S1024x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel26.lean ====
abbrev S8192x384 : Shape := ⟨2, ![8192, 384]⟩
abbrev S384x768 : Shape := ⟨2, ![384, 768]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S384x8x96 : Shape := ⟨3, ![384, 8, 96]⟩
abbrev S384x8x128 : Shape := ⟨3, ![384, 8, 128]⟩
abbrev S384x1024 : Shape := ⟨2, ![384, 1024]⟩
abbrev S1024x1024 : Shape := ⟨2, ![1024, 1024]⟩
abbrev S1024x384 : Shape := ⟨2, ![1024, 384]⟩

abbrev nBuf : Space → Nat
  | .hbm => 15
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x768, .f32⟩
  | .hbm, ⟨2, _⟩ => ⟨S8192x8x96, .f32⟩
  | .hbm, ⟨3, _⟩ => ⟨S8192x8x96, .bf16⟩
  | .hbm, ⟨4, _⟩ => ⟨S_, .i32⟩
  | .hbm, ⟨5, _⟩ => ⟨S_, .bf16⟩
  | .hbm, ⟨6, _⟩ => ⟨S8192x8x128, .bf16⟩
  | .hbm, ⟨7, _⟩ => ⟨S8192x1024, .bf16⟩
  | .hbm, ⟨8, _⟩ => ⟨S384x768, .bf16⟩
  | .hbm, ⟨9, _⟩ => ⟨S384x8x96, .bf16⟩
  | .hbm, ⟨10, _⟩ => ⟨S_, .i32⟩
  | .hbm, ⟨11, _⟩ => ⟨S_, .bf16⟩
  | .hbm, ⟨12, _⟩ => ⟨S384x8x128, .bf16⟩
  | .hbm, ⟨13, _⟩ => ⟨S384x1024, .bf16⟩
  | .hbm, ⟨14, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x384 : Shape := ⟨2, ![8192, 384]⟩
abbrev S384x768 : Shape := ⟨2, ![384, 768]⟩
abbrev S8192x8x96 : Shape := ⟨3, ![8192, 8, 96]⟩
abbrev S8192x768 : Shape := ⟨2, ![8192, 768]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x768, .f32⟩
  | .hbm, ⟨2, _⟩ => ⟨S8192x8x96, .f32⟩
  | .hbm, ⟨3, _⟩ => ⟨S8192x768, .f32⟩
  | .hbm, ⟨4, _⟩ => ⟨S8192x8x96, .f32⟩
  | .hbm, ⟨5, _⟩ => ⟨S8192x768, .f32⟩
  | .hbm, ⟨6, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8192x384 : Shape := ⟨2, ![8192, 384]⟩
abbrev S384x768 : Shape := ⟨2, ![384, 768]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x768, .f32⟩
  | .hbm, ⟨2, _⟩ => ⟨S8192x8x96, .f32⟩
  | .hbm, ⟨3, _⟩ => ⟨S8192x384, .bf16⟩
  | .hbm, ⟨4, _⟩ => ⟨S8192x8x96, .bf16⟩
  | .hbm, ⟨5, _⟩ => ⟨S_, .i32⟩
  | .hbm, ⟨6, _⟩ => ⟨S_, .bf16⟩
  | .hbm, ⟨7, _⟩ => ⟨S8192x8x128, .bf16⟩
  | .hbm, ⟨8, _⟩ => ⟨S8192x1024, .bf16⟩
  | .hbm, ⟨9, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S8192x384 : Shape := ⟨2, ![8192, 384]⟩
abbrev S384x768 : Shape := ⟨2, ![384, 768]⟩
abbrev S8192x8x96 : Shape := ⟨3, ![8192, 8, 96]⟩
abbrev S8192x768 : Shape := ⟨2, ![8192, 768]⟩
abbrev S768x384 : Shape := ⟨2, ![768, 384]⟩
abbrev S384x8x96 : Shape := ⟨3, ![384, 8, 96]⟩
abbrev S_ : Shape := ⟨0, ![]⟩
abbrev S384x8x32 : Shape := ⟨3, ![384, 8, 32]⟩
abbrev S384x8x128 : Shape := ⟨3, ![384, 8, 128]⟩
abbrev S384x1024 : Shape := ⟨2, ![384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x768, .f32⟩
  | .hbm, ⟨2, _⟩ => ⟨S8192x8x96, .f32⟩
  | .hbm, ⟨3, _⟩ => ⟨S8192x768, .f32⟩
  | .hbm, ⟨4, _⟩ => ⟨S8192x8x96, .f32⟩
  | .hbm, ⟨5, _⟩ => ⟨S8192x768, .f32⟩
  | .hbm, ⟨6, _⟩ => ⟨S768x384, .f32⟩
  | .hbm, ⟨7, _⟩ => ⟨S384x768, .f32⟩
  | .hbm, ⟨8, _⟩ => ⟨S384x8x96, .f32⟩
  | .hbm, ⟨9, _⟩ => ⟨S_, .f32⟩
  | .hbm, ⟨10, _⟩ => ⟨S384x8x32, .f32⟩
  | .hbm, ⟨11, _⟩ => ⟨S384x8x128, .f32⟩
  | .hbm, ⟨12, _⟩ => ⟨S384x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel28.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8192x1024 : Shape := ⟨2, ![8192, 1024]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x1024, .bf16⟩
  | .hbm, ⟨6, _⟩ => ⟨S8192x1024, .bf16⟩
  | .hbm, ⟨7, _⟩ => ⟨S8192x2048, .bf16⟩
  | .hbm, ⟨8, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference29Ideal.lean ====
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x1024, .bf16⟩
  | .hbm, ⟨36, _⟩ => ⟨S8192x1024, .bf16⟩
  | .hbm, ⟨37, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel30.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel31.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference31Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel32.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference32Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | .hbm, ⟨71, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Step.lean ====
/- The vectors one step of the kernel's body computes, written once for every block of query rows and every block of
   keys: a block's probabilities, its score gradients, and what each of the three outputs is stored with. -/
module

public import proofs.«01_k».proof.Proof.Gen.KernelIdeal.Frame

@[expose] public section

set_option maxRecDepth 16384

noncomputable section

namespace Cert.KernelIdeal.Val

open Idealize.ShloMosaic Idealize.ShloMosaic.TcCoe
open Cert.KernelIdeal Cert.KernelIdeal.Gen

variable {F : FTy → Type} [FloatOps F] [Named F]

/-- The rows of query block `n`. -/
abbrev rowsQ (n : Fin 8) : Rect S2048x128 :=
  Rect.unit ![256 * n.val, 0] S256x128.size (fun a => by
    have := n.isLt
    fin_cases a
    · show 256 * n.val + 256 ≤ 2048; omega
    · show 0 + 128 ≤ 128; omega)

/-- The first lane of the rows of query block `n`. -/
abbrev rowsL (n : Fin 8) : Rect S2048x128 :=
  Rect.unit ![256 * n.val, 0] S256x1.size (fun a => by
    have := n.isLt
    fin_cases a
    · show 256 * n.val + 256 ≤ 2048; omega
    · show 0 + 1 ≤ 128; omega)

/-- The rows of the query blocks from `j` on. -/
abbrev rowsFrom (j : Fin 8) : Rect S2048x128 :=
  Rect.unit ![256 * j.val, 0] ![256 * (8 - j.val), 128] (fun a => by
    have := j.isLt
    fin_cases a
    · show 256 * j.val + 256 * (8 - j.val) ≤ 2048; omega
    · show 0 + 128 ≤ 128; omega)

/-- The queries of block `n`. -/
def qB (X : Vec F S2048x128 .bf16) (n : Fin 8) : FVec F S256x128 .bf16 :=
  shapeCast S256x128 (View.ld (Val := Elt F) (e' := .bf16) X (rowsQ n)) shapeCasts_S256x128_S256x128

/-- The output's gradient on block `n`, -/
def doB (X : Vec F S2048x128 .f32) (n : Fin 8) : FVec F S256x128 .bf16 :=
  truncf .bf16 (shapeCast S256x128 (View.ld (Val := Elt F) (e' := .f32) X (rowsQ n)) shapeCasts_S256x128_S256x128 : FVec F S256x128 .f32) bitsLt_bf16_f32

/-- each row's sum of the output's gradient times the output, scaled, -/
def dlB (X O : Vec F S2048x128 .f32) (n : Fin 8) : FVec F S256x1 .f32 :=
  mulf (shapeCast S256x1 (multiReduction .add [1] S256
    (mulf (shapeCast S256x128 (View.ld (Val := Elt F) (e' := .f32) X (rowsQ n)) shapeCasts_S256x128_S256x128 : FVec F S256x128 .f32)
      (shapeCast S256x128 (View.ld (Val := Elt F) (e' := .f32) O (rowsQ n)) shapeCasts_S256x128_S256x128))
    0x00000000#32 reduces_S256x128_S256 (.inl rfl) rfl) shapeCasts_S256_S256x1)
    (broadcast S256x1 (Named.named κ "scale" 0x3DD105EC#32))

/-- and each row's log-sum in base two. -/
def lsB (L : Vec F S2048x128 .f32) (n : Fin 8) : FVec F S256x1 .f32 :=
  mulf (shapeCast S256x1 (View.ld (Val := Elt F) (e' := .f32) L (rowsL n)) shapeCasts_S256x1_S256x1) (broadcast S256x1 (Named.named κ "log2e" 0x3FB8AA3B#32))

/-- One block's probabilities before the mask, -/
def prob (q : FVec F S256x128 .bf16) (l : FVec F S256x1 .f32) (ks : Vec F S256x128 .bf16) : FVec F S256x256 .f32 :=
  exp2 (subf (mulf (matmul dot_S256x128_S256x128_S256x256_1_1_0_0_n_n none q
      (shapeCast S256x128 ks shapeCasts_S256x128_S256x128 : FVec F S256x128 .bf16) (constant S256x256 .f32 0x00000000#32))
    (broadcast S256x256 (Named.named κ "scale_log2e" 0x3E16C740#32)))
    (broadcastTo S256x256 l broadcasts_S256x1_S256x256))

/-- and after it: a block on the diagonal keeps the keys up to each row. -/
def maskIf (b : Bool) (p : FVec F S256x256 .f32) : FVec F S256x256 .f32 :=
  match b with
  | true => select k0_pay103 p (broadcast S256x256 (Scalar.ofBits .f32 0x00000000#32))
  | false => p

/-- A block's score gradients from its probabilities. -/
def dsOf (p : FVec F S256x256 .f32) (g : FVec F S256x128 .bf16) (dl : FVec F S256x1 .f32) (vs : Vec F S256x128 .bf16) :
    FVec F S256x256 .bf16 :=
  truncf .bf16 (mulf p (subf (mulf (matmul dot_S256x128_S256x128_S256x256_1_1_0_0_n_n none g
      (shapeCast S256x128 vs shapeCasts_S256x128_S256x128 : FVec F S256x128 .bf16) (constant S256x256 .f32 0x00000000#32))
    (broadcast S256x256 (Named.named κ "scale" 0x3DD105EC#32)))
    (broadcastTo S256x256 dl broadcasts_S256x1_S256x256))) bitsLt_bf16_f32

/-- A block's probabilities as they enter the value gradient. -/
def pOf (p : FVec F S256x256 .f32) : FVec F S256x256 .bf16 := truncf .bf16 p bitsLt_bf16_f32

/-- What the query gradient's rows are stored with: what they held and the score gradients times the keys. -/
def dqPay (ks : Vec F S256x128 .bf16) (ds : FVec F S256x256 .bf16) (old : Vec F S256x128 .f32) : FVec F S256x128 .f32 :=
  addf (shapeCast S256x128 old shapeCasts_S256x128_S256x128)
    (matmul dot_S256x256_S256x128_S256x128_1_0_0_1_n_n none ds
      (shapeCast S256x128 ks shapeCasts_S256x128_S256x128 : FVec F S256x128 .bf16) (constant S256x128 .f32 0x00000000#32))

/-- The product of `w` rows against `w` rows. -/
def tn (w : ℕ) : DotDims ⟨2, ![w, 256]⟩ ⟨2, ![w, 128]⟩ S256x128 where
  lhsContracting := [0]
  rhsContracting := [0]
  lhsNonContracting := [1]
  rhsNonContracting := [1]
  lhsBatch := []
  rhsBatch := []
  wf := ⟨rfl, by simp, by simp, by simp, by simp, by simp, by simpa [List.finRange] using List.Perm.swap 0 1 [],
    by simpa [List.finRange] using List.Perm.swap 0 1 [],
    rfl, Nat.two_pos, fun b => by fin_cases b <;> rfl⟩

/-- What a key or value gradient's rows are stored with: what they held and the `w` stacked rows `c`, transposed, times
    the `w` rows `x`. -/
def dkPay (w : ℕ) (c : FVec F ⟨2, ![w, 256]⟩ .bf16) (x : FVec F ⟨2, ![w, 128]⟩ .bf16) (old : Vec F S256x128 .f32) :
    FVec F S256x128 .f32 :=
  addf (shapeCast S256x128 old shapeCasts_S256x128_S256x128) (matmul (tn w) none c x (constant S256x128 .f32 0x00000000#32))

end Cert.KernelIdeal.Val
-- ==== Proof.Pieces.lean ====
/- The stores of the kernel's body as lists of pieces, last first, built by recursion on the blocks: the query gradient's
   rows block by block, the key and value gradients' rows step by step. -/
module

public import proofs.«01_k».proof.Proof.Step

@[expose] public section

set_option maxRecDepth 16384

noncomputable section

namespace Cert.KernelIdeal.Val

open Idealize.ShloMosaic Idealize.ShloMosaic.TcCoe
open Cert.KernelIdeal Cert.KernelIdeal.Gen

variable {F : FTy → Type} [FloatOps F] [Named F]

/-- The query blocks from `j` on, in order. -/
def blocksFrom (j : Fin 8) : List (Fin 8) := [0, 1, 2, 3, 4, 5, 6, 7].drop j.val

theorem concat_from : ∀ j : Fin 7,
    Shape.Concatenates ((blocksFrom j.castSucc).map fun _ => S256x256) ⟨2, ![256 * (8 - j.val), 256]⟩ 0 := by decide

/-- The blocks `d n`, `n` from `j` on, each with its shape. -/
def parts (d : Fin 8 → FVec F S256x256 .bf16) (j : Fin 8) : List ((s : Shape) × (s.Idx → F .bf16)) :=
  (blocksFrom j).map fun n => ⟨S256x256, d n⟩

theorem parts_concat (d : Fin 8 → FVec F S256x256 .bf16) (j : Fin 7) :
    Shape.Concatenates ((parts d j.castSucc).map (·.1)) ⟨2, ![256 * (8 - j.val), 256]⟩ 0 := by
  have := concat_from j
  unfold parts
  rw [List.map_map]
  exact this

/-- The blocks from `j` on, stacked. -/
def stack (d : Fin 8 → FVec F S256x256 .bf16) (j : Fin 7) : FVec F ⟨2, ![256 * (8 - j.val), 256]⟩ .bf16 :=
  concatenate ⟨2, ![256 * (8 - j.val), 256]⟩ 0 (parts d j.castSucc) (parts_concat d j)

/-- The key block of diagonal step `j`. -/
abbrev keyRect (i : grid0.Coords) (j : Fin 8) : Rect S8192x128 :=
  Rect.unit (k0_off3 i (BitVec.ofNat 32 j.val)) S256x128.size (k0_off3_inb i j)

/-- The key block of trip `k` of the loop over the earlier keys. -/
abbrev tripRect (i : grid0.Coords) (k : Fin (k0_t1_loop i).trips) : Rect S8192x128 :=
  Rect.unit (k0_off1 i k) S256x128.size (k0_off1_inb i k)

/-- The queries from block `j` on, -/
def qFrom (X : Vec F S2048x128 .bf16) (j : Fin 8) : FVec F ⟨2, ![256 * (8 - j.val), 128]⟩ .bf16 :=
  shapeCast ⟨2, ![256 * (8 - j.val), 128]⟩ (View.ld (Val := Elt F) (e' := .bf16) X (rowsFrom j)) rfl

/-- and the output's gradient there. -/
def doFrom (X : Vec F S2048x128 .f32) (j : Fin 8) : FVec F ⟨2, ![256 * (8 - j.val), 128]⟩ .bf16 :=
  truncf .bf16 (shapeCast ⟨2, ![256 * (8 - j.val), 128]⟩ (View.ld (Val := Elt F) (e' := .f32) X (rowsFrom j)) rfl : FVec F ⟨2, ![256 * (8 - j.val), 128]⟩ .f32)
    bitsLt_bf16_f32

/-- Block `n`'s probabilities against the keys `ks`, masked when `b`, -/
def pBlk (Xq : Vec F S2048x128 .bf16) (Xl : Vec F S2048x128 .f32) (ks : Vec F S256x128 .bf16) (b : Bool) (n : Fin 8) :
    FVec F S256x256 .f32 := maskIf b (prob (qB Xq n) (lsB Xl n) ks)

/-- and its score gradients. -/
def dsBlk (Xq : Vec F S2048x128 .bf16) (Xg Xo Xl : Vec F S2048x128 .f32) (ks vs : Vec F S256x128 .bf16) (b : Bool) (n : Fin 8) :
    FVec F S256x256 .bf16 := dsOf (pBlk Xq Xl ks b n) (doB Xg n) (dlB Xg Xo n) vs

section
variable {sig' : RefSig} {κ' : Kind} {sp : Space} (v : View sig' κ' sp S2048x128 .f32) (f : v.ty.Contents (Elt F))

/-- One more store into the query gradient: block `n`'s rows. -/
def dqPush (ks : Vec F S256x128 .bf16) (n : Fin 8) (ds : FVec F S256x256 .bf16) (L : List (View.Piece (Elt F) S2048x128 .f32)) :
    List (View.Piece (Elt F) S2048x128 .f32) :=
  ⟨rowsQ n, dqPay ks ds (v.readAt (Elt F) (rowsQ n).toLoadRect (v.writes (Elt F) f L))⟩ :: L

/-- The stores of one step, for the blocks `ns`. -/
def dqStep (ks : Vec F S256x128 .bf16) (d : Fin 8 → FVec F S256x256 .bf16) :
    List (Fin 8) → List (View.Piece (Elt F) S2048x128 .f32) → List (View.Piece (Elt F) S2048x128 .f32)
  | [], L => L
  | n :: ns, L => dqStep ks d ns (dqPush v f ks n (d n) L)

/-- The stores of the diagonal steps `js`. -/
def dqDiag (ks : Fin 8 → Vec F S256x128 .bf16) (d : Fin 8 → Fin 8 → FVec F S256x256 .bf16) :
    List (Fin 8) → List (View.Piece (Elt F) S2048x128 .f32) → List (View.Piece (Elt F) S2048x128 .f32)
  | [], L => L
  | j :: js, L => dqDiag ks d js (dqStep v f (ks j) (d j) (blocksFrom j) L)

/-- The stores of one trip, each over the contents `f` the trip finds. -/
def dqTrip (ks : Vec F S256x128 .bf16) (d : Fin 8 → FVec F S256x256 .bf16) : List (View.Piece (Elt F) S2048x128 .f32) :=
  [7, 6, 5, 4, 3, 2, 1, 0].map fun n => ⟨rowsQ n, dqPay ks (d n) (v.readAt (Elt F) (rowsQ n).toLoadRect f)⟩
end

section
variable {sig' : RefSig} {κ' : Kind} {sp : Space} (v : View sig' κ' sp S8192x128 .f32) (f : v.ty.Contents (Elt F))

/-- One more store into a key or value gradient, at the rows from `o 0` on. -/
def dkPush (o : Fin 2 → ℕ) (inb : ∀ a, o a + S256x128.size a ≤ S8192x128.size a) (w : ℕ) (c : FVec F ⟨2, ![w, 256]⟩ .bf16)
    (x : FVec F ⟨2, ![w, 128]⟩ .bf16) (L : List (View.Piece (Elt F) S8192x128 .f32)) : List (View.Piece (Elt F) S8192x128 .f32) :=
  ⟨Rect.unit o S256x128.size inb, dkPay w c x
    (v.readAt (Elt F) (Rect.unit (s := S8192x128) o S256x128.size inb).toLoadRect (v.writes (Elt F) f L))⟩ :: L

/-- The stores of the diagonal steps `js`, -/
def dkDiag (i : grid0.Coords) (d : Fin 8 → Fin 8 → FVec F S256x256 .bf16)
    (x : (j : Fin 8) → FVec F ⟨2, ![256 * (8 - j.val), 128]⟩ .bf16) :
    List (Fin 7) → List (View.Piece (Elt F) S8192x128 .f32) → List (View.Piece (Elt F) S8192x128 .f32)
  | [], L => L
  | j :: js, L => dkDiag i d x js
      (dkPush v f (k0_off3 i (BitVec.ofNat 32 j.val)) (k0_off3_inb i j.castSucc) (256 * (8 - j.val)) (stack (d j.castSucc) j)
        (x j.castSucc) L)

/-- all of them, the last of one block alone. -/
def dkAll (i : grid0.Coords) (d : Fin 8 → Fin 8 → FVec F S256x256 .bf16)
    (x : (j : Fin 8) → FVec F ⟨2, ![256 * (8 - j.val), 128]⟩ .bf16) (L : List (View.Piece (Elt F) S8192x128 .f32)) :
    List (View.Piece (Elt F) S8192x128 .f32) :=
  dkPush v f (k0_off3 i 7#32) (k0_off3_inb i 7) 256 (d 7 7) (x 7) (dkDiag v f i d x [0, 1, 2, 3, 4, 5, 6] L)

/-- The store of one trip over the contents `f` the trip finds. -/
def dkTrip (i : grid0.Coords) (k : Fin (k0_t1_loop i).trips) (d : Fin 8 → FVec F S256x256 .bf16)
    (x : FVec F ⟨2, ![2048, 128]⟩ .bf16) : List (View.Piece (Elt F) S8192x128 .f32) :=
  [⟨tripRect i k, dkPay 2048 (stack d 0) x (v.readAt (Elt F) (tripRect i k).toLoadRect f)⟩]
end

end Cert.KernelIdeal.Val
-- ==== Proof.Trip.lean ====
/- One trip of the loop over the earlier keys: the lists of stores the run finds are the ones built block by block. -/
module

public import proofs.«01_k».proof.Proof.Pieces

@[expose] public section

set_option maxRecDepth 65536

noncomputable section

namespace Cert.KernelIdeal.Val

open Idealize.ShloMosaic Idealize.ShloMosaic.TcCoe Idealize.ShloMosaic.Tactic
open Cert.KernelIdeal Cert.KernelIdeal.Gen

variable {F : FTy → Type} [FloatOps F] [Named F]

section
variable (c : Dev nD) (i : grid0.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8192x128 .f32) (harg9 : arg9.IsWhole) (arg10 : Memref sig .tc .vmem S8192x128 .f32) (harg10 : arg10.IsWhole)
  (arg1 : BitVec 32) (Q G : Fin 8 → FVec F S256x128 .bf16) (D L : Fin 8 → FVec F S256x1 .f32) (c0 v137 c1 : BitVec 32)
  (X2 : BufTy.Contents (Elt F) arg2.view.ty) (X3 : BufTy.Contents (Elt F) arg3.view.ty) (X4 : BufTy.Contents (Elt F) arg4.view.ty) (X5 : BufTy.Contents (Elt F) arg5.view.ty)

/-- The run's trip, its bound values given as functions of the block. -/
abbrev tripAt (k : Fin (k0_t1_loop i).trips) :=
  trip_k0_t1 (F := F) Variants.none c none i arg2 harg2 arg3 harg3 arg4 harg4 arg5 harg5 arg6 harg6 arg7 harg7 arg8 harg8 arg9 harg9 arg10 harg10 arg1
    (Q 0) (G 0) (D 0) (L 0) (Q 1) (G 1) (D 1) (L 1) (Q 2) (G 2) (D 2) (L 2) (Q 3) (G 3) (D 3) (L 3)
    (Q 4) (G 4) (D 4) (L 4) (Q 5) (G 5) (D 5) (L 5) (Q 6) (G 6) (D 6) (L 6) (Q 7) (G 7) (D 7) (L 7) c0 v137 c1 X2 X3 X4 X5 k

variable (k : Fin (k0_t1_loop i).trips) (f8 : BufTy.Contents (Elt F) arg8.view.ty) (f9 : BufTy.Contents (Elt F) arg9.view.ty) (f10 : BufTy.Contents (Elt F) arg10.view.ty)

theorem trip_dq : (tripAt c i arg2 harg2 arg3 harg3 arg4 harg4 arg5 harg5 arg6 harg6 arg7 harg7 arg8 harg8 arg9 harg9 arg10 harg10 arg1 Q G D L c0 v137 c1 X2 X3 X4 X5 k).1 f8 f9 f10
    = dqTrip arg8.view f8 (arg3.view.readAt (Elt F) (tripRect i k).toLoadRect X3)
      (fun n => dsOf (prob (Q n) (L n) (arg3.view.readAt (Elt F) (tripRect i k).toLoadRect X3)) (G n) (D n)
        (arg4.view.readAt (Elt F) (tripRect i k).toLoadRect X4)) := by
  unfold tripAt trip_k0_t1
  rfl

theorem trip_dk : (tripAt c i arg2 harg2 arg3 harg3 arg4 harg4 arg5 harg5 arg6 harg6 arg7 harg7 arg8 harg8 arg9 harg9 arg10 harg10 arg1 Q G D L c0 v137 c1 X2 X3 X4 X5 k).2.1 f8 f9 f10
    = dkTrip arg9.view f9 i k
      (fun n => dsOf (prob (Q n) (L n) (arg3.view.readAt (Elt F) (tripRect i k).toLoadRect X3)) (G n) (D n)
        (arg4.view.readAt (Elt F) (tripRect i k).toLoadRect X4)) (qFrom (arg2.view.read (Elt F) X2) 0) := by
  unfold tripAt trip_k0_t1
  rfl

theorem trip_dv : (tripAt c i arg2 harg2 arg3 harg3 arg4 harg4 arg5 harg5 arg6 harg6 arg7 harg7 arg8 harg8 arg9 harg9 arg10 harg10 arg1 Q G D L c0 v137 c1 X2 X3 X4 X5 k).2.2.1 f8 f9 f10
    = dkTrip arg10.view f10 i k
      (fun n => pOf (prob (Q n) (L n) (arg3.view.readAt (Elt F) (tripRect i k).toLoadRect X3)))
      (doFrom (arg5.view.read (Elt F) X5) 0) := by
  unfold tripAt trip_k0_t1
  rfl
end

end Cert.KernelIdeal.Val
-- ==== Proof.Runs.lean ====
/- The body's run on one grid point: the lists of stores it finds are the ones built block by block, after the loop over
   the earlier keys. -/
module

public import proofs.«01_k».proof.Proof.Pieces

@[expose] public section

set_option maxRecDepth 65536
set_option maxHeartbeats 4000000

noncomputable section

namespace Cert.KernelIdeal.Val

open Idealize.ShloMosaic Idealize.ShloMosaic.TcCoe Idealize.ShloMosaic.Tactic
open Cert.KernelIdeal Cert.KernelIdeal.Gen

variable {F : FTy → Type} [FloatOps F] [Named F]

section
variable (c : Dev nD) (i : grid0.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8192x128 .f32) (harg9 : arg9.IsWhole) (arg10 : Memref sig .tc .vmem S8192x128 .f32) (harg10 : arg10.IsWhole)

section
variable (Q G : Fin 8 → FVec F S256x128 .bf16) (D L : Fin 8 → FVec F S256x1 .f32)
  (X2 : BufTy.Contents (Elt F) arg2.view.ty) (X3 : BufTy.Contents (Elt F) arg3.view.ty) (X4 : BufTy.Contents (Elt F) arg4.view.ty) (X5 : BufTy.Contents (Elt F) arg5.view.ty)
  (G8 : BufTy.Contents (Elt F) arg8.view.ty) (G9 : BufTy.Contents (Elt F) arg9.view.ty) (G10 : BufTy.Contents (Elt F) arg10.view.ty)

/-- The stores of the first `n` trips over the earlier keys, on buffers found at `G8`, `G9`, `G10`. -/
abbrev trips1 (n : ℕ) :=
  pb_k0_t1 (F := F) Variants.none c none i arg2 harg2 arg3 harg3 arg4 harg4 arg5 harg5 arg6 harg6 arg7 harg7 arg8 harg8 arg9 harg9 arg10 harg10 (BitVec.ofNat 32 (i 1).val)
    (Q 0) (G 0) (D 0) (L 0) (Q 1) (G 1) (D 1) (L 1) (Q 2) (G 2) (D 2) (L 2) (Q 3) (G 3) (D 3) (L 3) (Q 4) (G 4) (D 4) (L 4) (Q 5) (G 5) (D 5) (L 5) (Q 6) (G 6) (D 6) (L 6) (Q 7) (G 7) (D 7) (L 7)
    0#32 (Scalar.subi (Scalar.muli 8#32 (BitVec.ofNat 32 (i 1).val)) 0#32) 1#32 X2 X3 X4 X5 G8 G9 G10 n

/-- The stores of the loop's remainder, which has no trip. -/
abbrev trips2 (v141 : BitVec 32) (n : ℕ) :=
  pb_k0_t2 (F := F) Variants.none c none i arg2 harg2 arg3 harg3 arg4 harg4 arg5 harg5 arg6 harg6 arg7 harg7 arg8 harg8 arg9 harg9 arg10 harg10 (BitVec.ofNat 32 (i 1).val)
    (Q 0) (G 0) (D 0) (L 0) (Q 1) (G 1) (D 1) (L 1) (Q 2) (G 2) (D 2) (L 2) (Q 3) (G 3) (D 3) (L 3) (Q 4) (G 4) (D 4) (L 4) (Q 5) (G 5) (D 5) (L 5) (Q 6) (G 6) (D 6) (L 6) (Q 7) (G 7) (D 7) (L 7)
    0#32 (Scalar.subi (Scalar.muli 8#32 (BitVec.ofNat 32 (i 1).val)) 0#32) 1#32 v141 X2 X3 X4 X5 G8 G9 G10 n

end

variable (x0 : Vec F S2048x128 .bf16) (x1 : Vec F S8192x128 .bf16) (x2 : Vec F S8192x128 .bf16) (x3 : Vec F S2048x128 .f32) (x4 : Vec F S2048x128 .f32) (x5 : Vec F S2048x128 .f32)

/-- The stores of all the trips over the earlier keys, from the buffers' contents before the loop. -/
abbrev earlier (G8 : BufTy.Contents (Elt F) arg8.view.ty) (G9 : BufTy.Contents (Elt F) arg9.view.ty) (G10 : BufTy.Contents (Elt F) arg10.view.ty) (n : ℕ) :=
  trips1 c i arg2 harg2 arg3 harg3 arg4 harg4 arg5 harg5 arg6 harg6 arg7 harg7 arg8 harg8 arg9 harg9 arg10 harg10
    (qB (arg2.view.read (Elt F) (harg2.unread x0))) (doB (arg5.view.read (Elt F) (harg5.unread x3)))
    (dlB (arg5.view.read (Elt F) (harg5.unread x3)) (arg6.view.read (Elt F) (harg6.unread x4))) (lsB (arg7.view.read (Elt F) (harg7.unread x5)))
    (harg2.unread x0) (harg3.unread x1) (harg4.unread x2) (harg5.unread x3) G8 G9 G10 n

abbrev rest (G8 : BufTy.Contents (Elt F) arg8.view.ty) (G9 : BufTy.Contents (Elt F) arg9.view.ty) (G10 : BufTy.Contents (Elt F) arg10.view.ty) (v141 : BitVec 32) (n : ℕ) :=
  trips2 c i arg2 harg2 arg3 harg3 arg4 harg4 arg5 harg5 arg6 harg6 arg7 harg7 arg8 harg8 arg9 harg9 arg10 harg10
    (qB (arg2.view.read (Elt F) (harg2.unread x0))) (doB (arg5.view.read (Elt F) (harg5.unread x3)))
    (dlB (arg5.view.read (Elt F) (harg5.unread x3)) (arg6.view.read (Elt F) (harg6.unread x4))) (lsB (arg7.view.read (Elt F) (harg7.unread x5)))
    (harg2.unread x0) (harg3.unread x1) (harg4.unread x2) (harg5.unread x3) G8 G9 G10 v141 n

/-- The score gradients of query block `n` against the keys of diagonal step `j`, -/
abbrev dsAt (j n : Fin 8) : FVec F S256x256 .bf16 :=
  dsBlk (arg2.view.read (Elt F) (harg2.unread x0)) (arg5.view.read (Elt F) (harg5.unread x3)) (arg6.view.read (Elt F) (harg6.unread x4))
    (arg7.view.read (Elt F) (harg7.unread x5)) (arg3.view.readAt (Elt F) (keyRect i j).toLoadRect (harg3.unread x1))
    (arg4.view.readAt (Elt F) (keyRect i j).toLoadRect (harg4.unread x2)) (n == j) n

/-- and their probabilities. -/
abbrev psAt (j n : Fin 8) : FVec F S256x256 .bf16 :=
  pOf (pBlk (arg2.view.read (Elt F) (harg2.unread x0)) (arg7.view.read (Elt F) (harg7.unread x5))
    (arg3.view.readAt (Elt F) (keyRect i j).toLoadRect (harg3.unread x1)) (n == j) n)

/-- The whole block stored with zeros. -/
abbrev zero8 : View.Piece (Elt F) S2048x128 .f32 :=
  ⟨Rect.unit ![0, 0] S2048x128.size inb_S2048x128_S2048x128_0_0, k0_pay144⟩

/-- The whole of a key or value gradient stored with zeros. -/
abbrev zero9 : View.Piece (Elt F) S8192x128 .f32 :=
  ⟨Rect.unit ![0, 0] S8192x128.size inb_S8192x128_S8192x128_0_0, k0_pay101⟩

/-- The query gradient's stores on a point that is not the first of its head. -/
theorem runB_dq (hc0 : ¬ cond0_0 i) (xo7 : Vec F S8192x128 .f32) (xo8 : Vec F S8192x128 .f32) :
    ∃ Y8 Y9 Y10 v, (kernelRun0_B (F := F) c i arg2 harg2 arg3 harg3 arg4 harg4 arg5 harg5 arg6 harg6 arg7 harg7 arg8 harg8 arg9 harg9 arg10 harg10 hc0 x0 x1 x2 x3 x4 x5 xo7 xo8).1
      = dqDiag arg8.view arg8.view.junk (fun j => arg3.view.readAt (Elt F) (keyRect i j).toLoadRect (harg3.unread x1))
          (dsAt i arg2 harg2 arg3 harg3 arg4 harg4 arg5 harg5 arg6 harg6 arg7 harg7 x0 x1 x2 x3 x4 x5) [0, 1, 2, 3, 4, 5, 6, 7]
          ((rest c i arg2 harg2 arg3 harg3 arg4 harg4 arg5 harg5 arg6 harg6 arg7 harg7 arg8 harg8 arg9 harg9 arg10 harg10 x0 x1 x2 x3 x4 x5 Y8 Y9 Y10 v (k0_t2_loop i).trips).1 ++ ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).1 ++ [zero8])) := by
  refine ⟨arg8.view.writes (Elt F) arg8.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).1 ++ [zero8]), arg9.view.writes (Elt F) (harg9.unread xo7) ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.1),
    arg10.view.writes (Elt F) (harg10.unread xo8) ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.2),
    Scalar.addi 0#32 (Scalar.muli (Scalar.divsi (Scalar.subi (Scalar.muli 8#32 (BitVec.ofNat 32 (i 1).val)) 0#32) 1#32) 1#32), ?_⟩
  unfold kernelRun0_B
  rfl

/-- The key gradient's stores on a point that is not the first of its head. -/
theorem runB_dk (hc0 : ¬ cond0_0 i) (xo7 : Vec F S8192x128 .f32) (xo8 : Vec F S8192x128 .f32) :
    ∃ Y8 Y9 Y10 v, (kernelRun0_B (F := F) c i arg2 harg2 arg3 harg3 arg4 harg4 arg5 harg5 arg6 harg6 arg7 harg7 arg8 harg8 arg9 harg9 arg10 harg10 hc0 x0 x1 x2 x3 x4 x5 xo7 xo8).2.1
      = dkAll arg9.view (harg9.unread xo7) i (dsAt i arg2 harg2 arg3 harg3 arg4 harg4 arg5 harg5 arg6 harg6 arg7 harg7 x0 x1 x2 x3 x4 x5) (qFrom (arg2.view.read (Elt F) (harg2.unread x0)))
          ((rest c i arg2 harg2 arg3 harg3 arg4 harg4 arg5 harg5 arg6 harg6 arg7 harg7 arg8 harg8 arg9 harg9 arg10 harg10 x0 x1 x2 x3 x4 x5 Y8 Y9 Y10 v (k0_t2_loop i).trips).2.1 ++ ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.1)) := by
  refine ⟨arg8.view.writes (Elt F) arg8.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).1 ++ [zero8]), arg9.view.writes (Elt F) (harg9.unread xo7) ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.1),
    arg10.view.writes (Elt F) (harg10.unread xo8) ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.2),
    Scalar.addi 0#32 (Scalar.muli (Scalar.divsi (Scalar.subi (Scalar.muli 8#32 (BitVec.ofNat 32 (i 1).val)) 0#32) 1#32) 1#32), ?_⟩
  unfold kernelRun0_B
  rfl

/-- The value gradient's stores on a point that is not the first of its head. -/
theorem runB_dv (hc0 : ¬ cond0_0 i) (xo7 : Vec F S8192x128 .f32) (xo8 : Vec F S8192x128 .f32) :
    ∃ Y8 Y9 Y10 v, (kernelRun0_B (F := F) c i arg2 harg2 arg3 harg3 arg4 harg4 arg5 harg5 arg6 harg6 arg7 harg7 arg8 harg8 arg9 harg9 arg10 harg10 hc0 x0 x1 x2 x3 x4 x5 xo7 xo8).2.2.1
      = dkAll arg10.view (harg10.unread xo8) i (psAt i arg2 harg2 arg3 harg3 arg7 harg7 x0 x1 x5) (doFrom (arg5.view.read (Elt F) (harg5.unread x3)))
          ((rest c i arg2 harg2 arg3 harg3 arg4 harg4 arg5 harg5 arg6 harg6 arg7 harg7 arg8 harg8 arg9 harg9 arg10 harg10 x0 x1 x2 x3 x4 x5 Y8 Y9 Y10 v (k0_t2_loop i).trips).2.2 ++ ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.2)) := by
  refine ⟨arg8.view.writes (Elt F) arg8.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).1 ++ [zero8]), arg9.view.writes (Elt F) (harg9.unread xo7) ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.1),
    arg10.view.writes (Elt F) (harg10.unread xo8) ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (harg9.unread xo7) (harg10.unread xo8) (k0_t1_loop i).trips).2.2),
    Scalar.addi 0#32 (Scalar.muli (Scalar.divsi (Scalar.subi (Scalar.muli 8#32 (BitVec.ofNat 32 (i 1).val)) 0#32) 1#32) 1#32), ?_⟩
  unfold kernelRun0_B
  rfl

/-- The query gradient's stores on the first point of a head. -/
theorem runA_dq (hc0 : cond0_0 i) :
    ∃ Y8 Y9 Y10 v, (kernelRun0_A (F := F) c i arg2 harg2 arg3 harg3 arg4 harg4 arg5 harg5 arg6 harg6 arg7 harg7 arg8 harg8 arg9 harg9 arg10 harg10 hc0 x0 x1 x2 x3 x4 x5).1
      = dqDiag arg8.view arg8.view.junk (fun j => arg3.view.readAt (Elt F) (keyRect i j).toLoadRect (harg3.unread x1))
          (dsAt i arg2 harg2 arg3 harg3 arg4 harg4 arg5 harg5 arg6 harg6 arg7 harg7 x0 x1 x2 x3 x4 x5) [0, 1, 2, 3, 4, 5, 6, 7]
          ((rest c i arg2 harg2 arg3 harg3 arg4 harg4 arg5 harg5 arg6 harg6 arg7 harg7 arg8 harg8 arg9 harg9 arg10 harg10 x0 x1 x2 x3 x4 x5 Y8 Y9 Y10 v (k0_t2_loop i).trips).1 ++ ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).1 ++ [zero8])) := by
  refine ⟨arg8.view.writes (Elt F) arg8.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).1 ++ [zero8]), arg9.view.writes (Elt F) arg9.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.1 ++ [zero9]),
    arg10.view.writes (Elt F) arg10.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.2 ++ [zero9]),
    Scalar.addi 0#32 (Scalar.muli (Scalar.divsi (Scalar.subi (Scalar.muli 8#32 (BitVec.ofNat 32 (i 1).val)) 0#32) 1#32) 1#32), ?_⟩
  unfold kernelRun0_A
  rfl

/-- The key gradient's stores on the first point of a head. -/
theorem runA_dk (hc0 : cond0_0 i) :
    ∃ Y8 Y9 Y10 v, (kernelRun0_A (F := F) c i arg2 harg2 arg3 harg3 arg4 harg4 arg5 harg5 arg6 harg6 arg7 harg7 arg8 harg8 arg9 harg9 arg10 harg10 hc0 x0 x1 x2 x3 x4 x5).2.1
      = dkAll arg9.view arg9.view.junk i (dsAt i arg2 harg2 arg3 harg3 arg4 harg4 arg5 harg5 arg6 harg6 arg7 harg7 x0 x1 x2 x3 x4 x5) (qFrom (arg2.view.read (Elt F) (harg2.unread x0)))
          ((rest c i arg2 harg2 arg3 harg3 arg4 harg4 arg5 harg5 arg6 harg6 arg7 harg7 arg8 harg8 arg9 harg9 arg10 harg10 x0 x1 x2 x3 x4 x5 Y8 Y9 Y10 v (k0_t2_loop i).trips).2.1 ++ ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.1 ++ [zero9])) := by
  refine ⟨arg8.view.writes (Elt F) arg8.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).1 ++ [zero8]), arg9.view.writes (Elt F) arg9.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.1 ++ [zero9]),
    arg10.view.writes (Elt F) arg10.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.2 ++ [zero9]),
    Scalar.addi 0#32 (Scalar.muli (Scalar.divsi (Scalar.subi (Scalar.muli 8#32 (BitVec.ofNat 32 (i 1).val)) 0#32) 1#32) 1#32), ?_⟩
  unfold kernelRun0_A
  rfl

/-- The value gradient's stores on the first point of a head. -/
theorem runA_dv (hc0 : cond0_0 i) :
    ∃ Y8 Y9 Y10 v, (kernelRun0_A (F := F) c i arg2 harg2 arg3 harg3 arg4 harg4 arg5 harg5 arg6 harg6 arg7 harg7 arg8 harg8 arg9 harg9 arg10 harg10 hc0 x0 x1 x2 x3 x4 x5).2.2.1
      = dkAll arg10.view arg10.view.junk i (psAt i arg2 harg2 arg3 harg3 arg7 harg7 x0 x1 x5) (doFrom (arg5.view.read (Elt F) (harg5.unread x3)))
          ((rest c i arg2 harg2 arg3 harg3 arg4 harg4 arg5 harg5 arg6 harg6 arg7 harg7 arg8 harg8 arg9 harg9 arg10 harg10 x0 x1 x2 x3 x4 x5 Y8 Y9 Y10 v (k0_t2_loop i).trips).2.2 ++ ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.2 ++ [zero9])) := by
  refine ⟨arg8.view.writes (Elt F) arg8.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).1 ++ [zero8]), arg9.view.writes (Elt F) arg9.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.1 ++ [zero9]),
    arg10.view.writes (Elt F) arg10.view.junk ((earlier c i arg2 harg2 arg3 harg3 arg4 harg4 arg5 harg5 arg6 harg6 arg7 harg7 arg8 harg8 arg9 harg9 arg10 harg10 x0 x1 x2 x3 x4 x5 (arg8.view.writes (Elt F) arg8.view.junk [zero8]) (arg9.view.writes (Elt F) arg9.view.junk [zero9]) (arg10.view.writes (Elt F) arg10.view.junk [zero9]) (k0_t1_loop i).trips).2.2 ++ [zero9]),
    Scalar.addi 0#32 (Scalar.muli (Scalar.divsi (Scalar.subi (Scalar.muli 8#32 (BitVec.ofNat 32 (i 1).val)) 0#32) 1#32) 1#32), ?_⟩
  unfold kernelRun0_A
  rfl

end

end Cert.KernelIdeal.Val
-- ==== Proof.Elem.lean ====
/- The vectors of one step read at an element, over the extended reals. -/
module

public import proofs.«01_k».proof.Proof.Pieces
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

/-- The three named constants: the scale, one over the logarithm of two, and their product. -/
abbrev cS : EReal := Named.named (F := Ideal) (φ := .f32) κ "scale" 0x3DD105EC#32
abbrev cL : EReal := Named.named (F := Ideal) (φ := .f32) κ "log2e" 0x3FB8AA3B#32
abbrev cSL : EReal := Named.named (F := Ideal) (φ := .f32) κ "scale_log2e" 0x3E16C740#32

theorem prob_apply (q : FVec Ideal S256x128 .bf16) (l : FVec Ideal S256x1 .f32) (ks : Vec Ideal S256x128 .bf16)
    (a c : Fin 256) :
    prob q l ks (ix2 a c) = Ideal.exp2 ((∑ d : Fin 128, q (ix2 a d) * ks (ix2 c d)) * cSL - l (ix2 a 0)) := by
  pointwise [prob]
  rfl

theorem dsOf_apply (p : FVec Ideal S256x256 .f32) (g : FVec Ideal S256x128 .bf16) (dl : FVec Ideal S256x1 .f32)
    (vs : Vec Ideal S256x128 .bf16) (a c : Fin 256) :
    dsOf p g dl vs (ix2 a c) = p (ix2 a c) * ((∑ d : Fin 128, g (ix2 a d) * vs (ix2 c d)) * cS - dl (ix2 a 0)) := by
  pointwise [dsOf]

theorem maskIf_apply (b : Bool) (p : FVec Ideal S256x256 .f32) (a c : Fin 256) :
    maskIf b p (ix2 a c) = if b = true ∧ a.val < c.val then 0 else p (ix2 a c) := by
  cases b
  · pointwise [maskIf]
    simp
  · pointwise [maskIf, k0_pay103]
    rw [WordCmp.cmpi_sle_ofNat (by omega) (by omega)]
    by_cases h : a.val < c.val
    · rw [if_pos h, decide_eq_false (by omega)]
      rfl
    · rw [if_neg h, decide_eq_true (by omega)]
      rfl

theorem dqPay_apply (ks : Vec Ideal S256x128 .bf16) (ds : FVec Ideal S256x256 .bf16) (old : Vec Ideal S256x128 .f32)
    (a : Fin 256) (d : Fin 128) :
    dqPay ks ds old (ix2 a d) = old (ix2 a d) + ∑ c : Fin 256, ds (ix2 a c) * ks (ix2 c d) := by
  pointwise [dqPay]

theorem dkPay_apply (w : ℕ) (c : FVec Ideal ⟨2, ![w, 256]⟩ .bf16) (x : FVec Ideal ⟨2, ![w, 128]⟩ .bf16)
    (old : Vec Ideal S256x128 .f32) (a : Fin 256) (d : Fin 128) :
    dkPay w c x old (ix2 a d) = old (ix2 a d) + ∑ t : Fin w, c (ix2 t a) * x (ix2 t d) := by
  have e := Ideal.matmul_apply₁_of (tn w) (a := 0) rfl (K := w) rfl c x (constant (F := Ideal) S256x128 .f32 0x00000000#32 : S256x128.Idx → EReal) (ix2 a d)
    (fun t => ix2 t a) (fun t => ix2 t d)
    (fun t => by rw [Shape.Idx.norm2]; congr 1) (fun t => by rw [Shape.Idx.norm2]; congr 1)
  have z : constant (F := Ideal) S256x128 .f32 0x00000000#32 (ix2 a d) = 0 := by pointwise
  rw [z, zero_add] at e
  rw [← e]
  pointwise [dkPay]

theorem qB_apply (X : Vec Ideal S2048x128 .bf16) (n : Fin 8) (a : Fin 256) (d : Fin 128) :
    qB X n (ix2 a d) = X (ix2 ⟨256 * n.val + a.val, by omega⟩ d) := by
  pointwise [qB]

theorem doB_apply (X : Vec Ideal S2048x128 .f32) (n : Fin 8) (a : Fin 256) (d : Fin 128) :
    doB X n (ix2 a d) = X (ix2 ⟨256 * n.val + a.val, by omega⟩ d) := by
  pointwise [doB]

theorem dlB_apply (X O : Vec Ideal S2048x128 .f32) (n : Fin 8) (a : Fin 256) :
    dlB X O n (ix2 a 0) = (∑ d : Fin 128, X (ix2 ⟨256 * n.val + a.val, by omega⟩ d) * O (ix2 ⟨256 * n.val + a.val, by omega⟩ d)) * cS := by
  pointwise [dlB]

theorem lsB_apply (L : Vec Ideal S2048x128 .f32) (n : Fin 8) (a : Fin 256) :
    lsB L n (ix2 a 0) = L (ix2 ⟨256 * n.val + a.val, by omega⟩ 0) * cL := by
  pointwise [lsB]

theorem qFrom_apply (X : Vec Ideal S2048x128 .bf16) (j : Fin 8) (t : Fin (256 * (8 - j.val))) (d : Fin 128) :
    qFrom X j (ix2 t d) = X (ix2 ⟨256 * j.val + t.val, by omega⟩ d) := by
  refine (congrFun (shapeCast_self (s := ⟨2, ![256 * (8 - j.val), 128]⟩) (View.ld (Val := Elt Ideal) (e' := .bf16) X (rowsFrom j)) rfl) (ix2 t d)).trans ?_
  pointwise

theorem doFrom_apply (X : Vec Ideal S2048x128 .f32) (j : Fin 8) (t : Fin (256 * (8 - j.val))) (d : Fin 128) :
    doFrom X j (ix2 t d) = X (ix2 ⟨256 * j.val + t.val, by omega⟩ d) := by
  refine (congrFun (shapeCast_self (s := ⟨2, ![256 * (8 - j.val), 128]⟩) (View.ld (Val := Elt Ideal) (e' := .f32) X (rowsFrom j)) rfl) (ix2 t d)).trans ?_
  pointwise

/-- The blocks `d n`, `n` through `ns`, stacked, at row `256 p + a` of the stack: block `ns[p]` at row `a`. -/
theorem concat_blocks (w : ℕ) (d : Fin 8 → FVec Ideal S256x256 .bf16) (t : Fin w) (a cc : Fin 256) :
    ∀ (ns : List (Fin 8))
      (hs : ∀ s ∈ ((ns.map fun n => (⟨S256x256, d n⟩ : (s : Shape) × (s.Idx → Ideal .bf16))).map (·.1)), s.FitsOff ⟨2, ![w, 256]⟩ 0)
      (c : ℕ) (hc : c < (axisSizes ⟨2, ![w, 256]⟩ 0 (ns.map fun n => (⟨S256x256, d n⟩ : (s : Shape) × (s.Idx → Ideal .bf16)))).sum)
      (p : ℕ) (hp : p < ns.length), c = 256 * p + a.val →
      concatenateAt ⟨2, ![w, 256]⟩ 0 (ix2 t cc) (ns.map fun n => (⟨S256x256, d n⟩ : (s : Shape) × (s.Idx → Ideal .bf16))) hs c hc
        = d ns[p] (ix2 a cc) := by
  intro ns
  induction ns with
  | nil => intro hs c hc p hp; exact absurd hp (Nat.not_lt_zero _)
  | cons n ns ih =>
    intro hs c hc p hp e
    cases ns with
    | nil =>
      have : p = 0 := by simpa using hp
      subst this
      refine (concatenateAt_singleton 0 (ix2 t cc) (d n) hs c hc).trans ?_
      rw [Shape.Idx.norm2]
      show d n _ = d n _
      congr 2
      exact Fin.ext (by simpa using e)
    | cons n' ns =>
      refine (concatenateAt_cons 0 (ix2 t cc) (d n) _ _ hs c hc).trans ?_
      cases p with
      | zero =>
        have hl : c < 256 := by omega
        refine (dif_pos hl).trans ?_
        rw [Shape.Idx.norm2]
        show d n _ = d n _
        congr 2
        exact Fin.ext (by simpa using e)
      | succ p =>
        have hl : ¬ c < 256 := by omega
        refine (dif_neg hl).trans ?_
        exact ih _ _ _ p (by simpa using hp) (by show c - 256 = _; omega)

/-- The stacked blocks from `j` on at row `256 p + a`: block `j + p` at row `a`. -/
theorem stack_apply (d : Fin 8 → FVec Ideal S256x256 .bf16) (j : Fin 7) (t : Fin (256 * (8 - j.val))) (n : Fin 8) (a cc : Fin 256)
    (h : 256 * j.val + t.val = 256 * n.val + a.val) : stack d j (ix2 t cc) = d n (ix2 a cc) := by
  have hj := j.isLt
  have ht := t.isLt
  have hl : n.val - j.val < (blocksFrom j.castSucc).length := by
    simp only [blocksFrom, List.length_drop, List.length_cons, List.length_nil, Fin.val_castSucc]
    omega
  refine (concatenate_apply _ _ _ _ _).trans
    ((concat_blocks _ d t a cc _ _ _ _ (n.val - j.val) hl (by show t.val = _; omega)).trans ?_)
  congr 1
  have : ∀ (j : Fin 7) (n : Fin 8) (hl : n.val - j.val < (blocksFrom j.castSucc).length), j.val ≤ n.val →
      (blocksFrom j.castSucc)[n.val - j.val] = n := by decide
  exact this j n hl (by omega)

end Cert.KernelIdeal.Val
-- ==== Proof.Offs.lean ====
/- The words the body computes with, in closed form: where a step's keys start, and how many trips a loop makes. -/
module

public import proofs.«01_k».proof.Proof.Pieces

@[expose] public section

set_option maxRecDepth 16384

noncomputable section

namespace Cert.KernelIdeal.Val

open Idealize.ShloMosaic Idealize.ShloMosaic.TcCoe
open Cert.KernelIdeal Cert.KernelIdeal.Gen

/-- A word of a known value that is not negative, as a natural number. -/
theorem toNat_of {x : BitVec 32} {e : ℤ} {n : ℕ} (h : Affine.IsInt x e) (he : e = n) : x.toNat = n := by
  unfold Affine.IsInt at h
  rw [BitVec.toInt_eq_toNat_cond] at h
  have := x.isLt
  split at h <;> omega

theorem trips1_eq (i : grid0.Coords) : (k0_t1_loop i).trips = 8 * (i 1).val := by
  have r : (i 1).val < 4 := (i 1).isLt
  have z : Affine.IsInt 0#32 0 := Affine.ofNat _ (by omega)
  have e : Affine.IsInt 8#32 8 := Affine.ofNat _ (by omega)
  have o : Affine.IsInt 1#32 1 := Affine.ofNat _ (by omega)
  have a : Affine.IsInt (BitVec.ofNat 32 (i 1).val) ((i 1).val : Int) := Affine.ofNat _ (by omega)
  have m : Affine.IsInt _ (8 * ((i 1).val : Int)) := Affine.muli e a (by omega)
  have s : Affine.IsInt _ (8 * ((i 1).val : Int)) := Affine.subi m z (by omega)
  have d : Affine.IsInt _ (8 * ((i 1).val : Int)) := Affine.divsi s o (by omega)
  have p : Affine.IsInt _ (8 * ((i 1).val : Int)) := Affine.muli d o (by omega)
  have u : Affine.IsInt _ (8 * ((i 1).val : Int)) := Affine.addi z p (by omega)
  exact Affine.trips_eq z u o _ (by omega)

theorem trips2_eq (i : grid0.Coords) : (k0_t2_loop i).trips = 0 := Nat.le_zero.mp (k0_t2_abs i).2.1

theorem off1_eq (i : grid0.Coords) (k : Fin (k0_t1_loop i).trips) : k0_off1 i k = ![256 * k.val, 0] := by
  have r : k.val < 24 := Nat.lt_of_lt_of_le k.isLt (k0_t1_abs i).2.1
  have z : Affine.IsInt 0#32 0 := Affine.ofNat _ (by omega)
  have o : Affine.IsInt 1#32 1 := Affine.ofNat _ (by omega)
  have v : Affine.IsInt _ (k.val : Int) := Affine.iv z o k.val (by omega)
  have w : Affine.IsInt 256#32 256 := Affine.ofNat _ (by omega)
  have m : Affine.IsInt _ (256 * (k.val : Int)) := Affine.muli v w (by omega)
  have x : Affine.IsInt _ (256 * (k.val : Int)) := Affine.indexCast m
  show ![_, 0] = _
  rw [toNat_of x (n := 256 * k.val) (by push_cast; rfl)]

theorem off3_eq (i : grid0.Coords) (j : Fin 8) :
    k0_off3 i (BitVec.ofNat 32 j.val) = ![256 * (8 * (i 1).val + j.val), 0] := by
  have r : (i 1).val < 4 := (i 1).isLt
  have rj : j.val < 8 := j.isLt
  have b : Affine.IsInt (BitVec.ofNat 32 j.val) (j.val : Int) := Affine.ofNat _ (by omega)
  have e : Affine.IsInt 8#32 8 := Affine.ofNat _ (by omega)
  have a : Affine.IsInt (BitVec.ofNat 32 (i 1).val) ((i 1).val : Int) := Affine.ofNat _ (by omega)
  have m : Affine.IsInt _ (8 * ((i 1).val : Int)) := Affine.muli e a (by omega)
  have s : Affine.IsInt _ (8 * ((i 1).val : Int) + (j.val : Int)) := Affine.addi m b (by omega)
  have w : Affine.IsInt 256#32 256 := Affine.ofNat _ (by omega)
  have p : Affine.IsInt _ (2048 * ((i 1).val : Int) + 256 * (j.val : Int)) := Affine.muli s w (by omega)
  have x : Affine.IsInt _ (2048 * ((i 1).val : Int) + 256 * (j.val : Int)) := Affine.indexCast p
  show ![_, 0] = _
  rw [toNat_of x (n := 256 * (8 * (i 1).val + j.val)) (by push_cast; ring)]

end Cert.KernelIdeal.Val
-- ==== Proof.Acc.lean ====
/- What a buffer reads after the body's stores: each store adds its product to the rows it covers and leaves the others. -/
module

public import proofs.«01_k».proof.Proof.Elem
public import proofs.«01_k».proof.Proof.Offs
public import Idealize.ShloMosaic.Lib.WritesUnit

@[expose] public section

set_option maxRecDepth 16384

noncomputable section

namespace Cert.KernelIdeal.Val

open Idealize.ShloMosaic Idealize.ShloMosaic.TcCoe
open Cert.KernelIdeal Cert.KernelIdeal.Gen

/-- Rows `[o, o + 256)` of a buffer stored with `w`, read at a row: a row inside reads `w`, a row outside what was there. -/
theorem read_rows {N : ℕ} {sig' : RefSig} {κ' : Kind} {sp : Space} (v : View sig' κ' sp ⟨2, ![N, 128]⟩ .f32) (f : v.ty.Contents (Elt Ideal))
    {off : Fin 2 → ℕ} {o : ℕ} (inb : ∀ a : Fin 2, off a + S256x128.size a ≤ (⟨2, ![N, 128]⟩ : Shape).size a) (w : FVec Ideal S256x128 .f32)
    (L : List (View.Piece (Elt Ideal) ⟨2, ![N, 128]⟩ .f32)) (hoff : off = ![o, 0]) (r : Fin N) (d : Fin 128) :
    v.read (Elt Ideal) (v.writes (Elt Ideal) f (⟨Rect.unit off S256x128.size inb, w⟩ :: L)) (ix2 r d)
      = if h : o ≤ r.val ∧ r.val < o + 256 then w (ix2 ⟨r.val - o, by omega⟩ d)
        else v.read (Elt Ideal) (v.writes (Elt Ideal) f L) (ix2 r d) := by
  by_cases h : o ≤ r.val ∧ r.val < o + 256
  · rw [dif_pos h]
    exact View.read_writes_cons_rows_of_mem v f inb w L (ix2 r d) (ix2 ⟨r.val - o, by omega⟩ d) hoff
      (by show r.val = o + (r.val - o); omega) rfl
  · rw [dif_neg h]
    exact View.read_writes_cons_rows_of_not_mem v f inb w L (ix2 r d) hoff (W := 256) rfl (by show r.val < o ∨ o + 256 ≤ r.val; omega)

/-- Rows `[o, o + 256)` of a buffer loaded, read at an element. -/
theorem readAt_rows {N : ℕ} {sig' : RefSig} {κ' : Kind} {sp : Space} {e : EltTy} (v : View sig' κ' sp ⟨2, ![N, 128]⟩ e)
    (f : v.ty.Contents (Elt Ideal)) {off : Fin 2 → ℕ} {o : ℕ}
    (inb : ∀ a : Fin 2, off a + S256x128.size a ≤ (⟨2, ![N, 128]⟩ : Shape).size a) (hoff : off = ![o, 0]) (a : Fin 256) (d : Fin 128)
    (r : Fin N) (hr : r.val = o + a.val) :
    v.readAt (Elt Ideal) (Rect.unit (s := ⟨2, ![N, 128]⟩) off S256x128.size inb).toLoadRect f (ix2 a d)
      = v.read (Elt Ideal) f (ix2 r d) := by
  subst hoff
  show v.read (Elt Ideal) f _ = _
  congr 1
  funext b
  apply Fin.ext
  fin_cases b
  · show o + 1 * a.val = r.val; omega
  · show 0 + 1 * d.val = d.val; omega

section
variable {sig' : RefSig} {κ' : Kind} {sp : Space} (v : View sig' κ' sp S2048x128 .f32) (f : v.ty.Contents (Elt Ideal))

theorem read_dqPush (ks : Vec Ideal S256x128 .bf16) (n : Fin 8) (ds : FVec Ideal S256x256 .bf16)
    (L : List (View.Piece (Elt Ideal) S2048x128 .f32)) (m : Fin 8) (a : Fin 256) (d : Fin 128) :
    v.read (Elt Ideal) (v.writes (Elt Ideal) f (dqPush v f ks n ds L)) (ix2 ⟨256 * m.val + a.val, by omega⟩ d)
      = v.read (Elt Ideal) (v.writes (Elt Ideal) f L) (ix2 ⟨256 * m.val + a.val, by omega⟩ d)
        + if m = n then ∑ c : Fin 256, ds (ix2 a c) * ks (ix2 c d) else 0 := by
  refine (read_rows v f _ _ L rfl _ d).trans ?_
  by_cases h : m = n
  · subst h
    rw [dif_pos (by constructor <;> simp <;> omega), if_pos rfl, dqPay_apply]
    have e : (⟨256 * m.val + a.val - 256 * m.val, by omega⟩ : Fin 256) = a := Fin.ext (by simp)
    refine congrArg₂ (· + ·) ?_ ?_
    · exact readAt_rows v _ _ rfl _ d _ (by simp)
    · rw [e]
  · have hv : m.val ≠ n.val := fun e => h (Fin.ext e)
    rw [dif_neg (by simp only []; omega), if_neg h, add_zero]

theorem read_dqStep (ks : Vec Ideal S256x128 .bf16) (ds : Fin 8 → FVec Ideal S256x256 .bf16) (m : Fin 8) (a : Fin 256) (d : Fin 128) :
    ∀ (ns : List (Fin 8)) (_ : ns.Nodup) (L : List (View.Piece (Elt Ideal) S2048x128 .f32)),
    v.read (Elt Ideal) (v.writes (Elt Ideal) f (dqStep v f ks ds ns L)) (ix2 ⟨256 * m.val + a.val, by omega⟩ d)
      = v.read (Elt Ideal) (v.writes (Elt Ideal) f L) (ix2 ⟨256 * m.val + a.val, by omega⟩ d)
        + if m ∈ ns then ∑ c : Fin 256, ds m (ix2 a c) * ks (ix2 c d) else 0 := by
  intro ns
  induction ns with
  | nil => intro _ L; simp [dqStep]
  | cons n ns ih =>
    intro hn L
    rw [List.nodup_cons] at hn
    refine (ih hn.2 _).trans ?_
    rw [read_dqPush]
    by_cases h : m = n
    · subst h; simp [hn.1]
    · simp [h]

theorem read_dqDiag (ks : Fin 8 → Vec Ideal S256x128 .bf16) (ds : Fin 8 → Fin 8 → FVec Ideal S256x256 .bf16) (m : Fin 8) (a : Fin 256)
    (d : Fin 128) :
    ∀ (js : List (Fin 8)) (L : List (View.Piece (Elt Ideal) S2048x128 .f32)),
    v.read (Elt Ideal) (v.writes (Elt Ideal) f (dqDiag v f ks ds js L)) (ix2 ⟨256 * m.val + a.val, by omega⟩ d)
      = v.read (Elt Ideal) (v.writes (Elt Ideal) f L) (ix2 ⟨256 * m.val + a.val, by omega⟩ d)
        + (js.map fun j => if j ≤ m then ∑ c : Fin 256, ds j m (ix2 a c) * ks j (ix2 c d) else 0).sum := by
  intro js
  have nd : ∀ j : Fin 8, (blocksFrom j).Nodup := by decide
  have mem : ∀ j m : Fin 8, m ∈ blocksFrom j ↔ j ≤ m := by decide
  induction js with
  | nil => intro L; simp [dqDiag]
  | cons j js ih =>
    intro L
    refine (ih _).trans ?_
    rw [read_dqStep v f _ _ m a d _ (nd j), List.map_cons, List.sum_cons, ← add_assoc]
    simp only [mem]

theorem read_dqTrip (ks : Vec Ideal S256x128 .bf16) (ds : Fin 8 → FVec Ideal S256x256 .bf16) (m : Fin 8) (a : Fin 256) (d : Fin 128) :
    v.read (Elt Ideal) (v.writes (Elt Ideal) f (dqTrip v f ks ds)) (ix2 ⟨256 * m.val + a.val, by omega⟩ d)
      = v.read (Elt Ideal) f (ix2 ⟨256 * m.val + a.val, by omega⟩ d) + ∑ c : Fin 256, ds m (ix2 a c) * ks (ix2 c d) := by
  have key : ∀ ns : List (Fin 8), m ∈ ns →
      v.read (Elt Ideal) (v.writes (Elt Ideal) f
        (ns.map fun n => ⟨rowsQ n, dqPay ks (ds n) (v.readAt (Elt Ideal) (rowsQ n).toLoadRect f)⟩)) (ix2 ⟨256 * m.val + a.val, by omega⟩ d)
        = v.read (Elt Ideal) f (ix2 ⟨256 * m.val + a.val, by omega⟩ d) + ∑ c : Fin 256, ds m (ix2 a c) * ks (ix2 c d) := by
    intro ns
    induction ns with
    | nil => intro h; simp at h
    | cons n ns ih =>
      intro h
      refine (read_rows v f _ _ _ rfl _ d).trans ?_
      by_cases e : m = n
      · subst e
        rw [dif_pos (by constructor <;> simp <;> omega), dqPay_apply]
        have e : (⟨256 * m.val + a.val - 256 * m.val, by omega⟩ : Fin 256) = a := Fin.ext (by simp)
        refine congrArg₂ (· + ·) ?_ ?_
        · exact readAt_rows v _ _ rfl _ d _ (by simp)
        · rw [e]
      · have hv : m.val ≠ n.val := fun h => e (Fin.ext h)
        rw [dif_neg (by simp only []; omega)]
        exact ih (by simpa [e] using h)
  have all : ∀ m : Fin 8, m ∈ ([7, 6, 5, 4, 3, 2, 1, 0] : List (Fin 8)) := by decide
  exact key _ (all m)
end

section
variable {sig' : RefSig} {κ' : Kind} {sp : Space} (v : View sig' κ' sp S8192x128 .f32) (f : v.ty.Contents (Elt Ideal))

theorem read_dkPush (o : Fin 2 → ℕ) (inb : ∀ a, o a + S256x128.size a ≤ S8192x128.size a) (b : ℕ) (ho : o = ![256 * b, 0]) (w : ℕ)
    (c : FVec Ideal ⟨2, ![w, 256]⟩ .bf16) (x : FVec Ideal ⟨2, ![w, 128]⟩ .bf16) (L : List (View.Piece (Elt Ideal) S8192x128 .f32))
    (kb : Fin 32) (a : Fin 256) (d : Fin 128) :
    v.read (Elt Ideal) (v.writes (Elt Ideal) f (dkPush v f o inb w c x L)) (ix2 ⟨256 * kb.val + a.val, by omega⟩ d)
      = v.read (Elt Ideal) (v.writes (Elt Ideal) f L) (ix2 ⟨256 * kb.val + a.val, by omega⟩ d)
        + if kb.val = b then ∑ t : Fin w, c (ix2 t a) * x (ix2 t d) else 0 := by
  refine (read_rows v f _ _ L ho _ d).trans ?_
  by_cases h : kb.val = b
  · subst h
    rw [dif_pos (by constructor <;> simp <;> omega), if_pos rfl, dkPay_apply]
    have e : (⟨256 * kb.val + a.val - 256 * kb.val, by omega⟩ : Fin 256) = a := Fin.ext (by simp)
    refine congrArg₂ (· + ·) ?_ ?_
    · exact readAt_rows v _ _ ho _ d _ (by simp)
    · rw [e]
  · rw [dif_neg (by simp only []; omega), if_neg h, add_zero]

theorem read_dkTrip (i : grid0.Coords) (k : Fin (k0_t1_loop i).trips) (ds : Fin 8 → FVec Ideal S256x256 .bf16)
    (x : FVec Ideal ⟨2, ![2048, 128]⟩ .bf16) (kb : Fin 32) (a : Fin 256) (d : Fin 128) :
    v.read (Elt Ideal) (v.writes (Elt Ideal) f (dkTrip v f i k ds x)) (ix2 ⟨256 * kb.val + a.val, by omega⟩ d)
      = v.read (Elt Ideal) f (ix2 ⟨256 * kb.val + a.val, by omega⟩ d)
        + if kb.val = k.val then ∑ t : Fin 2048, stack ds 0 (ix2 t a) * x (ix2 t d) else 0 :=
  read_dkPush v f _ (k0_off1_inb i k) k.val (off1_eq i k) 2048 (stack ds 0) x [] kb a d

theorem read_dkDiag (i : grid0.Coords) (ds : Fin 8 → Fin 8 → FVec Ideal S256x256 .bf16)
    (x : (j : Fin 8) → FVec Ideal ⟨2, ![256 * (8 - j.val), 128]⟩ .bf16) (kb : Fin 32) (a : Fin 256) (d : Fin 128) :
    ∀ (js : List (Fin 7)) (L : List (View.Piece (Elt Ideal) S8192x128 .f32)),
    v.read (Elt Ideal) (v.writes (Elt Ideal) f (dkDiag v f i ds x js L)) (ix2 ⟨256 * kb.val + a.val, by omega⟩ d)
      = v.read (Elt Ideal) (v.writes (Elt Ideal) f L) (ix2 ⟨256 * kb.val + a.val, by omega⟩ d)
        + (js.map fun j => if kb.val = 8 * (i 1).val + j.val then
            ∑ t : Fin (256 * (8 - j.val)), stack (ds j.castSucc) j (ix2 t a) * x j.castSucc (ix2 t d) else 0).sum := by
  intro js
  induction js with
  | nil => intro L; simp [dkDiag]
  | cons j js ih =>
    intro L
    refine (ih _).trans ?_
    rw [List.map_cons, List.sum_cons, ← add_assoc]
    exact congrArg (· + _) (read_dkPush v f _ _ (8 * (i 1).val + j.val) (off3_eq i j.castSucc) _ _ _ L kb a d)

theorem read_dkAll (i : grid0.Coords) (ds : Fin 8 → Fin 8 → FVec Ideal S256x256 .bf16)
    (x : (j : Fin 8) → FVec Ideal ⟨2, ![256 * (8 - j.val), 128]⟩ .bf16) (L : List (View.Piece (Elt Ideal) S8192x128 .f32))
    (kb : Fin 32) (a : Fin 256) (d : Fin 128) :
    v.read (Elt Ideal) (v.writes (Elt Ideal) f (dkAll v f i ds x L)) (ix2 ⟨256 * kb.val + a.val, by omega⟩ d)
      = v.read (Elt Ideal) (v.writes (Elt Ideal) f L) (ix2 ⟨256 * kb.val + a.val, by omega⟩ d)
        + (([0, 1, 2, 3, 4, 5, 6] : List (Fin 7)).map fun j => if kb.val = 8 * (i 1).val + j.val then
            ∑ t : Fin (256 * (8 - j.val)), stack (ds j.castSucc) j (ix2 t a) * x j.castSucc (ix2 t d) else 0).sum
        + if kb.val = 8 * (i 1).val + 7 then ∑ t : Fin 256, ds 7 7 (ix2 t a) * x 7 (ix2 t d) else 0 := by
  refine (read_dkPush v f _ _ (8 * (i 1).val + 7) (off3_eq i 7) 256 _ _ _ kb a d).trans ?_
  rw [read_dkDiag]
end

end Cert.KernelIdeal.Val
-- ==== Proof.Block.lean ====
/- The probabilities and score gradients of one point as functions of the query row and the key, and the blocks of a step
   as tiles of them. -/
module

public import proofs.«01_k».proof.Proof.Elem

@[expose] public section

set_option maxRecDepth 16384

noncomputable section

namespace Cert.KernelIdeal.Val

open Idealize.ShloMosaic Idealize.ShloMosaic.TcCoe
open Cert.KernelIdeal Cert.KernelIdeal.Gen

section
variable (Xq : Vec Ideal S2048x128 .bf16) (Xk Xv : Vec Ideal S8192x128 .bf16) (Xg Xo Xl : Vec Ideal S2048x128 .f32)

/-- The probability of key `k` at query row `r` of the point, no mask applied, -/
def pAt (r : Fin 2048) (k : Fin 8192) : EReal :=
  Ideal.exp2 ((∑ d : Fin 128, Xq (ix2 r d) * Xk (ix2 k d)) * cSL - Xl (ix2 r 0) * cL)

/-- and the gradient of its score. -/
def sAt (r : Fin 2048) (k : Fin 8192) : EReal :=
  pAt Xq Xk Xl r k * ((∑ d : Fin 128, Xg (ix2 r d) * Xv (ix2 k d)) * cS - (∑ d : Fin 128, Xg (ix2 r d) * Xo (ix2 r d)) * cS)

/-- The probability on the keys up to the row, zero on the later ones, the point's rows starting at `2048 b`, -/
def pMask (b : ℕ) (r : Fin 2048) (k : Fin 8192) : EReal := if k.val ≤ 2048 * b + r.val then pAt Xq Xk Xl r k else 0

/-- and the gradient of its score. -/
def sMask (b : ℕ) (r : Fin 2048) (k : Fin 8192) : EReal :=
  if k.val ≤ 2048 * b + r.val then sAt Xq Xk Xv Xg Xo Xl r k else 0

theorem pMask_later (b : ℕ) (r : Fin 2048) (k : Fin 8192) (h : 2048 * b + r.val < k.val) : pMask Xq Xk Xl b r k = 0 :=
  if_neg (by omega)

theorem sMask_later (b : ℕ) (r : Fin 2048) (k : Fin 8192) (h : 2048 * b + r.val < k.val) : sMask Xq Xk Xv Xg Xo Xl b r k = 0 :=
  if_neg (by omega)

/-- The blocks `d n`, `n` from `j` on, are the tiles of `M` at the keys of block `kb`. -/
def Tiles (M : Fin 2048 → Fin 8192 → EReal) (kb : Fin 32) (d : Fin 8 → FVec Ideal S256x256 .bf16) (j : ℕ) : Prop :=
  ∀ (n : Fin 8) (a c : Fin 256), j ≤ n.val → d n (ix2 a c) = M ⟨256 * n.val + a.val, by omega⟩ ⟨256 * kb.val + c.val, by omega⟩

variable (ks vs : Vec Ideal S256x128 .bf16) (kb : Fin 32)
  (hk : ∀ (c : Fin 256) (d : Fin 128), ks (ix2 c d) = Xk (ix2 ⟨256 * kb.val + c.val, by omega⟩ d))
  (hv : ∀ (c : Fin 256) (d : Fin 128), vs (ix2 c d) = Xv (ix2 ⟨256 * kb.val + c.val, by omega⟩ d))

include hk in
theorem pBlk_apply (b : Bool) (n : Fin 8) (a c : Fin 256) :
    pBlk Xq Xl ks b n (ix2 a c) = if b = true ∧ a.val < c.val then 0
      else pAt Xq Xk Xl ⟨256 * n.val + a.val, by omega⟩ ⟨256 * kb.val + c.val, by omega⟩ := by
  unfold pBlk pAt
  rw [maskIf_apply, prob_apply, lsB_apply]
  simp only [qB_apply, hk]

include hk hv in
theorem dsBlk_apply (b : Bool) (n : Fin 8) (a c : Fin 256) :
    dsBlk Xq Xg Xo Xl ks vs b n (ix2 a c) = if b = true ∧ a.val < c.val then 0
      else sAt Xq Xk Xv Xg Xo Xl ⟨256 * n.val + a.val, by omega⟩ ⟨256 * kb.val + c.val, by omega⟩ := by
  unfold dsBlk
  rw [dsOf_apply, pBlk_apply Xq Xk Xl ks kb hk, dlB_apply]
  simp only [doB_apply, hv]
  split
  · rw [zero_mul]
  · rfl

variable (b : ℕ)

include hk in
/-- A diagonal step's blocks of probabilities are tiles of the masked ones, -/
theorem tiles_p (j : Fin 8) (h : kb.val = 8 * b + j.val) :
    Tiles (pMask Xq Xk Xl b) kb (fun n => pOf (pBlk Xq Xl ks (n == j) n)) j.val := by
  intro n a c hn
  refine (pBlk_apply Xq Xk Xl ks kb hk _ n a c).trans ?_
  unfold pMask
  by_cases e : n = j
  · subst e
    by_cases hc : a.val < c.val
    · rw [if_pos ⟨by simp, hc⟩, if_neg (by simp only []; omega)]
    · rw [if_neg (fun t => hc t.2), if_pos (by simp only []; omega)]
  · have : n.val ≠ j.val := fun t => e (Fin.ext t)
    rw [if_neg (by simp [e]), if_pos (by simp only []; omega)]

include hk hv in
/-- and its blocks of score gradients are tiles of the masked score gradients. -/
theorem tiles_ds (j : Fin 8) (h : kb.val = 8 * b + j.val) :
    Tiles (sMask Xq Xk Xv Xg Xo Xl b) kb (fun n => dsBlk Xq Xg Xo Xl ks vs (n == j) n) j.val := by
  intro n a c hn
  refine (dsBlk_apply Xq Xk Xv Xg Xo Xl ks vs kb hk hv _ n a c).trans ?_
  unfold sMask
  by_cases e : n = j
  · subst e
    by_cases hc : a.val < c.val
    · rw [if_pos ⟨by simp, hc⟩, if_neg (by simp only []; omega)]
    · rw [if_neg (fun t => hc t.2), if_pos (by simp only []; omega)]
  · have : n.val ≠ j.val := fun t => e (Fin.ext t)
    rw [if_neg (by simp [e]), if_pos (by simp only []; omega)]

include hk in
/-- A trip over earlier keys: its blocks of probabilities, -/
theorem tiles_p_trip (h : kb.val < 8 * b) :
    Tiles (pMask Xq Xk Xl b) kb (fun n => pOf (prob (qB Xq n) (lsB Xl n) ks)) 0 := by
  intro n a c _
  refine (pBlk_apply Xq Xk Xl ks kb hk false n a c).trans ?_
  unfold pMask
  rw [if_neg (by simp), if_pos (by simp only []; omega)]

include hk hv in
/-- and of score gradients. -/
theorem tiles_ds_trip (h : kb.val < 8 * b) :
    Tiles (sMask Xq Xk Xv Xg Xo Xl b) kb
      (fun n => dsOf (prob (qB Xq n) (lsB Xl n) ks) (doB Xg n) (dlB Xg Xo n) vs) 0 := by
  intro n a c _
  refine (dsBlk_apply Xq Xk Xv Xg Xo Xl ks vs kb hk hv false n a c).trans ?_
  unfold sMask
  rw [if_neg (by simp), if_pos (by simp only []; omega)]
end

/-- A sum from `a` on of what is zero before `a` is the whole sum. -/
theorem sum_from {N w : ℕ} (a : ℕ) (h : a + w = N) (g : Fin N → EReal) (hz : ∀ r : Fin N, r.val < a → g r = 0) :
    ∑ t : Fin w, g ⟨a + t.val, by omega⟩ = ∑ r : Fin N, g r := by
  subst h
  have z : ∑ r : Fin a, g (Fin.castAdd w r) = 0 := Finset.sum_eq_zero fun r _ => hz _ r.isLt
  rw [Fin.sum_univ_add, z, zero_add]
  rfl

/-- The stacked tiles from block `j` on, transposed, times the rows `Y`: the sum over all the point's rows, the rows before
    block `j` adding nothing. -/
theorem stack_sum (M : Fin 2048 → Fin 8192 → EReal) (kb : Fin 32) (ds : Fin 8 → FVec Ideal S256x256 .bf16) (j : Fin 7)
    (hM : Tiles M kb ds j.val) (a : Fin 256)
    (hz : ∀ r : Fin 2048, r.val < 256 * j.val → M r ⟨256 * kb.val + a.val, by omega⟩ = 0) (Y : Fin 2048 → EReal)
    (x : Fin (256 * (8 - j.val)) → EReal) (hx : ∀ t, x t = Y ⟨256 * j.val + t.val, by omega⟩) :
    ∑ t : Fin (256 * (8 - j.val)), stack ds j (ix2 t a) * x t = ∑ r : Fin 2048, M r ⟨256 * kb.val + a.val, by omega⟩ * Y r := by
  rw [← sum_from (w := 256 * (8 - j.val)) (256 * j.val) (by omega) (fun r => M r ⟨256 * kb.val + a.val, by omega⟩ * Y r)
    (fun r hr => by rw [hz r hr, zero_mul])]
  refine Finset.sum_congr rfl fun t _ => ?_
  rw [hx, stack_apply ds j t ⟨j.val + t.val / 256, by omega⟩ ⟨t.val % 256, by omega⟩ a (by simp only []; omega),
    hM _ _ _ (by simp only []; omega)]
  have e : (⟨256 * (⟨j.val + t.val / 256, by omega⟩ : Fin 8).val + (⟨t.val % 256, by omega⟩ : Fin 256).val, by simp only []; omega⟩ : Fin 2048)
      = ⟨256 * j.val + t.val, by omega⟩ := Fin.ext (by show 256 * (j.val + t.val / 256) + t.val % 256 = 256 * j.val + t.val; omega)
  rw [e]

/-- The last block alone. -/
theorem last_sum (M : Fin 2048 → Fin 8192 → EReal) (kb : Fin 32) (ds : Fin 8 → FVec Ideal S256x256 .bf16)
    (hM : Tiles M kb ds 7) (a : Fin 256)
    (hz : ∀ r : Fin 2048, r.val < 256 * 7 → M r ⟨256 * kb.val + a.val, by omega⟩ = 0) (Y : Fin 2048 → EReal)
    (x : Fin 256 → EReal) (hx : ∀ t : Fin 256, x t = Y ⟨256 * 7 + t.val, by omega⟩) :
    ∑ t : Fin 256, ds 7 (ix2 t a) * x t = ∑ r : Fin 2048, M r ⟨256 * kb.val + a.val, by omega⟩ * Y r := by
  rw [← sum_from (w := 256) (256 * 7) (by omega) (fun r => M r ⟨256 * kb.val + a.val, by omega⟩ * Y r)
    (fun r hr => by rw [hz r hr, zero_mul])]
  refine Finset.sum_congr rfl fun t _ => ?_
  rw [hx, hM 7 t a (le_refl 7)]
  rfl

/-- The keys of block `k` of a sum over the keys, nothing past the last block. -/
def tile (g : Fin 8192 → EReal) (k : ℕ) : EReal := if h : k < 32 then ∑ c : Fin 256, g ⟨256 * k + c.val, by omega⟩ else 0

theorem sum_tile (g : Fin 8192 → EReal) : ∑ k ∈ Finset.range 32, tile g k = ∑ k : Fin 8192, g k := by
  rw [Fin.sum_univ_tiles 32 256 rfl g, Finset.sum_range]
  refine Finset.sum_congr rfl fun k _ => ?_
  unfold tile
  rw [dif_pos k.isLt]
  refine Finset.sum_congr rfl fun c _ => congrArg g (Fin.ext ?_)
  simp only []
  ring

/-- The blocks before `8 b`, the next eight as far as block `8 b + m`, and no later block: every key, where the later
    ones add nothing. -/
theorem sum_blocks (g : Fin 8192 → EReal) (b m : ℕ) (hb : b < 4) (hm : m < 8) (hz : ∀ k : Fin 8192, 256 * (8 * b + m + 1) ≤ k.val → g k = 0) :
    (∑ k ∈ Finset.range (8 * b), tile g k) + (([0, 1, 2, 3, 4, 5, 6, 7] : List (Fin 8)).map fun j => if j.val ≤ m then tile g (8 * b + j.val) else 0).sum
      = ∑ k : Fin 8192, g k := by
  have z : ∀ k, 8 * b + m < k → tile g k = 0 := by
    intro k hk
    unfold tile
    split
    · exact Finset.sum_eq_zero fun c _ => hz _ (by simp only []; omega)
    · rfl
  have l : (([0, 1, 2, 3, 4, 5, 6, 7] : List (Fin 8)).map fun j => if j.val ≤ m then tile g (8 * b + j.val) else 0).sum
      = ∑ j ∈ Finset.range 8, tile g (8 * b + j) := by
    have e : (([0, 1, 2, 3, 4, 5, 6, 7] : List (Fin 8)).map fun j => if j.val ≤ m then tile g (8 * b + j.val) else 0)
        = ([0, 1, 2, 3, 4, 5, 6, 7] : List (Fin 8)).map fun j => tile g (8 * b + j.val) := by
      refine List.map_congr_left fun j _ => ?_
      split
      · rfl
      · exact (z _ (by omega)).symm
    rw [e, Finset.sum_range]
    simp [Fin.sum_univ_succ]
  rw [l, ← Finset.sum_range_add, ← sum_tile g]
  refine Finset.sum_subset (fun k hk => ?_) fun k _ hk => ?_
  · simp only [Finset.mem_range] at hk ⊢; omega
  · simp only [Finset.mem_range] at hk
    exact z k (by omega)

end Cert.KernelIdeal.Val
-- ==== Proof.Point.lean ====
/- What one grid point leaves in the three outputs: the loop over the earlier keys and the diagonal steps together add,
   to each row, the product over every key (or every query row of the point). -/
module

public import proofs.«01_k».proof.Proof.Trip
public import proofs.«01_k».proof.Proof.Runs
public import proofs.«01_k».proof.Proof.Acc
public import proofs.«01_k».proof.Proof.Block

@[expose] public section

set_option maxRecDepth 65536

noncomputable section

namespace Cert.KernelIdeal.Val

open Idealize.ShloMosaic Idealize.ShloMosaic.TcCoe
open Cert.KernelIdeal Cert.KernelIdeal.Gen

section
variable (c : Dev nD) (i : grid0.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8192x128 .f32) (harg9 : arg9.IsWhole) (arg10 : Memref sig .tc .vmem S8192x128 .f32) (harg10 : arg10.IsWhole)
  (x0 : Vec Ideal S2048x128 .bf16) (x1 : Vec Ideal S8192x128 .bf16) (x2 : Vec Ideal S8192x128 .bf16) (x3 : Vec Ideal S2048x128 .f32) (x4 : Vec Ideal S2048x128 .f32) (x5 : Vec Ideal S2048x128 .f32)

/-- The keys a load of block `kb` brings. -/
theorem load_keys (m : Memref sig .tc .vmem S8192x128 .bf16) (hm : m.IsWhole) (x : Vec Ideal S8192x128 .bf16) {off : Fin 2 → ℕ} (kb : Fin 32)
    (inb : ∀ a, off a + S256x128.size a ≤ S8192x128.size a) (h : off = ![256 * kb.val, 0]) (q : Fin 256) (d : Fin 128) :
    m.view.readAt (Elt Ideal) (Rect.unit (s := S8192x128) off S256x128.size inb).toLoadRect (hm.unread x) (ix2 q d)
      = x (ix2 ⟨256 * kb.val + q.val, by omega⟩ d) := by
  refine (readAt_rows m.view _ inb h q d ⟨256 * kb.val + q.val, by omega⟩ rfl).trans ?_
  rw [hm.read_unread]

/-- The blocks of score gradients of trip `k`, -/
abbrev dsTrip (k : Fin (k0_t1_loop i).trips) (n : Fin 8) : FVec Ideal S256x256 .bf16 :=
  dsOf (prob (qB (arg2.view.read (Elt Ideal) (harg2.unread x0)) n) (lsB (arg7.view.read (Elt Ideal) (harg7.unread x5)) n)
      (arg3.view.readAt (Elt Ideal) (tripRect i k).toLoadRect (harg3.unread x1)))
    (doB (arg5.view.read (Elt Ideal) (harg5.unread x3)) n)
    (dlB (arg5.view.read (Elt Ideal) (harg5.unread x3)) (arg6.view.read (Elt Ideal) (harg6.unread x4)) n)
    (arg4.view.readAt (Elt Ideal) (tripRect i k).toLoadRect (harg4.unread x2))

/-- and of probabilities. -/
abbrev psTrip (k : Fin (k0_t1_loop i).trips) (n : Fin 8) : FVec Ideal S256x256 .bf16 :=
  pOf (prob (qB (arg2.view.read (Elt Ideal) (harg2.unread x0)) n) (lsB (arg7.view.read (Elt Ideal) (harg7.unread x5)) n)
      (arg3.view.readAt (Elt Ideal) (tripRect i k).toLoadRect (harg3.unread x1)))

/-- A trip's keys are the block its number names, before the point's own. -/
theorem trip_lt (k : Fin (k0_t1_loop i).trips) : k.val < 8 * (i 1).val := lt_of_lt_of_eq k.isLt (trips1_eq i)

theorem trip_lt' (k : Fin (k0_t1_loop i).trips) : k.val < 32 := by
  have := trip_lt i k; have : (i 1).val < 4 := (i 1).isLt; omega

theorem tiles_dsTrip (k : Fin (k0_t1_loop i).trips) :
    Tiles (sMask x0 x1 x2 x3 x4 x5 (i 1).val) ⟨k.val, trip_lt' i k⟩ (dsTrip i arg2 harg2 arg3 harg3 arg4 harg4 arg5 harg5 arg6 harg6 arg7 harg7 x0 x1 x2 x3 x4 x5 k) 0 := by
  unfold dsTrip
  rw [harg2.read_unread, harg5.read_unread, harg6.read_unread, harg7.read_unread]
  exact tiles_ds_trip x0 x1 x2 x3 x4 x5 _ _ ⟨k.val, trip_lt' i k⟩
    (fun q d => load_keys arg3 harg3 x1 ⟨k.val, trip_lt' i k⟩ _ (off1_eq i k) q d)
    (fun q d => load_keys arg4 harg4 x2 ⟨k.val, trip_lt' i k⟩ _ (off1_eq i k) q d) _ (trip_lt i k)

theorem tiles_psTrip (k : Fin (k0_t1_loop i).trips) :
    Tiles (pMask x0 x1 x5 (i 1).val) ⟨k.val, trip_lt' i k⟩ (psTrip i arg2 harg2 arg3 harg3 arg7 harg7 x0 x1 x5 k) 0 := by
  unfold psTrip
  rw [harg2.read_unread, harg7.read_unread]
  exact tiles_p_trip x0 x1 x5 _ ⟨k.val, trip_lt' i k⟩
    (fun q d => load_keys arg3 harg3 x1 ⟨k.val, trip_lt' i k⟩ _ (off1_eq i k) q d) _ (trip_lt i k)

/-- The key block of diagonal step `j` of the point. -/
abbrev diagBlk (j : Fin 8) : Fin 32 := ⟨8 * (i 1).val + j.val, by have : (i 1).val < 4 := (i 1).isLt; omega⟩

theorem tiles_dsAt (j : Fin 8) :
    Tiles (sMask x0 x1 x2 x3 x4 x5 (i 1).val) (diagBlk i j) (dsAt i arg2 harg2 arg3 harg3 arg4 harg4 arg5 harg5 arg6 harg6 arg7 harg7 x0 x1 x2 x3 x4 x5 j) j.val := by
  unfold dsAt
  rw [harg2.read_unread, harg5.read_unread, harg6.read_unread, harg7.read_unread]
  exact tiles_ds x0 x1 x2 x3 x4 x5 _ _ (diagBlk i j)
    (fun q d => load_keys arg3 harg3 x1 (diagBlk i j) _ (off3_eq i j) q d)
    (fun q d => load_keys arg4 harg4 x2 (diagBlk i j) _ (off3_eq i j) q d) _ j rfl

theorem tiles_psAt (j : Fin 8) :
    Tiles (pMask x0 x1 x5 (i 1).val) (diagBlk i j) (psAt i arg2 harg2 arg3 harg3 arg7 harg7 x0 x1 x5 j) j.val := by
  unfold psAt
  rw [harg2.read_unread, harg7.read_unread]
  exact tiles_p x0 x1 x5 _ (diagBlk i j)
    (fun q d => load_keys arg3 harg3 x1 (diagBlk i j) _ (off3_eq i j) q d) _ j rfl

section
variable (G8 : BufTy.Contents (Elt Ideal) arg8.view.ty) (G9 : BufTy.Contents (Elt Ideal) arg9.view.ty) (G10 : BufTy.Contents (Elt Ideal) arg10.view.ty)

/-- After `n` trips a query gradient's row holds what it held and the products over the first `n` key blocks. -/
theorem earlier_dq (m : Fin 8) (a : Fin 256) (d : Fin 128) : ∀ n ≤ (k0_t1_loop i).trips,
    arg8.view.read (Elt Ideal) (arg8.view.writes (Elt Ideal) G8 (earlier c i arg2 harg2 arg3 harg3 arg4 harg4 arg5 harg5 arg6 harg6 arg7 harg7 arg8 harg8 arg9 harg9 arg10 harg10 x0 x1 x2 x3 x4 x5 G8 G9 G10 n).1) (ix2 ⟨256 * m.val + a.val, by omega⟩ d)
      = arg8.view.read (Elt Ideal) G8 (ix2 ⟨256 * m.val + a.val, by omega⟩ d)
        + ∑ k ∈ Finset.range n, tile (fun k => sMask x0 x1 x2 x3 x4 x5 (i 1).val ⟨256 * m.val + a.val, by omega⟩ k * x1 (ix2 k d)) k := by
  intro n
  induction n with
  | zero => intro _; simp [earlier, trips1, pb_k0_t1]
  | succ n ih =>
    intro h
    unfold earlier trips1
    rw [pb_k0_t1_succ Variants.none c none i arg2 harg2 arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ _ _ _ _ _ _ _ _ _ _ _ _ ⟨n, h⟩]
    show arg8.view.read (Elt Ideal) (arg8.view.writes (Elt Ideal) G8 (_ ++ (earlier c i arg2 harg2 arg3 harg3 arg4 harg4 arg5 harg5 arg6 harg6 arg7 harg7 arg8 harg8 arg9 harg9 arg10 harg10 x0 x1 x2 x3 x4 x5 G8 G9 G10 n).1)) _ = _
    rw [View.writes_append]
    refine (congrArg (fun L => arg8.view.read (Elt Ideal) (arg8.view.writes (Elt Ideal) _ L) _)
      (trip_dq c i arg2 harg2 arg3 harg3 arg4 harg4 arg5 harg5 arg6 harg6 arg7 harg7 arg8 harg8 arg9 harg9 arg10 harg10 _ (qB (arg2.view.read (Elt Ideal) (harg2.unread x0))) (doB (arg5.view.read (Elt Ideal) (harg5.unread x3)))
        (dlB (arg5.view.read (Elt Ideal) (harg5.unread x3)) (arg6.view.read (Elt Ideal) (harg6.unread x4))) (lsB (arg7.view.read (Elt Ideal) (harg7.unread x5)))
        _ _ _ _ _ _ _ ⟨n, h⟩ _ _ _)).trans ?_
    rw [read_dqTrip, ih (Nat.le_of_succ_le h), Finset.sum_range_succ, add_assoc]
    congr 2
    unfold tile
    rw [dif_pos (trip_lt' i ⟨n, h⟩)]
    refine Finset.sum_congr rfl fun q _ => ?_
    rw [load_keys arg3 harg3 x1 ⟨n, trip_lt' i ⟨n, h⟩⟩ _ (off1_eq i ⟨n, h⟩) q d]
    exact congrArg (· * _) (tiles_dsTrip i arg2 harg2 arg3 harg3 arg4 harg4 arg5 harg5 arg6 harg6 arg7 harg7 x0 x1 x2 x3 x4 x5 ⟨n, h⟩ m a q (Nat.zero_le _))

/-- After `n` trips a key gradient's row of the first `n` key blocks holds what it held and the product over the point's
    query rows; the others hold what they held. -/
theorem earlier_dk (kb : Fin 32) (a : Fin 256) (d : Fin 128) : ∀ n ≤ (k0_t1_loop i).trips,
    arg9.view.read (Elt Ideal) (arg9.view.writes (Elt Ideal) G9 (earlier c i arg2 harg2 arg3 harg3 arg4 harg4 arg5 harg5 arg6 harg6 arg7 harg7 arg8 harg8 arg9 harg9 arg10 harg10 x0 x1 x2 x3 x4 x5 G8 G9 G10 n).2.1) (ix2 ⟨256 * kb.val + a.val, by omega⟩ d)
      = arg9.view.read (Elt Ideal) G9 (ix2 ⟨256 * kb.val + a.val, by omega⟩ d)
        + if kb.val < n then ∑ r : Fin 2048, sMask x0 x1 x2 x3 x4 x5 (i 1).val r ⟨256 * kb.val + a.val, by omega⟩ * x0 (ix2 r d) else 0 := by
  intro n
  induction n with
  | zero => intro _; simp [earlier, trips1, pb_k0_t1]
  | succ n ih =>
    intro h
    unfold earlier trips1
    rw [pb_k0_t1_succ Variants.none c none i arg2 harg2 arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ _ _ _ _ _ _ _ _ _ _ _ _ ⟨n, h⟩]
    show arg9.view.read (Elt Ideal) (arg9.view.writes (Elt Ideal) G9 (_ ++ (earlier c i arg2 harg2 arg3 harg3 arg4 harg4 arg5 harg5 arg6 harg6 arg7 harg7 arg8 harg8 arg9 harg9 arg10 harg10 x0 x1 x2 x3 x4 x5 G8 G9 G10 n).2.1)) _ = _
    rw [View.writes_append]
    refine (congrArg (fun L => arg9.view.read (Elt Ideal) (arg9.view.writes (Elt Ideal) _ L) _)
      (trip_dk c i arg2 harg2 arg3 harg3 arg4 harg4 arg5 harg5 arg6 harg6 arg7 harg7 arg8 harg8 arg9 harg9 arg10 harg10 _ (qB (arg2.view.read (Elt Ideal) (harg2.unread x0))) (doB (arg5.view.read (Elt Ideal) (harg5.unread x3)))
        (dlB (arg5.view.read (Elt Ideal) (harg5.unread x3)) (arg6.view.read (Elt Ideal) (harg6.unread x4))) (lsB (arg7.view.read (Elt Ideal) (harg7.unread x5)))
        _ _ _ _ _ _ _ ⟨n, h⟩ _ _ _)).trans ?_
    rw [read_dkTrip, ih (Nat.le_of_succ_le h), add_assoc]
    congr 1
    by_cases e : kb.val = n
    · rw [if_neg (by omega), if_pos e, if_pos (by omega), zero_add]
      obtain rfl : kb = ⟨n, trip_lt' i ⟨n, h⟩⟩ := Fin.ext e
      refine stack_sum (sMask x0 x1 x2 x3 x4 x5 (i 1).val) _ _ 0 (tiles_dsTrip i arg2 harg2 arg3 harg3 arg4 harg4 arg5 harg5 arg6 harg6 arg7 harg7 x0 x1 x2 x3 x4 x5 ⟨n, h⟩) a
        (fun r hr => absurd hr (Nat.not_lt_zero _)) (fun r => x0 (ix2 r d)) _ fun t => ?_
      rw [harg2.read_unread]
      exact qFrom_apply x0 0 t d
    · rw [if_neg e, add_zero]
      by_cases l : kb.val < n
      · rw [if_pos l, if_pos (by omega)]
      · rw [if_neg l, if_neg (by omega)]

/-- After `n` trips a value gradient's row of the first `n` key blocks holds what it held and the product over the point's
    query rows; the others hold what they held. -/
theorem earlier_dv (kb : Fin 32) (a : Fin 256) (d : Fin 128) : ∀ n ≤ (k0_t1_loop i).trips,
    arg10.view.read (Elt Ideal) (arg10.view.writes (Elt Ideal) G10 (earlier c i arg2 harg2 arg3 harg3 arg4 harg4 arg5 harg5 arg6 harg6 arg7 harg7 arg8 harg8 arg9 harg9 arg10 harg10 x0 x1 x2 x3 x4 x5 G8 G9 G10 n).2.2) (ix2 ⟨256 * kb.val + a.val, by omega⟩ d)
      = arg10.view.read (Elt Ideal) G10 (ix2 ⟨256 * kb.val + a.val, by omega⟩ d)
        + if kb.val < n then ∑ r : Fin 2048, pMask x0 x1 x5 (i 1).val r ⟨256 * kb.val + a.val, by omega⟩ * x3 (ix2 r d) else 0 := by
  intro n
  induction n with
  | zero => intro _; simp [earlier, trips1, pb_k0_t1]
  | succ n ih =>
    intro h
    unfold earlier trips1
    rw [pb_k0_t1_succ Variants.none c none i arg2 harg2 arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ _ _ _ _ _ _ _ _ _ _ _ _ ⟨n, h⟩]
    show arg10.view.read (Elt Ideal) (arg10.view.writes (Elt Ideal) G10 (_ ++ (earlier c i arg2 harg2 arg3 harg3 arg4 harg4 arg5 harg5 arg6 harg6 arg7 harg7 arg8 harg8 arg9 harg9 arg10 harg10 x0 x1 x2 x3 x4 x5 G8 G9 G10 n).2.2)) _ = _
    rw [View.writes_append]
    refine (congrArg (fun L => arg10.view.read (Elt Ideal) (arg10.view.writes (Elt Ideal) _ L) _)
      (trip_dv c i arg2 harg2 arg3 harg3 arg4 harg4 arg5 harg5 arg6 harg6 arg7 harg7 arg8 harg8 arg9 harg9 arg10 harg10 _ (qB (arg2.view.read (Elt Ideal) (harg2.unread x0))) (doB (arg5.view.read (Elt Ideal) (harg5.unread x3)))
        (dlB (arg5.view.read (Elt Ideal) (harg5.unread x3)) (arg6.view.read (Elt Ideal) (harg6.unread x4))) (lsB (arg7.view.read (Elt Ideal) (harg7.unread x5)))
        _ _ _ _ _ _ _ ⟨n, h⟩ _ _ _)).trans ?_
    rw [read_dkTrip, ih (Nat.le_of_succ_le h), add_assoc]
    congr 1
    by_cases e : kb.val = n
    · rw [if_neg (by omega), if_pos e, if_pos (by omega), zero_add]
      obtain rfl : kb = ⟨n, trip_lt' i ⟨n, h⟩⟩ := Fin.ext e
      refine stack_sum (pMask x0 x1 x5 (i 1).val) _ _ 0 (tiles_psTrip i arg2 harg2 arg3 harg3 arg7 harg7 x0 x1 x5 ⟨n, h⟩) a
        (fun r hr => absurd hr (Nat.not_lt_zero _)) (fun r => x3 (ix2 r d)) _ fun t => ?_
      rw [harg5.read_unread]
      exact doFrom_apply x3 0 t d
    · rw [if_neg e, add_zero]
      by_cases l : kb.val < n
      · rw [if_pos l, if_pos (by omega)]
      · rw [if_neg l, if_neg (by omega)]
end

theorem read_zero8 (f : BufTy.Contents (Elt Ideal) arg8.view.ty) (r : Fin 2048) (d : Fin 128) :
    arg8.view.read (Elt Ideal) (arg8.view.writes (Elt Ideal) f [zero8]) (ix2 r d) = 0 := by
  refine (View.read_writes_cons_rows_of_mem arg8.view f _ _ [] (ix2 r d) (ix2 r d) rfl (by show r.val = 0 + r.val; omega) rfl).trans ?_
  pointwise [k0_pay144]

theorem read_zero9 (m : Memref sig .tc .vmem S8192x128 .f32) (f : BufTy.Contents (Elt Ideal) m.view.ty) (r : Fin 8192) (d : Fin 128) :
    m.view.read (Elt Ideal) (m.view.writes (Elt Ideal) f [zero9]) (ix2 r d) = 0 := by
  refine (View.read_writes_cons_rows_of_mem m.view f _ _ [] (ix2 r d) (ix2 r d) rfl (by show r.val = 0 + r.val; omega) rfl).trans ?_
  pointwise [k0_pay101]

/-- The loop's remainder stores nothing. -/
theorem rest_nil (Y8 : BufTy.Contents (Elt Ideal) arg8.view.ty) (Y9 : BufTy.Contents (Elt Ideal) arg9.view.ty) (Y10 : BufTy.Contents (Elt Ideal) arg10.view.ty)
    (v : BitVec 32) : rest c i arg2 harg2 arg3 harg3 arg4 harg4 arg5 harg5 arg6 harg6 arg7 harg7 arg8 harg8 arg9 harg9 arg10 harg10 x0 x1 x2 x3 x4 x5 Y8 Y9 Y10 v (k0_t2_loop i).trips = ([], [], []) := by
  rw [trips2_eq]
  rfl

/-- The query gradient's rows after a point: the score gradients times the keys, over every key. -/
theorem point_dq (G9 : BufTy.Contents (Elt Ideal) arg9.view.ty) (G10 : BufTy.Contents (Elt Ideal) arg10.view.ty) (r : Fin 2048) (d : Fin 128) :
    arg8.view.read (Elt Ideal) (arg8.view.writes (Elt Ideal) arg8.view.junk
      (dqDiag arg8.view arg8.view.junk (fun j => arg3.view.readAt (Elt Ideal) (keyRect i j).toLoadRect (harg3.unread x1))
        (dsAt i arg2 harg2 arg3 harg3 arg4 harg4 arg5 harg5 arg6 harg6 arg7 harg7 x0 x1 x2 x3 x4 x5) [0, 1, 2, 3, 4, 5, 6, 7]
        ((earlier c i arg2 harg2 arg3 harg3 arg4 harg4 arg5 harg5 arg6 harg6 arg7 harg7 arg8 harg8 arg9 harg9 arg10 harg10 x0 x1 x2 x3 x4 x5 (arg8.view.writes (Elt Ideal) arg8.view.junk [zero8]) G9 G10 (k0_t1_loop i).trips).1 ++ [zero8]))) (ix2 r d)
      = ∑ k : Fin 8192, sMask x0 x1 x2 x3 x4 x5 (i 1).val r k * x1 (ix2 k d) := by
  have hb : (i 1).val < 4 := (i 1).isLt
  obtain ⟨m, a, rfl⟩ : ∃ (m : Fin 8) (a : Fin 256), r = ⟨256 * m.val + a.val, by omega⟩ :=
    ⟨⟨r.val / 256, by omega⟩, ⟨r.val % 256, by omega⟩, Fin.ext (by show r.val = 256 * (r.val / 256) + r.val % 256; omega)⟩
  rw [read_dqDiag, View.writes_append, earlier_dq c i arg2 harg2 arg3 harg3 arg4 harg4 arg5 harg5 arg6 harg6 arg7 harg7 arg8 harg8 arg9 harg9 arg10 harg10 x0 x1 x2 x3 x4 x5 _ _ _ m a d _ le_rfl, read_zero8, zero_add, trips1_eq i,
    ← sum_blocks (fun k => sMask x0 x1 x2 x3 x4 x5 (i 1).val ⟨256 * m.val + a.val, by omega⟩ k * x1 (ix2 k d)) (i 1).val m.val hb m.isLt
      (fun k hk => by rw [sMask_later x0 x1 x2 x3 x4 x5 _ _ k (by simp only []; omega), zero_mul])]
  congr 2
  refine List.map_congr_left fun j _ => ?_
  by_cases h : j ≤ m
  · rw [if_pos h, if_pos (show j.val ≤ m.val from h)]
    unfold tile
    rw [dif_pos (by omega)]
    refine Finset.sum_congr rfl fun q _ => ?_
    rw [load_keys arg3 harg3 x1 (diagBlk i j) _ (off3_eq i j) q d]
    exact congrArg (· * _) (tiles_dsAt i arg2 harg2 arg3 harg3 arg4 harg4 arg5 harg5 arg6 harg6 arg7 harg7 x0 x1 x2 x3 x4 x5 j m a q h)
  · rw [if_neg h, if_neg (show ¬ j.val ≤ m.val from h)]

/-- The key gradient's rows after a point: what they held before and the point's score gradients, transposed, times its
    queries. -/
theorem point_dk (f : BufTy.Contents (Elt Ideal) arg9.view.ty) (L0 : List (View.Piece (Elt Ideal) S8192x128 .f32))
    (G8 : BufTy.Contents (Elt Ideal) arg8.view.ty) (G10 : BufTy.Contents (Elt Ideal) arg10.view.ty) (k : Fin 8192) (d : Fin 128) :
    arg9.view.read (Elt Ideal) (arg9.view.writes (Elt Ideal) f
      (dkAll arg9.view f i (dsAt i arg2 harg2 arg3 harg3 arg4 harg4 arg5 harg5 arg6 harg6 arg7 harg7 x0 x1 x2 x3 x4 x5) (qFrom (arg2.view.read (Elt Ideal) (harg2.unread x0)))
        ((earlier c i arg2 harg2 arg3 harg3 arg4 harg4 arg5 harg5 arg6 harg6 arg7 harg7 arg8 harg8 arg9 harg9 arg10 harg10 x0 x1 x2 x3 x4 x5 G8 (arg9.view.writes (Elt Ideal) f L0) G10 (k0_t1_loop i).trips).2.1 ++ L0))) (ix2 k d)
      = arg9.view.read (Elt Ideal) (arg9.view.writes (Elt Ideal) f L0) (ix2 k d) + ∑ r : Fin 2048, sMask x0 x1 x2 x3 x4 x5 (i 1).val r k * x0 (ix2 r d) := by
  have hb : (i 1).val < 4 := (i 1).isLt
  obtain ⟨kb, a, rfl⟩ : ∃ (kb : Fin 32) (a : Fin 256), k = ⟨256 * kb.val + a.val, by omega⟩ :=
    ⟨⟨k.val / 256, by omega⟩, ⟨k.val % 256, by omega⟩, Fin.ext (by show k.val = 256 * (k.val / 256) + k.val % 256; omega)⟩
  rw [read_dkAll, View.writes_append, earlier_dk c i arg2 harg2 arg3 harg3 arg4 harg4 arg5 harg5 arg6 harg6 arg7 harg7 arg8 harg8 arg9 harg9 arg10 harg10 x0 x1 x2 x3 x4 x5 _ _ _ kb a d _ le_rfl, trips1_eq i, add_assoc, add_assoc]
  congr 1
  have step : ∀ j : Fin 7, (if kb.val = 8 * (i 1).val + j.val then
        ∑ t : Fin (256 * (8 - j.val)), stack (dsAt i arg2 harg2 arg3 harg3 arg4 harg4 arg5 harg5 arg6 harg6 arg7 harg7 x0 x1 x2 x3 x4 x5 j.castSucc) j (ix2 t a)
          * qFrom (arg2.view.read (Elt Ideal) (harg2.unread x0)) j.castSucc (ix2 t d) else 0)
      = if kb.val = 8 * (i 1).val + j.val then ∑ r : Fin 2048, sMask x0 x1 x2 x3 x4 x5 (i 1).val r ⟨256 * kb.val + a.val, by omega⟩ * x0 (ix2 r d) else 0 := by
    intro j
    by_cases e : kb.val = 8 * (i 1).val + j.val
    · rw [if_pos e, if_pos e]
      obtain rfl : kb = diagBlk i j.castSucc := Fin.ext e
      refine stack_sum (sMask x0 x1 x2 x3 x4 x5 (i 1).val) _ _ j (tiles_dsAt i arg2 harg2 arg3 harg3 arg4 harg4 arg5 harg5 arg6 harg6 arg7 harg7 x0 x1 x2 x3 x4 x5 j.castSucc) a
        (fun r hr => sMask_later x0 x1 x2 x3 x4 x5 _ _ _ (by simp only [Fin.val_castSucc]; omega)) (fun r => x0 (ix2 r d)) _ fun t => ?_
      rw [harg2.read_unread]
      exact qFrom_apply x0 j.castSucc t d
    · rw [if_neg e, if_neg e]
  have last : (if kb.val = 8 * (i 1).val + 7 then ∑ t : Fin 256, dsAt i arg2 harg2 arg3 harg3 arg4 harg4 arg5 harg5 arg6 harg6 arg7 harg7 x0 x1 x2 x3 x4 x5 7 7 (ix2 t a)
          * qFrom (arg2.view.read (Elt Ideal) (harg2.unread x0)) 7 (ix2 t d) else 0)
      = if kb.val = 8 * (i 1).val + 7 then ∑ r : Fin 2048, sMask x0 x1 x2 x3 x4 x5 (i 1).val r ⟨256 * kb.val + a.val, by omega⟩ * x0 (ix2 r d) else 0 := by
    by_cases e : kb.val = 8 * (i 1).val + 7
    · rw [if_pos e, if_pos e]
      obtain rfl : kb = diagBlk i 7 := Fin.ext e
      refine last_sum (sMask x0 x1 x2 x3 x4 x5 (i 1).val) _ _ (tiles_dsAt i arg2 harg2 arg3 harg3 arg4 harg4 arg5 harg5 arg6 harg6 arg7 harg7 x0 x1 x2 x3 x4 x5 7) a
        (fun r hr => sMask_later x0 x1 x2 x3 x4 x5 _ _ _ (by show _ < 256 * (8 * (i 1).val + 7) + a.val; omega)) (fun r => x0 (ix2 r d)) _ fun t => ?_
      rw [harg2.read_unread]
      exact qFrom_apply x0 7 t d
    · rw [if_neg e, if_neg e]
  rw [List.map_congr_left fun j _ => step j, last]
  by_cases low : kb.val < 8 * (i 1).val
  · rw [if_pos low, if_neg (by omega : ¬ kb.val = 8 * (i 1).val + 7), List.map_congr_left (g := fun _ => 0) fun j _ => if_neg (by omega)]
    simp
  · rw [if_neg low, zero_add]
    by_cases high : kb.val < 8 * (i 1).val + 8
    · obtain ⟨j, hj⟩ : ∃ j : Fin 8, kb.val = 8 * (i 1).val + j.val := ⟨⟨kb.val - 8 * (i 1).val, by omega⟩, by simp only []; omega⟩
      simp only [hj, Nat.add_left_cancel_iff]
      generalize (∑ r : Fin 2048, _ : EReal) = S
      fin_cases j <;> simp
    · rw [if_neg (by omega : ¬ kb.val = 8 * (i 1).val + 7), List.map_congr_left (g := fun _ => 0) fun j _ => if_neg (by omega),
        Finset.sum_eq_zero fun r _ => by rw [sMask_later x0 x1 x2 x3 x4 x5 _ _ _ (by simp only []; omega), zero_mul]]
      simp

/-- The value gradient's rows after a point: what they held before and the point's probabilities, transposed, times its
    gradients of the output. -/
theorem point_dv (f : BufTy.Contents (Elt Ideal) arg10.view.ty) (L0 : List (View.Piece (Elt Ideal) S8192x128 .f32))
    (G8 : BufTy.Contents (Elt Ideal) arg8.view.ty) (G9 : BufTy.Contents (Elt Ideal) arg9.view.ty) (k : Fin 8192) (d : Fin 128) :
    arg10.view.read (Elt Ideal) (arg10.view.writes (Elt Ideal) f
      (dkAll arg10.view f i (psAt i arg2 harg2 arg3 harg3 arg7 harg7 x0 x1 x5) (doFrom (arg5.view.read (Elt Ideal) (harg5.unread x3)))
        ((earlier c i arg2 harg2 arg3 harg3 arg4 harg4 arg5 harg5 arg6 harg6 arg7 harg7 arg8 harg8 arg9 harg9 arg10 harg10 x0 x1 x2 x3 x4 x5 G8 G9 (arg10.view.writes (Elt Ideal) f L0) (k0_t1_loop i).trips).2.2 ++ L0))) (ix2 k d)
      = arg10.view.read (Elt Ideal) (arg10.view.writes (Elt Ideal) f L0) (ix2 k d) + ∑ r : Fin 2048, pMask x0 x1 x5 (i 1).val r k * x3 (ix2 r d) := by
  have hb : (i 1).val < 4 := (i 1).isLt
  obtain ⟨kb, a, rfl⟩ : ∃ (kb : Fin 32) (a : Fin 256), k = ⟨256 * kb.val + a.val, by omega⟩ :=
    ⟨⟨k.val / 256, by omega⟩, ⟨k.val % 256, by omega⟩, Fin.ext (by show k.val = 256 * (k.val / 256) + k.val % 256; omega)⟩
  rw [read_dkAll, View.writes_append, earlier_dv c i arg2 harg2 arg3 harg3 arg4 harg4 arg5 harg5 arg6 harg6 arg7 harg7 arg8 harg8 arg9 harg9 arg10 harg10 x0 x1 x2 x3 x4 x5 _ _ _ kb a d _ le_rfl, trips1_eq i, add_assoc, add_assoc]
  congr 1
  have step : ∀ j : Fin 7, (if kb.val = 8 * (i 1).val + j.val then
        ∑ t : Fin (256 * (8 - j.val)), stack (psAt i arg2 harg2 arg3 harg3 arg7 harg7 x0 x1 x5 j.castSucc) j (ix2 t a)
          * doFrom (arg5.view.read (Elt Ideal) (harg5.unread x3)) j.castSucc (ix2 t d) else 0)
      = if kb.val = 8 * (i 1).val + j.val then ∑ r : Fin 2048, pMask x0 x1 x5 (i 1).val r ⟨256 * kb.val + a.val, by omega⟩ * x3 (ix2 r d) else 0 := by
    intro j
    by_cases e : kb.val = 8 * (i 1).val + j.val
    · rw [if_pos e, if_pos e]
      obtain rfl : kb = diagBlk i j.castSucc := Fin.ext e
      refine stack_sum (pMask x0 x1 x5 (i 1).val) _ _ j (tiles_psAt i arg2 harg2 arg3 harg3 arg7 harg7 x0 x1 x5 j.castSucc) a
        (fun r hr => pMask_later x0 x1 x5 _ _ _ (by simp only [Fin.val_castSucc]; omega)) (fun r => x3 (ix2 r d)) _ fun t => ?_
      rw [harg5.read_unread]
      exact doFrom_apply x3 j.castSucc t d
    · rw [if_neg e, if_neg e]
  have last : (if kb.val = 8 * (i 1).val + 7 then ∑ t : Fin 256, psAt i arg2 harg2 arg3 harg3 arg7 harg7 x0 x1 x5 7 7 (ix2 t a)
          * doFrom (arg5.view.read (Elt Ideal) (harg5.unread x3)) 7 (ix2 t d) else 0)
      = if kb.val = 8 * (i 1).val + 7 then ∑ r : Fin 2048, pMask x0 x1 x5 (i 1).val r ⟨256 * kb.val + a.val, by omega⟩ * x3 (ix2 r d) else 0 := by
    by_cases e : kb.val = 8 * (i 1).val + 7
    · rw [if_pos e, if_pos e]
      obtain rfl : kb = diagBlk i 7 := Fin.ext e
      refine last_sum (pMask x0 x1 x5 (i 1).val) _ _ (tiles_psAt i arg2 harg2 arg3 harg3 arg7 harg7 x0 x1 x5 7) a
        (fun r hr => pMask_later x0 x1 x5 _ _ _ (by show _ < 256 * (8 * (i 1).val + 7) + a.val; omega)) (fun r => x3 (ix2 r d)) _ fun t => ?_
      rw [harg5.read_unread]
      exact doFrom_apply x3 7 t d
    · rw [if_neg e, if_neg e]
  rw [List.map_congr_left fun j _ => step j, last]
  by_cases low : kb.val < 8 * (i 1).val
  · rw [if_pos low, if_neg (by omega : ¬ kb.val = 8 * (i 1).val + 7), List.map_congr_left (g := fun _ => 0) fun j _ => if_neg (by omega)]
    simp
  · rw [if_neg low, zero_add]
    by_cases high : kb.val < 8 * (i 1).val + 8
    · obtain ⟨j, hj⟩ : ∃ j : Fin 8, kb.val = 8 * (i 1).val + j.val := ⟨⟨kb.val - 8 * (i 1).val, by omega⟩, by simp only []; omega⟩
      simp only [hj, Nat.add_left_cancel_iff]
      generalize (∑ r : Fin 2048, _ : EReal) = S
      fin_cases j <;> simp
    · rw [if_neg (by omega : ¬ kb.val = 8 * (i 1).val + 7), List.map_congr_left (g := fun _ => 0) fun j _ => if_neg (by omega),
        Finset.sum_eq_zero fun r _ => by rw [pMask_later x0 x1 x5 _ _ _ (by simp only []; omega), zero_mul]]
      simp
end

end Cert.KernelIdeal.Val
-- ==== Proof.Outs.lean ====
/- What the frame's data say each output holds after a grid point, entry by entry. -/
module

public import proofs.«01_k».proof.Proof.Point
public import proofs.«01_k».proof.Proof.Gen.KernelIdeal.Frame

@[expose] public section

set_option maxRecDepth 65536

noncomputable section

namespace Cert.KernelIdeal.Val

open Idealize.ShloMosaic Idealize.ShloMosaic.TcCoe
open Cert.KernelIdeal Cert.KernelIdeal.Gen

section
variable (c : Dev nD) (i : grid0.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8192x128 .f32) (harg9 : arg9.IsWhole) (arg10 : Memref sig .tc .vmem S8192x128 .f32) (harg10 : arg10.IsWhole)
  (x0 : Vec Ideal S2048x128 .bf16) (x1 : Vec Ideal S8192x128 .bf16) (x2 : Vec Ideal S8192x128 .bf16) (x3 : Vec Ideal S2048x128 .f32) (x4 : Vec Ideal S2048x128 .f32) (x5 : Vec Ideal S2048x128 .f32)

/-- The query gradient after the first point of a head. -/
theorem outA_dq (hc0 : cond0_0 i) (r : Fin 2048) (d : Fin 128) :
    out0_A_6 c i arg2 harg2 arg3 harg3 arg4 harg4 arg5 harg5 arg6 harg6 arg7 harg7 arg8 harg8 arg9 harg9 arg10 harg10 hc0 x0 x1 x2 x3 x4 x5 (ix2 r d) = ∑ k : Fin 8192, sMask x0 x1 x2 x3 x4 x5 (i 1).val r k * x1 (ix2 k d) := by
  obtain ⟨Y8, Y9, Y10, v, e⟩ := runA_dq c i arg2 harg2 arg3 harg3 arg4 harg4 arg5 harg5 arg6 harg6 arg7 harg7 arg8 harg8 arg9 harg9 arg10 harg10 x0 x1 x2 x3 x4 x5 hc0
  unfold out0_A_6
  rw [e, rest_nil, List.nil_append]
  rw [View.read_writes_junk_eq_canon, ← View.read_writes_junk_eq_canon arg8.view]
  exact point_dq c i arg2 harg2 arg3 harg3 arg4 harg4 arg5 harg5 arg6 harg6 arg7 harg7 arg8 harg8 arg9 harg9 arg10 harg10 x0 x1 x2 x3 x4 x5 _ _ r d

/-- The key gradient after the first point of a head. -/
theorem outA_dk (hc0 : cond0_0 i) (k : Fin 8192) (d : Fin 128) :
    out0_A_7 c i arg2 harg2 arg3 harg3 arg4 harg4 arg5 harg5 arg6 harg6 arg7 harg7 arg8 harg8 arg9 harg9 arg10 harg10 hc0 x0 x1 x2 x3 x4 x5 (ix2 k d) = ∑ r : Fin 2048, sMask x0 x1 x2 x3 x4 x5 (i 1).val r k * x0 (ix2 r d) := by
  obtain ⟨Y8, Y9, Y10, v, e⟩ := runA_dk c i arg2 harg2 arg3 harg3 arg4 harg4 arg5 harg5 arg6 harg6 arg7 harg7 arg8 harg8 arg9 harg9 arg10 harg10 x0 x1 x2 x3 x4 x5 hc0
  unfold out0_A_7
  rw [e, rest_nil, List.nil_append]
  rw [View.read_writes_junk_eq_canon, ← View.read_writes_junk_eq_canon arg9.view]
  refine (point_dk c i arg2 harg2 arg3 harg3 arg4 harg4 arg5 harg5 arg6 harg6 arg7 harg7 arg8 harg8 arg9 harg9 arg10 harg10 x0 x1 x2 x3 x4 x5 arg9.view.junk [zero9] _ _ k d).trans ?_
  rw [read_zero9, zero_add]

/-- The value gradient after the first point of a head. -/
theorem outA_dv (hc0 : cond0_0 i) (k : Fin 8192) (d : Fin 128) :
    out0_A_8 c i arg2 harg2 arg3 harg3 arg4 harg4 arg5 harg5 arg6 harg6 arg7 harg7 arg8 harg8 arg9 harg9 arg10 harg10 hc0 x0 x1 x2 x3 x4 x5 (ix2 k d) = ∑ r : Fin 2048, pMask x0 x1 x5 (i 1).val r k * x3 (ix2 r d) := by
  obtain ⟨Y8, Y9, Y10, v, e⟩ := runA_dv c i arg2 harg2 arg3 harg3 arg4 harg4 arg5 harg5 arg6 harg6 arg7 harg7 arg8 harg8 arg9 harg9 arg10 harg10 x0 x1 x2 x3 x4 x5 hc0
  unfold out0_A_8
  rw [e, rest_nil, List.nil_append]
  rw [View.read_writes_junk_eq_canon, ← View.read_writes_junk_eq_canon arg10.view]
  refine (point_dv c i arg2 harg2 arg3 harg3 arg4 harg4 arg5 harg5 arg6 harg6 arg7 harg7 arg8 harg8 arg9 harg9 arg10 harg10 x0 x1 x2 x3 x4 x5 arg10.view.junk [zero9] _ _ k d).trans ?_
  rw [read_zero9, zero_add]

/-- The query gradient after a later point of a head. -/
theorem outB_dq (hc0 : ¬ cond0_0 i) (xo7 xo8 : Vec Ideal S8192x128 .f32) (r : Fin 2048) (d : Fin 128) :
    out0_B_6 c i arg2 harg2 arg3 harg3 arg4 harg4 arg5 harg5 arg6 harg6 arg7 harg7 arg8 harg8 arg9 harg9 arg10 harg10 hc0 x0 x1 x2 x3 x4 x5 xo7 xo8 (ix2 r d) = ∑ k : Fin 8192, sMask x0 x1 x2 x3 x4 x5 (i 1).val r k * x1 (ix2 k d) := by
  obtain ⟨Y8, Y9, Y10, v, e⟩ := runB_dq c i arg2 harg2 arg3 harg3 arg4 harg4 arg5 harg5 arg6 harg6 arg7 harg7 arg8 harg8 arg9 harg9 arg10 harg10 x0 x1 x2 x3 x4 x5 hc0 xo7 xo8
  unfold out0_B_6
  rw [e, rest_nil, List.nil_append]
  rw [View.read_writes_junk_eq_canon, ← View.read_writes_junk_eq_canon arg8.view]
  exact point_dq c i arg2 harg2 arg3 harg3 arg4 harg4 arg5 harg5 arg6 harg6 arg7 harg7 arg8 harg8 arg9 harg9 arg10 harg10 x0 x1 x2 x3 x4 x5 _ _ r d

/-- The key gradient after a later point of a head. -/
theorem outB_dk (hc0 : ¬ cond0_0 i) (xo7 xo8 : Vec Ideal S8192x128 .f32) (k : Fin 8192) (d : Fin 128) :
    out0_B_7 c i arg2 harg2 arg3 harg3 arg4 harg4 arg5 harg5 arg6 harg6 arg7 harg7 arg8 harg8 arg9 harg9 arg10 harg10 hc0 x0 x1 x2 x3 x4 x5 xo7 xo8 (ix2 k d) = xo7 (ix2 k d) + ∑ r : Fin 2048, sMask x0 x1 x2 x3 x4 x5 (i 1).val r k * x0 (ix2 r d) := by
  obtain ⟨Y8, Y9, Y10, v, e⟩ := runB_dk c i arg2 harg2 arg3 harg3 arg4 harg4 arg5 harg5 arg6 harg6 arg7 harg7 arg8 harg8 arg9 harg9 arg10 harg10 x0 x1 x2 x3 x4 x5 hc0 xo7 xo8
  unfold out0_B_7
  rw [e, rest_nil, List.nil_append]
  have h := point_dk c i arg2 harg2 arg3 harg3 arg4 harg4 arg5 harg5 arg6 harg6 arg7 harg7 arg8 harg8 arg9 harg9 arg10 harg10 x0 x1 x2 x3 x4 x5 (harg9.unread xo7) [] (arg8.view.writes (Elt Ideal) arg8.view.junk [zero8]) (harg10.unread xo8) k d
  rw [List.append_nil] at h
  refine h.trans (congrArg (· + _) ?_)
  exact congrFun (harg9.read_unread xo7) _

/-- The value gradient after a later point of a head. -/
theorem outB_dv (hc0 : ¬ cond0_0 i) (xo7 xo8 : Vec Ideal S8192x128 .f32) (k : Fin 8192) (d : Fin 128) :
    out0_B_8 c i arg2 harg2 arg3 harg3 arg4 harg4 arg5 harg5 arg6 harg6 arg7 harg7 arg8 harg8 arg9 harg9 arg10 harg10 hc0 x0 x1 x2 x3 x4 x5 xo7 xo8 (ix2 k d) = xo8 (ix2 k d) + ∑ r : Fin 2048, pMask x0 x1 x5 (i 1).val r k * x3 (ix2 r d) := by
  obtain ⟨Y8, Y9, Y10, v, e⟩ := runB_dv c i arg2 harg2 arg3 harg3 arg4 harg4 arg5 harg5 arg6 harg6 arg7 harg7 arg8 harg8 arg9 harg9 arg10 harg10 x0 x1 x2 x3 x4 x5 hc0 xo7 xo8
  unfold out0_B_8
  rw [e, rest_nil, List.nil_append]
  have h := point_dv c i arg2 harg2 arg3 harg3 arg4 harg4 arg5 harg5 arg6 harg6 arg7 harg7 arg8 harg8 arg9 harg9 arg10 harg10 x0 x1 x2 x3 x4 x5 (harg10.unread xo8) [] (arg8.view.writes (Elt Ideal) arg8.view.junk [zero8]) (harg9.unread xo7) k d
  rw [List.append_nil] at h
  refine h.trans (congrArg (· + _) ?_)
  exact congrFun (harg10.read_unread xo8) _
end

end Cert.KernelIdeal.Val
-- ==== Proof.Blk.lean ====
/- The blocks of the packed arrays a grid point reads, and the masked probabilities over the whole arrays. -/
module

public import proofs.«01_k».proof.Proof.Outs
public import Idealize.ShloMosaic.Lib.Pipeline.ValueKit

@[expose] public section

set_option maxRecDepth 65536

noncomputable section

namespace Cert.KernelIdeal.Val

open Idealize.ShloMosaic Idealize.ShloMosaic.TcCoe
open Cert.KernelIdeal Cert.KernelIdeal.Gen

/-- Lane `d` of head `h` in a packed row. -/
abbrev lane (h : Fin 8) (d : Fin 128) : Fin 1024 := ⟨128 * h.val + d.val, by omega⟩

section
variable (Q K W : Vec Ideal S8192x1024 .bf16) (G O L : Vec Ideal S8192x1024 .f32)

/-- Head `h`'s probability of key `k` at query `q`, zero where the key is later, -/
def pW (h : Fin 8) (q k : Fin 8192) : EReal :=
  if k.val ≤ q.val then Ideal.exp2 ((∑ d : Fin 128, Q (ix2 q (lane h d)) * K (ix2 k (lane h d))) * cSL - L (ix2 q (lane h 0)) * cL) else 0

/-- and the gradient of its score. -/
def sW (h : Fin 8) (q k : Fin 8192) : EReal :=
  pW Q K L h q k * ((∑ d : Fin 128, G (ix2 q (lane h d)) * W (ix2 k (lane h d))) * cS
    - (∑ d : Fin 128, G (ix2 q (lane h d)) * O (ix2 q (lane h d))) * cS)

end

section
variable (m : (ℓ : Loc nD τ sig) → Buf (Elt Ideal) ℓ) (c : Dev nD)

/-- The packed arrays the region reads: queries, keys, values, -/
abbrev aQ : Vec Ideal S8192x1024 .bf16 := V m c (Pipeline.arrRef spec0 0)
abbrev aK : Vec Ideal S8192x1024 .bf16 := V m c (Pipeline.arrRef spec0 1)
abbrev aW : Vec Ideal S8192x1024 .bf16 := V m c (Pipeline.arrRef spec0 2)
/-- the gradients of the output, the output, the row log-sums. -/
abbrev aG : Vec Ideal S8192x1024 .f32 := V m c (Pipeline.arrRef spec0 3)
abbrev aO : Vec Ideal S8192x1024 .f32 := V m c (Pipeline.arrRef spec0 4)
abbrev aL : Vec Ideal S8192x1024 .f32 := V m c (Pipeline.arrRef spec0 5)

theorem idx0 : ∀ t : Fin cfg0.N, win0_0.index t = ![t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val % 4, t.val / 4] := (by decide +kernel : ∀ t : Fin grid0.N, _)
theorem idx5 : ∀ t : Fin cfg0.N, win0_5.index t = ![t.val % 4, t.val / 4] := (by decide +kernel : ∀ t : Fin grid0.N, _)
theorem idx6 : ∀ t : Fin cfg0.N, win0_6.index t = ![t.val % 4, t.val / 4] := (by decide +kernel : ∀ t : Fin grid0.N, _)
theorem idx7 : ∀ t : Fin cfg0.N, win0_7.index t = ![0, t.val / 4] := (by decide +kernel : ∀ t : Fin grid0.N, _)
theorem idx8 : ∀ t : Fin cfg0.N, win0_8.index t = ![0, t.val / 4] := (by decide +kernel : ∀ t : Fin grid0.N, _)

theorem lt32 (t : Fin cfg0.N) : t.val < 32 := lt_of_lt_of_eq t.isLt N_0

/-- The point's head, -/
abbrev hd (t : Fin cfg0.N) : Fin 8 := ⟨t.val / 4, by have := lt32 t; omega⟩
/-- and row `r` of its block of queries. -/
abbrev row (t : Fin cfg0.N) (r : Fin 2048) : Fin 8192 := ⟨2048 * (t.val % 4) + r.val, by omega⟩

theorem coord1 (t : Fin cfg0.N) : (grid0.coords t 1).val = t.val % 4 := by
  have e : (grid0.coords t 1).val = t.val / 1 % 4 := Pipeline.Grid.coords_val t 1 (by decide) rfl
  rw [e, Nat.div_one]

theorem read0 (f : Buf (Elt Ideal) ((c : Thread nD τ).loc (Pipeline.arrRef spec0 0))) (t : Fin cfg0.N) (r : Fin 2048) (d : Fin 128) :
    ((cfg0.win 0).blk t).view.read (Elt Ideal) f (ix2 r d) = (f : Vec Ideal S8192x1024 .bf16) (ix2 (row t r) (lane (hd t) d)) := by
  refine congrArg f ?_
  blk_ext [idx0 t]
theorem iblk0 (t : Fin cfg0.N) (r : Fin 2048) (d : Fin 128) : iblk m c 0 t (ix2 r d) = aQ m c (ix2 (row t r) (lane (hd t) d)) := by
  unfold iblk
  exact read0 c (V m c (Pipeline.arrRef spec0 0)) t r d
theorem read1 (f : Buf (Elt Ideal) ((c : Thread nD τ).loc (Pipeline.arrRef spec0 1))) (t : Fin cfg0.N) (k : Fin 8192) (d : Fin 128) :
    ((cfg0.win 1).blk t).view.read (Elt Ideal) f (ix2 k d) = (f : Vec Ideal S8192x1024 .bf16) (ix2 k (lane (hd t) d)) := by
  refine congrArg f ?_
  blk_ext [idx1 t]
theorem iblk1 (t : Fin cfg0.N) (k : Fin 8192) (d : Fin 128) : iblk m c 1 t (ix2 k d) = aK m c (ix2 k (lane (hd t) d)) := by
  unfold iblk
  exact read1 c (V m c (Pipeline.arrRef spec0 1)) t k d
theorem read2 (f : Buf (Elt Ideal) ((c : Thread nD τ).loc (Pipeline.arrRef spec0 2))) (t : Fin cfg0.N) (k : Fin 8192) (d : Fin 128) :
    ((cfg0.win 2).blk t).view.read (Elt Ideal) f (ix2 k d) = (f : Vec Ideal S8192x1024 .bf16) (ix2 k (lane (hd t) d)) := by
  refine congrArg f ?_
  blk_ext [idx2 t]
theorem iblk2 (t : Fin cfg0.N) (k : Fin 8192) (d : Fin 128) : iblk m c 2 t (ix2 k d) = aW m c (ix2 k (lane (hd t) d)) := by
  unfold iblk
  exact read2 c (V m c (Pipeline.arrRef spec0 2)) t k d
theorem read3 (f : Buf (Elt Ideal) ((c : Thread nD τ).loc (Pipeline.arrRef spec0 3))) (t : Fin cfg0.N) (r : Fin 2048) (d : Fin 128) :
    ((cfg0.win 3).blk t).view.read (Elt Ideal) f (ix2 r d) = (f : Vec Ideal S8192x1024 .f32) (ix2 (row t r) (lane (hd t) d)) := by
  refine congrArg f ?_
  blk_ext [idx3 t]
theorem iblk3 (t : Fin cfg0.N) (r : Fin 2048) (d : Fin 128) : iblk m c 3 t (ix2 r d) = aG m c (ix2 (row t r) (lane (hd t) d)) := by
  unfold iblk
  exact read3 c (V m c (Pipeline.arrRef spec0 3)) t r d
theorem read4 (f : Buf (Elt Ideal) ((c : Thread nD τ).loc (Pipeline.arrRef spec0 4))) (t : Fin cfg0.N) (r : Fin 2048) (d : Fin 128) :
    ((cfg0.win 4).blk t).view.read (Elt Ideal) f (ix2 r d) = (f : Vec Ideal S8192x1024 .f32) (ix2 (row t r) (lane (hd t) d)) := by
  refine congrArg f ?_
  blk_ext [idx4 t]
theorem iblk4 (t : Fin cfg0.N) (r : Fin 2048) (d : Fin 128) : iblk m c 4 t (ix2 r d) = aO m c (ix2 (row t r) (lane (hd t) d)) := by
  unfold iblk
  exact read4 c (V m c (Pipeline.arrRef spec0 4)) t r d
theorem read5 (f : Buf (Elt Ideal) ((c : Thread nD τ).loc (Pipeline.arrRef spec0 5))) (t : Fin cfg0.N) (r : Fin 2048) (d : Fin 128) :
    ((cfg0.win 5).blk t).view.read (Elt Ideal) f (ix2 r d) = (f : Vec Ideal S8192x1024 .f32) (ix2 (row t r) (lane (hd t) d)) := by
  refine congrArg f ?_
  blk_ext [idx5 t]
theorem iblk5 (t : Fin cfg0.N) (r : Fin 2048) (d : Fin 128) : iblk m c 5 t (ix2 r d) = aL m c (ix2 (row t r) (lane (hd t) d)) := by
  unfold iblk
  exact read5 c (V m c (Pipeline.arrRef spec0 5)) t r d

end

end Cert.KernelIdeal.Val
-- ==== Proof.Host.lean ====
/- What the host code in front of the kernel's call prepares: the masked scores, their row maxima, exponentials and sums,
   the attention's output and row log-sums, and the arrays packed one head to 128 lanes. -/
module

public import proofs.«01_k».proof.Proof.Blk
public import Idealize.ShloMosaic.Lib.Pointwise

@[expose] public section

set_option maxRecDepth 65536

noncomputable section

namespace Cert.KernelIdeal.Val

open Idealize.ShloMosaic Idealize.ShloMosaic.TcCoe
open Cert.KernelIdeal Cert.KernelIdeal.Gen

section
variable (a0 : FVec Ideal S8192x8x64 .f32) (a1 : FVec Ideal S8192x8x32 .f32) (a2 : FVec Ideal S8192x8x64 .f32) (a3 : FVec Ideal S8192x32 .f32)
  (a4 : FVec Ideal S8192x8x64 .f32)

/-- The scores of the queries `a0`, `a1` against the keys `a2`, `a3`, scaled, later keys masked by −∞, -/
def hS : FVec Ideal S8x8192x8192 .f32 :=
  select (broadcastInDim S8x8192x8192 ![1, 2] bcast_S8192x8192_S8x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (Host.divf (F := Ideal) (addf (Host.dotGeneral dot_S8192x8x64_S8192x8x64_S8x8192x8192_2_2_0_0_1_1 none a0 a2)
        (transpose S8x8192x8192 [2, 1, 0] (Host.dotGeneral dot_S8192x32_S8192x8x32_S8192x8192x8_1_2_0_01_n_n none a3 a1) transposes_S8192x8192x8_S8x8192x8192_2_1_0))
      (broadcastInDim S8x8192x8192 ![] bcast_S_S8x8192x8192 (Host.sqrt (constant S_ .f32 0x42C00000#32))))
    (broadcastInDim S8x8192x8192 ![] bcast_S_S8x8192x8192 (constant S_ .f32 0xFF800000#32))

/-- the row maxima of scores `s`, -/
def hM (s : FVec Ideal S8x8192x8192 .f32) : FVec Ideal S8x8192 .f32 :=
  Host.reduce (FloatOps.maximumf (F := Ideal)) s (constant S_ .f32 0xFF800000#32) reducesTo_S8x8192x8192_S8x8192_d2 h_S_

/-- the exponentials of the scores less their row's maximum, -/
def hE (s : FVec Ideal S8x8192x8192 .f32) : FVec Ideal S8x8192x8192 .f32 :=
  Host.exp (F := Ideal) (subf s (broadcastInDim S8x8192x8192 ![0, 1, 2] bcast_S8x8192x1_S8x8192x8192_0_1_2
    (broadcastInDim S8x8192x1 ![0, 1] bcast_S8x8192_S8x8192x1_0_1 (hM s))))

/-- their row sums, -/
def hL (s : FVec Ideal S8x8192x8192 .f32) : FVec Ideal S8x8192x1 .f32 :=
  broadcastInDim S8x8192x1 ![0, 1] bcast_S8x8192_S8x8192x1_0_1
    (Host.reduceAdd (F := Ideal) (hE s) (constant S_ .f32 0x00000000#32) reducesTo_S8x8192x8192_S8x8192_d2 h_S_)

/-- the output: the values weighted by the probabilities, -/
def hO (s : FVec Ideal S8x8192x8192 .f32) : FVec Ideal S8192x8x64 .f32 :=
  transpose S8192x8x64 [2, 0, 1] (Host.dotGeneral (F := Ideal) dot_S8192x8x64_S8x8192x8192_S8x64x8192_0_2_2_1_1_0 none a4
    (Host.divf (hE s) (broadcastInDim S8x8192x8192 ![0, 1, 2] bcast_S8x8192x1_S8x8192x8192_0_1_2 (hL s)))) transposes_S8x64x8192_S8192x8x64_2_0_1

/-- and the row log-sums. -/
def hLse (s : FVec Ideal S8x8192x8192 .f32) : FVec Ideal S8192x8x1 .f32 :=
  transpose S8192x8x1 [1, 0, 2] (addf (F := Ideal) (broadcastInDim S8x8192x1 ![0, 1] bcast_S8x8192_S8x8192x1_0_1 (hM s)) (Host.log (hL s)))
    transposes_S8x8192x1_S8192x8x1_1_0_2

theorem hS_apply (h : Fin 8) (q k : Fin 8192) : hS a0 a1 a2 a3 (ix3 h q k)
    = if k.val ≤ q.val then Ideal.div ((∑ d : Fin 64, a0 (ix3 q h d) * a2 (ix3 k h d)) + ∑ r : Fin 32, a3 (ix2 k r) * a1 (ix3 q h r))
        (Ideal.sqrt (Ideal.ofBits .f32 0x42C00000#32)) else Ideal.ofBits .f32 0xFF800000#32 := by
  pointwise [hS]
  rw [WordCmp.cmpi_sle_ofNat (by omega) (by omega)]
  by_cases e : k.val ≤ q.val
  · rw [if_pos e, decide_eq_true e]; rfl
  · rw [if_neg e, decide_eq_false e]; rfl

theorem hE_apply (s : FVec Ideal S8x8192x8192 .f32) (h : Fin 8) (q k : Fin 8192) :
    hE s (ix3 h q k) = Ideal.exp (s (ix3 h q k) - hM s (ix2 h q)) := by
  pointwise [hE]

theorem hL_apply (s : FVec Ideal S8x8192x8192 .f32) (h : Fin 8) (q : Fin 8192) :
    hL s (ix3 h q 0) = ∑ k, hE s (ix3 h q k) := by
  pointwise [hL]

theorem hO_apply (s : FVec Ideal S8x8192x8192 .f32) (h : Fin 8) (q : Fin 8192) (d : Fin 64) :
    hO a4 s (ix3 q h d) = ∑ k, a4 (ix3 k h d) * Ideal.div (hE s (ix3 h q k)) (hL s (ix3 h q 0)) := by
  pointwise [hO]

theorem lse_row (z : FVec Ideal S8x8192x1 .f32) (h : Fin 8) (q : Fin 8192) :
    transpose S8192x8x1 [1, 0, 2] z transposes_S8x8192x1_S8192x8x1_1_0_2 (ix3 q h 0) = z (ix3 h q 0) := by
  simp only [pointwise]

theorem max_row (x : FVec Ideal S8x8192 .f32) (h : Fin 8) (q : Fin 8192) :
    broadcastInDim S8x8192x1 ![0, 1] bcast_S8x8192_S8x8192x1_0_1 x (ix3 h q 0) = x (ix2 h q) := by
  pointwise

theorem max_add_log (x : FVec Ideal S8x8192 .f32) (y : FVec Ideal S8x8192x1 .f32) (h : Fin 8) (q : Fin 8192) :
    addf (F := Ideal) (broadcastInDim S8x8192x1 ![0, 1] bcast_S8x8192_S8x8192x1_0_1 x) (Host.log y) (ix3 h q 0)
      = x (ix2 h q) + Ideal.log (y (ix3 h q 0)) :=
  congrArg (· + Ideal.log (y (ix3 h q 0))) (max_row x h q)

theorem hLse_apply (s : FVec Ideal S8x8192x8192 .f32) (h : Fin 8) (q : Fin 8192) :
    hLse s (ix3 q h 0) = hM s (ix2 h q) + Ideal.log (hL s (ix3 h q 0)) :=
  (lse_row _ h q).trans (max_add_log (hM s) (hL s) h q)

end

end Cert.KernelIdeal.Val
-- ==== Proof.Ref.lean ====
/- The reference's arrays at an index: the probabilities' gradient, the scores' gradient and the five results as sums. -/
module

public import proofs.«01_k».proof.Proof.Host
public import proofs.«01_k».proof.Proof.Gen.ReferenceIdeal.Read

@[expose] public section

set_option maxRecDepth 65536

noncomputable section

namespace Cert.KernelIdeal.Val

open Idealize.ShloMosaic Idealize.ShloMosaic.TcCoe
open Cert.ReferenceIdeal.Read

variable (a0 : FVec Ideal Cert.ReferenceIdeal.S8192x8x64 .f32) (a1 : FVec Ideal Cert.ReferenceIdeal.S8192x8x32 .f32)
  (a2 : FVec Ideal Cert.ReferenceIdeal.S8192x8x64 .f32) (a3 : FVec Ideal Cert.ReferenceIdeal.S8192x32 .f32)
  (a4 a5 : FVec Ideal Cert.ReferenceIdeal.S8192x8x64 .f32)

/-- The reference's scores are the host's, -/
theorem ref_scores : val_main_v14_0 (F := Ideal) a0 a1 a2 a3 = hS a0 a1 a2 a3 := rfl

/-- and their row maxima. -/
theorem ref_max : val_main_v15 (F := Ideal) a0 a1 a2 a3 = hM (hS a0 a1 a2 a3) := rfl

theorem exp_less (s : FVec Ideal Cert.ReferenceIdeal.S8x8192x8192 .f32) (t : FVec Ideal Cert.ReferenceIdeal.S8x8192 .f32) (h : Fin 8) (q k : Fin 8192) :
    Host.exp (F := Ideal) (subf s (broadcastInDim Cert.ReferenceIdeal.S8x8192x8192 ![0, 1, 2] Cert.ReferenceIdeal.Gen.bcast_S8x8192x1_S8x8192x8192_0_1_2
      (broadcastInDim Cert.ReferenceIdeal.S8x8192x1 ![0, 1] Cert.ReferenceIdeal.Gen.bcast_S8x8192_S8x8192x1_0_1 (maximumf (val_main_v21 (F := Ideal)) t)))) (ix3 h q k)
      = Ideal.exp (s (ix3 h q k) - max (Ideal.ofBits .f32 0xFF800000#32) (t (ix2 h q))) := by
  pointwise [val_main_v21, val_main_cst_3]

/-- The exponentials, -/
theorem ref_exp (h : Fin 8) (q k : Fin 8192) : val_main_v35 (F := Ideal) a0 a1 a2 a3 (ix3 h q k)
    = Ideal.exp (hS a0 a1 a2 a3 (ix3 h q k) - max (Ideal.ofBits .f32 0xFF800000#32) (hM (hS a0 a1 a2 a3) (ix2 h q))) := by
  rw [← ref_max, ← ref_scores]
  exact exp_less (val_main_v14_0 (F := Ideal) a0 a1 a2 a3) (val_main_v15 (F := Ideal) a0 a1 a2 a3) h q k

/-- their row sums, -/
theorem ref_sum (h : Fin 8) (q : Fin 8192) : val_main_v37 (F := Ideal) a0 a1 a2 a3 (ix3 h q 0)
    = ∑ k, val_main_v35 (F := Ideal) a0 a1 a2 a3 (ix3 h q k) := by
  pointwise [val_main_v37, val_main_v36, val_main_cst_9]

/-- the probabilities, -/
theorem ref_prob (h : Fin 8) (q k : Fin 8192) : val_main_v39 (F := Ideal) a0 a1 a2 a3 (ix3 h q k)
    = Ideal.div (val_main_v35 (F := Ideal) a0 a1 a2 a3 (ix3 h q k)) (val_main_v37 (F := Ideal) a0 a1 a2 a3 (ix3 h q 0)) := by
  pointwise [val_main_v39, val_main_v38]

/-- their gradient, -/
theorem ref_dp (h : Fin 8) (q k : Fin 8192) : val_main_v46 (F := Ideal) a4 a5 (ix3 h q k)
    = ∑ d : Fin 64, a5 (ix3 q h d) * a4 (ix3 k h d) := by
  pointwise [val_main_v46, val_main_v45]

/-- the share every key of a row has in the gradient of the row's sum, -/
theorem ref_corr (h : Fin 8) (q : Fin 8192) : val_main_v57 (F := Ideal) a0 a1 a2 a3 a4 a5 (ix2 h q)
    = -∑ k, val_main_v46 (F := Ideal) a4 a5 (ix3 h q k) * Ideal.div 1 (val_main_v37 (F := Ideal) a0 a1 a2 a3 (ix3 h q 0) * val_main_v37 (F := Ideal) a0 a1 a2 a3 (ix3 h q 0))
        * val_main_v35 (F := Ideal) a0 a1 a2 a3 (ix3 h q k) := by
  pointwise [val_main_v57, val_main_cst_12, val_main_v54, val_main_v53, val_main_v52, val_main_cst_11, val_main_v51, val_main_v50, val_main_v49, val_main_v42, val_main_v41,
    val_main_cst_10, val_main_v40]
  exact Fin.sum_univ_one _

/-- the scores' gradient over √96, -/
theorem ref_ds (h : Fin 8) (q k : Fin 8192) : val_main_v63 (F := Ideal) a0 a1 a2 a3 a4 a5 (ix3 h q k)
    = Ideal.div (if k.val ≤ q.val then (Ideal.div (val_main_v46 (F := Ideal) a4 a5 (ix3 h q k)) (val_main_v37 (F := Ideal) a0 a1 a2 a3 (ix3 h q 0))
        + val_main_v57 (F := Ideal) a0 a1 a2 a3 a4 a5 (ix2 h q)) * val_main_v35 (F := Ideal) a0 a1 a2 a3 (ix3 h q k) else 0) (Ideal.sqrt (Ideal.ofBits .f32 0x42C00000#32)) := by
  pointwise [val_main_v63, val_main_v62, val_main_v4, val_main_cst, val_main_v61, val_main_call1_v0, val_main_call1_cst, val_main_v14_1, val_main_v13, val_main_v12, val_main_v11, val_main_v10,
    val_main_v9, val_main_v8, val_main_v7, val_main_v60, val_main_v59, val_main_v58, val_main_v56, val_main_v55]
  refine congrArg (fun z => Ideal.div z _) ?_
  rw [WordCmp.cmpi_sle_ofNat (by omega) (by omega)]
  by_cases e : k.val ≤ q.val
  · rw [if_pos e, decide_eq_true e]; rfl
  · rw [if_neg e, decide_eq_false e]; rfl

/-- and the results: the plain queries' gradient, -/
theorem ref_dqn (q : Fin 8192) (h : Fin 8) (d : Fin 64) : val_main_v70 (F := Ideal) a0 a1 a2 a3 a4 a5 (ix3 q h d)
    = ∑ k, val_main_v63 (F := Ideal) a0 a1 a2 a3 a4 a5 (ix3 h q k) * a2 (ix3 k h d) := by
  pointwise [val_main_v70, val_main_v69]

/-- the rotated queries', -/
theorem ref_dqr (q : Fin 8192) (h : Fin 8) (r : Fin 32) : val_main_v65 (F := Ideal) a0 a1 a2 a3 a4 a5 (ix3 q h r)
    = ∑ k, val_main_v63 (F := Ideal) a0 a1 a2 a3 a4 a5 (ix3 h q k) * a3 (ix2 k r) := by
  pointwise [val_main_v65, val_main_v64]

/-- the plain keys', -/
theorem ref_dkn (k : Fin 8192) (h : Fin 8) (d : Fin 64) : val_main_v68 (F := Ideal) a0 a1 a2 a3 a4 a5 (ix3 k h d)
    = ∑ q, val_main_v63 (F := Ideal) a0 a1 a2 a3 a4 a5 (ix3 h q k) * a0 (ix3 q h d) := by
  pointwise [val_main_v68, val_main_v67]

/-- the rotated keys', -/
theorem ref_dkr (k : Fin 8192) (r : Fin 32) : val_main_v66 (F := Ideal) a0 a1 a2 a3 a4 a5 (ix2 k r)
    = ∑ h : Fin 8, ∑ q, val_main_v63 (F := Ideal) a0 a1 a2 a3 a4 a5 (ix3 h q k) * a1 (ix3 q h r) := by
  pointwise [val_main_v66, val_main_v64]
  exact Finset.sum_comm

/-- and the values'. -/
theorem ref_dv (k : Fin 8192) (h : Fin 8) (d : Fin 64) : val_main_v48 (F := Ideal) a0 a1 a2 a3 a5 (ix3 k h d)
    = ∑ q, a5 (ix3 q h d) * val_main_v39 (F := Ideal) a0 a1 a2 a3 (ix3 h q k) := by
  pointwise [val_main_v48, val_main_v47, val_main_v45]

end Cert.KernelIdeal.Val
-- ==== Proof.Pack.lean ====
/- The packed arrays the kernel's call reads, by lane: a head of queries or keys holds its 64 plain lanes, its 32 rotated ones
   and 32 zeros; a head of values, gradients or outputs 64 zeros and its 64 lanes; the row log-sum fills its head's lanes. -/
module

public import proofs.«01_k».proof.Proof.Host
public import Idealize.ShloMosaic.Lib.Claim
public import Idealize.ShloMosaic.Lib.StableHlo.RunRead

@[expose] public section

set_option maxRecDepth 65536

noncomputable section

namespace Cert.KernelIdeal.Val

open Idealize.ShloMosaic Idealize.ShloMosaic.TcCoe Idealize.ShloMosaic.StableHlo
open Cert.KernelIdeal Cert.KernelIdeal.Gen

section
variable (x : FVec Ideal S8192x8x64 .f32) (y : FVec Ideal S8192x8x32 .f32) (l : FVec Ideal S8192x8x1 .f32)

/-- Queries or keys packed: `x`, `y` and zeros by head, -/
def packQ : FVec Ideal S8192x1024 .f32 :=
  shapeCast S8192x1024 (concatenate S8192x8x128 2 [⟨S8192x8x64, x⟩, ⟨S8192x8x32, y⟩,
      ⟨S8192x8x32, broadcastInDim S8192x8x32 ![] bcast_S_S8192x8x32 (constant (F := Ideal) S_ .f32 0x00000000#32)⟩]
    concatenates_S8192x8x64_S8192x8x32_S8192x8x32_S8192x8x128_d2) shapeCasts_S8192x8x128_S8192x1024

/-- values packed: zeros and `x` by head, -/
def packV : FVec Ideal S8192x1024 .f32 :=
  shapeCast S8192x1024 (concatenate S8192x8x128 2 [⟨S8192x8x64, broadcastInDim S8192x8x64 ![] bcast_S_S8192x8x64 (constant (F := Ideal) S_ .f32 0x00000000#32)⟩,
      ⟨S8192x8x64, x⟩] concatenates_S8192x8x64_S8192x8x64_S8192x8x128_d2) shapeCasts_S8192x8x128_S8192x1024

/-- one number per head on all its lanes, -/
def packL : FVec Ideal S8192x1024 .f32 :=
  shapeCast S8192x1024 (broadcastInDim S8192x8x128 ![0, 1, 2] bcast_S8192x8x1_S8192x8x128_0_1_2 l) shapeCasts_S8192x8x128_S8192x1024

/-- and the rotated keys, one for all heads. -/
def keyR (a3 : FVec Ideal S8192x32 .f32) : FVec Ideal S8192x8x32 .f32 :=
  broadcastInDim S8192x8x32 ![0, 1, 2] bcast_S8192x1x32_S8192x8x32_0_1_2 (broadcastInDim S8192x1x32 ![0, 2] bcast_S8192x32_S8192x1x32_0_2 a3)

theorem merge (z : FVec Ideal S8192x8x128 .f32) (q : Fin 8192) (h : Fin 8) (d : Fin 128) :
    shapeCast S8192x1024 z shapeCasts_S8192x8x128_S8192x1024 (ix2 q (lane h d)) = z (ix3 q h d) := by
  pointwise
  exact congrArg z (congrArg₂ (ix3 q) (Fin.ext (by show (128 * h.val + d.val) / 128 = h.val; omega))
    (Fin.ext (by show (128 * h.val + d.val) % 128 = d.val; omega)))

theorem keyR_apply (a3 : FVec Ideal S8192x32 .f32) (q : Fin 8192) (h : Fin 8) (r : Fin 32) : keyR a3 (ix3 q h r) = a3 (ix2 q r) := by
  pointwise [keyR]

theorem packQ_plain (q : Fin 8192) (h : Fin 8) (d : Fin 64) : packQ x y (ix2 q (lane h ⟨d.val, by omega⟩)) = x (ix3 q h d) := by
  refine (merge _ q h _).trans ?_
  pointwise

theorem packQ_rot (q : Fin 8192) (h : Fin 8) (r : Fin 32) : packQ x y (ix2 q (lane h ⟨64 + r.val, by omega⟩)) = y (ix3 q h r) := by
  refine (merge _ q h _).trans ?_
  pointwise

theorem packQ_zero (q : Fin 8192) (h : Fin 8) (r : Fin 32) : packQ x y (ix2 q (lane h ⟨96 + r.val, by omega⟩)) = 0 := by
  refine (merge _ q h _).trans ?_
  pointwise
  exact (dif_neg (by omega)).trans (dif_neg (by omega))

theorem packV_zero (q : Fin 8192) (h : Fin 8) (d : Fin 64) : packV x (ix2 q (lane h ⟨d.val, by omega⟩)) = 0 := by
  refine (merge _ q h _).trans ?_
  pointwise

theorem packV_val (q : Fin 8192) (h : Fin 8) (d : Fin 64) : packV x (ix2 q (lane h ⟨64 + d.val, by omega⟩)) = x (ix3 q h d) := by
  refine (merge _ q h _).trans ?_
  pointwise

theorem packL_apply (q : Fin 8192) (h : Fin 8) (d : Fin 128) : packL l (ix2 q (lane h d)) = l (ix3 q h 0) := by
  refine (merge _ q h _).trans ?_
  pointwise

end

/-- A sum over a head's lanes, of a term that is zero on the last 32, -/
theorem sum_lanes_q (f : Fin 128 → EReal) (u : Fin 64 → EReal) (v : Fin 32 → EReal) (hu : ∀ d : Fin 64, f ⟨d.val, by omega⟩ = u d)
    (hv : ∀ r : Fin 32, f ⟨64 + r.val, by omega⟩ = v r) (hz : ∀ r : Fin 32, f ⟨96 + r.val, by omega⟩ = 0) :
    ∑ d, f d = (∑ d, u d) + ∑ r, v r := by
  rw [Fin.sum_univ_add (a := 96) (b := 32) (f := f), Fin.sum_univ_add (a := 64) (b := 32) (f := fun i => f (Fin.castAdd 32 i))]
  rw [Finset.sum_congr rfl (fun r _ => hz r : ∀ r ∈ Finset.univ, f (Fin.natAdd 96 r) = 0), Finset.sum_const_zero, add_zero]
  exact congrArg₂ (· + ·) (Finset.sum_congr rfl fun d _ => hu d) (Finset.sum_congr rfl fun r _ => hv r)

/-- and of one that is zero on the first 64. -/
theorem sum_lanes_v (f : Fin 128 → EReal) (u : Fin 64 → EReal) (hz : ∀ d : Fin 64, f ⟨d.val, by omega⟩ = 0)
    (hu : ∀ d : Fin 64, f ⟨64 + d.val, by omega⟩ = u d) : ∑ d, f d = ∑ d, u d := by
  rw [Fin.sum_univ_add (a := 64) (b := 64) (f := f)]
  exact (congrArg₂ (· + ·) (Finset.sum_eq_zero fun d _ => hz d) (Finset.sum_congr rfl fun d _ => hu d)).trans (zero_add _)

section
variable (m : (ℓ : Loc nD τ sig) → Buf (Elt Ideal) ℓ) (c : Dev nD)

/-- The call's arguments: queries, -/
abbrev g0 : FVec Ideal S8192x8x64 .f32 := m (c, Proc.tc.devRef main_arg0)
abbrev g1 : FVec Ideal S8192x8x32 .f32 := m (c, Proc.tc.devRef main_arg1)
/-- keys, -/
abbrev g2 : FVec Ideal S8192x8x64 .f32 := m (c, Proc.tc.devRef main_arg2)
abbrev g3 : FVec Ideal S8192x32 .f32 := m (c, Proc.tc.devRef main_arg3)
/-- values, -/
abbrev g4 : FVec Ideal S8192x8x64 .f32 := m (c, Proc.tc.devRef main_arg4)
/-- the gradient of the output, -/
abbrev g5 : FVec Ideal S8192x8x64 .f32 := m (c, Proc.tc.devRef main_arg5)
/-- and their scores. -/
abbrev gS : FVec Ideal S8x8192x8192 .f32 := hS (g0 m c) (g1 m c) (g2 m c) (g3 m c)

set_option maxHeartbeats 2000000

theorem aQ_eq : (aQ m c : S8192x1024.Idx → EReal) = packQ (g0 m c) (g1 m c) := by
  show V m c main_v35 = _
  unfold V V0
  simp only [hostOps0, hostOps0_1, hostOps0_2, List.flatten_cons, List.flatten_nil, List.append_nil, List.cons_append, List.nil_append]
  after_results
  all_goals rfl

theorem aK_eq : (aK m c : S8192x1024.Idx → EReal) = packQ (g2 m c) (keyR (g3 m c)) := by
  show V m c main_v38 = _
  unfold V V0
  simp only [hostOps0, hostOps0_1, hostOps0_2, List.flatten_cons, List.flatten_nil, List.append_nil, List.cons_append, List.nil_append]
  after_results
  all_goals rfl

theorem aW_eq : (aW m c : S8192x1024.Idx → EReal) = packV (g4 m c) := by
  show V m c main_v41 = _
  unfold V V0
  simp only [hostOps0, hostOps0_1, hostOps0_2, List.flatten_cons, List.flatten_nil, List.append_nil, List.cons_append, List.nil_append]
  after_results
  all_goals rfl

theorem aG_eq : (aG m c : S8192x1024.Idx → EReal) = packV (g5 m c) := by
  show V m c main_v43 = _
  unfold V V0
  simp only [hostOps0, hostOps0_1, hostOps0_2, List.flatten_cons, List.flatten_nil, List.append_nil, List.cons_append, List.nil_append]
  after_results
  all_goals rfl

theorem aO_eq : (aO m c : S8192x1024.Idx → EReal) = packV (hO (g4 m c) (gS m c)) := by
  show V m c main_v45 = _
  unfold V V0
  simp only [hostOps0, hostOps0_1, hostOps0_2, List.flatten_cons, List.flatten_nil, List.append_nil, List.cons_append, List.nil_append]
  after_results
  all_goals rfl

theorem aL_eq : (aL m c : S8192x1024.Idx → EReal) = packL (hLse (gS m c)) := by
  show V m c main_v47 = _
  unfold V V0
  simp only [hostOps0, hostOps0_1, hostOps0_2, List.flatten_cons, List.flatten_nil, List.append_nil, List.cons_append, List.nil_append]
  after_results
  all_goals rfl

end

end Cert.KernelIdeal.Val
-- ==== Proof.Reals.lean ====
/- The real numbers behind the arrays, of finite arguments: the scores, the exponentials, their sums, the probabilities and the
   scores' gradient; what the host's arrays and the reference's hold of them. -/
module

public import proofs.«01_k».proof.Proof.Ref
public import proofs.«01_k».proof.Proof.Pack
public import Idealize.ShloMosaic.Lib.IdealHost

@[expose] public section

set_option maxRecDepth 65536

noncomputable section

namespace Cert.KernelIdeal.Val

open Idealize.ShloMosaic Idealize.ShloMosaic.TcCoe
open Cert.KernelIdeal Cert.KernelIdeal.Gen

/-- A real array as one of extended reals. -/
abbrev up {s : Shape} (b : s.Idx → ℝ) : FVec Ideal s .f32 := fun i => ((b i : ℝ) : EReal)

theorem coe_sum {ι : Type} (s : Finset ι) (f : ι → ℝ) : ((∑ i ∈ s, f i : ℝ) : EReal) = ∑ i ∈ s, ((f i : ℝ) : EReal) :=
  map_sum (⟨⟨Real.toEReal, rfl⟩, EReal.coe_add⟩ : ℝ →+ EReal) f s

theorem ninety_six : Ideal.ofBits .f32 0x42C00000#32 = ((96 : ℝ) : EReal) := by
  simp [Ideal.ofBits, Ideal.ieee, -EReal.coe_mul]; norm_num

theorem minus_inf : Ideal.ofBits .f32 0xFF800000#32 = ⊥ := by
  simp [Ideal.ofBits, Ideal.ieee]

/-- √96, -/
abbrev rt : ℝ := Real.sqrt 96

theorem rt_pos : 0 < rt := Real.sqrt_pos.mpr (by norm_num)

theorem sqrt_96 : Ideal.sqrt (Ideal.ofBits .f32 0x42C00000#32) = ((rt : ℝ) : EReal) := by
  rw [ninety_six]
  exact if_neg (by norm_num)

theorem div_real (x y : ℝ) (hy : y ≠ 0) : Ideal.div ((x : ℝ) : EReal) ((y : ℝ) : EReal) = ((x / y : ℝ) : EReal) := by
  rw [Ideal.div_coe hy, ← EReal.coe_mul, mul_one_div]

/-- and the kernel's three named constants. -/
theorem cS_eq : cS = ((rt⁻¹ : ℝ) : EReal) := IdealRules.named_const.ideal_named_scalar _ _ _ _ rfl
theorem cL_eq : cL = (((Real.log 2)⁻¹ : ℝ) : EReal) := IdealRules.named_const.ideal_named_scalar _ _ _ _ rfl
theorem cSL_eq : cSL = ((rt⁻¹ * (Real.log 2)⁻¹ : ℝ) : EReal) := IdealRules.named_const.ideal_named_scalar _ _ _ _ rfl

section
variable (b0 : S8192x8x64.Idx → ℝ) (b1 : S8192x8x32.Idx → ℝ) (b2 : S8192x8x64.Idx → ℝ) (b3 : S8192x32.Idx → ℝ)
  (b4 b5 : S8192x8x64.Idx → ℝ)

/-- The product of query `q` and key `k` in head `h`, -/
def dotR (h : Fin 8) (q k : Fin 8192) : ℝ := (∑ d : Fin 64, b0 (ix3 q h d) * b2 (ix3 k h d)) + ∑ r : Fin 32, b3 (ix2 k r) * b1 (ix3 q h r)

/-- its exponential over √96, less a number `M` per row, where the key is not later, -/
def exR (M : Fin 8 → Fin 8192 → ℝ) (h : Fin 8) (q k : Fin 8192) : ℝ :=
  if k.val ≤ q.val then Real.exp (dotR b0 b1 b2 b3 h q k / rt - M h q) else 0

/-- the row's sum, -/
def smR (M : Fin 8 → Fin 8192 → ℝ) (h : Fin 8) (q : Fin 8192) : ℝ := ∑ k, exR b0 b1 b2 b3 M h q k

/-- the gradient of a probability, -/
def dpR (h : Fin 8) (q k : Fin 8192) : ℝ := ∑ d : Fin 64, b5 (ix3 q h d) * b4 (ix3 k h d)

/-- and of a score. -/
def dsR (M : Fin 8 → Fin 8192 → ℝ) (h : Fin 8) (q k : Fin 8192) : ℝ :=
  exR b0 b1 b2 b3 M h q k / smR b0 b1 b2 b3 M h q
    * (dpR b4 b5 h q k - ∑ j, dpR b4 b5 h q j * (exR b0 b1 b2 b3 M h q j / smR b0 b1 b2 b3 M h q)) / rt

theorem smR_pos (M : Fin 8 → Fin 8192 → ℝ) (h : Fin 8) (q : Fin 8192) : 0 < smR b0 b1 b2 b3 M h q := by
  refine Finset.sum_pos' (fun k _ => ?_) ⟨q, Finset.mem_univ _, ?_⟩
  · unfold exR
    split
    · exact (Real.exp_pos _).le
    · exact le_rfl
  · rw [exR, if_pos le_rfl]
    exact Real.exp_pos _

/-- The scores of real arguments, -/
theorem hS_real (h : Fin 8) (q k : Fin 8192) : hS (up b0) (up b1) (up b2) (up b3) (ix3 h q k)
    = if k.val ≤ q.val then ((dotR b0 b1 b2 b3 h q k / rt : ℝ) : EReal) else ⊥ := by
  rw [hS_apply, sqrt_96, minus_inf]
  refine if_congr Iff.rfl ?_ rfl
  rw [← div_real _ _ rt_pos.ne', dotR, EReal.coe_add, coe_sum, coe_sum]
  simp only [EReal.coe_mul]

theorem drop_row (h : Fin 8) (q k : Fin 8192) : reducesTo_S8x8192x8192_S8x8192_d2.drop (ix3 h q k) = ix2 h q := by
  funext a
  fin_cases a <;> rfl

/-- a row's maximum is a real number. -/
theorem hM_real : ∃ M : Fin 8 → Fin 8192 → ℝ, ∀ h q, hM (hS (up b0) (up b1) (up b2) (up b3)) (ix2 h q) = ((M h q : ℝ) : EReal) := by
  have key : ∀ h q, ∃ x : ℝ, hM (hS (up b0) (up b1) (up b2) (up b3)) (ix2 h q) = ((x : ℝ) : EReal) := by
    intro h q
    have e : hM (hS (up b0) (up b1) (up b2) (up b3)) (ix2 h q)
        = (Finset.univ.filter fun i => reducesTo_S8x8192x8192_S8x8192_d2.drop i = ix2 h q).fold max
          (Ideal.ofBits .f32 0xFF800000#32) (hS (up b0) (up b1) (up b2) (up b3)) :=
      Host.reduce_eq_fold (max : EReal → EReal → EReal) _ _ _ _ _
    have lo : hM (hS (up b0) (up b1) (up b2) (up b3)) (ix2 h q) ≠ ⊥ := by
      rw [e]
      refine (bot_lt_iff_ne_bot).mp ((Finset.lt_fold_max _).mpr (Or.inr ⟨ix3 h q q, ?_, ?_⟩))
      · exact Finset.mem_filter.mpr ⟨Finset.mem_univ _, drop_row h q q⟩
      · rw [hS_real, if_pos le_rfl]
        exact EReal.bot_lt_coe _
    have hi : hM (hS (up b0) (up b1) (up b2) (up b3)) (ix2 h q) ≠ ⊤ := by
      rw [e]
      refine (lt_top_iff_ne_top).mp ((Finset.fold_max_lt _).mpr ⟨?_, fun i _ => ?_⟩)
      · rw [minus_inf]
        exact bot_lt_top
      · obtain ⟨i0, i1, i2, rfl⟩ : ∃ a b c, i = ix3 a b c := ⟨i 0, i 1, i 2, by funext a; fin_cases a <;> rfl⟩
        rw [hS_real]
        split
        · exact EReal.coe_lt_top _
        · exact bot_lt_top
    exact ⟨_, (EReal.coe_toReal hi lo).symm⟩
  exact ⟨fun h q => (key h q).choose, fun h q => (key h q).choose_spec⟩

variable (M : Fin 8 → Fin 8192 → ℝ) (hMax : ∀ h q, hM (hS (up b0) (up b1) (up b2) (up b3)) (ix2 h q) = ((M h q : ℝ) : EReal))

include hMax

/-- The exponentials, -/
theorem hE_real (h : Fin 8) (q k : Fin 8192) : hE (hS (up b0) (up b1) (up b2) (up b3)) (ix3 h q k) = ((exR b0 b1 b2 b3 M h q k : ℝ) : EReal) := by
  rw [hE_apply, hMax, hS_real, exR]
  split
  · rw [← EReal.coe_sub, Ideal.exp_coe]
  · rw [EReal.bot_sub, Ideal.exp_bot, EReal.coe_zero]

/-- their sums, -/
theorem hL_real (h : Fin 8) (q : Fin 8192) : hL (hS (up b0) (up b1) (up b2) (up b3)) (ix3 h q 0) = ((smR b0 b1 b2 b3 M h q : ℝ) : EReal) := by
  rw [hL_apply, smR, coe_sum]
  exact Finset.sum_congr rfl fun k _ => hE_real b0 b1 b2 b3 M hMax h q k

/-- the output, -/
theorem hO_real (q : Fin 8192) (h : Fin 8) (d : Fin 64) : hO (up b4) (hS (up b0) (up b1) (up b2) (up b3)) (ix3 q h d)
    = ((∑ k, b4 (ix3 k h d) * (exR b0 b1 b2 b3 M h q k / smR b0 b1 b2 b3 M h q) : ℝ) : EReal) := by
  rw [hO_apply, coe_sum]
  refine Finset.sum_congr rfl fun k _ => ?_
  rw [hE_real b0 b1 b2 b3 M hMax, hL_real b0 b1 b2 b3 M hMax, div_real _ _ (smR_pos b0 b1 b2 b3 M h q).ne', EReal.coe_mul]

/-- and the row log-sums. -/
theorem hLse_real (q : Fin 8192) (h : Fin 8) : hLse (hS (up b0) (up b1) (up b2) (up b3)) (ix3 q h 0)
    = ((M h q + Real.log (smR b0 b1 b2 b3 M h q) : ℝ) : EReal) := by
  rw [hLse_apply, hMax, hL_real b0 b1 b2 b3 M hMax, Ideal.log_coe, if_neg (not_le.mpr (smR_pos b0 b1 b2 b3 M h q)), EReal.coe_add]

/-- The reference's exponentials, -/
theorem ref_exp_real (h : Fin 8) (q k : Fin 8192) :
    Cert.ReferenceIdeal.Read.val_main_v35 (F := Ideal) (up b0) (up b1) (up b2) (up b3) (ix3 h q k) = ((exR b0 b1 b2 b3 M h q k : ℝ) : EReal) := by
  rw [ref_exp, minus_inf, max_eq_right bot_le]
  exact (hE_apply _ h q k).symm.trans (hE_real b0 b1 b2 b3 M hMax h q k)

theorem ref_sum_real (h : Fin 8) (q : Fin 8192) :
    Cert.ReferenceIdeal.Read.val_main_v37 (F := Ideal) (up b0) (up b1) (up b2) (up b3) (ix3 h q 0) = ((smR b0 b1 b2 b3 M h q : ℝ) : EReal) := by
  rw [ref_sum, smR, coe_sum]
  exact Finset.sum_congr rfl fun k _ => ref_exp_real b0 b1 b2 b3 M hMax h q k

/-- probabilities -/
theorem ref_prob_real (h : Fin 8) (q k : Fin 8192) :
    Cert.ReferenceIdeal.Read.val_main_v39 (F := Ideal) (up b0) (up b1) (up b2) (up b3) (ix3 h q k)
      = ((exR b0 b1 b2 b3 M h q k / smR b0 b1 b2 b3 M h q : ℝ) : EReal) := by
  rw [ref_prob, ref_exp_real b0 b1 b2 b3 M hMax, ref_sum_real b0 b1 b2 b3 M hMax, div_real _ _ (smR_pos b0 b1 b2 b3 M h q).ne']

omit hMax in
theorem ref_dp_real (h : Fin 8) (q k : Fin 8192) :
    Cert.ReferenceIdeal.Read.val_main_v46 (F := Ideal) (up b4) (up b5) (ix3 h q k) = ((dpR b4 b5 h q k : ℝ) : EReal) := by
  rw [ref_dp, dpR, coe_sum]
  simp only [EReal.coe_mul]

/-- and the scores' gradient, as the reference's backward rule has it. -/
theorem ref_ds_real (h : Fin 8) (q k : Fin 8192) :
    Cert.ReferenceIdeal.Read.val_main_v63 (F := Ideal) (up b0) (up b1) (up b2) (up b3) (up b4) (up b5) (ix3 h q k)
      = ((dsR b0 b1 b2 b3 b4 b5 M h q k : ℝ) : EReal) := by
  have hl := (smR_pos b0 b1 b2 b3 M h q).ne'
  have one : (1 : EReal) = ((1 : ℝ) : EReal) := rfl
  rw [ref_ds, ref_corr, sqrt_96]
  simp only [ref_exp_real b0 b1 b2 b3 M hMax, ref_sum_real b0 b1 b2 b3 M hMax, ref_dp_real]
  rw [one, ← EReal.coe_mul, div_real _ _ (mul_ne_zero hl hl), div_real _ _ hl]
  simp only [← EReal.coe_mul]
  rw [← coe_sum, ← EReal.coe_neg, ← EReal.coe_add, ← EReal.coe_mul, dsR]
  have hsum : ∑ j, dpR b4 b5 h q j * (exR b0 b1 b2 b3 M h q j / smR b0 b1 b2 b3 M h q)
      = (∑ j, dpR b4 b5 h q j * (1 / (smR b0 b1 b2 b3 M h q * smR b0 b1 b2 b3 M h q)) * exR b0 b1 b2 b3 M h q j) * smR b0 b1 b2 b3 M h q := by
    rw [Finset.sum_mul]
    refine Finset.sum_congr rfl fun j _ => ?_
    field_simp
  by_cases e : k.val ≤ q.val
  · rw [if_pos e, div_real _ _ rt_pos.ne', hsum]
    congr 1
    field_simp
    ring
  · rw [if_neg e, exR, if_neg e, show (0 : EReal) = ((0 : ℝ) : EReal) from rfl, div_real _ _ rt_pos.ne']
    congr 1
    simp

end

end Cert.KernelIdeal.Val
-- ==== Proof.Arr.lean ====
/- What the three output arrays hold after the run, over the whole packed arrays: query gradient, key gradient, value gradient. -/
module

public import proofs.«01_k».proof.Proof.Blk
public import Idealize.ShloMosaic.Lib.Pipeline.ValueKit

@[expose] public section

set_option maxRecDepth 65536

noncomputable section

namespace Cert.KernelIdeal.Val

open Idealize.ShloMosaic Idealize.ShloMosaic.TcCoe
open Cert.KernelIdeal Cert.KernelIdeal.Gen

section
variable (m : (ℓ : Loc nD τ sig) → Buf (Elt Ideal) ℓ) (c : Dev nD)

/-- The device's probabilities, -/
abbrev pD : Fin 8 → Fin 8192 → Fin 8192 → EReal := pW (aQ m c) (aK m c) (aL m c)
/-- and gradients of the scores. -/
abbrev sD : Fin 8 → Fin 8192 → Fin 8192 → EReal := sW (aQ m c) (aK m c) (aW m c) (aG m c) (aO m c) (aL m c)

theorem pMask_blk (t : Fin cfg0.N) (r : Fin 2048) (k : Fin 8192) :
    pMask (iblk m c 0 t) (iblk m c 1 t) (iblk m c 5 t) (grid0.coords t 1).val r k = pD m c (hd t) (row t r) k := by
  unfold pMask pAt pD pW
  rw [coord1]
  simp only [iblk0, iblk1, iblk5]

theorem sMask_blk (t : Fin cfg0.N) (r : Fin 2048) (k : Fin 8192) :
    sMask (iblk m c 0 t) (iblk m c 1 t) (iblk m c 2 t) (iblk m c 3 t) (iblk m c 4 t) (iblk m c 5 t) (grid0.coords t 1).val r k
      = sD m c (hd t) (row t r) k := by
  unfold sMask sAt pAt sD sW pW
  rw [coord1]
  simp only [iblk0, iblk1, iblk2, iblk3, iblk4, iblk5]
  split
  · rfl
  · rw [zero_mul]

/-- The query gradient's block after its point. -/
theorem outs_dq (t : Fin cfg0.N) (r : Fin 2048) (d : Fin 128) :
    (outsAt0 m c t.val t.isLt).1 (ix2 r d) = ∑ k : Fin 8192, sD m c (hd t) (row t r) k * aK m c (ix2 k (lane (hd t) d)) := by
  by_cases h : t.val % 4 = 0
  · rw [outsAt0_A m c t h]
    refine (outA_dq c _ _ _ _ _ _ _ _ _ _ _ _ _ _ _ _ _ _ _ _ _ _ _ _ _ ((hcond0_0 t).mpr h) r d).trans ?_
    simp only [sMask_blk, iblk1]
  · rw [outsAt0_B m c t h]
    refine (outB_dq c _ _ _ _ _ _ _ _ _ _ _ _ _ _ _ _ _ _ _ _ _ _ _ _ _ (fun e => h ((hcond0_0 t).mp e)) _ _ r d).trans ?_
    simp only [sMask_blk, iblk1]

/-- The part of a sum over the queries that block `j` of 2048 rows gives. -/
def rowTile (g : Fin 8192 → EReal) (j : ℕ) : EReal := if h : j < 4 then ∑ r : Fin 2048, g ⟨2048 * j + r.val, by omega⟩ else 0

theorem rowTile_row (g : Fin 8192 → EReal) (t : Fin cfg0.N) : rowTile g (t.val % 4) = ∑ r : Fin 2048, g (row t r) :=
  dif_pos (Nat.mod_lt _ (by decide))

theorem sum_rowTile (g : Fin 8192 → EReal) : ∑ j ∈ Finset.range 4, rowTile g j = ∑ q : Fin 8192, g q := by
  rw [Fin.sum_univ_tiles 4 2048 rfl g, Finset.sum_range]
  refine Finset.sum_congr rfl fun j _ => ?_
  unfold rowTile
  rw [dif_pos j.isLt]
  refine Finset.sum_congr rfl fun r _ => congrArg g (Fin.ext ?_)
  simp only []
  ring

/-- The key gradient after a point: the query rows up to the end of the point's block, -/
theorem outs_dk (k : Fin 8192) (d : Fin 128) : ∀ (n : ℕ) (hn : n < cfg0.N),
    (outsAt0 m c n hn).2.1 (ix2 k d)
      = ∑ j ∈ Finset.range (n % 4 + 1), rowTile (fun q => sD m c (hd ⟨n, hn⟩) q k * aQ m c (ix2 q (lane (hd ⟨n, hn⟩) d))) j := by
  intro n
  induction n with
  | zero =>
    intro hn
    have e := outsAt0_A m c ⟨0, hn⟩ rfl
    rw [show outsAt0 m c 0 hn = _ from e]
    refine (outA_dk c _ _ _ _ _ _ _ _ _ _ _ _ _ _ _ _ _ _ _ _ _ _ _ _ _ ((hcond0_0 ⟨0, hn⟩).mpr rfl) k d).trans ?_
    rw [Nat.zero_mod, Finset.sum_range_one]
    refine Eq.trans ?_ (rowTile_row _ ⟨0, hn⟩).symm
    simp only [sMask_blk, iblk0]
  | succ n ih =>
    intro hn
    by_cases h : (n + 1) % 4 = 0
    · rw [show outsAt0 m c (n + 1) hn = _ from outsAt0_A m c ⟨n + 1, hn⟩ h]
      refine (outA_dk c _ _ _ _ _ _ _ _ _ _ _ _ _ _ _ _ _ _ _ _ _ _ _ _ _ ((hcond0_0 ⟨n + 1, hn⟩).mpr h) k d).trans ?_
      refine Eq.trans ?_ (by rw [h, Finset.sum_range_one, ← h])
      refine Eq.trans ?_ (rowTile_row _ ⟨n + 1, hn⟩).symm
      simp only [sMask_blk, iblk0]
    · rw [show outsAt0 m c (n + 1) hn = _ from outsAt0_B m c ⟨n + 1, hn⟩ h]
      refine (outB_dk c _ _ _ _ _ _ _ _ _ _ _ _ _ _ _ _ _ _ _ _ _ _ _ _ _ (fun e => h ((hcond0_0 ⟨n + 1, hn⟩).mp e)) _ _ k d).trans ?_
      have hh : (⟨n / 4, by have := lt32 ⟨n + 1, hn⟩; simp only [] at this; omega⟩ : Fin 8) = hd ⟨n + 1, hn⟩ := Fin.ext (by simp only []; omega)
      have hm : (n + 1) % 4 = n % 4 + 1 := by omega
      rw [Finset.sum_range_succ]
      refine congrArg₂ (· + ·) ?_ ?_
      · refine (ih (Nat.lt_of_succ_lt hn)).trans ?_
        rw [hm]
        simp only [hd, hh]
      · refine Eq.trans ?_ (rowTile_row _ ⟨n + 1, hn⟩).symm
        simp only [sMask_blk, iblk0]

/-- and the value gradient. -/
theorem outs_dv (k : Fin 8192) (d : Fin 128) : ∀ (n : ℕ) (hn : n < cfg0.N),
    (outsAt0 m c n hn).2.2 (ix2 k d)
      = ∑ j ∈ Finset.range (n % 4 + 1), rowTile (fun q => pD m c (hd ⟨n, hn⟩) q k * aG m c (ix2 q (lane (hd ⟨n, hn⟩) d))) j := by
  intro n
  induction n with
  | zero =>
    intro hn
    have e := outsAt0_A m c ⟨0, hn⟩ rfl
    rw [show outsAt0 m c 0 hn = _ from e]
    refine (outA_dv c _ _ _ _ _ _ _ _ _ _ _ _ _ _ _ _ _ _ _ _ _ _ _ _ _ ((hcond0_0 ⟨0, hn⟩).mpr rfl) k d).trans ?_
    rw [Nat.zero_mod, Finset.sum_range_one]
    refine Eq.trans ?_ (rowTile_row _ ⟨0, hn⟩).symm
    simp only [pMask_blk, iblk3]
  | succ n ih =>
    intro hn
    by_cases h : (n + 1) % 4 = 0
    · rw [show outsAt0 m c (n + 1) hn = _ from outsAt0_A m c ⟨n + 1, hn⟩ h]
      refine (outA_dv c _ _ _ _ _ _ _ _ _ _ _ _ _ _ _ _ _ _ _ _ _ _ _ _ _ ((hcond0_0 ⟨n + 1, hn⟩).mpr h) k d).trans ?_
      refine Eq.trans ?_ (by rw [h, Finset.sum_range_one, ← h])
      refine Eq.trans ?_ (rowTile_row _ ⟨n + 1, hn⟩).symm
      simp only [pMask_blk, iblk3]
    · rw [show outsAt0 m c (n + 1) hn = _ from outsAt0_B m c ⟨n + 1, hn⟩ h]
      refine (outB_dv c _ _ _ _ _ _ _ _ _ _ _ _ _ _ _ _ _ _ _ _ _ _ _ _ _ (fun e => h ((hcond0_0 ⟨n + 1, hn⟩).mp e)) _ _ k d).trans ?_
      have hh : (⟨n / 4, by have := lt32 ⟨n + 1, hn⟩; simp only [] at this; omega⟩ : Fin 8) = hd ⟨n + 1, hn⟩ := Fin.ext (by simp only []; omega)
      have hm : (n + 1) % 4 = n % 4 + 1 := by omega
      rw [Finset.sum_range_succ]
      refine congrArg₂ (· + ·) ?_ ?_
      · refine (ih (Nat.lt_of_succ_lt hn)).trans ?_
        rw [hm]
        simp only [hd, hh]
      · refine Eq.trans ?_ (rowTile_row _ ⟨n + 1, hn⟩).symm
        simp only [pMask_blk, iblk3]

/-- The head a packed lane belongs to. -/
abbrev headOf (l : Fin 1024) : Fin 8 := ⟨l.val / 128, by omega⟩

/-- The query gradient's array after the run, -/
theorem arr_dq : (dats m 0 c).arrAt 6 cfg0.N
    = (fun i : S8192x1024.Idx => ∑ k : Fin 8192, sD m c (headOf (i 1)) (i 0) k * aK m c (ix2 k (i 1)) : Vec Ideal S8192x1024 .f32) := by
  refine (dats m 0 c).arrAt_eq_of_covers 6 _ (by decide +kernel) fun t hf y => ?_
  blk_simp
  rw [after0_6]
  obtain ⟨r, d, rfl⟩ : ∃ (r : Fin 2048) (d : Fin 128), y = ix2 r d := ⟨y 0, y 1, by funext a; fin_cases a <;> rfl⟩
  refine (outs_dq m c t r d).trans ?_
  have e : ((cfg0.win 6).blk t).view.emb (ix2 r d) = ix2 (row t r) (lane (hd t) d) := by blk_ext [idx6 t]
  have h : headOf (lane (hd t) d) = hd t := Fin.ext (by simp only []; omega)
  rw [e]
  show _ = ∑ k : Fin 8192, sD m c (headOf (lane (hd t) d)) (row t r) k * aK m c (ix2 k (lane (hd t) d))
  rw [h]

/-- the key gradient's, -/
theorem arr_dk : (dats m 0 c).arrAt 7 cfg0.N
    = (fun i : S8192x1024.Idx => ∑ q : Fin 8192, sD m c (headOf (i 1)) q (i 0) * aQ m c (ix2 q (i 1)) : Vec Ideal S8192x1024 .f32) := by
  refine (dats m 0 c).arrAt_eq_of_covers 7 _ (by decide +kernel) fun t hf y => ?_
  blk_simp
  rw [after0_7]
  obtain ⟨k, d, rfl⟩ : ∃ (k : Fin 8192) (d : Fin 128), y = ix2 k d := ⟨y 0, y 1, by funext a; fin_cases a <;> rfl⟩
  have h3 : t.val % 4 = 3 := (flush0_7 t).mp hf
  refine (outs_dk m c k d t.val t.isLt).trans ?_
  have e : ((cfg0.win 7).blk t).view.emb (ix2 k d) = ix2 k (lane (hd t) d) := by blk_ext [idx7 t]
  have h : headOf (lane (hd t) d) = hd t := Fin.ext (by simp only []; omega)
  rw [e, h3, sum_rowTile]
  show _ = ∑ q : Fin 8192, sD m c (headOf (lane (hd t) d)) q k * aQ m c (ix2 q (lane (hd t) d))
  rw [h]

/-- and the value gradient's. -/
theorem arr_dv : (dats m 0 c).arrAt 8 cfg0.N
    = (fun i : S8192x1024.Idx => ∑ q : Fin 8192, pD m c (headOf (i 1)) q (i 0) * aG m c (ix2 q (i 1)) : Vec Ideal S8192x1024 .f32) := by
  refine (dats m 0 c).arrAt_eq_of_covers 8 _ (by decide +kernel) fun t hf y => ?_
  blk_simp
  rw [after0_8]
  obtain ⟨k, d, rfl⟩ : ∃ (k : Fin 8192) (d : Fin 128), y = ix2 k d := ⟨y 0, y 1, by funext a; fin_cases a <;> rfl⟩
  have h3 : t.val % 4 = 3 := (flush0_8 t).mp hf
  refine (outs_dv m c k d t.val t.isLt).trans ?_
  have e : ((cfg0.win 8).blk t).view.emb (ix2 k d) = ix2 k (lane (hd t) d) := by blk_ext [idx8 t]
  have h : headOf (lane (hd t) d) = hd t := Fin.ext (by simp only []; omega)
  rw [e, h3, sum_rowTile]
  show _ = ∑ q : Fin 8192, pD m c (headOf (lane (hd t) d)) q k * aG m c (ix2 q (lane (hd t) d))
  rw [h]

end

end Cert.KernelIdeal.Val
-- ==== Proof.Equal.lean ====
/- The kernel's probabilities and gradients of scores, of finite arguments, are the real ones; so are the reference's. The
   results of the kernel's program are therefore those of the reference. -/
module

public import proofs.«01_k».proof.Proof.Reals
public import proofs.«01_k».proof.Proof.Arr

@[expose] public section

set_option maxRecDepth 65536

noncomputable section

namespace Cert.KernelIdeal.Val

open Idealize.ShloMosaic Idealize.ShloMosaic.TcCoe
open Cert.KernelIdeal Cert.KernelIdeal.Gen

section
variable (b0 : S8192x8x64.Idx → ℝ) (b1 : S8192x8x32.Idx → ℝ) (b2 : S8192x8x64.Idx → ℝ) (b3 : S8192x32.Idx → ℝ)
  (b4 b5 : S8192x8x64.Idx → ℝ)

/-- The packed queries against the packed keys. -/
theorem dot_packed (h : Fin 8) (q k : Fin 8192) :
    ∑ d : Fin 128, packQ (up b0) (up b1) (ix2 q (lane h d)) * packQ (up b2) (keyR (up b3)) (ix2 k (lane h d))
      = ((dotR b0 b1 b2 b3 h q k : ℝ) : EReal) := by
  rw [sum_lanes_q _ (fun d => ((b0 (ix3 q h d) * b2 (ix3 k h d) : ℝ) : EReal)) (fun r => ((b3 (ix2 k r) * b1 (ix3 q h r) : ℝ) : EReal)),
    dotR, EReal.coe_add, coe_sum, coe_sum]
  · intro d
    rw [packQ_plain, packQ_plain, EReal.coe_mul]
  · intro r
    rw [packQ_rot, packQ_rot, keyR_apply, mul_comm, EReal.coe_mul]
  · intro r
    rw [packQ_zero, zero_mul]

/-- Packed gradients against packed values or outputs. -/
theorem dot_vals (x y : S8192x8x64.Idx → ℝ) (h : Fin 8) (q k : Fin 8192) :
    ∑ d : Fin 128, packV (up x) (ix2 q (lane h d)) * packV (up y) (ix2 k (lane h d))
      = ((∑ d : Fin 64, x (ix3 q h d) * y (ix3 k h d) : ℝ) : EReal) := by
  rw [sum_lanes_v _ (fun d => ((x (ix3 q h d) * y (ix3 k h d) : ℝ) : EReal)), coe_sum]
  · intro d
    rw [packV_zero, zero_mul]
  · intro d
    rw [packV_val, packV_val, EReal.coe_mul]

variable (M : Fin 8 → Fin 8192 → ℝ) (hMax : ∀ h q, hM (hS (up b0) (up b1) (up b2) (up b3)) (ix2 h q) = ((M h q : ℝ) : EReal))

/-- Two to the scaled score less the scaled row log-sum is the probability. -/
theorem exp2_prob (h : Fin 8) (q k : Fin 8192) (e : k.val ≤ q.val) :
    Real.rpow 2 (dotR b0 b1 b2 b3 h q k * (rt⁻¹ * (Real.log 2)⁻¹) - (M h q + Real.log (smR b0 b1 b2 b3 M h q)) * (Real.log 2)⁻¹)
      = exR b0 b1 b2 b3 M h q k / smR b0 b1 b2 b3 M h q := by
  have hl := smR_pos b0 b1 b2 b3 M h q
  have h2 : Real.log 2 ≠ 0 := (Real.log_pos (by norm_num)).ne'
  have hr := rt_pos.ne'
  refine (Real.rpow_def_of_pos (by norm_num) _).trans ?_
  rw [show Real.log 2 * (dotR b0 b1 b2 b3 h q k * (rt⁻¹ * (Real.log 2)⁻¹) - (M h q + Real.log (smR b0 b1 b2 b3 M h q)) * (Real.log 2)⁻¹)
      = dotR b0 b1 b2 b3 h q k / rt - M h q - Real.log (smR b0 b1 b2 b3 M h q) by field_simp; ring,
    Real.exp_sub, Real.exp_log hl, exR, if_pos e]

/-- The output against its gradient is the probabilities against theirs. -/
theorem delta_real (h : Fin 8) (q : Fin 8192) :
    ∑ d : Fin 64, b5 (ix3 q h d) * ∑ k, b4 (ix3 k h d) * (exR b0 b1 b2 b3 M h q k / smR b0 b1 b2 b3 M h q)
      = ∑ j, dpR b4 b5 h q j * (exR b0 b1 b2 b3 M h q j / smR b0 b1 b2 b3 M h q) := by
  simp only [dpR, Finset.mul_sum, Finset.sum_mul]
  rw [Finset.sum_comm]
  exact Finset.sum_congr rfl fun k _ => Finset.sum_congr rfl fun d _ => (mul_assoc _ _ _).symm

include hMax

/-- The kernel's probability is the real one, -/
theorem pW_real (h : Fin 8) (q k : Fin 8192) :
    pW (packQ (up b0) (up b1)) (packQ (up b2) (keyR (up b3))) (packL (hLse (hS (up b0) (up b1) (up b2) (up b3)))) h q k
      = ((exR b0 b1 b2 b3 M h q k / smR b0 b1 b2 b3 M h q : ℝ) : EReal) := by
  rw [pW, dot_packed, packL_apply, hLse_real b0 b1 b2 b3 M hMax, cSL_eq, cL_eq]
  by_cases e : k.val ≤ q.val
  · rw [if_pos e, ← EReal.coe_mul, ← EReal.coe_mul, ← EReal.coe_sub, Ideal.exp2_coe, exp2_prob b0 b1 b2 b3 M h q k e]
  · rw [if_neg e, exR, if_neg e, zero_div, EReal.coe_zero]

/-- and its gradient of a score is the real one. -/
theorem sW_real (h : Fin 8) (q k : Fin 8192) :
    sW (packQ (up b0) (up b1)) (packQ (up b2) (keyR (up b3))) (packV (up b4)) (packV (up b5))
        (packV (hO (up b4) (hS (up b0) (up b1) (up b2) (up b3)))) (packL (hLse (hS (up b0) (up b1) (up b2) (up b3)))) h q k
      = ((dsR b0 b1 b2 b3 b4 b5 M h q k : ℝ) : EReal) := by
  have ho : hO (up b4) (hS (up b0) (up b1) (up b2) (up b3))
      = up fun i : S8192x8x64.Idx => ∑ k, b4 (ix3 k (i 1) (i 2)) * (exR b0 b1 b2 b3 M (i 1) (i 0) k / smR b0 b1 b2 b3 M (i 1) (i 0)) := by
    funext i
    obtain ⟨i0, i1, i2, rfl⟩ : ∃ a b c, i = ix3 a b c := ⟨i 0, i 1, i 2, by funext a; fin_cases a <;> rfl⟩
    exact hO_real b0 b1 b2 b3 b4 M hMax i0 i1 i2
  rw [sW, pW_real b0 b1 b2 b3 M hMax, ho, dot_vals, dot_vals, cS_eq, ← EReal.coe_mul, ← EReal.coe_mul, ← EReal.coe_sub, ← EReal.coe_mul, dsR,
    ← delta_real b0 b1 b2 b3 b4 b5 M h q]
  congr 1
  show _ * (dpR b4 b5 h q k * rt⁻¹ - (∑ d : Fin 64, b5 (ix3 q h d) * ∑ k, b4 (ix3 k h d) * (exR b0 b1 b2 b3 M h q k / smR b0 b1 b2 b3 M h q)) * rt⁻¹) = _
  rw [← sub_mul, mul_div_assoc, div_eq_mul_inv (_ - _)]

end

end Cert.KernelIdeal.Val
-- ==== Proof.Results.lean ====
/- The kernel program's five results, of finite arguments, are the reference's. -/
module

public import proofs.«01_k».proof.Proof.Equal
public import proofs.«01_k».proof.Proof.Gen.KernelIdeal.Run

@[expose] public section

set_option maxRecDepth 65536

noncomputable section

namespace Cert.KernelIdeal.Val

open Idealize.ShloMosaic Idealize.ShloMosaic.TcCoe
open Cert.KernelIdeal Cert.KernelIdeal.Gen

/-- Lanes 0 to 63 of a packed array's heads, -/
theorem cut_plain (z : FVec Ideal S8192x1024 .f32) (q : Fin 8192) (h : Fin 8) (d : Fin 64) :
    extractStridedSlice S8192x8x64 ![0, 0, 0] (shapeCast S8192x8x128 z shapeCasts_S8192x1024_S8192x8x128) slices_S8192x8x128_S8192x8x64_0_0_0 (ix3 q h d)
      = z (ix2 q (lane h ⟨d.val, by omega⟩)) := by
  pointwise
  exact congrArg z (congrArg (ix2 q) (Fin.ext (by simp only [Fin.val_mk]; omega)))

/-- lanes 64 to 95, -/
theorem cut_rot (z : FVec Ideal S8192x1024 .f32) (q : Fin 8192) (h : Fin 8) (r : Fin 32) :
    extractStridedSlice S8192x8x32 ![0, 0, 64] (shapeCast S8192x8x128 z shapeCasts_S8192x1024_S8192x8x128) slices_S8192x8x128_S8192x8x32_0_0_64 (ix3 q h r)
      = z (ix2 q (lane h ⟨64 + r.val, by omega⟩)) := by
  pointwise
  exact congrArg z (congrArg (ix2 q) (Fin.ext (by simp only [Fin.val_mk]; omega)))

/-- and lanes 64 to 127. -/
theorem cut_val (z : FVec Ideal S8192x1024 .f32) (q : Fin 8192) (h : Fin 8) (d : Fin 64) :
    extractStridedSlice S8192x8x64 ![0, 0, 64] (shapeCast S8192x8x128 z shapeCasts_S8192x1024_S8192x8x128) slices_S8192x8x128_S8192x8x64_0_0_64 (ix3 q h d)
      = z (ix2 q (lane h ⟨64 + d.val, by omega⟩)) := by
  pointwise
  exact congrArg z (congrArg (ix2 q) (Fin.ext (by simp only [Fin.val_mk]; omega)))

theorem sum_heads (z : FVec Ideal S8192x8x32 .f32) (k : Fin 8192) (r : Fin 32) :
    Host.reduceAdd (F := Ideal) z (constant S_ .f32 0x00000000#32) reducesTo_S8192x8x32_S8192x32_d1 h_S_ (ix2 k r) = ∑ h : Fin 8, z (ix3 k h r) := by
  pointwise

theorem head_lane (h : Fin 8) (d : Fin 128) : headOf (lane h d) = h :=
  Fin.ext (by show (128 * h.val + d.val) / 128 = h.val; omega)

section
variable (m : (ℓ : Loc nD τ sig) → Buf (Elt Ideal) ℓ) (c : Dev nD)
  (b0 : S8192x8x64.Idx → ℝ) (b1 : S8192x8x32.Idx → ℝ) (b2 : S8192x8x64.Idx → ℝ) (b3 : S8192x32.Idx → ℝ) (b4 b5 : S8192x8x64.Idx → ℝ)
  (h0 : g0 m c = up b0) (h1 : g1 m c = up b1) (h2 : g2 m c = up b2) (h3 : g3 m c = up b3) (h4 : g4 m c = up b4) (h5 : g5 m c = up b5)

/-- The three result arrays on head `h`'s lane `d`. -/
theorem dq_at (q : Fin 8192) (h : Fin 8) (d : Fin 128) : (Value.reg_main_v48_0 m c : FVec Ideal S8192x1024 .f32) (ix2 q (lane h d))
    = (∑ k : Fin 8192, sD m c h q k * (aK m c (ix2 k (lane h d)) : EReal) : EReal) := by
  refine Eq.trans (b := (∑ k : Fin 8192, sD m c (headOf (lane h d)) q k * (aK m c (ix2 k (lane h d)) : EReal) : EReal)) (congrFun (arr_dq m c) _) ?_
  rw [head_lane]

theorem dk_at (k : Fin 8192) (h : Fin 8) (d : Fin 128) : (Value.reg_main_v48_1 m c : FVec Ideal S8192x1024 .f32) (ix2 k (lane h d))
    = (∑ q : Fin 8192, sD m c h q k * (aQ m c (ix2 q (lane h d)) : EReal) : EReal) := by
  refine Eq.trans (b := (∑ q : Fin 8192, sD m c (headOf (lane h d)) q k * (aQ m c (ix2 q (lane h d)) : EReal) : EReal)) (congrFun (arr_dk m c) _) ?_
  rw [head_lane]

theorem dv_at (k : Fin 8192) (h : Fin 8) (d : Fin 128) : (Value.reg_main_v48_2 m c : FVec Ideal S8192x1024 .f32) (ix2 k (lane h d))
    = (∑ q : Fin 8192, pD m c h q k * (aG m c (ix2 q (lane h d)) : EReal) : EReal) := by
  refine Eq.trans (b := (∑ q : Fin 8192, pD m c (headOf (lane h d)) q k * (aG m c (ix2 q (lane h d)) : EReal) : EReal)) (congrFun (arr_dv m c) _) ?_
  rw [head_lane]

include h0 h1 h2 h3 in
/-- The device's probabilities are the reference's, -/
theorem pD_eq (h : Fin 8) (q k : Fin 8192) :
    pD m c h q k = Cert.ReferenceIdeal.Read.val_main_v39 (F := Ideal) (up b0) (up b1) (up b2) (up b3) (ix3 h q k) := by
  obtain ⟨M, hMax⟩ := hM_real b0 b1 b2 b3
  have e : pD m c = pW (packQ (up b0) (up b1)) (packQ (up b2) (keyR (up b3))) (packL (hLse (hS (up b0) (up b1) (up b2) (up b3)))) := by
    rw [← h0, ← h1, ← h2, ← h3]
    exact congr (congr (congrArg pW (aQ_eq m c)) (aK_eq m c)) (aL_eq m c)
  rw [e, ref_prob_real b0 b1 b2 b3 M hMax, pW_real b0 b1 b2 b3 M hMax]

include h0 h1 h2 h3 h4 h5 in
/-- and so are its gradients of the scores. -/
theorem sD_eq (h : Fin 8) (q k : Fin 8192) :
    sD m c h q k = Cert.ReferenceIdeal.Read.val_main_v63 (F := Ideal) (up b0) (up b1) (up b2) (up b3) (up b4) (up b5) (ix3 h q k) := by
  obtain ⟨M, hMax⟩ := hM_real b0 b1 b2 b3
  have e : sD m c = sW (packQ (up b0) (up b1)) (packQ (up b2) (keyR (up b3))) (packV (up b4)) (packV (up b5))
      (packV (hO (up b4) (hS (up b0) (up b1) (up b2) (up b3)))) (packL (hLse (hS (up b0) (up b1) (up b2) (up b3)))) := by
    rw [← h0, ← h1, ← h2, ← h3, ← h4, ← h5]
    exact congr (congr (congr (congr (congr (congrArg sW (aQ_eq m c)) (aK_eq m c)) (aW_eq m c)) (aG_eq m c)) (aO_eq m c)) (aL_eq m c)
  rw [e, ref_ds_real b0 b1 b2 b3 b4 b5 M hMax, sW_real b0 b1 b2 b3 b4 b5 M hMax]

include h0 h1 h2 h3 h4 h5

theorem res_dqn : extractStridedSlice S8192x8x64 ![0, 0, 0] (shapeCast S8192x8x128 (Value.reg_main_v48_0 m c) shapeCasts_S8192x1024_S8192x8x128) slices_S8192x8x128_S8192x8x64_0_0_0
    = Cert.ReferenceIdeal.Read.val_main_v70 (F := Ideal) (up b0) (up b1) (up b2) (up b3) (up b4) (up b5) := by
  funext i
  obtain ⟨q, h, d, rfl⟩ : ∃ a b c, i = ix3 a b c := ⟨i 0, i 1, i 2, by funext a; fin_cases a <;> rfl⟩
  rw [ref_dqn]
  refine (cut_plain _ q h d).trans ((dq_at m c q h _).trans (Finset.sum_congr (M := EReal) rfl fun k _ => ?_))
  refine congrArg₂ (· * ·) ?_ ?_
  · exact sD_eq m c b0 b1 b2 b3 b4 b5 h0 h1 h2 h3 h4 h5 h q k
  · exact (congrFun (aK_eq m c) _).trans ((packQ_plain _ _ k h d).trans (congrFun h2 _))

theorem res_dqr : extractStridedSlice S8192x8x32 ![0, 0, 64] (shapeCast S8192x8x128 (Value.reg_main_v48_0 m c) shapeCasts_S8192x1024_S8192x8x128) slices_S8192x8x128_S8192x8x32_0_0_64
    = Cert.ReferenceIdeal.Read.val_main_v65 (F := Ideal) (up b0) (up b1) (up b2) (up b3) (up b4) (up b5) := by
  funext i
  obtain ⟨q, h, r, rfl⟩ : ∃ a b c, i = ix3 a b c := ⟨i 0, i 1, i 2, by funext a; fin_cases a <;> rfl⟩
  rw [ref_dqr]
  refine (cut_rot _ q h r).trans ((dq_at m c q h _).trans (Finset.sum_congr (M := EReal) rfl fun k _ => ?_))
  refine congrArg₂ (· * ·) ?_ ?_
  · exact sD_eq m c b0 b1 b2 b3 b4 b5 h0 h1 h2 h3 h4 h5 h q k
  · exact (congrFun (aK_eq m c) _).trans ((packQ_rot _ _ k h r).trans ((keyR_apply _ k h r).trans (congrFun h3 _)))

theorem res_dkn : extractStridedSlice S8192x8x64 ![0, 0, 0] (shapeCast S8192x8x128 (Value.reg_main_v48_1 m c) shapeCasts_S8192x1024_S8192x8x128) slices_S8192x8x128_S8192x8x64_0_0_0
    = Cert.ReferenceIdeal.Read.val_main_v68 (F := Ideal) (up b0) (up b1) (up b2) (up b3) (up b4) (up b5) := by
  funext i
  obtain ⟨k, h, d, rfl⟩ : ∃ a b c, i = ix3 a b c := ⟨i 0, i 1, i 2, by funext a; fin_cases a <;> rfl⟩
  rw [ref_dkn]
  refine (cut_plain _ k h d).trans ((dk_at m c k h _).trans (Finset.sum_congr (M := EReal) rfl fun q _ => ?_))
  refine congrArg₂ (· * ·) ?_ ?_
  · exact sD_eq m c b0 b1 b2 b3 b4 b5 h0 h1 h2 h3 h4 h5 h q k
  · exact (congrFun (aQ_eq m c) _).trans ((packQ_plain _ _ q h d).trans (congrFun h0 _))

theorem res_dkr : Host.reduceAdd (F := Ideal) (extractStridedSlice S8192x8x32 ![0, 0, 64] (shapeCast S8192x8x128 (Value.reg_main_v48_1 m c : FVec Ideal S8192x1024 .f32) shapeCasts_S8192x1024_S8192x8x128) slices_S8192x8x128_S8192x8x32_0_0_64)
      (constant S_ .f32 0x00000000#32) reducesTo_S8192x8x32_S8192x32_d1 h_S_
    = Cert.ReferenceIdeal.Read.val_main_v66 (F := Ideal) (up b0) (up b1) (up b2) (up b3) (up b4) (up b5) := by
  funext i
  obtain ⟨k, r, rfl⟩ : ∃ a b, i = ix2 a b := ⟨i 0, i 1, by funext a; fin_cases a <;> rfl⟩
  rw [ref_dkr]
  refine (sum_heads _ k r).trans (Finset.sum_congr rfl fun h _ => ?_)
  refine (cut_rot _ k h r).trans ((dk_at m c k h _).trans (Finset.sum_congr (M := EReal) rfl fun q _ => ?_))
  refine congrArg₂ (· * ·) ?_ ?_
  · exact sD_eq m c b0 b1 b2 b3 b4 b5 h0 h1 h2 h3 h4 h5 h q k
  · exact (congrFun (aQ_eq m c) _).trans ((packQ_rot _ _ q h r).trans (congrFun h1 _))

omit h4 in
theorem res_dv : extractStridedSlice S8192x8x64 ![0, 0, 64] (shapeCast S8192x8x128 (Value.reg_main_v48_2 m c) shapeCasts_S8192x1024_S8192x8x128) slices_S8192x8x128_S8192x8x64_0_0_64
    = Cert.ReferenceIdeal.Read.val_main_v48 (F := Ideal) (up b0) (up b1) (up b2) (up b3) (up b5) := by
  funext i
  obtain ⟨k, h, d, rfl⟩ : ∃ a b c, i = ix3 a b c := ⟨i 0, i 1, i 2, by funext a; fin_cases a <;> rfl⟩
  rw [ref_dv]
  refine (cut_val _ k h d).trans ((dv_at m c k h _).trans (Finset.sum_congr (M := EReal) rfl fun q _ => ?_))
  refine (mul_comm _ _).trans (congrArg₂ (· * ·) ?_ ?_)
  · exact (congrFun (aG_eq m c) _).trans ((packV_val _ q h d).trans (congrFun h5 _))
  · exact pD_eq m c b0 b1 b2 b3 h0 h1 h2 h3 h q k

end

end Cert.KernelIdeal.Val
-- ==== Proof.Finite.lean ====
/- The precondition: where every element of every argument is below infinity in absolute value, each argument is an array of
   real numbers. -/
module

public import proofs.«01_k».proof.Pre_finite
public import proofs.«01_k».proof.Proof.Reals
public import Idealize.ShloMosaic.Lib.ReduceAll

@[expose] public section

set_option maxRecDepth 65536

noncomputable section

namespace Cert.Pre_finite

/-- The precondition's side conditions. -/
theorem facts : Facts where
  bcast_S_S8192x8x64 := by decide
  reducesTo_S8192x8x64_S_d0_1_2 := by decide
  h_S_ := by decide
  bcast_S_S8192x8x32 := by decide
  reducesTo_S8192x8x32_S_d0_1_2 := by decide
  bcast_S_S8192x32 := by decide
  reducesTo_S8192x32_S_d0_1 := by decide

end Cert.Pre_finite

namespace Cert.KernelIdeal.Val

open Idealize.ShloMosaic Idealize.ShloMosaic.TcCoe

theorem plus_inf : Ideal.ofBits .f32 0x7F800000#32 = ⊤ := by
  simp [Ideal.ofBits, Ideal.ieee]

/-- A number below infinity in absolute value is real. -/
theorem real_of_abs (x : EReal) (h : max x (-x) < ⊤) : x = ((x.toReal : ℝ) : EReal) := by
  refine (EReal.coe_toReal (fun e => ?_) (fun e => ?_)).symm
  · rw [e] at h
    exact absurd (lt_of_le_of_lt (le_max_left _ _) h) (lt_irrefl _)
  · rw [e, EReal.neg_bot] at h
    exact absurd (lt_of_le_of_lt (le_max_right _ _) h) (lt_irrefl _)

/-- An array whose elements are all below infinity in absolute value is an array of real numbers. -/
theorem real_of_all {s : Shape} {axes : List (Fin s.rank)} (x : FVec Ideal s .f32) (bc : Cert.Pre_finite.S_.BroadcastsInDim s (![] : Fin 0 → Fin s.rank))
    (h : s.ReducesTo axes Cert.Pre_finite.S_) (hu : 0 < Cert.Pre_finite.S_.numel) (j : Cert.Pre_finite.S_.Idx)
    (e : Host.reduce IntOp.andi (cmpf (F := Ideal) .olt (Host.absf x) (broadcastInDim s ![] bc (constant Cert.Pre_finite.S_ .f32 0x7F800000#32)))
      (constantI Cert.Pre_finite.S_ 1 1#1) h hu j = 1#1) : x = up fun i => (x i).toReal := by
  haveI : Subsingleton Cert.Pre_finite.S_.Idx := ⟨fun a b => funext fun i => i.elim0⟩
  funext i
  refine real_of_abs (x i) ?_
  have hi : BitVec.ofBool (decide (max (x i) (-x i) < Ideal.ofBits .f32 0x7F800000#32)) = 1#1 := Host.reduce_andi_all _ _ h hu j e i
  rw [plus_inf] at hi
  exact of_decide_eq_true (by revert hi; cases decide (max (x i) (-x i) < ⊤) <;> decide)

/-- Under the precondition the six arguments are arrays of real numbers. -/
theorem real_args [Cert.Pre_finite.Facts] (a0 : FVec Ideal Cert.Pre_finite.S8192x8x64 .f32) (a1 : FVec Ideal Cert.Pre_finite.S8192x8x32 .f32)
    (a2 : FVec Ideal Cert.Pre_finite.S8192x8x64 .f32) (a3 : FVec Ideal Cert.Pre_finite.S8192x32 .f32) (a4 a5 : FVec Ideal Cert.Pre_finite.S8192x8x64 .f32)
    (h : Cert.Pre_finite.fn (F := Ideal) a0 a1 a2 a3 a4 a5 = fun _ => 1#1) :
    (a0 = up fun i => (a0 i).toReal) ∧ (a1 = up fun i => (a1 i).toReal) ∧ (a2 = up fun i => (a2 i).toReal) ∧ (a3 = up fun i => (a3 i).toReal)
      ∧ (a4 = up fun i => (a4 i).toReal) ∧ (a5 = up fun i => (a5 i).toReal) := by
  have h1 := congrFun h (fun a => a.elim0)
  dsimp only [Cert.Pre_finite.fn, Cert.Pre_finite.fn_part1] at h1
  obtain ⟨h1, e5⟩ := IntOp.andi_eq_one.mp h1
  obtain ⟨h1, e4⟩ := IntOp.andi_eq_one.mp h1
  obtain ⟨h1, e3⟩ := IntOp.andi_eq_one.mp h1
  obtain ⟨h1, e2⟩ := IntOp.andi_eq_one.mp h1
  obtain ⟨e0, e1⟩ := IntOp.andi_eq_one.mp h1
  exact ⟨real_of_all _ _ _ _ _ e0, real_of_all _ _ _ _ _ e1, real_of_all _ _ _ _ _ e2, real_of_all _ _ _ _ _ e3, real_of_all _ _ _ _ _ e4,
    real_of_all _ _ _ _ _ e5⟩

end Cert.KernelIdeal.Val
-- ==== Proof.UpGrad.lean ====
/- The gradient of the FFN's input through its up-projection: what the launch leaves, and the reference. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 65536

noncomputable section

namespace Cert.Kernel2Ideal.Val

open Idealize.ShloMosaic Idealize.ShloMosaic.TcCoe
open Cert.Kernel2Ideal Cert.Kernel2Ideal.Gen

/-- What one point stores: the sum of two products against the rows of the weights. -/
theorem pay_apply (a : Vec Ideal S512x2816 .bf16) (p : Vec Ideal S1024x2816 .bf16) (b : Vec Ideal S512x2816 .bf16)
    (q : Vec Ideal S1024x2816 .bf16) (r : Fin 512) (n : Fin 1024) :
    k0_pay1 a p b q (ix2 r n) = ∑ k : Fin 2816, a (ix2 r k) * p (ix2 n k) + ∑ k : Fin 2816, b (ix2 r k) * q (ix2 n k) := by
  pointwise [k0_pay1]

variable (m : (ℓ : Loc nD τ sig) → Buf (Elt Ideal) ℓ) (c : Dev nD)

/-- The weights and the gradients of the two halves, as launched. -/
abbrev gW : FVec Ideal S1024x5632 .f32 := m (c, Proc.tc.devRef main_arg1)
abbrev gG : FVec Ideal S8192x2816 .f32 := m (c, Proc.tc.devRef main_arg2)
abbrev gU : FVec Ideal S8192x2816 .f32 := m (c, Proc.tc.devRef main_arg3)

/-- The arrays that the region reads: the gradients themselves, -/
theorem v0 : (V m c (Pipeline.arrRef spec0 0) : S8192x2816.Idx → EReal) = gG m c := by
  show V m c main_v1 = _
  unfold V
  simp only [hostOps0, List.flatten_cons, List.flatten_nil, List.append_nil, List.cons_append, List.nil_append]
  after_results
  all_goals rfl

theorem v2 : (V m c (Pipeline.arrRef spec0 2) : S8192x2816.Idx → EReal) = gU m c := by
  show V m c main_v3 = _
  unfold V
  simp only [hostOps0, List.flatten_cons, List.flatten_nil, List.append_nil, List.cons_append, List.nil_append]
  after_results
  all_goals rfl

/-- and the two halves of the weights' columns. -/
theorem v1 (n : Fin 1024) (k : Fin 2816) : (V m c (Pipeline.arrRef spec0 1) : S1024x2816.Idx → EReal) (ix2 n k) = gW m c (ix2 n ⟨k.val, by omega⟩) := by
  have e : (V m c (Pipeline.arrRef spec0 1) : S1024x2816.Idx → EReal)
      = extractStridedSlice S1024x2816 ![0, 0] (gW m c) slices_S1024x5632_S1024x2816_0_0 := by
    show V m c main_v2 = _
    unfold V
    simp only [hostOps0, List.flatten_cons, List.flatten_nil, List.append_nil, List.cons_append, List.nil_append]
    after_results
    all_goals rfl
  rw [e]
  pointwise

theorem v3 (n : Fin 1024) (k : Fin 2816) : (V m c (Pipeline.arrRef spec0 3) : S1024x2816.Idx → EReal) (ix2 n k) = gW m c (ix2 n ⟨2816 + k.val, by omega⟩) := by
  have e : (V m c (Pipeline.arrRef spec0 3) : S1024x2816.Idx → EReal)
      = extractStridedSlice S1024x2816 ![0, 2816] (gW m c) slices_S1024x5632_S1024x2816_0_2816 := by
    show V m c main_v4 = _
    unfold V
    simp only [hostOps0, List.flatten_cons, List.flatten_nil, List.append_nil, List.cons_append, List.nil_append]
    after_results
    all_goals rfl
  rw [e]
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem lt16 (t : Fin cfg0.N) : t.val < 16 := lt_of_lt_of_eq t.isLt N_0

/-- Row `r` of the point's 512 rows. -/
abbrev row (t : Fin cfg0.N) (r : Fin 512) : Fin 8192 := ⟨512 * t.val + r.val, by have := lt16 t; omega⟩

theorem read0 (f : Buf (Elt Ideal) ((c : Thread nD τ).loc (Pipeline.arrRef spec0 0))) (t : Fin cfg0.N) (r : Fin 512) (k : Fin 2816) :
    ((cfg0.win 0).blk t).view.read (Elt Ideal) f (ix2 r k) = (f : Vec Ideal S8192x2816 .bf16) (ix2 (row t r) k) := by
  refine congrArg f ?_
  blk_ext [idx0 t]

theorem read1 (f : Buf (Elt Ideal) ((c : Thread nD τ).loc (Pipeline.arrRef spec0 1))) (t : Fin cfg0.N) (n : Fin 1024) (k : Fin 2816) :
    ((cfg0.win 1).blk t).view.read (Elt Ideal) f (ix2 n k) = (f : Vec Ideal S1024x2816 .bf16) (ix2 n k) := by
  refine congrArg f ?_
  blk_ext [idx1 t]

theorem read2 (f : Buf (Elt Ideal) ((c : Thread nD τ).loc (Pipeline.arrRef spec0 2))) (t : Fin cfg0.N) (r : Fin 512) (k : Fin 2816) :
    ((cfg0.win 2).blk t).view.read (Elt Ideal) f (ix2 r k) = (f : Vec Ideal S8192x2816 .bf16) (ix2 (row t r) k) := by
  refine congrArg f ?_
  blk_ext [idx2 t]

theorem read3 (f : Buf (Elt Ideal) ((c : Thread nD τ).loc (Pipeline.arrRef spec0 3))) (t : Fin cfg0.N) (n : Fin 1024) (k : Fin 2816) :
    ((cfg0.win 3).blk t).view.read (Elt Ideal) f (ix2 n k) = (f : Vec Ideal S1024x2816 .bf16) (ix2 n k) := by
  refine congrArg f ?_
  blk_ext [idx3 t]

theorem iblk0 (t : Fin cfg0.N) (r : Fin 512) (k : Fin 2816) : iblk m c 0 t (ix2 r k) = gG m c (ix2 (row t r) k) := by
  unfold iblk
  exact (read0 c (V m c (Pipeline.arrRef spec0 0)) t r k).trans (congrFun (v0 m c) _)

theorem iblk1 (t : Fin cfg0.N) (n : Fin 1024) (k : Fin 2816) : iblk m c 1 t (ix2 n k) = gW m c (ix2 n ⟨k.val, by omega⟩) := by
  unfold iblk
  exact (read1 c (V m c (Pipeline.arrRef spec0 1)) t n k).trans (v1 m c n k)

theorem iblk2 (t : Fin cfg0.N) (r : Fin 512) (k : Fin 2816) : iblk m c 2 t (ix2 r k) = gU m c (ix2 (row t r) k) := by
  unfold iblk
  exact (read2 c (V m c (Pipeline.arrRef spec0 2)) t r k).trans (congrFun (v2 m c) _)

theorem iblk3 (t : Fin cfg0.N) (n : Fin 1024) (k : Fin 2816) : iblk m c 3 t (ix2 n k) = gW m c (ix2 n ⟨2816 + k.val, by omega⟩) := by
  unfold iblk
  exact (read3 c (V m c (Pipeline.arrRef spec0 3)) t n k).trans (v3 m c n k)

/-- The whole product that the array ends holding: the gradients beside each other against the rows of the weights. -/
def dH (W : FVec Ideal S1024x5632 .f32) (G U : FVec Ideal S8192x2816 .f32) (q : Fin 8192) (n : Fin 1024) : EReal :=
  ∑ k : Fin 2816, G (ix2 q k) * W (ix2 n ⟨k.val, by omega⟩) + ∑ k : Fin 2816, U (ix2 q k) * W (ix2 n ⟨2816 + k.val, by omega⟩)

/-- The array after the run. -/
theorem arr : (dats m 0 c).arrAt 4 cfg0.N
    = (fun i : S8192x1024.Idx => dH (gW m c) (gG m c) (gU m c) (i 0) (i 1) : Vec Ideal S8192x1024 .f32) := by
  refine (dats m 0 c).arrAt_eq_of_covers 4 _ (by decide +kernel) fun t hf y => ?_
  blk_simp
  rw [after0_4]
  obtain ⟨r, n, rfl⟩ : ∃ (r : Fin 512) (n : Fin 1024), y = ix2 r n := ⟨y 0, y 1, by funext a; fin_cases a <;> rfl⟩
  have e : ((cfg0.win 4).blk t).view.emb (ix2 r n) = ix2 (row t r) n := by blk_ext [idx4 t]
  rw [e]
  have hz : (![0, 0] : Fin 2 → Nat) = fun _ => 0 := funext fun a => by fin_cases a <;> rfl
  unfold out0_4
  rw [View.canon_unit_zero hz]
  simp only [View.ld_unit_zero (S := S512x2816) hz, View.ld_unit_zero (S := S1024x2816) hz]
  refine (pay_apply _ _ _ _ r n).trans ?_
  simp only [iblk0, iblk1, iblk2, iblk3]
  rfl

/-- The reference's product at an index is that sum. -/
theorem ref (W : FVec Ideal S1024x5632 .f32) (G U : FVec Ideal S8192x2816 .f32) (q : Fin 8192) (n : Fin 1024) :
    Cert.Reference2Ideal.Read.val_main_v2 (F := Ideal) W G U (ix2 q n) = dH W G U q n := by
  pointwise [Cert.Reference2Ideal.Read.val_main_v2, Cert.Reference2Ideal.Read.val_main_v1]
  rfl

end Cert.Kernel2Ideal.Val

end
-- ==== Proof.Tiles.lean ====
/- An accumulator cleared every `L` points and added to at every point: what it holds, and a sum over an axis cut into
   tiles. -/
module

public import Idealize.ShloMosaic.Lib.Pipeline.ValueKit

@[expose] public section

noncomputable section

namespace Cert.Tiles

open Idealize.ShloMosaic

/-- A value that starts anew at every multiple of `L` and grows by `a n` at point `n` holds, after point `n`, what the points
    of `n`'s run up to `n` give. -/
theorem fold_runs {N L : ℕ} (hL : 0 < L) (S : (n : ℕ) → n < N → EReal) (a : ℕ → EReal)
    (h0 : ∀ n h, n % L = 0 → S n h = a n)
    (hs : ∀ n (h : n + 1 < N), ¬(n + 1) % L = 0 → S (n + 1) h = S n (Nat.lt_of_succ_lt h) + a (n + 1)) :
    ∀ n h, S n h = ∑ j ∈ Finset.range (n % L + 1), a (L * (n / L) + j) := by
  have start : ∀ n h, n % L = 0 → S n h = ∑ j ∈ Finset.range (n % L + 1), a (L * (n / L) + j) := fun n h e => by
    have d := Nat.div_add_mod n L
    rw [e, Finset.sum_range_one, h0 n h e]
    congr 1
    omega
  intro n
  induction n with
  | zero => exact fun h => start 0 h (Nat.zero_mod _)
  | succ n ih =>
    intro h
    by_cases e : (n + 1) % L = 0
    · exact start _ h e
    · have hm : (n + 1) % L = n % L + 1 := by
        rw [Nat.add_mod_eq_ite]
        rcases Nat.lt_or_ge 1 L with h1 | h1
        · rw [Nat.mod_eq_of_lt h1]
          refine if_neg fun hc => e ?_
          have := Nat.mod_lt n hL
          rw [Nat.add_mod, Nat.mod_eq_of_lt h1, show n % L + 1 = L by omega, Nat.mod_self]
        · exact absurd (by rw [show L = 1 by omega, Nat.mod_one]) e
      have d := Nat.div_add_mod n L
      have d' := Nat.div_add_mod (n + 1) L
      have hd : L * ((n + 1) / L) = L * (n / L) := by omega
      rw [hs n h e, ih (Nat.lt_of_succ_lt h), hm, hd, Finset.sum_range_succ _ (n % L + 1)]
      exact congrArg (fun x => _ + a x) (by omega)

/-- A sum over an axis, tile by tile. -/
theorem sum_tiles {n w N : ℕ} (h : N = n * w) (g : Fin N → EReal) (a : ℕ → EReal)
    (ha : ∀ (j : ℕ) (hj : j < n), a j = ∑ r : Fin w, g ⟨w * j + r.val, by
      rw [h]
      exact lt_of_lt_of_le (Nat.add_lt_add_left r.isLt _) (by rw [← Nat.mul_succ, Nat.mul_comm]; exact Nat.mul_le_mul_right _ hj)⟩) :
    ∑ j ∈ Finset.range n, a j = ∑ q : Fin N, g q := by
  rw [Fin.sum_univ_tiles n w h.symm g, Finset.sum_range]
  refine Finset.sum_congr rfl fun j _ => ?_
  rw [ha j.val j.isLt]
  refine Finset.sum_congr rfl fun r _ => congrArg g (Fin.ext ?_)
  simp only []
  ring

/-- An array of two axes is the function of its two coordinates that it equals at every index. -/
theorem eq_of_ix2 {a b : ℕ} {α : Type} (f : (⟨2, ![a, b]⟩ : Shape).Idx → α) (g : Fin a → Fin b → α)
    (h : ∀ q n, f (ix2 q n) = g q n) : f = fun i => g (i 0) (i 1) := by
  funext i
  obtain ⟨q, n, rfl⟩ : ∃ (q : Fin a) (n : Fin b), i = ix2 q n := ⟨i 0, i 1, by funext x; fin_cases x <;> rfl⟩
  exact h q n

end Cert.Tiles

end
-- ==== Proof.GateGrad.lean ====
/- The weights' gradient of the FFN's gate projection (the up-projection's is the same product): the accumulator over the
   eight row tiles, the array the launch leaves, and the reference. -/
module

public import proofs.«01_k».proof.Proof.Gen.Kernel3Ideal.Value
public import proofs.«01_k».proof.Proof.Gen.Reference3Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel3Ideal.Val

open Idealize.ShloMosaic Idealize.ShloMosaic.TcCoe
open Cert.Kernel3Ideal Cert.Kernel3Ideal.Gen

theorem hz : (![0, 0] : Fin 2 → Nat) = fun _ => 0 := funext fun a => by fin_cases a <;> rfl

/-- A tile of rows of the one factor against the same rows of the other. -/
def tileProd (x : Vec Ideal S1024x1024 .bf16) (y : Vec Ideal S1024x1408 .bf16) (k : Fin 1024) (n : Fin 1408) : EReal :=
  ∑ r : Fin 1024, x (ix2 r k) * y (ix2 r n)

/-- What a point adds to the accumulator. -/
theorem pay2_apply (acc : Vec Ideal S1024x1408 .f32) (x : Vec Ideal S1024x1024 .bf16) (y : Vec Ideal S1024x1408 .bf16)
    (k : Fin 1024) (n : Fin 1408) : k0_pay2 acc x y (ix2 k n) = acc (ix2 k n) + tileProd x y k n := by
  pointwise [k0_pay2]
  rfl

/-- The accumulator starts at zero. -/
theorem pay1_apply (k : Fin 1024) (n : Fin 1408) : k0_pay1 (F := Ideal) (ix2 k n) = 0 := by
  pointwise [k0_pay1]

section Cases

variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .f32) (h5 : a5.IsWhole)
  (a6 : Memref sig .tc .vmem S1024x1408 .f32) (h6 : a6.IsWhole)
  (x : Vec Ideal S1024x1024 .bf16) (y : Vec Ideal S1024x1408 .bf16) (s : Vec Ideal S1024x1408 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S1024x1024) hz,
    View.ld_unit_zero (S := S1024x1408) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz,
    View.ld_unit_zero (S := S1024x1408) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S1024x1408) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1408) _ hz]
  simp only [View.readAt_eq_ld, h3.read_unread, h4.read_unread, h6.read_unread, View.ld_unit_zero (S := S1024x1024) hz,
    View.ld_unit_zero (S := S1024x1408) hz]

end Cases

variable (m : (ℓ : Loc nD τ sig) → Buf (Elt Ideal) ℓ) (c : Dev nD)

/-- The layer's input and the gradient of its output, as launched. -/
abbrev gH : FVec Ideal S8192x1024 .f32 := m (c, Proc.tc.devRef main_arg0)
abbrev gD : FVec Ideal S8192x2816 .f32 := m (c, Proc.tc.devRef main_arg2)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x2816.Idx → EReal) = gD m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem lt16 (t : Fin cfg0.N) : t.val < 16 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 2) (n : Fin 1408) : Fin 2816 := ⟨1408 * j + n.val, by omega⟩

theorem lt8 (n : ℕ) : n % 8 < 8 := Nat.mod_lt _ (by decide)
theorem lt2 (t : Fin cfg0.N) : t.val / 8 < 2 := by have := lt16 t; omega

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1408) :
    ((cfg0.win 1).blk t).view.read (Elt Ideal) f (ix2 r n)
      = (f : Vec Ideal S8192x2816 .bf16) (ix2 (row (t.val % 8) (lt8 _) r) (col (t.val / 8) (lt2 t) n)) := by
  refine congrArg f ?_
  blk_ext [idx1 t]

theorem iblk0 (t : Fin cfg0.N) (r k : Fin 1024) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1408) :
    iblk m c 1 t (ix2 r n) = gD m c (ix2 (row (t.val % 8) (lt8 _) r) (col (t.val / 8) (lt2 t) n)) := by
  unfold iblk
  exact (read1 c (V m c (Pipeline.arrRef spec0 1)) t r n).trans (congrFun (v1 m c) _)

/-- What point `n` adds at an element of the accumulator. -/
def part (k : Fin 1024) (n : Fin 1408) (t : ℕ) : EReal :=
  if h : t < cfg0.N then ∑ r : Fin 1024, gH m c (ix2 (row (t % 8) (lt8 _) r) k) * gD m c (ix2 (row (t % 8) (lt8 _) r) (col (t / 8) (lt2 ⟨t, h⟩) n)) else 0

theorem part_eq (t : Fin cfg0.N) (k : Fin 1024) (n : Fin 1408) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1024) (n : Fin 1408) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x1024 .f32) (D : FVec Ideal S8192x2816 .f32) (k : Fin 1024) (n : Fin 2816) : EReal :=
  ∑ q : Fin 8192, H (ix2 q k) * D (ix2 q n)

/-- The points of a column tile together give the product over all rows. -/
theorem sum_part (t : Fin cfg0.N) (k : Fin 1024) (n : Fin 1408) :
    ∑ j ∈ Finset.range 8, part m c k n (8 * (t.val / 8) + j) = dW (gH m c) (gD m c) k (col (t.val / 8) (lt2 t) n) := by
  refine Cert.Tiles.sum_tiles (w := 1024) rfl _ _ fun j hj => ?_
  have h16 := lt16 t
  have hN : 8 * (t.val / 8) + j < cfg0.N := lt_of_lt_of_eq (show _ < 16 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S1024x2816.Idx => dW (gH m c) (gD m c) (i 0) (i 1) : Vec Ideal S1024x2816 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1024) (n : Fin 1408), y = ix2 k n := ⟨y 0, y 1, by funext a; fin_cases a <;> rfl⟩
  have e : ((cfg0.win 2).blk t).view.emb (ix2 k n) = ix2 k (col (t.val / 8) (lt2 t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x1024 .f32) (D : FVec Ideal S8192x2816 .f32) (k : Fin 1024) (n : Fin 2816) :
    Cert.Reference3Ideal.Read.val_main_v2 (F := Ideal) H D (ix2 k n) = dW H D k n := by
  pointwise [Cert.Reference3Ideal.Read.val_main_v2, Cert.Reference3Ideal.Read.val_main_v1]
  exact Finset.sum_congr rfl fun q _ => mul_comm _ _

end Cert.Kernel3Ideal.Val

end
-- ==== Proof.DownGrad.lean ====
/- The weights' gradient of the FFN's down projection: the accumulator over the
   eight row tiles, the array the launch leaves, and the reference. -/
module

public import proofs.«01_k».proof.Proof.Gen.Kernel4Ideal.Value
public import proofs.«01_k».proof.Proof.Gen.Reference4Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel4Ideal.Val

open Idealize.ShloMosaic Idealize.ShloMosaic.TcCoe
open Cert.Kernel4Ideal Cert.Kernel4Ideal.Gen

theorem hz : (![0, 0] : Fin 2 → Nat) = fun _ => 0 := funext fun a => by fin_cases a <;> rfl

/-- A tile of rows of the one factor against the same rows of the other. -/
def tileProd (x : Vec Ideal S1024x1408 .bf16) (y : Vec Ideal S1024x1024 .bf16) (k : Fin 1408) (n : Fin 1024) : EReal :=
  ∑ r : Fin 1024, x (ix2 r k) * y (ix2 r n)

/-- What a point adds to the accumulator. -/
theorem pay2_apply (acc : Vec Ideal S1408x1024 .f32) (x : Vec Ideal S1024x1408 .bf16) (y : Vec Ideal S1024x1024 .bf16)
    (k : Fin 1408) (n : Fin 1024) : k0_pay2 acc x y (ix2 k n) = acc (ix2 k n) + tileProd x y k n := by
  pointwise [k0_pay2]
  rfl

/-- The accumulator starts at zero. -/
theorem pay1_apply (k : Fin 1408) (n : Fin 1024) : k0_pay1 (F := Ideal) (ix2 k n) = 0 := by
  pointwise [k0_pay1]

section Cases

variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .f32) (h5 : a5.IsWhole)
  (a6 : Memref sig .tc .vmem S1408x1024 .f32) (h6 : a6.IsWhole)
  (x : Vec Ideal S1024x1408 .bf16) (y : Vec Ideal S1024x1024 .bf16) (s : Vec Ideal S1408x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz,
    View.ld_unit_zero (S := S1024x1024) hz,
    View.ld_unit_zero (S := S1408x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1408) hz,
    View.ld_unit_zero (S := S1024x1024) hz,
    View.ld_unit_zero (S := S1408x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1408) hz,
    View.ld_unit_zero (S := S1024x1024) hz,
    View.ld_unit_zero (S := S1408x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S1024x1408) hz,
    View.ld_unit_zero (S := S1024x1024) hz,
    View.ld_unit_zero (S := S1408x1024) hz]

end Cases

variable (m : (ℓ : Loc nD τ sig) → Buf (Elt Ideal) ℓ) (c : Dev nD)

/-- The activations and the gradient of the layer's output, as launched. -/
abbrev gH : FVec Ideal S8192x2816 .f32 := m (c, Proc.tc.devRef main_arg0)
abbrev gD : FVec Ideal S8192x1024 .f32 := m (c, Proc.tc.devRef main_arg2)

theorem v0 : (V m c (Pipeline.arrRef spec0 0) : S8192x2816.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x1024.Idx → EReal) = gD m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

theorem lt16 (t : Fin cfg0.N) : t.val < 16 := lt_of_lt_of_eq t.isLt N_0

/-- Row `r` of a row tile and column `k` of a column tile. -/
abbrev row (j : ℕ) (hj : j < 8) (r : Fin 1024) : Fin 8192 := ⟨1024 * j + r.val, by omega⟩
abbrev col (j : ℕ) (hj : j < 2) (k : Fin 1408) : Fin 2816 := ⟨1408 * j + k.val, by omega⟩

theorem lt8 (n : ℕ) : n % 8 < 8 := Nat.mod_lt _ (by decide)
theorem lt2 (t : Fin cfg0.N) : t.val / 8 < 2 := by have := lt16 t; omega

theorem read0 (f : Buf (Elt Ideal) ((c : Thread nD τ).loc (Pipeline.arrRef spec0 0))) (t : Fin cfg0.N) (r : Fin 1024) (k : Fin 1408) :
    ((cfg0.win 0).blk t).view.read (Elt Ideal) f (ix2 r k) = (f : Vec Ideal S8192x2816 .bf16) (ix2 (row (t.val % 8) (lt8 _) r) (col (t.val / 8) (lt2 t) k)) := by
  refine congrArg f ?_
  blk_ext [idx0 t]

theorem read1 (f : Buf (Elt Ideal) ((c : Thread nD τ).loc (Pipeline.arrRef spec0 1))) (t : Fin cfg0.N) (r n : Fin 1024) :
    ((cfg0.win 1).blk t).view.read (Elt Ideal) f (ix2 r n)
      = (f : Vec Ideal S8192x1024 .bf16) (ix2 (row (t.val % 8) (lt8 _) r) n) := by
  refine congrArg f ?_
  blk_ext [idx1 t]

theorem iblk0 (t : Fin cfg0.N) (r : Fin 1024) (k : Fin 1408) : iblk m c 0 t (ix2 r k) = gH m c (ix2 (row (t.val % 8) (lt8 _) r) (col (t.val / 8) (lt2 t) k)) := by
  unfold iblk
  exact (read0 c (V m c (Pipeline.arrRef spec0 0)) t r k).trans (congrFun (v0 m c) _)

theorem iblk1 (t : Fin cfg0.N) (r n : Fin 1024) :
    iblk m c 1 t (ix2 r n) = gD m c (ix2 (row (t.val % 8) (lt8 _) r) n) := by
  unfold iblk
  exact (read1 c (V m c (Pipeline.arrRef spec0 1)) t r n).trans (congrFun (v1 m c) _)

/-- What point `n` adds at an element of the accumulator. -/
def part (k : Fin 1408) (n : Fin 1024) (t : ℕ) : EReal :=
  if h : t < cfg0.N then ∑ r : Fin 1024, gH m c (ix2 (row (t % 8) (lt8 _) r) (col (t / 8) (lt2 ⟨t, h⟩) k)) * gD m c (ix2 (row (t % 8) (lt8 _) r) n) else 0

theorem part_eq (t : Fin cfg0.N) (k : Fin 1408) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1408) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x2816 .f32) (D : FVec Ideal S8192x1024 .f32) (k : Fin 2816) (n : Fin 1024) : EReal :=
  ∑ q : Fin 8192, H (ix2 q k) * D (ix2 q n)

/-- The points of a column tile together give the product over all rows. -/
theorem sum_part (t : Fin cfg0.N) (k : Fin 1408) (n : Fin 1024) :
    ∑ j ∈ Finset.range 8, part m c k n (8 * (t.val / 8) + j) = dW (gH m c) (gD m c) (col (t.val / 8) (lt2 t) k) n := by
  refine Cert.Tiles.sum_tiles (w := 1024) rfl _ _ fun j hj => ?_
  have h16 := lt16 t
  have hN : 8 * (t.val / 8) + j < cfg0.N := lt_of_lt_of_eq (show _ < 16 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S2816x1024.Idx => dW (gH m c) (gD m c) (i 0) (i 1) : Vec Ideal S2816x1024 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1408) (n : Fin 1024), y = ix2 k n := ⟨y 0, y 1, by funext a; fin_cases a <;> rfl⟩
  have e : ((cfg0.win 2).blk t).view.emb (ix2 k n) = ix2 (col (t.val / 8) (lt2 t) k) n := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x2816 .f32) (D : FVec Ideal S8192x1024 .f32) (k : Fin 2816) (n : Fin 1024) :
    Cert.Reference4Ideal.Read.val_main_v2 (F := Ideal) H D (ix2 k n) = dW H D k n := by
  pointwise [Cert.Reference4Ideal.Read.val_main_v2, Cert.Reference4Ideal.Read.val_main_v1]
  exact Finset.sum_congr rfl fun q _ => mul_comm _ _

end Cert.Kernel4Ideal.Val

end
-- ==== Proof.Silu.lean ====
/- The logistic function as both sides spell it, and the derivative of `g ↦ g · sg g` on real numbers. -/
module

public import proofs.«01_k».proof.Proof.Reals

@[expose] public section

noncomputable section

namespace Cert.Silu

open Idealize.ShloMosaic

/-- `1 / (1 + exp (-x))`. -/
def sg (x : EReal) : EReal := Ideal.div 1 (1 + Ideal.exp (-x))

theorem sg_real (g : ℝ) : ∃ s : ℝ, sg g = s := by
  refine ⟨1 / (1 + Real.exp (-g)), ?_⟩
  have h : (1 : ℝ) + Real.exp (-g) ≠ 0 := (add_pos one_pos (Real.exp_pos _)).ne'
  have e := Cert.KernelIdeal.Val.div_real 1 _ h
  unfold sg
  rw [← EReal.coe_neg, show Ideal.exp ((-g : ℝ) : EReal) = ((Real.exp (-g) : ℝ) : EReal) from rfl]
  exact_mod_cast e

/-- The gate's gradient as one product is the sum of its two halves. -/
theorem gate_grad (x g : ℝ) :
    (x : EReal) * (sg g * (1 + g * (1 - sg g))) = x * sg g + g * x * (sg g * (1 - sg g)) := by
  obtain ⟨s, hs⟩ := sg_real g
  rw [hs]
  have h : x * (s * (1 + g * (1 - s))) = x * s + g * x * (s * (1 - s)) := by ring
  exact_mod_cast congrArg (fun r : ℝ => (r : EReal)) h

end Cert.Silu

end
-- ==== Proof.ActGrad.lean ====
/- The gradients of the FFN's gate and of its up branch: what the launch leaves, and the reference. -/
module

public import proofs.«01_k».proof.Proof.Gen.Kernel5Ideal.Value
public import proofs.«01_k».proof.Proof.Gen.Reference5Ideal.Read
public import proofs.«01_k».proof.Pre_finite5
public import proofs.«01_k».proof.Proof.Finite
public import proofs.«01_k».proof.Proof.Silu
public import Idealize.ShloMosaic.Lib.Pointwise
public import Idealize.ShloMosaic.Lib.Pipeline.ValueKit

@[expose] public section

set_option maxRecDepth 65536

noncomputable section

namespace Cert.Pre_finite5

/-- The precondition's side conditions. -/
theorem facts : Facts where
  bcast_S_S8192x2816 := by decide
  reducesTo_S8192x2816_S_d0_1 := by decide
  h_S_ := by decide
  bcast_S_S2816x1024 := by decide
  reducesTo_S2816x1024_S_d0_1 := by decide
  bcast_S_S8192x1024 := by decide
  reducesTo_S8192x1024_S_d0_1 := by decide

end Cert.Pre_finite5

namespace Cert.Kernel5Ideal.Val

open Idealize.ShloMosaic Idealize.ShloMosaic.TcCoe
open Cert.Kernel5Ideal Cert.Kernel5Ideal.Gen
open Cert.Silu
open Cert.KernelIdeal.Val (up real_of_all coe_sum)

/-- Under the precondition the four arguments are arrays of real numbers. -/
theorem real_args [Cert.Pre_finite5.Facts] (a0 a1 : FVec Ideal Cert.Pre_finite5.S8192x2816 .f32) (a2 : FVec Ideal Cert.Pre_finite5.S2816x1024 .f32)
    (a3 : FVec Ideal Cert.Pre_finite5.S8192x1024 .f32) (h : Cert.Pre_finite5.fn (F := Ideal) a0 a1 a2 a3 = fun _ => 1#1) :
    (a0 = up fun i => (a0 i).toReal) ∧ (a1 = up fun i => (a1 i).toReal) ∧ (a2 = up fun i => (a2 i).toReal) ∧ (a3 = up fun i => (a3 i).toReal) := by
  have h1 := congrFun h (fun a => a.elim0)
  dsimp only [Cert.Pre_finite5.fn, Cert.Pre_finite5.fn_part1] at h1
  obtain ⟨h1, e3⟩ := IntOp.andi_eq_one.mp h1
  obtain ⟨h1, e2⟩ := IntOp.andi_eq_one.mp h1
  obtain ⟨e0, e1⟩ := IntOp.andi_eq_one.mp h1
  exact ⟨real_of_all _ _ _ _ _ e0, real_of_all _ _ _ _ _ e1, real_of_all _ _ _ _ _ e2, real_of_all _ _ _ _ _ e3⟩

/-- The gradient of the activations in a tile. -/
def tileProd (a : Vec Ideal S512x1024 .bf16) (w : Vec Ideal S1408x1024 .bf16) (r : Fin 512) (n : Fin 1408) : EReal :=
  ∑ x : Fin 1024, a (ix2 r x) * w (ix2 n x)

/-- What a point stores: the gate's gradient -/
theorem pay3_apply (a : Vec Ideal S512x1024 .bf16) (w : Vec Ideal S1408x1024 .bf16) (g u : Vec Ideal S512x1408 .f32)
    (r : Fin 512) (n : Fin 1408) : k0_pay3 a w g u (ix2 r n)
      = tileProd a w r n * u (ix2 r n) * (sg (g (ix2 r n)) * (1 + g (ix2 r n) * (1 - sg (g (ix2 r n))))) := by
  pointwise [k0_pay3, k0_pay1, k0_pay2]
  rw [zero_sub]
  rfl

/-- and the up branch's. -/
theorem pay4_apply (a : Vec Ideal S512x1024 .bf16) (w : Vec Ideal S1408x1024 .bf16) (g : Vec Ideal S512x1408 .f32)
    (r : Fin 512) (n : Fin 1408) : k0_pay4 a w g (ix2 r n) = tileProd a w r n * (g (ix2 r n) * sg (g (ix2 r n))) := by
  pointwise [k0_pay4, k0_pay1, k0_pay2]
  rw [zero_sub]
  rfl

variable (m : (ℓ : Loc nD τ sig) → Buf (Elt Ideal) ℓ) (c : Dev nD)

/-- The two branches, the weights and the gradient of the layer's output, as launched. -/
abbrev gG : FVec Ideal S8192x2816 .f32 := m (c, Proc.tc.devRef main_arg0)
abbrev gU : FVec Ideal S8192x2816 .f32 := m (c, Proc.tc.devRef main_arg1)
abbrev gW : FVec Ideal S2816x1024 .f32 := m (c, Proc.tc.devRef main_arg2)
abbrev gD : FVec Ideal S8192x1024 .f32 := m (c, Proc.tc.devRef main_arg3)

theorem v0 : (V m c (Pipeline.arrRef spec0 0) : S8192x1024.Idx → EReal) = gD m c := by
  show V m c main_v0 = _
  unfold V
  simp only [hostOps0, List.flatten_cons, List.flatten_nil, List.append_nil, List.cons_append, List.nil_append]
  after_results
  all_goals rfl

theorem v1 : (V m c (Pipeline.arrRef spec0 1) : S2816x1024.Idx → EReal) = gW m c := by
  show V m c main_v1 = _
  unfold V
  simp only [hostOps0, List.flatten_cons, List.flatten_nil, List.append_nil, List.cons_append, List.nil_append]
  after_results
  all_goals rfl

theorem v2 : (V m c (Pipeline.arrRef spec0 2) : S8192x2816.Idx → EReal) = gG m c := by
  show V m c main_arg0 = _
  unfold V
  simp only [hostOps0, List.flatten_cons, List.flatten_nil, List.append_nil, List.cons_append, List.nil_append]
  after_results
  all_goals rfl

theorem v3 : (V m c (Pipeline.arrRef spec0 3) : S8192x2816.Idx → EReal) = gU m c := by
  show V m c main_arg1 = _
  unfold V
  simp only [hostOps0, List.flatten_cons, List.flatten_nil, List.append_nil, List.cons_append, List.nil_append]
  after_results
  all_goals rfl

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)

theorem ltN (t : Fin cfg0.N) : t.val < 32 := lt_of_lt_of_eq t.isLt N_0

/-- Row `r` and column `n` of the point's tile. -/
abbrev row (t : Fin cfg0.N) (r : Fin 512) : Fin 8192 := ⟨512 * (t.val % 16) + r.val, by have := Nat.mod_lt t.val (show 0 < 16 by decide); omega⟩
abbrev col (t : Fin cfg0.N) (n : Fin 1408) : Fin 2816 := ⟨1408 * (t.val / 16) + n.val, by have := ltN t; omega⟩

theorem read0 (f : Buf (Elt Ideal) ((c : Thread nD τ).loc (Pipeline.arrRef spec0 0))) (t : Fin cfg0.N) (r : Fin 512) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (n : Fin 1408) (k : Fin 1024) :
    ((cfg0.win 1).blk t).view.read (Elt Ideal) f (ix2 n k) = (f : Vec Ideal S2816x1024 .bf16) (ix2 (col t n) k) := by
  refine congrArg f ?_
  blk_ext [idx1 t]

theorem read2 (f : Buf (Elt Ideal) ((c : Thread nD τ).loc (Pipeline.arrRef spec0 2))) (t : Fin cfg0.N) (r : Fin 512) (n : Fin 1408) :
    ((cfg0.win 2).blk t).view.read (Elt Ideal) f (ix2 r n) = (f : Vec Ideal S8192x2816 .f32) (ix2 (row t r) (col t n)) := by
  refine congrArg f ?_
  blk_ext [idx2 t]

theorem read3 (f : Buf (Elt Ideal) ((c : Thread nD τ).loc (Pipeline.arrRef spec0 3))) (t : Fin cfg0.N) (r : Fin 512) (n : Fin 1408) :
    ((cfg0.win 3).blk t).view.read (Elt Ideal) f (ix2 r n) = (f : Vec Ideal S8192x2816 .f32) (ix2 (row t r) (col t n)) := by
  refine congrArg f ?_
  blk_ext [idx3 t]

theorem iblk0 (t : Fin cfg0.N) (r : Fin 512) (k : Fin 1024) : iblk m c 0 t (ix2 r k) = gD m c (ix2 (row t r) k) := by
  unfold iblk
  exact (read0 c (V m c (Pipeline.arrRef spec0 0)) t r k).trans (congrFun (v0 m c) _)

theorem iblk1 (t : Fin cfg0.N) (n : Fin 1408) (k : Fin 1024) : iblk m c 1 t (ix2 n k) = gW m c (ix2 (col t n) k) := by
  unfold iblk
  exact (read1 c (V m c (Pipeline.arrRef spec0 1)) t n k).trans (congrFun (v1 m c) _)

theorem iblk2 (t : Fin cfg0.N) (r : Fin 512) (n : Fin 1408) : iblk m c 2 t (ix2 r n) = gG m c (ix2 (row t r) (col t n)) := by
  unfold iblk
  exact (read2 c (V m c (Pipeline.arrRef spec0 2)) t r n).trans (congrFun (v2 m c) _)

theorem iblk3 (t : Fin cfg0.N) (r : Fin 512) (n : Fin 1408) : iblk m c 3 t (ix2 r n) = gU m c (ix2 (row t r) (col t n)) := by
  unfold iblk
  exact (read3 c (V m c (Pipeline.arrRef spec0 3)) t r n).trans (congrFun (v3 m c) _)

/-- The gradient of the activations, -/
def dA (W : FVec Ideal S2816x1024 .f32) (D : FVec Ideal S8192x1024 .f32) (q : Fin 8192) (n : Fin 2816) : EReal :=
  ∑ x : Fin 1024, D (ix2 q x) * W (ix2 n x)

/-- of the gate as the kernel has it, -/
def dG (G U : FVec Ideal S8192x2816 .f32) (W : FVec Ideal S2816x1024 .f32) (D : FVec Ideal S8192x1024 .f32) (q : Fin 8192) (n : Fin 2816) : EReal :=
  dA W D q n * U (ix2 q n) * (sg (G (ix2 q n)) * (1 + G (ix2 q n) * (1 - sg (G (ix2 q n)))))

/-- and of the up branch. -/
def dU (G : FVec Ideal S8192x2816 .f32) (W : FVec Ideal S2816x1024 .f32) (D : FVec Ideal S8192x1024 .f32) (q : Fin 8192) (n : Fin 2816) : EReal :=
  dA W D q n * (G (ix2 q n) * sg (G (ix2 q n)))

theorem tile_eq (t : Fin cfg0.N) (r : Fin 512) (n : Fin 1408) :
    tileProd (iblk m c 0 t) (iblk m c 1 t) r n = dA (gW m c) (gD m c) (row t r) (col t n) := by
  unfold tileProd
  simp only [iblk0, iblk1]
  rfl

/-- The arrays after the run. -/
theorem arrG : (dats m 0 c).arrAt 4 cfg0.N
    = (fun i : S8192x2816.Idx => dG (gG m c) (gU m c) (gW m c) (gD m c) (i 0) (i 1) : Vec Ideal S8192x2816 .bf16) := by
  refine (dats m 0 c).arrAt_eq_of_covers 4 _ (by decide +kernel) fun t hf y => ?_
  blk_simp
  rw [after0_4]
  obtain ⟨r, n, rfl⟩ : ∃ (r : Fin 512) (n : Fin 1408), y = ix2 r n := ⟨y 0, y 1, by funext a; fin_cases a <;> rfl⟩
  have e : ((cfg0.win 4).blk t).view.emb (ix2 r n) = ix2 (row t r) (col t n) := by blk_ext [idx4 t]
  rw [e]
  have hz : (![0, 0] : Fin 2 → Nat) = fun _ => 0 := funext fun a => by fin_cases a <;> rfl
  unfold out0_4
  rw [View.canon_unit_zero hz]
  simp only [View.ld_unit_zero (S := S512x1024) hz, View.ld_unit_zero (S := S1408x1024) hz, View.ld_unit_zero (S := S512x1408) hz]
  refine (pay3_apply _ _ _ _ r n).trans ?_
  simp only [tile_eq, iblk2, iblk3]
  rfl

theorem arrU : (dats m 0 c).arrAt 5 cfg0.N
    = (fun i : S8192x2816.Idx => dU (gG m c) (gW m c) (gD m c) (i 0) (i 1) : Vec Ideal S8192x2816 .bf16) := by
  refine (dats m 0 c).arrAt_eq_of_covers 5 _ (by decide +kernel) fun t hf y => ?_
  blk_simp
  rw [after0_5]
  obtain ⟨r, n, rfl⟩ : ∃ (r : Fin 512) (n : Fin 1408), y = ix2 r n := ⟨y 0, y 1, by funext a; fin_cases a <;> rfl⟩
  have e : ((cfg0.win 5).blk t).view.emb (ix2 r n) = ix2 (row t r) (col t n) := by blk_ext [idx5 t]
  rw [e]
  have hz : (![0, 0] : Fin 2 → Nat) = fun _ => 0 := funext fun a => by fin_cases a <;> rfl
  unfold out0_5
  rw [View.canon_unit_zero hz]
  simp only [View.ld_unit_zero (S := S512x1024) hz, View.ld_unit_zero (S := S1408x1024) hz, View.ld_unit_zero (S := S512x1408) hz]
  refine (pay4_apply _ _ _ r n).trans ?_
  simp only [tile_eq, iblk2]
  rfl

/-- The reference's gradient of the gate, on real numbers, -/
theorem refG (G U : S8192x2816.Idx → ℝ) (W : S2816x1024.Idx → ℝ) (D : S8192x1024.Idx → ℝ) (q : Fin 8192) (n : Fin 2816) :
    Cert.Reference5Ideal.Read.val_main_v7 (F := Ideal) (up G) (up U) (up W) (up D) (ix2 q n) = dG (up G) (up U) (up W) (up D) q n := by
  open Cert.Reference5Ideal.Read in
  pointwise [val_main_v7, val_main_v6, val_main_call1_v2, val_main_call1_v1, val_main_call1_v0, val_main_v5, val_main_v3, val_main_v0_1,
    val_main_v0_2, val_main_call0_v7, val_main_call0_v6, val_main_call0_v4, val_main_call0_v3, val_main_call0_v2, val_main_call0_v1,
    val_main_call0_v0, val_main_call0_cst, val_main_call0_cst_0, val_main_call0_cst_1]
  have e : dA (up W) (up D) q n * up U (ix2 q n) = (((∑ x : Fin 1024, D (ix2 q x) * W (ix2 n x)) * U (ix2 q n) : ℝ) : EReal) := by
    unfold dA up
    push_cast
    rw [coe_sum]
    push_cast
    rfl
  have h := gate_grad ((∑ x : Fin 1024, D (ix2 q x) * W (ix2 n x)) * U (ix2 q n)) (G (ix2 q n))
  rw [← e] at h
  exact h.symm

/-- The same of arrays that hold real numbers. -/
theorem refG_of_real (G U : FVec Ideal S8192x2816 .f32) (W : FVec Ideal S2816x1024 .f32) (D : FVec Ideal S8192x1024 .f32)
    (hG : G = up fun i => (G i).toReal) (hU : U = up fun i => (U i).toReal) (hW : W = up fun i => (W i).toReal)
    (hD : D = up fun i => (D i).toReal) (q : Fin 8192) (n : Fin 2816) :
    Cert.Reference5Ideal.Read.val_main_v7 (F := Ideal) G U W D (ix2 q n) = dG G U W D q n := by
  rw [hG, hU, hW, hD]
  exact refG _ _ _ _ q n

/-- and of the up branch. -/
theorem refU (G : FVec Ideal S8192x2816 .f32) (W : FVec Ideal S2816x1024 .f32) (D : FVec Ideal S8192x1024 .f32) (q : Fin 8192) (n : Fin 2816) :
    Cert.Reference5Ideal.Read.val_main_v8 (F := Ideal) G W D (ix2 q n) = dU G W D q n := by
  open Cert.Reference5Ideal.Read in
  pointwise [val_main_v8, val_main_v4, val_main_v3, val_main_v0_0, val_main_v0_2, val_main_call0_v4, val_main_call0_v3, val_main_call0_v2,
    val_main_call0_v1, val_main_call0_v0, val_main_call0_cst, val_main_call0_cst_0]
  exact mul_comm _ _

end Cert.Kernel5Ideal.Val

end
-- ==== Proof.FfnUp.lean ====
/- The FFN's up-projection with its gate applied: what the launch leaves, and the reference. -/
module

public import proofs.«01_k».proof.Proof.Gen.Kernel6Ideal.Value
public import proofs.«01_k».proof.Proof.Gen.Reference6Ideal.Read
public import proofs.«01_k».proof.Proof.Silu
public import Idealize.ShloMosaic.Lib.Pointwise
public import Idealize.ShloMosaic.Lib.Pipeline.ValueKit

@[expose] public section

set_option maxRecDepth 65536

noncomputable section

namespace Cert.Kernel6Ideal.Val

open Idealize.ShloMosaic Idealize.ShloMosaic.TcCoe
open Cert.Kernel6Ideal Cert.Kernel6Ideal.Gen
open Cert.Silu

/-- A tile of the product. -/
def tileProd (a : Vec Ideal S512x1024 .bf16) (w : Vec Ideal S1024x1408 .bf16) (r : Fin 512) (n : Fin 1408) : EReal :=
  ∑ x : Fin 1024, a (ix2 r x) * w (ix2 x n)

/-- What a point stores: the gate's product, the up branch's, -/
theorem pay2_apply (a : Vec Ideal S512x1024 .bf16) (w : Vec Ideal S1024x1408 .bf16) (r : Fin 512) (n : Fin 1408) :
    k0_pay2 a w (ix2 r n) = tileProd a w r n := by
  pointwise [k0_pay2, k0_pay1]
  rfl

theorem pay3_apply (a : Vec Ideal S512x1024 .bf16) (w : Vec Ideal S1024x1408 .bf16) (r : Fin 512) (n : Fin 1408) :
    k0_pay3 a w (ix2 r n) = tileProd a w r n := by
  pointwise [k0_pay3, k0_pay1]
  rfl

/-- and the activations. -/
theorem pay4_apply (a : Vec Ideal S512x1024 .bf16) (w v : Vec Ideal S1024x1408 .bf16) (r : Fin 512) (n : Fin 1408) :
    k0_pay4 a w v (ix2 r n) = tileProd a w r n * sg (tileProd a w r n) * tileProd a v r n := by
  pointwise [k0_pay4, k0_pay3, k0_pay2, k0_pay1]
  rw [zero_sub]
  rfl

variable (m : (ℓ : Loc nD τ sig) → Buf (Elt Ideal) ℓ) (c : Dev nD)

/-- The layer's input and the weights, as launched. -/
abbrev gH : FVec Ideal S8192x1024 .f32 := m (c, Proc.tc.devRef main_arg0)
abbrev gW : FVec Ideal S1024x5632 .f32 := m (c, Proc.tc.devRef main_arg1)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S1024x5632.Idx → EReal) = gW m c := by
  show V m c main_v1 = _
  unfold V
  simp only [hostOps0, List.flatten_cons, List.flatten_nil, List.append_nil, List.cons_append, List.nil_append]
  after_results
  all_goals rfl

theorem v2 : (V m c (Pipeline.arrRef spec0 2) : S1024x5632.Idx → EReal) = gW m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![0, 2 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)

theorem ltN (t : Fin cfg0.N) : t.val < 32 := lt_of_lt_of_eq t.isLt N_0

/-- Row `r` and column `n` of the point's tile, and that column in either half of the weights. -/
abbrev row (t : Fin cfg0.N) (r : Fin 512) : Fin 8192 := ⟨512 * (t.val % 16) + r.val, by have := Nat.mod_lt t.val (show 0 < 16 by decide); omega⟩
abbrev col (t : Fin cfg0.N) (n : Fin 1408) : Fin 2816 := ⟨1408 * (t.val / 16) + n.val, by have := ltN t; omega⟩
abbrev lo (n : Fin 2816) : Fin 5632 := ⟨n.val, by omega⟩
abbrev hi (n : Fin 2816) : Fin 5632 := ⟨2816 + n.val, by omega⟩

theorem read0 (f : Buf (Elt Ideal) ((c : Thread nD τ).loc (Pipeline.arrRef spec0 0))) (t : Fin cfg0.N) (r : Fin 512) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (k : Fin 1024) (n : Fin 1408) :
    ((cfg0.win 1).blk t).view.read (Elt Ideal) f (ix2 k n) = (f : Vec Ideal S1024x5632 .bf16) (ix2 k (lo (col t n))) := by
  refine congrArg f ?_
  blk_ext [idx1 t]

theorem read2 (f : Buf (Elt Ideal) ((c : Thread nD τ).loc (Pipeline.arrRef spec0 2))) (t : Fin cfg0.N) (k : Fin 1024) (n : Fin 1408) :
    ((cfg0.win 2).blk t).view.read (Elt Ideal) f (ix2 k n) = (f : Vec Ideal S1024x5632 .bf16) (ix2 k (hi (col t n))) := by
  refine congrArg f ?_
  blk_ext [idx2 t]

theorem iblk0 (t : Fin cfg0.N) (r : Fin 512) (k : Fin 1024) : iblk m c 0 t (ix2 r k) = gH m c (ix2 (row t r) k) := by
  unfold iblk
  exact (read0 c (V m c (Pipeline.arrRef spec0 0)) t r k).trans (congrFun (v0 m c) _)

theorem iblk1 (t : Fin cfg0.N) (k : Fin 1024) (n : Fin 1408) : iblk m c 1 t (ix2 k n) = gW m c (ix2 k (lo (col t n))) := by
  unfold iblk
  exact (read1 c (V m c (Pipeline.arrRef spec0 1)) t k n).trans (congrFun (v1 m c) _)

theorem iblk2 (t : Fin cfg0.N) (k : Fin 1024) (n : Fin 1408) : iblk m c 2 t (ix2 k n) = gW m c (ix2 k (hi (col t n))) := by
  unfold iblk
  exact (read2 c (V m c (Pipeline.arrRef spec0 2)) t k n).trans (congrFun (v2 m c) _)

/-- The input against a column of the weights. -/
def prod (H : FVec Ideal S8192x1024 .f32) (W : FVec Ideal S1024x5632 .f32) (q : Fin 8192) (n : Fin 5632) : EReal :=
  ∑ x : Fin 1024, H (ix2 q x) * W (ix2 x n)

/-- The activations. -/
def act (H : FVec Ideal S8192x1024 .f32) (W : FVec Ideal S1024x5632 .f32) (q : Fin 8192) (n : Fin 2816) : EReal :=
  prod H W q (lo n) * sg (prod H W q (lo n)) * prod H W q (hi n)

theorem tile_lo (t : Fin cfg0.N) (r : Fin 512) (n : Fin 1408) :
    tileProd (iblk m c 0 t) (iblk m c 1 t) r n = prod (gH m c) (gW m c) (row t r) (lo (col t n)) := by
  unfold tileProd
  simp only [iblk0, iblk1]
  rfl

theorem tile_hi (t : Fin cfg0.N) (r : Fin 512) (n : Fin 1408) :
    tileProd (iblk m c 0 t) (iblk m c 2 t) r n = prod (gH m c) (gW m c) (row t r) (hi (col t n)) := by
  unfold tileProd
  simp only [iblk0, iblk2]
  rfl

/-- The arrays after the run. -/
theorem arrG : (dats m 0 c).arrAt 3 cfg0.N
    = (fun i : S8192x2816.Idx => prod (gH m c) (gW m c) (i 0) (lo (i 1)) : Vec Ideal S8192x2816 .f32) := by
  refine (dats m 0 c).arrAt_eq_of_covers 3 _ (by decide +kernel) fun t hf y => ?_
  blk_simp
  rw [after0_3]
  obtain ⟨r, n, rfl⟩ : ∃ (r : Fin 512) (n : Fin 1408), y = ix2 r n := ⟨y 0, y 1, by funext a; fin_cases a <;> rfl⟩
  have e : ((cfg0.win 3).blk t).view.emb (ix2 r n) = ix2 (row t r) (col t n) := by blk_ext [idx3 t]
  rw [e]
  have hz : (![0, 0] : Fin 2 → Nat) = fun _ => 0 := funext fun a => by fin_cases a <;> rfl
  unfold out0_3
  rw [View.canon_unit_zero hz]
  simp only [View.ld_unit_zero (S := S512x1024) hz, View.ld_unit_zero (S := S1024x1408) hz]
  refine (pay2_apply _ _ r n).trans ?_
  simp only [tile_lo]
  rfl

theorem arrU : (dats m 0 c).arrAt 4 cfg0.N
    = (fun i : S8192x2816.Idx => prod (gH m c) (gW m c) (i 0) (hi (i 1)) : Vec Ideal S8192x2816 .f32) := by
  refine (dats m 0 c).arrAt_eq_of_covers 4 _ (by decide +kernel) fun t hf y => ?_
  blk_simp
  rw [after0_4]
  obtain ⟨r, n, rfl⟩ : ∃ (r : Fin 512) (n : Fin 1408), y = ix2 r n := ⟨y 0, y 1, by funext a; fin_cases a <;> rfl⟩
  have e : ((cfg0.win 4).blk t).view.emb (ix2 r n) = ix2 (row t r) (col t n) := by blk_ext [idx4 t]
  rw [e]
  have hz : (![0, 0] : Fin 2 → Nat) = fun _ => 0 := funext fun a => by fin_cases a <;> rfl
  unfold out0_4
  rw [View.canon_unit_zero hz]
  simp only [View.ld_unit_zero (S := S512x1024) hz, View.ld_unit_zero (S := S1024x1408) hz]
  refine (pay3_apply _ _ r n).trans ?_
  simp only [tile_hi]
  rfl

theorem arrA : (dats m 0 c).arrAt 5 cfg0.N
    = (fun i : S8192x2816.Idx => act (gH m c) (gW m c) (i 0) (i 1) : Vec Ideal S8192x2816 .bf16) := by
  refine (dats m 0 c).arrAt_eq_of_covers 5 _ (by decide +kernel) fun t hf y => ?_
  blk_simp
  rw [after0_5]
  obtain ⟨r, n, rfl⟩ : ∃ (r : Fin 512) (n : Fin 1408), y = ix2 r n := ⟨y 0, y 1, by funext a; fin_cases a <;> rfl⟩
  have e : ((cfg0.win 5).blk t).view.emb (ix2 r n) = ix2 (row t r) (col t n) := by blk_ext [idx5 t]
  rw [e]
  have hz : (![0, 0] : Fin 2 → Nat) = fun _ => 0 := funext fun a => by fin_cases a <;> rfl
  unfold out0_5
  rw [View.canon_unit_zero hz]
  simp only [View.ld_unit_zero (S := S512x1024) hz, View.ld_unit_zero (S := S1024x1408) hz]
  refine (pay4_apply _ _ _ r n).trans ?_
  simp only [tile_lo, tile_hi]
  rfl

/-- The reference's two halves of the product -/
theorem refG (H : FVec Ideal S8192x1024 .f32) (W : FVec Ideal S1024x5632 .f32) (q : Fin 8192) (n : Fin 2816) :
    Cert.Reference6Ideal.Read.val_main_v1 (F := Ideal) H W (ix2 q n) = prod H W q (lo n) := by
  open Cert.Reference6Ideal.Read in
  pointwise [val_main_v1, val_main_v0]
  rfl

theorem refU (H : FVec Ideal S8192x1024 .f32) (W : FVec Ideal S1024x5632 .f32) (q : Fin 8192) (n : Fin 2816) :
    Cert.Reference6Ideal.Read.val_main_v2 (F := Ideal) H W (ix2 q n) = prod H W q (hi n) := by
  open Cert.Reference6Ideal.Read in
  pointwise [val_main_v2, val_main_v0]
  rfl

/-- and its activations. -/
theorem refA (H : FVec Ideal S8192x1024 .f32) (W : FVec Ideal S1024x5632 .f32) (q : Fin 8192) (n : Fin 2816) :
    Cert.Reference6Ideal.Read.val_main_v5 (F := Ideal) H W (ix2 q n) = act H W q n := by
  open Cert.Reference6Ideal.Read in
  pointwise [val_main_v5, val_main_v4, val_main_v3, val_main_call0_v5, val_main_call0_v4, val_main_call0_v3, val_main_call0_v2,
    val_main_call0_v1, val_main_call0_v0, val_main_call0_cst, val_main_call0_cst_0, val_main_v2, val_main_v1, val_main_v0]
  rfl

end Cert.Kernel6Ideal.Val

end
-- ==== Proof.FfnDown.lean ====
/- The FFN's down-projection: the accumulator over the two tiles of the contracted axis, the array the launch leaves, and the
   reference. -/
module

public import proofs.«01_k».proof.Proof.Gen.Kernel7Ideal.Value
public import proofs.«01_k».proof.Proof.Gen.Reference7Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel7Ideal.Val

open Idealize.ShloMosaic Idealize.ShloMosaic.TcCoe
open Cert.Kernel7Ideal Cert.Kernel7Ideal.Gen

theorem hz : (![0, 0] : Fin 2 → Nat) = fun _ => 0 := funext fun a => by fin_cases a <;> rfl

/-- A tile of columns of the one factor against the same rows of the other. -/
def tileProd (x : Vec Ideal S1024x1408 .bf16) (y : Vec Ideal S1408x1024 .bf16) (k n : Fin 1024) : EReal :=
  ∑ j : Fin 1408, x (ix2 k j) * y (ix2 j n)

/-- What a point adds to the accumulator. -/
theorem pay2_apply (acc : Vec Ideal S1024x1024 .f32) (x : Vec Ideal S1024x1408 .bf16) (y : Vec Ideal S1408x1024 .bf16)
    (k n : Fin 1024) : k0_pay2 acc x y (ix2 k n) = acc (ix2 k n) + tileProd x y k n := by
  pointwise [k0_pay2]
  rfl

/-- The accumulator starts at zero. -/
theorem pay1_apply (k n : Fin 1024) : k0_pay1 (F := Ideal) (ix2 k n) = 0 := by
  pointwise [k0_pay1]

section Cases

variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x1408 .bf16) (y : Vec Ideal S1408x1024 .bf16) (s : Vec Ideal S1024x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1408) hz,
    View.ld_unit_zero (S := S1408x1024) hz,
    View.ld_unit_zero (S := S1024x1024) hz]

/-- the second one's adds its own, -/
theorem accB (hc0 : ¬cond0_0 i) (hc1 : cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1408) hz,
    View.ld_unit_zero (S := S1408x1024) hz,
    View.ld_unit_zero (S := S1024x1024) hz]

/-- which copies the accumulator out. -/
theorem outB (hc0 : ¬cond0_0 i) (hc1 : cond0_1 i) : out0_B_2 c i a3 h3 a4 h4 a5 h5 a6 h6 hc0 hc1 x y s = k0_pay2 s x y := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S1024x1408) hz,
    View.ld_unit_zero (S := S1408x1024) hz,
    View.ld_unit_zero (S := S1024x1024) hz]

end Cases

variable (m : (ℓ : Loc nD τ sig) → Buf (Elt Ideal) ℓ) (c : Dev nD)

/-- The activations and the weights, as launched. -/
abbrev gA : FVec Ideal S8192x2816 .f32 := m (c, Proc.tc.devRef main_arg0)
abbrev gW : FVec Ideal S2816x1024 .f32 := m (c, Proc.tc.devRef main_arg1)

theorem v0 : (V m c (Pipeline.arrRef spec0 0) : S8192x2816.Idx → EReal) = gA m c := by
  show V m c main_v0 = _
  unfold V
  simp only [hostOps0, List.flatten_cons, List.flatten_nil, List.append_nil, List.cons_append, List.nil_append]
  after_results
  all_goals rfl

theorem v1 : (V m c (Pipeline.arrRef spec0 1) : S2816x1024.Idx → EReal) = gW m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem lt16 (t : Fin cfg0.N) : t.val < 16 := lt_of_lt_of_eq t.isLt N_0
theorem lt8 (t : Fin cfg0.N) : t.val / 2 < 8 := by have := lt16 t; omega
theorem lt2 (n : ℕ) : n % 2 < 2 := Nat.mod_lt _ (by decide)

/-- Row `r` of a row tile and place `x` of a tile of the contracted axis. -/
abbrev row (j : ℕ) (hj : j < 8) (r : Fin 1024) : Fin 8192 := ⟨1024 * j + r.val, by omega⟩
abbrev mid (j : ℕ) (hj : j < 2) (x : Fin 1408) : Fin 2816 := ⟨1408 * j + x.val, by omega⟩

theorem read0 (f : Buf (Elt Ideal) ((c : Thread nD τ).loc (Pipeline.arrRef spec0 0))) (t : Fin cfg0.N) (r : Fin 1024) (x : Fin 1408) :
    ((cfg0.win 0).blk t).view.read (Elt Ideal) f (ix2 r x)
      = (f : Vec Ideal S8192x2816 .bf16) (ix2 (row (t.val / 2) (lt8 t) r) (mid (t.val % 2) (lt2 _) x)) := by
  refine congrArg f ?_
  blk_ext [idx0 t]

theorem read1 (f : Buf (Elt Ideal) ((c : Thread nD τ).loc (Pipeline.arrRef spec0 1))) (t : Fin cfg0.N) (x : Fin 1408) (n : Fin 1024) :
    ((cfg0.win 1).blk t).view.read (Elt Ideal) f (ix2 x n) = (f : Vec Ideal S2816x1024 .bf16) (ix2 (mid (t.val % 2) (lt2 _) x) n) := by
  refine congrArg f ?_
  blk_ext [idx1 t]

theorem iblk0 (t : Fin cfg0.N) (r : Fin 1024) (x : Fin 1408) :
    iblk m c 0 t (ix2 r x) = gA m c (ix2 (row (t.val / 2) (lt8 t) r) (mid (t.val % 2) (lt2 _) x)) := by
  unfold iblk
  exact (read0 c (V m c (Pipeline.arrRef spec0 0)) t r x).trans (congrFun (v0 m c) _)

theorem iblk1 (t : Fin cfg0.N) (x : Fin 1408) (n : Fin 1024) : iblk m c 1 t (ix2 x n) = gW m c (ix2 (mid (t.val % 2) (lt2 _) x) n) := by
  unfold iblk
  exact (read1 c (V m c (Pipeline.arrRef spec0 1)) t x n).trans (congrFun (v1 m c) _)

/-- What point `t` adds at an element of the accumulator. -/
def part (r n : Fin 1024) (t : ℕ) : EReal :=
  if h : t < cfg0.N then
    ∑ x : Fin 1408, gA m c (ix2 (row (t / 2) (lt8 ⟨t, h⟩) r) (mid (t % 2) (lt2 _) x)) * gW m c (ix2 (mid (t % 2) (lt2 _) x) n)
  else 0

theorem part_eq (t : Fin cfg0.N) (r n : Fin 1024) : tileProd (iblk m c 0 t) (iblk m c 1 t) r n = part m c r n t.val := by
  unfold part tileProd
  rw [dif_pos t.isLt]
  simp only [iblk0, iblk1]

/-- The accumulator after point `t`: the points of the row tile up to `t`. -/
theorem acc_eq (r n : Fin 1024) : ∀ (t : ℕ) (h : t < cfg0.N),
    (outsAt0 m c t h).2 (ix2 r n) = ∑ j ∈ Finset.range (t % 2 + 1), part m c r n (2 * (t / 2) + j) := by
  refine Cert.Tiles.fold_runs (by decide) (fun t h => (outsAt0 m c t h).2 (ix2 r n)) (part m c r n) (fun t h e => ?_) fun t h e => ?_
  · show (outsAt0 m c t h).2 (ix2 r n) = _
    rw [show outsAt0 m c t h = _ from outsAt0_A m c ⟨t, h⟩ e (by simp only []; omega)]
    dsimp only
    rw [accA, pay2_apply, pay1_apply, zero_add]
    exact part_eq m c ⟨t, h⟩ r n
  · show (outsAt0 m c (t + 1) h).2 (ix2 r n) = (outsAt0 m c t _).2 (ix2 r n) + _
    rw [show outsAt0 m c (t + 1) h = _ from outsAt0_B m c ⟨t + 1, h⟩ e (by simp only []; omega)]
    dsimp only
    rw [accB, pay2_apply]
    exact congrArg (_ + ·) (part_eq m c ⟨t + 1, h⟩ r n)

/-- The whole product at an index. -/
def prod (A : FVec Ideal S8192x2816 .f32) (W : FVec Ideal S2816x1024 .f32) (q : Fin 8192) (n : Fin 1024) : EReal :=
  ∑ x : Fin 2816, A (ix2 q x) * W (ix2 x n)

/-- The points of a row tile together give the product over the whole contracted axis. -/
theorem sum_part (t : Fin cfg0.N) (r n : Fin 1024) :
    ∑ j ∈ Finset.range 2, part m c r n (2 * (t.val / 2) + j) = prod (gA m c) (gW m c) (row (t.val / 2) (lt8 t) r) n := by
  refine Cert.Tiles.sum_tiles (w := 1408) rfl _ _ fun j hj => ?_
  have h16 := lt16 t
  have hN : 2 * (t.val / 2) + j < cfg0.N := lt_of_lt_of_eq (show _ < 16 by omega) N_0.symm
  have hm : (2 * (t.val / 2) + j) % 2 = j := by omega
  have hd : (2 * (t.val / 2) + j) / 2 = t.val / 2 := by omega
  unfold part
  rw [dif_pos hN]
  simp only [row, mid, hm, hd]

/-- The array after the run. -/
theorem arr : (dats m 0 c).arrAt 2 cfg0.N
    = (fun i : S8192x1024.Idx => prod (gA m c) (gW m c) (i 0) (i 1) : Vec Ideal S8192x1024 .f32) := by
  refine (dats m 0 c).arrAt_eq_of_covers 2 _ (by decide +kernel) fun t hf y => ?_
  blk_simp
  rw [after0_2]
  have h1 : t.val % 2 = 1 := (flush0_2 t).mp hf
  obtain ⟨r, n, rfl⟩ : ∃ r n : Fin 1024, y = ix2 r n := ⟨y 0, y 1, by funext a; fin_cases a <;> rfl⟩
  have e : ((cfg0.win 2).blk t).view.emb (ix2 r n) = ix2 (row (t.val / 2) (lt8 t) r) n := by blk_ext [idx2 t]
  rw [e]
  have eo : (outsAt0 m c t.val t.isLt).1 (ix2 r n) = (outsAt0 m c t.val t.isLt).2 (ix2 r n) := by
    rw [outsAt0_B m c t (by omega) h1]
    dsimp only
    rw [outB, accB]
  refine (eo.trans (acc_eq m c r n t.val t.isLt)).trans ?_
  rw [h1]
  exact sum_part m c t r n

/-- The reference's product at an index is that sum. -/
theorem ref (A : FVec Ideal S8192x2816 .f32) (W : FVec Ideal S2816x1024 .f32) (q : Fin 8192) (n : Fin 1024) :
    Cert.Reference7Ideal.Read.val_main_v0 (F := Ideal) A W (ix2 q n) = prod A W q n := by
  pointwise [Cert.Reference7Ideal.Read.val_main_v0]
  rfl

end Cert.Kernel7Ideal.Val

end
-- ==== Proof.FfnResults.lean ====
/- The claims about the FFN's calls: each reference runs to the end, and of equal arguments the two programs' results are equal. -/
module

public import proofs.«01_k».proof.Defs
public import proofs.«01_k».proof.Proof.UpGrad
public import proofs.«01_k».proof.Proof.GateGrad
public import proofs.«01_k».proof.Proof.DownGrad
public import proofs.«01_k».proof.Proof.ActGrad
public import proofs.«01_k».proof.Proof.FfnUp
public import proofs.«01_k».proof.Proof.FfnDown
public import proofs.«01_k».proof.Proof.Tiles
public import Idealize.ShloMosaic.Adequacy
public import Idealize.ShloMosaic.Init

@[expose] public section

set_option maxRecDepth 65536

noncomputable section

namespace Cert.Results

open Idealize.ShloMosaic Idealize.ShloMosaic.TcCoe Idealize.SL.Sem
open Cert.Tiles (eq_of_ix2)

theorem reference2_quiescent : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)

open Cert.Kernel2Ideal.Val Cert.Reference2Ideal.Read in
/-- The gradient of the FFN's input. -/
theorem up_grad : Cert.algebraic_Kernel2Ideal_Reference2Ideal (hKernel2Ideal := Cert.Kernel2Ideal.Gen.facts)
    (hReference2Ideal := Cert.Reference2Ideal.Gen.facts) := by
  intro m g m' g' _ hargs
  refine ⟨fun c => val_main_v2 (F := Ideal) (gW m c) (gG m c) (gU m c),
    (θ_run _ _ _).mono (fun r h c => ⟨(h c).1.trans ((arr m c).trans (eq_of_ix2 _ _ (ref _ _ _)).symm), (h c).2⟩)
      (Cert.Kernel2Ideal.Value.run_blocks m g),
    (θ_run _ _ _).mono (fun r h c => ⟨(h c).1.trans ?_, (h c).2⟩) (Cert.Reference2Ideal.Value.run m' g')⟩
  obtain ⟨_, e1, e2, e3⟩ := hargs c
  exact (val_main_v2_eq _ _ _).trans (congr (congr (congrArg _ e1) e2) e3)

theorem reference3_quiescent : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run m ρ)

open Cert.Kernel3Ideal.Val Cert.Reference3Ideal.Read in
/-- The gradient of the FFN's up-projection weights, one half of it. -/
theorem gate_grad : Cert.algebraic_Kernel3Ideal_Reference3Ideal (hKernel3Ideal := Cert.Kernel3Ideal.Gen.facts)
    (hReference3Ideal := Cert.Reference3Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel3Ideal.Value.run_blocks m g),
    (θ_run _ _ _).mono (fun r h c => ⟨(h c).1.trans ?_, (h c).2⟩) (Cert.Reference3Ideal.Value.run m' g')⟩
  obtain ⟨e0, _, e2⟩ := hargs c
  exact (val_main_v2_eq _ _).trans (congr (congrArg _ e0) e2)

theorem reference4_quiescent : Cert.quiescent_Reference4Ideal (hReference4Ideal := Cert.Reference4Ideal.Gen.facts) := fun m ρ _ =>
  (θ_run _ _ _).mono (fun r h => ⟨fun c => (h c).2, sem_eq_zero_of_no_sems rfl r.2⟩) (Cert.Reference4Ideal.Value.run m ρ)

open Cert.Kernel4Ideal.Val Cert.Reference4Ideal.Read in
/-- The gradient of the FFN's down-projection weights. -/
theorem down_grad : Cert.algebraic_Kernel4Ideal_Reference4Ideal (hKernel4Ideal := Cert.Kernel4Ideal.Gen.facts)
    (hReference4Ideal := Cert.Reference4Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel4Ideal.Value.run_blocks m g),
    (θ_run _ _ _).mono (fun r h c => ⟨(h c).1.trans ?_, (h c).2⟩) (Cert.Reference4Ideal.Value.run m' g')⟩
  obtain ⟨e0, _, e2⟩ := hargs c
  exact (val_main_v2_eq _ _).trans (congr (congrArg _ e0) e2)

theorem reference7_quiescent : Cert.quiescent_Reference7Ideal (hReference7Ideal := Cert.Reference7Ideal.Gen.facts) := fun m ρ _ =>
  (θ_run _ _ _).mono (fun r h => ⟨fun c => (h c).2, sem_eq_zero_of_no_sems rfl r.2⟩) (Cert.Reference7Ideal.Value.run m ρ)

open Cert.Kernel7Ideal.Val Cert.Reference7Ideal.Read in
/-- The FFN's output. -/
theorem ffn_down : Cert.algebraic_Kernel7Ideal_Reference7Ideal (hKernel7Ideal := Cert.Kernel7Ideal.Gen.facts)
    (hReference7Ideal := Cert.Reference7Ideal.Gen.facts) := by
  intro m g m' g' _ hargs
  refine ⟨fun c => val_main_v0 (F := Ideal) (gA m c) (gW m c),
    (θ_run _ _ _).mono (fun r h c => ⟨(h c).1.trans ((arr m c).trans (eq_of_ix2 _ _ (ref _ _)).symm), (h c).2⟩)
      (Cert.Kernel7Ideal.Value.run_blocks m g),
    (θ_run _ _ _).mono (fun r h c => ⟨(h c).1.trans ?_, (h c).2⟩) (Cert.Reference7Ideal.Value.run m' g')⟩
  obtain ⟨e0, e1⟩ := hargs c
  exact (val_main_v0_eq _ _).trans (congr (congrArg _ e0) e1)

theorem reference5_quiescent : Cert.quiescent_Reference5Ideal (hReference5Ideal := Cert.Reference5Ideal.Gen.facts) := fun m ρ _ =>
  (θ_run _ _ _).mono (fun r h => ⟨fun c => (h c).2.2, sem_eq_zero_of_no_sems rfl r.2⟩) (Cert.Reference5Ideal.Value.run m ρ)

section

attribute [local instance] Cert.Pre_finite5.facts

open Cert.Kernel5Ideal.Val Cert.Reference5Ideal.Read in
/-- The gradients of the two halves of the up-projection's result, of finite arguments. -/
theorem act_grad : Cert.algebraic_Kernel5Ideal_Reference5Ideal_pre_finite5 (hKernel5Ideal := Cert.Kernel5Ideal.Gen.facts)
    (hReference5Ideal := Cert.Reference5Ideal.Gen.facts) (hPre_finite5 := Cert.Pre_finite5.facts) := by
  intro m g m' g' hpre hargs
  have hr := fun c => Cert.Kernel5Ideal.Val.real_args _ _ _ _ (hpre c)
  refine ⟨fun c => val_main_v7 (F := Ideal) (gG m c) (gU m c) (gW m c) (gD m c), fun c => val_main_v8 (F := Ideal) (gG m c) (gW m c) (gD m c),
    ?_, ?_⟩
  · refine (θ_run _ _ _).mono (fun r h c => ⟨(h c).1.trans ?_, (h c).2.1.trans ((arrU m c).trans (eq_of_ix2 _ _ (refU _ _ _)).symm), (h c).2.2⟩)
      (Cert.Kernel5Ideal.Value.run_blocks m g)
    obtain ⟨h0, h1, h2, h3⟩ := hr c
    refine (arrG m c).trans (eq_of_ix2 _ _ fun q n => ?_).symm
    exact refG_of_real _ _ _ _ h0 h1 h2 h3 q n
  · refine (θ_run _ _ _).mono (fun r h c => ?_) (Cert.Reference5Ideal.Value.run m' g')
    obtain ⟨e0, e1, e2, e3⟩ := hargs c
    exact ⟨(h c).1.trans ((val_main_v7_eq _ _ _ _).trans (congr (congr (congr (congrArg _ e0) e1) e2) e3)),
      (h c).2.1.trans ((val_main_v8_eq _ _ _).trans (congr (congr (congrArg _ e0) e2) e3)), (h c).2.2⟩

end

theorem reference6_quiescent : Cert.quiescent_Reference6Ideal (hReference6Ideal := Cert.Reference6Ideal.Gen.facts) := fun m ρ _ =>
  (θ_run _ _ _).mono (fun r h => ⟨fun c => (h c).2.2.2, sem_eq_zero_of_no_sems rfl r.2⟩) (Cert.Reference6Ideal.Value.run m ρ)

open Cert.Kernel6Ideal.Val Cert.Reference6Ideal.Read in
/-- The two halves of the up-projection's result and the activations. -/
theorem ffn_up : Cert.algebraic_Kernel6Ideal_Reference6Ideal (hKernel6Ideal := Cert.Kernel6Ideal.Gen.facts)
    (hReference6Ideal := Cert.Reference6Ideal.Gen.facts) := by
  intro m g m' g' _ hargs
  refine ⟨fun c => val_main_v1 (F := Ideal) (gH m c) (gW m c), fun c => val_main_v2 (F := Ideal) (gH m c) (gW m c),
    fun c => val_main_v5 (F := Ideal) (gH m c) (gW m c),
    (θ_run _ _ _).mono (fun r h c => ⟨(h c).1.trans ((arrG m c).trans (eq_of_ix2 _ _ (refG _ _)).symm),
        (h c).2.1.trans ((arrU m c).trans (eq_of_ix2 _ _ (refU _ _)).symm),
        (h c).2.2.1.trans ((arrA m c).trans (eq_of_ix2 _ _ (refA _ _)).symm), (h c).2.2.2⟩)
      (Cert.Kernel6Ideal.Value.run_blocks m g),
    (θ_run _ _ _).mono (fun r h c => ?_) (Cert.Reference6Ideal.Value.run m' g')⟩
  obtain ⟨e0, e1⟩ := hargs c
  exact ⟨(h c).1.trans ((val_main_v1_eq _ _).trans (congr (congrArg _ e0) e1)),
    (h c).2.1.trans ((val_main_v2_eq _ _).trans (congr (congrArg _ e0) e1)),
    (h c).2.2.1.trans ((val_main_v5_eq _ _).trans (congr (congrArg _ e0) e1)), (h c).2.2.2⟩

end Cert.Results

end
-- ==== Proof.MixOut.lean ====
/- The mixer's output from the merged branches: what the launch leaves, and the reference. -/
module

public import proofs.«01_k».proof.Proof.Gen.Kernel15Ideal.Value
public import proofs.«01_k».proof.Proof.Gen.Reference15Ideal.Read
public import Idealize.ShloMosaic.Lib.Pointwise
public import Idealize.ShloMosaic.Lib.Pipeline.ValueKit

@[expose] public section

set_option maxRecDepth 65536

noncomputable section

namespace Cert.Kernel15Ideal.Val

open Idealize.ShloMosaic Idealize.ShloMosaic.TcCoe
open Cert.Kernel15Ideal Cert.Kernel15Ideal.Gen

theorem hz : (![0, 0] : Fin 2 → Nat) = fun _ => 0 := funext fun a => by fin_cases a <;> rfl

/-- A tile of the product. -/
def tileProd (x : Vec Ideal S1024x1024 .bf16) (y : Vec Ideal S1024x1024 .bf16) (r : Fin 1024) (n : Fin 1024) : EReal :=
  ∑ j : Fin 1024, x (ix2 r j) * y (ix2 j n)

/-- What a point stores: its product added to zero. -/
theorem pay_apply (x : Vec Ideal S1024x1024 .bf16) (y : Vec Ideal S1024x1024 .bf16) (r : Fin 1024) (n : Fin 1024) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i)
    (x : Vec Ideal S1024x1024 .bf16) (y : Vec Ideal S1024x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz]

variable (m : (ℓ : Loc nD τ sig) → Buf (Elt Ideal) ℓ) (c : Dev nD)

/-- The two factors, as launched. -/
abbrev gA : FVec Ideal S8192x1024 .f32 := m (c, Proc.tc.devRef main_arg0)
abbrev gB : FVec Ideal S1024x1024 .f32 := m (c, Proc.tc.devRef main_arg1)

theorem v0 : (V m c (Pipeline.arrRef spec0 0) : S8192x1024.Idx → EReal) = gA m c := by
  show V m c main_v0 = _
  unfold V
  simp only [hostOps0, List.flatten_cons, List.flatten_nil, List.append_nil, List.cons_append, List.nil_append]
  after_results
  all_goals rfl

theorem v1 : (V m c (Pipeline.arrRef spec0 1) : S1024x1024.Idx → EReal) = gB m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (k : Fin 1024) (n : Fin 1024) :
    ((cfg0.win 1).blk t).view.read (Elt Ideal) f (ix2 k n) = (f : Vec Ideal S1024x1024 .bf16) (ix2 k n) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (k : Fin 1024) (n : Fin 1024) : iblk m c 1 t (ix2 k n) = gB m c (ix2 k n) := by
  unfold iblk
  exact (read1 c (V m c (Pipeline.arrRef spec0 1)) t k n).trans (congrFun (v1 m c) _)

/-- The whole product at an index. -/
def prod (A : FVec Ideal S8192x1024 .f32) (B : FVec Ideal S1024x1024 .f32) (q : Fin 8192) (n : Fin 1024) : EReal :=
  ∑ j : Fin 1024, A (ix2 q j) * B (ix2 j n)

/-- The array after the run. -/
theorem arr : (dats m 0 c).arrAt 2 cfg0.N
    = (fun i : S8192x1024.Idx => prod (gA m c) (gB m c) (i 0) (i 1) : Vec Ideal S8192x1024 .f32) := by
  refine (dats m 0 c).arrAt_eq_of_covers 2 _ (by decide +kernel) fun t hf y => ?_
  blk_simp
  rw [after0_2]
  obtain ⟨r, n, rfl⟩ : ∃ (r : Fin 1024) (n : Fin 1024), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum. -/
theorem ref (A : FVec Ideal S8192x1024 .f32) (B : FVec Ideal S1024x1024 .f32) (q : Fin 8192) (n : Fin 1024) :
    Cert.Reference15Ideal.Read.val_main_v0 (F := Ideal) A B (ix2 q n) = prod A B q n := by
  pointwise [Cert.Reference15Ideal.Read.val_main_v0]
  rfl

end Cert.Kernel15Ideal.Val

end
-- ==== Proof.MergeGrad.lean ====
/- The gradient of the merged branches: what the launch leaves, and the reference. -/
module

public import proofs.«01_k».proof.Proof.Gen.Kernel16Ideal.Value
public import proofs.«01_k».proof.Proof.Gen.Reference16Ideal.Read
public import Idealize.ShloMosaic.Lib.Pointwise
public import Idealize.ShloMosaic.Lib.Pipeline.ValueKit

@[expose] public section

set_option maxRecDepth 65536

noncomputable section

namespace Cert.Kernel16Ideal.Val

open Idealize.ShloMosaic Idealize.ShloMosaic.TcCoe
open Cert.Kernel16Ideal Cert.Kernel16Ideal.Gen

theorem hz : (![0, 0] : Fin 2 → Nat) = fun _ => 0 := funext fun a => by fin_cases a <;> rfl

/-- A tile of the product, rows against rows. -/
def tileProd (x : Vec Ideal S1024x1024 .bf16) (y : Vec Ideal S1024x1024 .bf16) (r : Fin 1024) (n : Fin 1024) : EReal :=
  ∑ j : Fin 1024, x (ix2 r j) * y (ix2 n j)

/-- What a point stores: its product added to zero. -/
theorem pay_apply (x : Vec Ideal S1024x1024 .bf16) (y : Vec Ideal S1024x1024 .bf16) (r : Fin 1024) (n : Fin 1024) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i)
    (x : Vec Ideal S1024x1024 .bf16) (y : Vec Ideal S1024x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz]

variable (m : (ℓ : Loc nD τ sig) → Buf (Elt Ideal) ℓ) (c : Dev nD)

/-- The two factors, as launched. -/
abbrev gA : FVec Ideal S8192x1024 .f32 := m (c, Proc.tc.devRef main_arg2)
abbrev gB : FVec Ideal S1024x1024 .f32 := m (c, Proc.tc.devRef main_arg1)

theorem v0 : (V m c (Pipeline.arrRef spec0 0) : S8192x1024.Idx → EReal) = gA m c := by
  show V m c main_v0 = _
  unfold V
  simp only [hostOps0, List.flatten_cons, List.flatten_nil, List.append_nil, List.cons_append, List.nil_append]
  after_results
  all_goals rfl

theorem v1 : (V m c (Pipeline.arrRef spec0 1) : S1024x1024.Idx → EReal) = gB m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (n : Fin 1024) (k : Fin 1024) :
    ((cfg0.win 1).blk t).view.read (Elt Ideal) f (ix2 n k) = (f : Vec Ideal S1024x1024 .bf16) (ix2 n k) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (n : Fin 1024) (k : Fin 1024) : iblk m c 1 t (ix2 n k) = gB m c (ix2 n k) := by
  unfold iblk
  exact (read1 c (V m c (Pipeline.arrRef spec0 1)) t n k).trans (congrFun (v1 m c) _)

/-- The whole product at an index. -/
def prod (A : FVec Ideal S8192x1024 .f32) (B : FVec Ideal S1024x1024 .f32) (q : Fin 8192) (n : Fin 1024) : EReal :=
  ∑ j : Fin 1024, A (ix2 q j) * B (ix2 n j)

/-- The array after the run. -/
theorem arr : (dats m 0 c).arrAt 2 cfg0.N
    = (fun i : S8192x1024.Idx => prod (gA m c) (gB m c) (i 0) (i 1) : Vec Ideal S8192x1024 .f32) := by
  refine (dats m 0 c).arrAt_eq_of_covers 2 _ (by decide +kernel) fun t hf y => ?_
  blk_simp
  rw [after0_2]
  obtain ⟨r, n, rfl⟩ : ∃ (r : Fin 1024) (n : Fin 1024), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum. -/
theorem ref (A : FVec Ideal S8192x1024 .f32) (B : FVec Ideal S1024x1024 .f32) (q : Fin 8192) (n : Fin 1024) :
    Cert.Reference16Ideal.Read.val_main_v1 (F := Ideal) B A (ix2 q n) = prod A B q n := by
  pointwise [Cert.Reference16Ideal.Read.val_main_v1]
  rfl

end Cert.Kernel16Ideal.Val

end
-- ==== Proof.OutGrad.lean ====
/- The gradient of the weights of the mixer's output: the accumulator over the eight row tiles, the array the
   launch leaves, and the reference. -/
module

public import proofs.«01_k».proof.Proof.Gen.Kernel17Ideal.Value
public import proofs.«01_k».proof.Proof.Gen.Reference17Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel17Ideal.Val

open Idealize.ShloMosaic Idealize.ShloMosaic.TcCoe
open Cert.Kernel17Ideal Cert.Kernel17Ideal.Gen

theorem hz : (![0, 0] : Fin 2 → Nat) = fun _ => 0 := funext fun a => by fin_cases a <;> rfl

/-- A tile of rows of the one factor against the same rows of the other. -/
def tileProd (x : Vec Ideal S1024x1024 .bf16) (y : Vec Ideal S1024x1024 .bf16) (k : Fin 1024) (n : Fin 1024) : EReal :=
  ∑ r : Fin 1024, x (ix2 r k) * y (ix2 r n)

/-- What a point adds to the accumulator. -/
theorem pay2_apply (acc : Vec Ideal S1024x1024 .f32) (x : Vec Ideal S1024x1024 .bf16) (y : Vec Ideal S1024x1024 .bf16)
    (k : Fin 1024) (n : Fin 1024) : k0_pay2 acc x y (ix2 k n) = acc (ix2 k n) + tileProd x y k n := by
  pointwise [k0_pay2]
  rfl

/-- The accumulator starts at zero. -/
theorem pay1_apply (k : Fin 1024) (n : Fin 1024) : k0_pay1 (F := Ideal) (ix2 k n) = 0 := by
  pointwise [k0_pay1]

section Cases

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x1024 .bf16) (y : Vec Ideal S1024x1024 .bf16) (s : Vec Ideal S1024x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cases

variable (m : (ℓ : Loc nD τ sig) → Buf (Elt Ideal) ℓ) (c : Dev nD)

/-- The layer's input and the gradient of its output, as launched. -/
abbrev gH : FVec Ideal S8192x1024 .f32 := m (c, Proc.tc.devRef main_arg0)
abbrev gD : FVec Ideal S8192x1024 .f32 := m (c, Proc.tc.devRef main_arg2)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x1024.Idx → EReal) = gD m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 1024) : Fin 1024 := ⟨1024 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1024) :
    ((cfg0.win 1).blk t).view.read (Elt Ideal) f (ix2 r n)
      = (f : Vec Ideal S8192x1024 .bf16) (ix2 (row (t.val % 8) (lt8 _) r) (col (t.val / 8) (ltC t) n)) := by
  refine congrArg f ?_
  blk_ext [idx1 t]

theorem iblk0 (t : Fin cfg0.N) (r : Fin 1024) (k : Fin 1024) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1024) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 1024) (n : Fin 1024) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 1024) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1024) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x1024 .f32) (D : FVec Ideal S8192x1024 .f32) (k : Fin 1024) (n : Fin 1024) : EReal :=
  ∑ q : Fin 8192, H (ix2 q k) * D (ix2 q n)

/-- The points of a column tile together give the product over all rows. -/
theorem sum_part (t : Fin cfg0.N) (k : Fin 1024) (n : Fin 1024) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S1024x1024.Idx => dW (gH m c) (gD m c) (i 0) (i 1) : Vec Ideal S1024x1024 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1024) (n : Fin 1024), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x1024 .f32) (D : FVec Ideal S8192x1024 .f32) (k : Fin 1024) (n : Fin 1024) :
    Cert.Reference17Ideal.Read.val_main_v2 (F := Ideal) H D (ix2 k n) = dW H D k n := by
  pointwise [Cert.Reference17Ideal.Read.val_main_v2, Cert.Reference17Ideal.Read.val_main_v1]
  exact Finset.sum_congr rfl fun q _ => mul_comm _ _

end Cert.Kernel17Ideal.Val

end
-- ==== Proof.ProjSb.lean ====
/- The projection of the stick-breaking attention's output: what the launch leaves, and the reference. -/
module

public import proofs.«01_k».proof.Proof.Gen.Kernel18Ideal.Value
public import proofs.«01_k».proof.Proof.Gen.Reference18Ideal.Read
public import Idealize.ShloMosaic.Lib.Pointwise
public import Idealize.ShloMosaic.Lib.Pipeline.ValueKit

@[expose] public section

set_option maxRecDepth 65536

noncomputable section

namespace Cert.Kernel18Ideal.Val

open Idealize.ShloMosaic Idealize.ShloMosaic.TcCoe
open Cert.Kernel18Ideal Cert.Kernel18Ideal.Gen

theorem hz : (![0, 0] : Fin 2 → Nat) = fun _ => 0 := funext fun a => by fin_cases a <;> rfl

/-- A tile of the product. -/
def tileProd (x : Vec Ideal S1024x512 .f32) (y : Vec Ideal S512x1024 .bf16) (r : Fin 1024) (n : Fin 1024) : EReal :=
  ∑ j : Fin 512, x (ix2 r j) * y (ix2 j n)

/-- What a point stores: its product added to zero. -/
theorem pay_apply (x : Vec Ideal S1024x512 .f32) (y : Vec Ideal S512x1024 .bf16) (r : Fin 1024) (n : Fin 1024) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x512 .f32) (h3 : a3.IsWhole)
    (a4 : Memref sig .tc .vmem S512x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i)
    (x : Vec Ideal S1024x512 .f32) (y : Vec Ideal S512x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x512) hz, View.ld_unit_zero (S := S512x1024) hz]

variable (m : (ℓ : Loc nD τ sig) → Buf (Elt Ideal) ℓ) (c : Dev nD)

/-- The two factors, as launched. -/
abbrev gA : FVec Ideal S8192x512 .f32 := m (c, Proc.tc.devRef main_arg0)
abbrev gB : FVec Ideal S512x1024 .f32 := m (c, Proc.tc.devRef main_arg1)

theorem v0 : (V m c (Pipeline.arrRef spec0 0) : S8192x512.Idx → EReal) = gA m c := by
  show V m c main_arg0 = _
  unfold V
  simp only [hostOps0, List.flatten_cons, List.flatten_nil, List.append_nil, List.cons_append, List.nil_append]
  after_results
  all_goals rfl

theorem v1 : (V m c (Pipeline.arrRef spec0 1) : S512x1024.Idx → EReal) = gB m c := by
  show V m c main_v0 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 512) :
    ((cfg0.win 0).blk t).view.read (Elt Ideal) f (ix2 r k) = (f : Vec Ideal S8192x512 .f32) (ix2 (row t r) k) := by
  refine congrArg f ?_
  blk_ext [idx0 t]

theorem read1 (f : Buf (Elt Ideal) ((c : Thread nD τ).loc (Pipeline.arrRef spec0 1))) (t : Fin cfg0.N) (k : Fin 512) (n : Fin 1024) :
    ((cfg0.win 1).blk t).view.read (Elt Ideal) f (ix2 k n) = (f : Vec Ideal S512x1024 .bf16) (ix2 k n) := by
  refine congrArg f ?_
  blk_ext [idx1 t]

theorem iblk0 (t : Fin cfg0.N) (r : Fin 1024) (k : Fin 512) : iblk m c 0 t (ix2 r k) = gA m c (ix2 (row t r) k) := by
  unfold iblk
  exact (read0 c (V m c (Pipeline.arrRef spec0 0)) t r k).trans (congrFun (v0 m c) _)

theorem iblk1 (t : Fin cfg0.N) (k : Fin 512) (n : Fin 1024) : iblk m c 1 t (ix2 k n) = gB m c (ix2 k n) := by
  unfold iblk
  exact (read1 c (V m c (Pipeline.arrRef spec0 1)) t k n).trans (congrFun (v1 m c) _)

/-- The whole product at an index. -/
def prod (A : FVec Ideal S8192x512 .f32) (B : FVec Ideal S512x1024 .f32) (q : Fin 8192) (n : Fin 1024) : EReal :=
  ∑ j : Fin 512, A (ix2 q j) * B (ix2 j n)

/-- The array after the run. -/
theorem arr : (dats m 0 c).arrAt 2 cfg0.N
    = (fun i : S8192x1024.Idx => prod (gA m c) (gB m c) (i 0) (i 1) : Vec Ideal S8192x1024 .f32) := by
  refine (dats m 0 c).arrAt_eq_of_covers 2 _ (by decide +kernel) fun t hf y => ?_
  blk_simp
  rw [after0_2]
  obtain ⟨r, n, rfl⟩ : ∃ (r : Fin 1024) (n : Fin 1024), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum. -/
theorem ref (A : FVec Ideal S8192x512 .f32) (B : FVec Ideal S512x1024 .f32) (q : Fin 8192) (n : Fin 1024) :
    Cert.Reference18Ideal.Read.val_main_v0 (F := Ideal) A B (ix2 q n) = prod A B q n := by
  pointwise [Cert.Reference18Ideal.Read.val_main_v0]
  rfl

end Cert.Kernel18Ideal.Val

end
-- ==== Proof.SbOutGrad.lean ====
/- The gradient of the stick-breaking attention's output: what the launch leaves, and the reference. -/
module

public import proofs.«01_k».proof.Proof.Gen.Kernel19Ideal.Value
public import proofs.«01_k».proof.Proof.Gen.Reference19Ideal.Read
public import Idealize.ShloMosaic.Lib.Pointwise
public import Idealize.ShloMosaic.Lib.Pipeline.ValueKit

@[expose] public section

set_option maxRecDepth 65536

noncomputable section

namespace Cert.Kernel19Ideal.Val

open Idealize.ShloMosaic Idealize.ShloMosaic.TcCoe
open Cert.Kernel19Ideal Cert.Kernel19Ideal.Gen

theorem hz : (![0, 0] : Fin 2 → Nat) = fun _ => 0 := funext fun a => by fin_cases a <;> rfl

/-- A tile of the product, rows against rows. -/
def tileProd (x : Vec Ideal S1024x1024 .bf16) (y : Vec Ideal S512x1024 .bf16) (r : Fin 1024) (n : Fin 512) : EReal :=
  ∑ j : Fin 1024, x (ix2 r j) * y (ix2 n j)

/-- What a point stores: its product added to zero. -/
theorem pay_apply (x : Vec Ideal S1024x1024 .bf16) (y : Vec Ideal S512x1024 .bf16) (r : Fin 1024) (n : Fin 512) :
    (k0_pay3 (k0_pay2 k0_pay1 x y)) (ix2 r n) = tileProd x y r n := by
  pointwise [k0_pay3, k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S512x1024 .bf16) (h4 : a4.IsWhole) (a5 : Memref sig .tc .vmem S1024x512 .bf16) (h5 : a5.IsWhole)
    (a6 : Memref sig .tc .vmem S1024x512 .f32) (h6 : a6.IsWhole) (hc0 : cond0_0 i) (hc1 : cond0_1 i)
    (x : Vec Ideal S1024x1024 .bf16) (y : Vec Ideal S512x1024 .bf16) :
    out0_A_2 c i a3 h3 a4 h4 a5 h5 a6 h6 hc0 hc1 x y = k0_pay3 (k0_pay2 k0_pay1 x y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz, View.ld_unit_zero (S := S512x1024) hz]

variable (m : (ℓ : Loc nD τ sig) → Buf (Elt Ideal) ℓ) (c : Dev nD)

/-- The two factors, as launched. -/
abbrev gA : FVec Ideal S8192x1024 .f32 := m (c, Proc.tc.devRef main_arg2)
abbrev gB : FVec Ideal S512x1024 .f32 := m (c, Proc.tc.devRef main_arg1)

theorem v0 : (V m c (Pipeline.arrRef spec0 0) : S8192x1024.Idx → EReal) = gA m c := by
  show V m c main_v0 = _
  unfold V
  simp only [hostOps0, List.flatten_cons, List.flatten_nil, List.append_nil, List.cons_append, List.nil_append]
  after_results
  all_goals rfl

theorem v1 : (V m c (Pipeline.arrRef spec0 1) : S512x1024.Idx → EReal) = gB m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (n : Fin 512) (k : Fin 1024) :
    ((cfg0.win 1).blk t).view.read (Elt Ideal) f (ix2 n k) = (f : Vec Ideal S512x1024 .bf16) (ix2 n k) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (n : Fin 512) (k : Fin 1024) : iblk m c 1 t (ix2 n k) = gB m c (ix2 n k) := by
  unfold iblk
  exact (read1 c (V m c (Pipeline.arrRef spec0 1)) t n k).trans (congrFun (v1 m c) _)

/-- The whole product at an index. -/
def prod (A : FVec Ideal S8192x1024 .f32) (B : FVec Ideal S512x1024 .f32) (q : Fin 8192) (n : Fin 512) : EReal :=
  ∑ j : Fin 1024, A (ix2 q j) * B (ix2 n j)

/-- The array after the run. -/
theorem arr : (dats m 0 c).arrAt 2 cfg0.N
    = (fun i : S8192x512.Idx => prod (gA m c) (gB m c) (i 0) (i 1) : Vec Ideal S8192x512 .bf16) := by
  refine (dats m 0 c).arrAt_eq_of_covers 2 _ (by decide +kernel) fun t hf y => ?_
  blk_simp
  rw [after0_2]
  obtain ⟨r, n, rfl⟩ : ∃ (r : Fin 1024) (n : Fin 512), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum. -/
theorem ref (A : FVec Ideal S8192x1024 .f32) (B : FVec Ideal S512x1024 .f32) (q : Fin 8192) (n : Fin 512) :
    Cert.Reference19Ideal.Read.val_main_v2 (F := Ideal) B A (ix2 q n) = prod A B q n := by
  pointwise [Cert.Reference19Ideal.Read.val_main_v2, Cert.Reference19Ideal.Read.val_main_v1]
  rfl

end Cert.Kernel19Ideal.Val

end
-- ==== Proof.ProjSbGrad.lean ====
/- The gradient of the weights of the stick-breaking branch: the accumulator over the eight row tiles, the array the
   launch leaves, and the reference. -/
module

public import proofs.«01_k».proof.Proof.Gen.Kernel20Ideal.Value
public import proofs.«01_k».proof.Proof.Gen.Reference20Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel20Ideal.Val

open Idealize.ShloMosaic Idealize.ShloMosaic.TcCoe
open Cert.Kernel20Ideal Cert.Kernel20Ideal.Gen

theorem hz : (![0, 0] : Fin 2 → Nat) = fun _ => 0 := funext fun a => by fin_cases a <;> rfl

/-- A tile of rows of the one factor against the same rows of the other. -/
def tileProd (x : Vec Ideal S1024x512 .f32) (y : Vec Ideal S1024x1024 .bf16) (k : Fin 512) (n : Fin 1024) : EReal :=
  ∑ r : Fin 1024, x (ix2 r k) * y (ix2 r n)

/-- What a point adds to the accumulator. -/
theorem pay2_apply (acc : Vec Ideal S512x1024 .f32) (x : Vec Ideal S1024x512 .f32) (y : Vec Ideal S1024x1024 .bf16)
    (k : Fin 512) (n : Fin 1024) : k0_pay2 acc x y (ix2 k n) = acc (ix2 k n) + tileProd x y k n := by
  pointwise [k0_pay2]
  rfl

/-- The accumulator starts at zero. -/
theorem pay1_apply (k : Fin 512) (n : Fin 1024) : k0_pay1 (F := Ideal) (ix2 k n) = 0 := by
  pointwise [k0_pay1]

section Cases

variable (c : Dev nD) (i : grid0.Coords) (a3 : Memref sig .tc .vmem S1024x512 .f32) (h3 : a3.IsWhole)
  (a4 : Memref sig .tc .vmem S1024x1024 .bf16) (h4 : a4.IsWhole) (a5 : Memref sig .tc .vmem S512x1024 .f32) (h5 : a5.IsWhole)
  (a6 : Memref sig .tc .vmem S512x1024 .f32) (h6 : a6.IsWhole)
  (x : Vec Ideal S1024x512 .f32) (y : Vec Ideal S1024x1024 .bf16) (s : Vec Ideal S512x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x512) hz,
    View.ld_unit_zero (S := S1024x1024) hz, View.ld_unit_zero (S := S512x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x512) hz,
    View.ld_unit_zero (S := S1024x1024) hz, View.ld_unit_zero (S := S512x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S1024x1024) hz, View.ld_unit_zero (S := S512x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1024x512) hz,
    View.ld_unit_zero (S := S1024x1024) hz, View.ld_unit_zero (S := S512x1024) hz]

end Cases

variable (m : (ℓ : Loc nD τ sig) → Buf (Elt Ideal) ℓ) (c : Dev nD)

/-- The layer's input and the gradient of its output, as launched. -/
abbrev gH : FVec Ideal S8192x512 .f32 := m (c, Proc.tc.devRef main_arg0)
abbrev gD : FVec Ideal S8192x1024 .f32 := m (c, Proc.tc.devRef main_arg2)

theorem v0 : (V m c (Pipeline.arrRef spec0 0) : S8192x512.Idx → EReal) = gH m c := by
  show V m c main_arg0 = _
  unfold V
  simp only [hostOps0, List.flatten_cons, List.flatten_nil, List.append_nil, List.cons_append, List.nil_append]
  after_results
  all_goals rfl

theorem v1 : (V m c (Pipeline.arrRef spec0 1) : S8192x1024.Idx → EReal) = gD m c := by
  show V m c main_v0 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 1024) : Fin 1024 := ⟨1024 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r : Fin 1024) (k : Fin 512) :
    ((cfg0.win 0).blk t).view.read (Elt Ideal) f (ix2 r k) = (f : Vec Ideal S8192x512 .f32) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1024) :
    ((cfg0.win 1).blk t).view.read (Elt Ideal) f (ix2 r n)
      = (f : Vec Ideal S8192x1024 .bf16) (ix2 (row (t.val % 8) (lt8 _) r) (col (t.val / 8) (ltC t) n)) := by
  refine congrArg f ?_
  blk_ext [idx1 t]

theorem iblk0 (t : Fin cfg0.N) (r : Fin 1024) (k : Fin 512) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1024) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 512) (n : Fin 1024) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 512) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 512) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x512 .f32) (D : FVec Ideal S8192x1024 .f32) (k : Fin 512) (n : Fin 1024) : EReal :=
  ∑ q : Fin 8192, H (ix2 q k) * D (ix2 q n)

/-- The points of a column tile together give the product over all rows. -/
theorem sum_part (t : Fin cfg0.N) (k : Fin 512) (n : Fin 1024) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S512x1024.Idx => dW (gH m c) (gD m c) (i 0) (i 1) : Vec Ideal S512x1024 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 512) (n : Fin 1024), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x512 .f32) (D : FVec Ideal S8192x1024 .f32) (k : Fin 512) (n : Fin 1024) :
    Cert.Reference20Ideal.Read.val_main_v2 (F := Ideal) H D (ix2 k n) = dW H D k n := by
  pointwise [Cert.Reference20Ideal.Read.val_main_v2, Cert.Reference20Ideal.Read.val_main_v1]
  exact Finset.sum_congr rfl fun q _ => mul_comm _ _

end Cert.Kernel20Ideal.Val

end
-- ==== Proof.Lanes.lean ====
/- The padded layout of the MLA attention: each head has 128 lanes, of which the host fills the last 64 (an output's) or
   the first 96 (a query's) and leaves zeros in the others. -/
module

public import proofs.«01_k».proof.Proof.Gen.Kernel23Ideal.Value
public import proofs.«01_k».proof.Proof.Gen.Kernel26Ideal.Value
public import Idealize.ShloMosaic.Lib.Pointwise
public import Idealize.ShloMosaic.Lib.Pipeline.ValueKit

@[expose] public section

set_option maxRecDepth 65536

noncomputable section

namespace Cert.Lanes

open Idealize.ShloMosaic Idealize.ShloMosaic.TcCoe

/-- The lanes the host adds hold zero. -/
theorem zero_lane (t : FTy) : FloatOps.sitofp (F := Ideal) t 0#32 = (0 : EReal) := by
  show (((0#32 : BitVec 32).toInt : ℝ) : EReal) = 0
  simp

section Last

open Cert.Kernel23Ideal Cert.Kernel23Ideal.Gen

/-- An output's heads, 64 zero lanes before each. -/
def outLanes (O : FVec Ideal S8192x8x64 .f32) : FVec Ideal S8192x1024 .f32 :=
  shapeCast S8192x1024 (pad S8192x8x128 ![0, 0, 64] ![0, 0, 0] ![0, 0, 0] O (sitofp .f32 (constantI S_ 32 0#32))
    pads_S8192x8x64_S8192x8x128_000_000_6400 h_S_) shapeCasts_S8192x8x128_S8192x1024

theorem outLanes_apply (O : FVec Ideal S8192x8x64 .f32) (q : Fin 8192) (l : Fin 1024) :
    outLanes O (ix2 q l) = if 64 ≤ l.val % 128 then O (ix3 q ⟨l.val / 128, by omega⟩ ⟨l.val % 128 - 64, by omega⟩) else 0 := by
  have hl := l.isLt
  pointwise [outLanes]
  by_cases h : 64 ≤ l.val % 128
  · rw [dif_pos (by omega), if_pos h]
  · rw [dif_neg (by omega), if_neg h]
    exact zero_lane _

/-- The weights' rows in the same layout. -/
def weightLanes (W : FVec Ideal S512x1024 .f32) : FVec Ideal S1024x1024 .bf16 :=
  shapeCast S1024x1024 (pad S8x128x1024 ![0, 64, 0] ![0, 0, 0] ![0, 0, 0]
    (shapeCast S8x64x1024 (truncf .bf16 W bitsLt_bf16_f32) shapeCasts_S512x1024_S8x64x1024)
    (sitofp .bf16 (constantI S_ 32 0#32)) pads_S8x64x1024_S8x128x1024_000_6400_000 h_S_) shapeCasts_S8x128x1024_S1024x1024

theorem weightLanes_apply (W : FVec Ideal S512x1024 .f32) (l n : Fin 1024) :
    weightLanes W (ix2 l n) = if 64 ≤ l.val % 128 then W (ix2 ⟨l.val / 128 * 64 + (l.val % 128 - 64), by omega⟩ n) else 0 := by
  have hl := l.isLt
  pointwise [weightLanes]
  by_cases h : 64 ≤ l.val % 128
  · rw [dif_pos (by omega), if_pos h]
  · rw [dif_neg (by omega), if_neg h]
    exact zero_lane _

end Last

section First

open Cert.Kernel26Ideal Cert.Kernel26Ideal.Gen

/-- A query's heads, 32 zero lanes after each. -/
def queryLanes (D : FVec Ideal S8192x8x96 .f32) : FVec Ideal S8192x1024 .bf16 :=
  shapeCast S8192x1024 (pad S8192x8x128 ![0, 0, 0] ![0, 0, 32] ![0, 0, 0] (truncf .bf16 D bitsLt_bf16_f32)
    (sitofp .bf16 (constantI S_ 32 0#32)) pads_S8192x8x96_S8192x8x128_000_000_0320 h_S_) shapeCasts_S8192x8x128_S8192x1024

theorem queryLanes_apply (D : FVec Ideal S8192x8x96 .f32) (q : Fin 8192) (l : Fin 1024) :
    queryLanes D (ix2 q l) = if h : l.val % 128 < 96 then D (ix3 q ⟨l.val / 128, by omega⟩ ⟨l.val % 128, h⟩) else 0 := by
  have hl := l.isLt
  pointwise [queryLanes]
  by_cases h : l.val % 128 < 96
  · rw [dif_pos (by omega), dif_pos h]
  · rw [dif_neg (by omega), dif_neg h]
    exact zero_lane _

/-- The columns of the query's weights in the same layout. -/
def upLanes (W : FVec Ideal S384x768 .f32) : FVec Ideal S384x1024 .bf16 :=
  shapeCast S384x1024 (pad S384x8x128 ![0, 0, 0] ![0, 0, 32] ![0, 0, 0]
    (shapeCast S384x8x96 (truncf .bf16 W bitsLt_bf16_f32) shapeCasts_S384x768_S384x8x96)
    (sitofp .bf16 (constantI S_ 32 0#32)) pads_S384x8x96_S384x8x128_000_000_0320 h_S_) shapeCasts_S384x8x128_S384x1024

theorem upLanes_apply (W : FVec Ideal S384x768 .f32) (k : Fin 384) (l : Fin 1024) :
    upLanes W (ix2 k l) = if h : l.val % 128 < 96 then W (ix2 k ⟨l.val / 128 * 96 + l.val % 128, by omega⟩) else 0 := by
  have hl := l.isLt
  pointwise [upLanes]
  by_cases h : l.val % 128 < 96
  · rw [dif_pos (by omega), dif_pos h]
  · rw [dif_neg (by omega), dif_neg h]
    exact zero_lane _

end First

/-- A sum over the padded lanes that has something on the last 64 of each head alone is the sum over those. -/
theorem sum_last (f : Fin 1024 → EReal) (g : Fin 512 → EReal) (h0 : ∀ l, ¬64 ≤ l.val % 128 → f l = 0)
    (h1 : ∀ l, 64 ≤ l.val % 128 → f l = g ⟨l.val / 128 * 64 + (l.val % 128 - 64), by omega⟩) : ∑ l, f l = ∑ j, g j := by
  rw [Fin.sum_univ_tiles 8 128 rfl f, Fin.sum_univ_tiles 8 64 rfl g]
  refine Finset.sum_congr rfl fun i _ => ?_
  rw [Fin.sum_univ_add (a := 64) (b := 64)]
  refine (congrArg (· + _) (Finset.sum_eq_zero fun r _ => h0 _ ?_)).trans ((zero_add _).trans (Finset.sum_congr rfl fun r _ => ?_))
  · simp only [Fin.val_castAdd]
    omega
  · refine (h1 _ ?_).trans (congrArg g (Fin.ext ?_)) <;> simp only [Fin.val_natAdd] <;> omega

/-- The same for the first 96 lanes. -/
theorem sum_first (f : Fin 1024 → EReal) (g : Fin 768 → EReal) (h0 : ∀ l, ¬l.val % 128 < 96 → f l = 0)
    (h1 : ∀ (l : Fin 1024) (_ : l.val % 128 < 96), f l = g ⟨l.val / 128 * 96 + l.val % 128, by omega⟩) : ∑ l, f l = ∑ j, g j := by
  rw [Fin.sum_univ_tiles 8 128 rfl f, Fin.sum_univ_tiles 8 96 rfl g]
  refine Finset.sum_congr rfl fun i _ => ?_
  rw [Fin.sum_univ_add (a := 96) (b := 32)]
  refine (congrArg (_ + ·) (Finset.sum_eq_zero fun r _ => h0 _ ?_)).trans ((add_zero _).trans (Finset.sum_congr rfl fun r _ => ?_))
  · simp only [Fin.val_natAdd]
    omega
  · refine (h1 _ ?_).trans (congrArg g (Fin.ext ?_)) <;> simp only [Fin.val_castAdd] <;> omega

end Cert.Lanes

end
-- ==== Proof.ProjMla.lean ====
/- The projection of the MLA attention's output: what the launch leaves, and the reference. -/
module

public import proofs.«01_k».proof.Proof.Gen.Kernel23Ideal.Value
public import proofs.«01_k».proof.Proof.Gen.Reference23Ideal.Read
public import proofs.«01_k».proof.Proof.Lanes
public import Idealize.ShloMosaic.Lib.Pointwise
public import Idealize.ShloMosaic.Lib.Pipeline.ValueKit

@[expose] public section

set_option maxRecDepth 65536

noncomputable section

namespace Cert.Kernel23Ideal.Val

open Idealize.ShloMosaic Idealize.ShloMosaic.TcCoe
open Cert.Kernel23Ideal Cert.Kernel23Ideal.Gen
open Cert.Lanes (outLanes outLanes_apply weightLanes weightLanes_apply sum_last)

theorem hz : (![0, 0] : Fin 2 → Nat) = fun _ => 0 := funext fun a => by fin_cases a <;> rfl

/-- A tile of the product. -/
def tileProd (x : Vec Ideal S1024x1024 .f32) (y : Vec Ideal S1024x1024 .bf16) (r : Fin 1024) (n : Fin 1024) : EReal :=
  ∑ j : Fin 1024, x (ix2 r j) * y (ix2 j n)

/-- What a point stores: its product added to zero. -/
theorem pay_apply (x : Vec Ideal S1024x1024 .f32) (y : Vec Ideal S1024x1024 .bf16) (r : Fin 1024) (n : Fin 1024) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i)
    (x : Vec Ideal S1024x1024 .f32) (y : Vec Ideal S1024x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz]

variable (m : (ℓ : Loc nD τ sig) → Buf (Elt Ideal) ℓ) (c : Dev nD)

/-- The two factors, as launched. -/
abbrev gA : FVec Ideal S8192x1024 .f32 := outLanes (m (c, Proc.tc.devRef main_arg0))
abbrev gB : FVec Ideal S1024x1024 .bf16 := weightLanes (m (c, Proc.tc.devRef main_arg1))

theorem v0 : (V m c (Pipeline.arrRef spec0 0) : S8192x1024.Idx → EReal) = gA m c := by
  show V m c main_v1 = _
  unfold V
  simp only [hostOps0, List.flatten_cons, List.flatten_nil, List.append_nil, List.cons_append, List.nil_append]
  after_results
  all_goals rfl

theorem v1 : (V m c (Pipeline.arrRef spec0 1) : S1024x1024.Idx → EReal) = gB m c := by
  show V m c main_v5 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .f32) (ix2 (row t r) k) := by
  refine congrArg f ?_
  blk_ext [idx0 t]

theorem read1 (f : Buf (Elt Ideal) ((c : Thread nD τ).loc (Pipeline.arrRef spec0 1))) (t : Fin cfg0.N) (k : Fin 1024) (n : Fin 1024) :
    ((cfg0.win 1).blk t).view.read (Elt Ideal) f (ix2 k n) = (f : Vec Ideal S1024x1024 .bf16) (ix2 k n) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (k : Fin 1024) (n : Fin 1024) : iblk m c 1 t (ix2 k n) = gB m c (ix2 k n) := by
  unfold iblk
  exact (read1 c (V m c (Pipeline.arrRef spec0 1)) t k n).trans (congrFun (v1 m c) _)

/-- The whole product at an index. -/
def prod (A : FVec Ideal S8192x1024 .f32) (B : FVec Ideal S1024x1024 .bf16) (q : Fin 8192) (n : Fin 1024) : EReal :=
  ∑ j : Fin 1024, A (ix2 q j) * B (ix2 j n)

/-- The array after the run. -/
theorem arr : (dats m 0 c).arrAt 2 cfg0.N
    = (fun i : S8192x1024.Idx => prod (gA m c) (gB m c) (i 0) (i 1) : Vec Ideal S8192x1024 .f32) := by
  refine (dats m 0 c).arrAt_eq_of_covers 2 _ (by decide +kernel) fun t hf y => ?_
  blk_simp
  rw [after0_2]
  obtain ⟨r, n, rfl⟩ : ∃ (r : Fin 1024) (n : Fin 1024), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum: the lanes added are zero. -/
theorem ref (A : FVec Ideal S8192x8x64 .f32) (B : FVec Ideal S512x1024 .f32) (q : Fin 8192) (n : Fin 1024) :
    Cert.Reference23Ideal.Read.val_main_v1 (F := Ideal) A B (ix2 q n) = prod (outLanes A) (weightLanes B) q n := by
  pointwise [Cert.Reference23Ideal.Read.val_main_v1, Cert.Reference23Ideal.Read.val_main_v0]
  refine (sum_last _ (fun x => A (ix3 q ⟨x.val / 64, by omega⟩ ⟨x.val % 64, by omega⟩) * B (ix2 x n)) (fun l h => ?_) fun l h => ?_).symm
  · rw [outLanes_apply, if_neg h, zero_mul]
  · rw [outLanes_apply, if_pos h, weightLanes_apply, if_pos h]
    refine congrArg (· * _) (congrArg A ?_)
    congr 1 <;> refine Fin.ext ?_ <;> simp only [] <;> omega

end Cert.Kernel23Ideal.Val

end
-- ==== Proof.MlaOutGrad.lean ====
/- The gradient of the MLA attention's output: what the launch leaves, and the reference. -/
module

public import proofs.«01_k».proof.Proof.Gen.Kernel24Ideal.Value
public import proofs.«01_k».proof.Proof.Gen.Reference24Ideal.Read
public import proofs.«01_k».proof.Proof.Lanes
public import Idealize.ShloMosaic.Lib.Pointwise
public import Idealize.ShloMosaic.Lib.Pipeline.ValueKit

@[expose] public section

set_option maxRecDepth 65536

noncomputable section

namespace Cert.Kernel24Ideal.Val

open Idealize.ShloMosaic Idealize.ShloMosaic.TcCoe
open Cert.Kernel24Ideal Cert.Kernel24Ideal.Gen
open Cert.Lanes (weightLanes weightLanes_apply)

theorem hz : (![0, 0] : Fin 2 → Nat) = fun _ => 0 := funext fun a => by fin_cases a <;> rfl

/-- A tile of the product, rows against rows. -/
def tileProd (x : Vec Ideal S1024x1024 .bf16) (y : Vec Ideal S1024x1024 .bf16) (r : Fin 1024) (n : Fin 1024) : EReal :=
  ∑ j : Fin 1024, x (ix2 r j) * y (ix2 n j)

/-- What a point stores: its product added to zero. -/
theorem pay_apply (x : Vec Ideal S1024x1024 .bf16) (y : Vec Ideal S1024x1024 .bf16) (r : Fin 1024) (n : Fin 1024) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i)
    (x : Vec Ideal S1024x1024 .bf16) (y : Vec Ideal S1024x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz]

variable (m : (ℓ : Loc nD τ sig) → Buf (Elt Ideal) ℓ) (c : Dev nD)

/-- The two factors, as launched. -/
abbrev gA : FVec Ideal S8192x1024 .f32 := m (c, Proc.tc.devRef main_arg2)
abbrev gB : FVec Ideal S1024x1024 .bf16 := weightLanes (m (c, Proc.tc.devRef main_arg1))

theorem v0 : (V m c (Pipeline.arrRef spec0 0) : S8192x1024.Idx → EReal) = gA m c := by
  show V m c main_v0 = _
  unfold V
  simp only [hostOps0, List.flatten_cons, List.flatten_nil, List.append_nil, List.cons_append, List.nil_append]
  after_results
  all_goals rfl

theorem v1 : (V m c (Pipeline.arrRef spec0 1) : S1024x1024.Idx → EReal) = gB m c := by
  show V m c main_v4 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (n : Fin 1024) (k : Fin 1024) :
    ((cfg0.win 1).blk t).view.read (Elt Ideal) f (ix2 n k) = (f : Vec Ideal S1024x1024 .bf16) (ix2 n k) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (n : Fin 1024) (k : Fin 1024) : iblk m c 1 t (ix2 n k) = gB m c (ix2 n k) := by
  unfold iblk
  exact (read1 c (V m c (Pipeline.arrRef spec0 1)) t n k).trans (congrFun (v1 m c) _)

/-- The whole product at an index. -/
def prod (A : FVec Ideal S8192x1024 .f32) (B : FVec Ideal S1024x1024 .bf16) (q : Fin 8192) (n : Fin 1024) : EReal :=
  ∑ j : Fin 1024, A (ix2 q j) * B (ix2 n j)

/-- The array after the run. -/
theorem arr : (dats m 0 c).arrAt 2 cfg0.N
    = (fun i : S8192x1024.Idx => prod (gA m c) (gB m c) (i 0) (i 1) : Vec Ideal S8192x1024 .f32) := by
  refine (dats m 0 c).arrAt_eq_of_covers 2 _ (by decide +kernel) fun t hf y => ?_
  blk_simp
  rw [after0_2]
  obtain ⟨r, n, rfl⟩ : ∃ (r : Fin 1024) (n : Fin 1024), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum: a lane the host added gets zero. -/
theorem ref (A : FVec Ideal S8192x1024 .f32) (B : FVec Ideal S512x1024 .f32) (q : Fin 8192) (n : Fin 1024) :
    Cert.Reference24Ideal.Read.val_main_v6 (F := Ideal) B A (ix2 q n) = prod A (weightLanes B) q n := by
  pointwise [Cert.Reference24Ideal.Read.val_main_v6, Cert.Reference24Ideal.Read.val_main_v5, Cert.Reference24Ideal.Read.val_main_v4, Cert.Reference24Ideal.Read.val_main_v3, Cert.Reference24Ideal.Read.val_main_v2, Cert.Reference24Ideal.Read.val_main_cst]
  by_cases h : n.val % 128 < 64
  · rw [dif_pos h]
    exact (Finset.sum_eq_zero fun j _ => by rw [weightLanes_apply, if_neg (by omega), mul_zero]).symm
  · rw [dif_neg h]
    exact Finset.sum_congr rfl fun j _ => (congrArg (_ * ·) ((weightLanes_apply B n j).trans (if_pos (Nat.le_of_not_lt h)))).symm

end Cert.Kernel24Ideal.Val

end
-- ==== Proof.MlaProjGrad.lean ====
/- The gradient of the weights of the MLA branch: the accumulator over the eight row tiles,
   the array the launch leaves, and the reference. -/
module

public import proofs.«01_k».proof.Proof.Gen.Kernel25Ideal.Value
public import proofs.«01_k».proof.Proof.Gen.Reference25Ideal.Read
public import proofs.«01_k».proof.Proof.Lanes
public import proofs.«01_k».proof.Proof.Tiles
public import Idealize.ShloMosaic.Lib.Pointwise
public import Idealize.ShloMosaic.Lib.Pipeline.ValueKit

@[expose] public section

set_option maxRecDepth 65536

noncomputable section

namespace Cert.Kernel25Ideal.Val

open Idealize.ShloMosaic Idealize.ShloMosaic.TcCoe
open Cert.Kernel25Ideal Cert.Kernel25Ideal.Gen
open Cert.Lanes (outLanes outLanes_apply)

theorem hz : (![0, 0] : Fin 2 → Nat) = fun _ => 0 := funext fun a => by fin_cases a <;> rfl

/-- A tile of rows of the one factor against the same rows of the other. -/
def tileProd (x : Vec Ideal S1024x1024 .f32) (y : Vec Ideal S1024x1024 .bf16) (k : Fin 1024) (n : Fin 1024) : EReal :=
  ∑ r : Fin 1024, x (ix2 r k) * y (ix2 r n)

/-- What a point adds to the accumulator. -/
theorem pay2_apply (acc : Vec Ideal S1024x1024 .f32) (x : Vec Ideal S1024x1024 .f32) (y : Vec Ideal S1024x1024 .bf16)
    (k : Fin 1024) (n : Fin 1024) : k0_pay2 acc x y (ix2 k n) = acc (ix2 k n) + tileProd x y k n := by
  pointwise [k0_pay2]
  rfl

/-- The accumulator starts at zero. -/
theorem pay1_apply (k : Fin 1024) (n : Fin 1024) : k0_pay1 (F := Ideal) (ix2 k n) = 0 := by
  pointwise [k0_pay1]

section Cases

variable (c : Dev nD) (i : grid0.Coords) (a3 : Memref sig .tc .vmem S1024x1024 .f32) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x1024 .f32) (y : Vec Ideal S1024x1024 .bf16) (s : Vec Ideal S1024x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cases

variable (m : (ℓ : Loc nD τ sig) → Buf (Elt Ideal) ℓ) (c : Dev nD)

/-- The layer's input and the gradient of its output, as launched. -/
abbrev gH : FVec Ideal S8192x1024 .f32 := outLanes (m (c, Proc.tc.devRef main_arg0))
abbrev gD : FVec Ideal S8192x1024 .f32 := m (c, Proc.tc.devRef main_arg2)

theorem v0 : (V m c (Pipeline.arrRef spec0 0) : S8192x1024.Idx → EReal) = gH m c := by
  show V m c main_v1 = _
  unfold V
  simp only [hostOps0, List.flatten_cons, List.flatten_nil, List.append_nil, List.cons_append, List.nil_append]
  after_results
  all_goals rfl

theorem v1 : (V m c (Pipeline.arrRef spec0 1) : S8192x1024.Idx → EReal) = gD m c := by
  show V m c main_v2 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 1024) : Fin 1024 := ⟨1024 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .f32) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1024) :
    ((cfg0.win 1).blk t).view.read (Elt Ideal) f (ix2 r n)
      = (f : Vec Ideal S8192x1024 .bf16) (ix2 (row (t.val % 8) (lt8 _) r) (col (t.val / 8) (ltC t) n)) := by
  refine congrArg f ?_
  blk_ext [idx1 t]

theorem iblk0 (t : Fin cfg0.N) (r : Fin 1024) (k : Fin 1024) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1024) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 1024) (n : Fin 1024) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 1024) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1024) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x1024 .f32) (D : FVec Ideal S8192x1024 .f32) (k : Fin 1024) (n : Fin 1024) : EReal :=
  ∑ q : Fin 8192, H (ix2 q k) * D (ix2 q n)

/-- The points of a column tile together give the product over all rows. -/
theorem sum_part (t : Fin cfg0.N) (k : Fin 1024) (n : Fin 1024) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S1024x1024.Idx => dW (gH m c) (gD m c) (i 0) (i 1) : Vec Ideal S1024x1024 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1024) (n : Fin 1024), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum: a row the host added gets zero. -/
theorem ref (H : FVec Ideal S8192x8x64 .f32) (D : FVec Ideal S8192x1024 .f32) (k n : Fin 1024) :
    Cert.Reference25Ideal.Read.val_main_v7 (F := Ideal) H D (ix2 k n) = dW (outLanes H) D k n := by
  pointwise [Cert.Reference25Ideal.Read.val_main_v7, Cert.Reference25Ideal.Read.val_main_v6, Cert.Reference25Ideal.Read.val_main_v5, Cert.Reference25Ideal.Read.val_main_v4, Cert.Reference25Ideal.Read.val_main_v3, Cert.Reference25Ideal.Read.val_main_v2, Cert.Reference25Ideal.Read.val_main_v0, Cert.Reference25Ideal.Read.val_main_cst]
  by_cases h : k.val % 128 < 64
  · rw [dif_pos h]
    exact (Finset.sum_eq_zero fun q _ => by rw [outLanes_apply, if_neg (by omega), zero_mul]).symm
  · rw [dif_neg h]
    refine Finset.sum_congr rfl fun q _ => ?_
    refine (mul_comm _ _).trans (congrArg (· * _) (Eq.trans (congrArg H ?_) ((outLanes_apply H q k).trans (if_pos (Nat.le_of_not_lt h))).symm))
    congr 1 <;> refine Fin.ext ?_ <;> simp only [] <;> omega

end Cert.Kernel25Ideal.Val

end
-- ==== Proof.CkvGrad.lean ====
/- The gradient of the latents of keys and values: what the launch leaves, and the reference. -/
module

public import proofs.«01_k».proof.Proof.Gen.Kernel21Ideal.Value
public import proofs.«01_k».proof.Proof.Gen.Reference21Ideal.Read
public import Idealize.ShloMosaic.Lib.Pointwise
public import Idealize.ShloMosaic.Lib.Pipeline.ValueKit

@[expose] public section

set_option maxRecDepth 65536

noncomputable section

namespace Cert.Kernel21Ideal.Val

open Idealize.ShloMosaic Idealize.ShloMosaic.TcCoe
open Cert.Kernel21Ideal Cert.Kernel21Ideal.Gen

theorem hz : (![0, 0] : Fin 2 → Nat) = fun _ => 0 := funext fun a => by fin_cases a <;> rfl

/-- A tile of the product, rows against rows. -/
def tileProd (x : Vec Ideal S1024x1024 .bf16) (y : Vec Ideal S256x1024 .bf16) (r : Fin 1024) (n : Fin 256) : EReal :=
  ∑ j : Fin 1024, x (ix2 r j) * y (ix2 n j)

/-- What a point stores: its product added to zero. -/
theorem pay_apply (x : Vec Ideal S1024x1024 .bf16) (y : Vec Ideal S256x1024 .bf16) (r : Fin 1024) (n : Fin 256) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S256x1024 .bf16) (h4 : a4.IsWhole) (a5 : Memref sig .tc .vmem S1024x256 .f32) (h5 : a5.IsWhole)
    (a6 : Memref sig .tc .vmem S1024x256 .f32) (h6 : a6.IsWhole) (hc0 : cond0_0 i) (hc1 : cond0_1 i)
    (x : Vec Ideal S1024x1024 .bf16) (y : Vec Ideal S256x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz, View.ld_unit_zero (S := S256x1024) hz]

variable (m : (ℓ : Loc nD τ sig) → Buf (Elt Ideal) ℓ) (c : Dev nD)

/-- The two factors, as launched. -/
abbrev gA : FVec Ideal S8192x1024 .f32 := m (c, Proc.tc.devRef main_arg2)
abbrev gB : FVec Ideal S256x1024 .f32 := m (c, Proc.tc.devRef main_arg1)

theorem v0 : (V m c (Pipeline.arrRef spec0 0) : S8192x1024.Idx → EReal) = gA m c := by
  show V m c main_v0 = _
  unfold V
  simp only [hostOps0, List.flatten_cons, List.flatten_nil, List.append_nil, List.cons_append, List.nil_append]
  after_results
  all_goals rfl

theorem v1 : (V m c (Pipeline.arrRef spec0 1) : S256x1024.Idx → EReal) = gB m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (n : Fin 256) (k : Fin 1024) :
    ((cfg0.win 1).blk t).view.read (Elt Ideal) f (ix2 n k) = (f : Vec Ideal S256x1024 .bf16) (ix2 n k) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (n : Fin 256) (k : Fin 1024) : iblk m c 1 t (ix2 n k) = gB m c (ix2 n k) := by
  unfold iblk
  exact (read1 c (V m c (Pipeline.arrRef spec0 1)) t n k).trans (congrFun (v1 m c) _)

/-- The whole product at an index. -/
def prod (A : FVec Ideal S8192x1024 .f32) (B : FVec Ideal S256x1024 .f32) (q : Fin 8192) (n : Fin 256) : EReal :=
  ∑ j : Fin 1024, A (ix2 q j) * B (ix2 n j)

/-- The array after the run. -/
theorem arr : (dats m 0 c).arrAt 2 cfg0.N
    = (fun i : S8192x256.Idx => prod (gA m c) (gB m c) (i 0) (i 1) : Vec Ideal S8192x256 .f32) := by
  refine (dats m 0 c).arrAt_eq_of_covers 2 _ (by decide +kernel) fun t hf y => ?_
  blk_simp
  rw [after0_2]
  obtain ⟨r, n, rfl⟩ : ∃ (r : Fin 1024) (n : Fin 256), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum. -/
theorem ref (A : FVec Ideal S8192x1024 .f32) (B : FVec Ideal S256x1024 .f32) (q : Fin 8192) (n : Fin 256) :
    Cert.Reference21Ideal.Read.val_main_v1 (F := Ideal) B A (ix2 q n) = prod A B q n := by
  pointwise [Cert.Reference21Ideal.Read.val_main_v1]
  rfl

end Cert.Kernel21Ideal.Val

end
-- ==== Proof.UkvGrad.lean ====
/- The gradient of the weights that make keys and values of the latents: the accumulator over the eight row tiles, the array the
   launch leaves, and the reference. -/
module

public import proofs.«01_k».proof.Proof.Gen.Kernel22Ideal.Value
public import proofs.«01_k».proof.Proof.Gen.Reference22Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel22Ideal.Val

open Idealize.ShloMosaic Idealize.ShloMosaic.TcCoe
open Cert.Kernel22Ideal Cert.Kernel22Ideal.Gen

theorem hz : (![0, 0] : Fin 2 → Nat) = fun _ => 0 := funext fun a => by fin_cases a <;> rfl

/-- A tile of rows of the one factor against the same rows of the other. -/
def tileProd (x : Vec Ideal S1024x256 .bf16) (y : Vec Ideal S1024x1024 .bf16) (k : Fin 256) (n : Fin 1024) : EReal :=
  ∑ r : Fin 1024, x (ix2 r k) * y (ix2 r n)

/-- What a point adds to the accumulator. -/
theorem pay2_apply (acc : Vec Ideal S256x1024 .f32) (x : Vec Ideal S1024x256 .bf16) (y : Vec Ideal S1024x1024 .bf16)
    (k : Fin 256) (n : Fin 1024) : k0_pay2 acc x y (ix2 k n) = acc (ix2 k n) + tileProd x y k n := by
  pointwise [k0_pay2]
  rfl

/-- The accumulator starts at zero. -/
theorem pay1_apply (k : Fin 256) (n : Fin 1024) : k0_pay1 (F := Ideal) (ix2 k n) = 0 := by
  pointwise [k0_pay1]

section Cases

variable (c : Dev nD) (i : grid0.Coords) (a3 : Memref sig .tc .vmem S1024x256 .bf16) (h3 : a3.IsWhole)
  (a4 : Memref sig .tc .vmem S1024x1024 .bf16) (h4 : a4.IsWhole) (a5 : Memref sig .tc .vmem S256x1024 .f32) (h5 : a5.IsWhole)
  (a6 : Memref sig .tc .vmem S256x1024 .f32) (h6 : a6.IsWhole)
  (x : Vec Ideal S1024x256 .bf16) (y : Vec Ideal S1024x1024 .bf16) (s : Vec Ideal S256x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x1024) hz, View.readCov_unit_zero (S := S256x1024) _ hz]
  simp only [View.readAt_eq_ld, h3.read_unread, h4.read_unread, View.ld_unit_zero (S := S1024x256) hz,
    View.ld_unit_zero (S := S1024x1024) hz, View.ld_unit_zero (S := S256x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x256) hz,
    View.ld_unit_zero (S := S1024x1024) hz, View.ld_unit_zero (S := S256x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x256) hz,
    View.ld_unit_zero (S := S1024x1024) hz, View.ld_unit_zero (S := S256x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S256x1024) _ hz]
  simp only [View.readAt_eq_ld, h3.read_unread, h4.read_unread, h6.read_unread, View.ld_unit_zero (S := S1024x256) hz,
    View.ld_unit_zero (S := S1024x1024) hz, View.ld_unit_zero (S := S256x1024) hz]

end Cases

variable (m : (ℓ : Loc nD τ sig) → Buf (Elt Ideal) ℓ) (c : Dev nD)

/-- The layer's input and the gradient of its output, as launched. -/
abbrev gH : FVec Ideal S8192x256 .f32 := m (c, Proc.tc.devRef main_arg0)
abbrev gD : FVec Ideal S8192x1024 .f32 := m (c, Proc.tc.devRef main_arg2)

theorem v0 : (V m c (Pipeline.arrRef spec0 0) : S8192x256.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x1024.Idx → EReal) = gD m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 1024) : Fin 1024 := ⟨1024 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r : Fin 1024) (k : Fin 256) :
    ((cfg0.win 0).blk t).view.read (Elt Ideal) f (ix2 r k) = (f : Vec Ideal S8192x256 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1024) :
    ((cfg0.win 1).blk t).view.read (Elt Ideal) f (ix2 r n)
      = (f : Vec Ideal S8192x1024 .bf16) (ix2 (row (t.val % 8) (lt8 _) r) (col (t.val / 8) (ltC t) n)) := by
  refine congrArg f ?_
  blk_ext [idx1 t]

theorem iblk0 (t : Fin cfg0.N) (r : Fin 1024) (k : Fin 256) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1024) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 256) (n : Fin 1024) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 256) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 256) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x256 .f32) (D : FVec Ideal S8192x1024 .f32) (k : Fin 256) (n : Fin 1024) : EReal :=
  ∑ q : Fin 8192, H (ix2 q k) * D (ix2 q n)

/-- The points of a column tile together give the product over all rows. -/
theorem sum_part (t : Fin cfg0.N) (k : Fin 256) (n : Fin 1024) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S256x1024.Idx => dW (gH m c) (gD m c) (i 0) (i 1) : Vec Ideal S256x1024 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 256) (n : Fin 1024), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x256 .f32) (D : FVec Ideal S8192x1024 .f32) (k : Fin 256) (n : Fin 1024) :
    Cert.Reference22Ideal.Read.val_main_v2 (F := Ideal) H D (ix2 k n) = dW H D k n := by
  pointwise [Cert.Reference22Ideal.Read.val_main_v2, Cert.Reference22Ideal.Read.val_main_v1]
  exact Finset.sum_congr rfl fun q _ => mul_comm _ _

end Cert.Kernel22Ideal.Val

end
-- ==== Proof.CqGrad.lean ====
/- The gradient of the latents of the queries: what the launch leaves, and the reference. -/
module

public import proofs.«01_k».proof.Proof.Gen.Kernel26Ideal.Value
public import proofs.«01_k».proof.Proof.Gen.Reference26Ideal.Read
public import proofs.«01_k».proof.Proof.Lanes
public import Idealize.ShloMosaic.Lib.Pointwise
public import Idealize.ShloMosaic.Lib.Pipeline.ValueKit

@[expose] public section

set_option maxRecDepth 65536

noncomputable section

namespace Cert.Kernel26Ideal.Val

open Idealize.ShloMosaic Idealize.ShloMosaic.TcCoe
open Cert.Kernel26Ideal Cert.Kernel26Ideal.Gen
open Cert.Lanes (queryLanes queryLanes_apply upLanes upLanes_apply sum_first)

theorem hz : (![0, 0] : Fin 2 → Nat) = fun _ => 0 := funext fun a => by fin_cases a <;> rfl

/-- A tile of the product, rows against rows. -/
def tileProd (x : Vec Ideal S1024x1024 .bf16) (y : Vec Ideal S384x1024 .bf16) (r : Fin 1024) (n : Fin 384) : EReal :=
  ∑ j : Fin 1024, x (ix2 r j) * y (ix2 n j)

/-- What a point stores: its product added to zero. -/
theorem pay_apply (x : Vec Ideal S1024x1024 .bf16) (y : Vec Ideal S384x1024 .bf16) (r : Fin 1024) (n : Fin 384) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S384x1024 .bf16) (h4 : a4.IsWhole) (a5 : Memref sig .tc .vmem S1024x384 .f32) (h5 : a5.IsWhole)
    (a6 : Memref sig .tc .vmem S1024x384 .f32) (h6 : a6.IsWhole) (hc0 : cond0_0 i) (hc1 : cond0_1 i)
    (x : Vec Ideal S1024x1024 .bf16) (y : Vec Ideal S384x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz, View.ld_unit_zero (S := S384x1024) hz]

variable (m : (ℓ : Loc nD τ sig) → Buf (Elt Ideal) ℓ) (c : Dev nD)

/-- The two factors, as launched. -/
abbrev gA : FVec Ideal S8192x1024 .bf16 := queryLanes (m (c, Proc.tc.devRef main_arg2))
abbrev gB : FVec Ideal S384x1024 .bf16 := upLanes (m (c, Proc.tc.devRef main_arg1))

theorem v0 : (V m c (Pipeline.arrRef spec0 0) : S8192x1024.Idx → EReal) = gA m c := by
  show V m c main_v2 = _
  unfold V
  simp only [hostOps0, List.flatten_cons, List.flatten_nil, List.append_nil, List.cons_append, List.nil_append]
  after_results
  all_goals rfl

theorem v1 : (V m c (Pipeline.arrRef spec0 1) : S384x1024.Idx → EReal) = gB m c := by
  show V m c main_v6 = _
  unfold V
  simp only [hostOps0, List.flatten_cons, List.flatten_nil, List.append_nil, List.cons_append, List.nil_append]
  after_results
  all_goals rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r : Fin 1024) (k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (n : Fin 384) (k : Fin 1024) :
    ((cfg0.win 1).blk t).view.read (Elt Ideal) f (ix2 n k) = (f : Vec Ideal S384x1024 .bf16) (ix2 n k) := by
  refine congrArg f ?_
  blk_ext [idx1 t]

theorem iblk0 (t : Fin cfg0.N) (r : Fin 1024) (k : Fin 1024) : iblk m c 0 t (ix2 r k) = gA m c (ix2 (row t r) k) := by
  unfold iblk
  exact (read0 c (V m c (Pipeline.arrRef spec0 0)) t r k).trans (congrFun (v0 m c) _)

theorem iblk1 (t : Fin cfg0.N) (n : Fin 384) (k : Fin 1024) : iblk m c 1 t (ix2 n k) = gB m c (ix2 n k) := by
  unfold iblk
  exact (read1 c (V m c (Pipeline.arrRef spec0 1)) t n k).trans (congrFun (v1 m c) _)

/-- The whole product at an index. -/
def prod (A : FVec Ideal S8192x1024 .bf16) (B : FVec Ideal S384x1024 .bf16) (q : Fin 8192) (n : Fin 384) : EReal :=
  ∑ j : Fin 1024, A (ix2 q j) * B (ix2 n j)

/-- The array after the run. -/
theorem arr : (dats m 0 c).arrAt 2 cfg0.N
    = (fun i : S8192x384.Idx => prod (gA m c) (gB m c) (i 0) (i 1) : Vec Ideal S8192x384 .f32) := by
  refine (dats m 0 c).arrAt_eq_of_covers 2 _ (by decide +kernel) fun t hf y => ?_
  blk_simp
  rw [after0_2]
  obtain ⟨r, n, rfl⟩ : ∃ (r : Fin 1024) (n : Fin 384), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's product at an index is that sum: the lanes added are zero. -/
theorem ref (A : FVec Ideal S8192x8x96 .f32) (B : FVec Ideal S384x768 .f32) (q : Fin 8192) (n : Fin 384) :
    Cert.Reference26Ideal.Read.val_main_v3 (F := Ideal) B A (ix2 q n) = prod (queryLanes A) (upLanes B) q n := by
  pointwise [Cert.Reference26Ideal.Read.val_main_v3, Cert.Reference26Ideal.Read.val_main_v2]
  refine (sum_first _ (fun x => A (ix3 q ⟨x.val / 96, by omega⟩ ⟨x.val % 96, by omega⟩) * B (ix2 n x)) (fun l h => ?_) fun l h => ?_).symm
  · rw [queryLanes_apply, dif_neg h, zero_mul]
  · rw [queryLanes_apply, dif_pos h, upLanes_apply, dif_pos h]
    refine congrArg (· * _) (congrArg A ?_)
    congr 1 <;> refine Fin.ext ?_ <;> simp only [] <;> omega

end Cert.Kernel26Ideal.Val

end
-- ==== Proof.UqGrad.lean ====
/- The gradient of the weights that make the queries of the latents: the accumulator over the eight row tiles,
   the array the launch leaves, and the reference. -/
module

public import proofs.«01_k».proof.Proof.Gen.Kernel27Ideal.Value
public import proofs.«01_k».proof.Proof.Gen.Reference27Ideal.Read
public import proofs.«01_k».proof.Proof.Lanes
public import proofs.«01_k».proof.Proof.Tiles
public import Idealize.ShloMosaic.Lib.Pointwise
public import Idealize.ShloMosaic.Lib.Pipeline.ValueKit

@[expose] public section

set_option maxRecDepth 65536

noncomputable section

namespace Cert.Kernel27Ideal.Val

open Idealize.ShloMosaic Idealize.ShloMosaic.TcCoe
open Cert.Kernel27Ideal Cert.Kernel27Ideal.Gen
open Cert.Lanes (queryLanes queryLanes_apply)

theorem hz : (![0, 0] : Fin 2 → Nat) = fun _ => 0 := funext fun a => by fin_cases a <;> rfl

/-- A tile of rows of the one factor against the same rows of the other. -/
def tileProd (x : Vec Ideal S1024x384 .bf16) (y : Vec Ideal S1024x1024 .bf16) (k : Fin 384) (n : Fin 1024) : EReal :=
  ∑ r : Fin 1024, x (ix2 r k) * y (ix2 r n)

/-- What a point adds to the accumulator. -/
theorem pay2_apply (acc : Vec Ideal S384x1024 .f32) (x : Vec Ideal S1024x384 .bf16) (y : Vec Ideal S1024x1024 .bf16)
    (k : Fin 384) (n : Fin 1024) : k0_pay2 acc x y (ix2 k n) = acc (ix2 k n) + tileProd x y k n := by
  pointwise [k0_pay2]
  rfl

/-- The accumulator starts at zero. -/
theorem pay1_apply (k : Fin 384) (n : Fin 1024) : k0_pay1 (F := Ideal) (ix2 k n) = 0 := by
  pointwise [k0_pay1]

section Cases

variable (c : Dev nD) (i : grid0.Coords) (a3 : Memref sig .tc .vmem S1024x384 .bf16) (h3 : a3.IsWhole)
  (a4 : Memref sig .tc .vmem S1024x1024 .bf16) (h4 : a4.IsWhole) (a5 : Memref sig .tc .vmem S384x1024 .f32) (h5 : a5.IsWhole)
  (a6 : Memref sig .tc .vmem S384x1024 .f32) (h6 : a6.IsWhole)
  (x : Vec Ideal S1024x384 .bf16) (y : Vec Ideal S1024x1024 .bf16) (s : Vec Ideal S384x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S384x1024) hz, View.readCov_unit_zero (S := S384x1024) _ hz]
  simp only [View.readAt_eq_ld, h3.read_unread, h4.read_unread, View.ld_unit_zero (S := S1024x384) hz,
    View.ld_unit_zero (S := S1024x1024) hz, View.ld_unit_zero (S := S384x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x384) hz,
    View.ld_unit_zero (S := S1024x1024) hz, View.ld_unit_zero (S := S384x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x384) hz,
    View.ld_unit_zero (S := S1024x1024) hz, View.ld_unit_zero (S := S384x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S384x1024) _ hz]
  simp only [View.readAt_eq_ld, h3.read_unread, h4.read_unread, h6.read_unread, View.ld_unit_zero (S := S1024x384) hz,
    View.ld_unit_zero (S := S1024x1024) hz, View.ld_unit_zero (S := S384x1024) hz]

end Cases

variable (m : (ℓ : Loc nD τ sig) → Buf (Elt Ideal) ℓ) (c : Dev nD)

/-- The layer's input and the gradient of its output, as launched. -/
abbrev gH : FVec Ideal S8192x384 .f32 := m (c, Proc.tc.devRef main_arg0)
abbrev gD : FVec Ideal S8192x1024 .bf16 := queryLanes (m (c, Proc.tc.devRef main_arg2))

theorem v0 : (V m c (Pipeline.arrRef spec0 0) : S8192x384.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x1024.Idx → EReal) = gD m c := by
  show V m c main_v3 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 1024) : Fin 1024 := ⟨1024 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r : Fin 1024) (k : Fin 384) :
    ((cfg0.win 0).blk t).view.read (Elt Ideal) f (ix2 r k) = (f : Vec Ideal S8192x384 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1024) :
    ((cfg0.win 1).blk t).view.read (Elt Ideal) f (ix2 r n)
      = (f : Vec Ideal S8192x1024 .bf16) (ix2 (row (t.val % 8) (lt8 _) r) (col (t.val / 8) (ltC t) n)) := by
  refine congrArg f ?_
  blk_ext [idx1 t]

theorem iblk0 (t : Fin cfg0.N) (r : Fin 1024) (k : Fin 384) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1024) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 384) (n : Fin 1024) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 384) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 384) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x384 .f32) (D : FVec Ideal S8192x1024 .bf16) (k : Fin 384) (n : Fin 1024) : EReal :=
  ∑ q : Fin 8192, H (ix2 q k) * D (ix2 q n)

/-- The points of a column tile together give the product over all rows. -/
theorem sum_part (t : Fin cfg0.N) (k : Fin 384) (n : Fin 1024) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S384x1024.Idx => dW (gH m c) (gD m c) (i 0) (i 1) : Vec Ideal S384x1024 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 384) (n : Fin 1024), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum: a column the host added gets zero. -/
theorem ref (H : FVec Ideal S8192x384 .f32) (D : FVec Ideal S8192x8x96 .f32) (k : Fin 384) (n : Fin 1024) :
    Cert.Reference27Ideal.Read.val_main_v8 (F := Ideal) H D (ix2 k n) = dW H (queryLanes D) k n := by
  pointwise [Cert.Reference27Ideal.Read.val_main_v8, Cert.Reference27Ideal.Read.val_main_v7, Cert.Reference27Ideal.Read.val_main_v6, Cert.Reference27Ideal.Read.val_main_v5, Cert.Reference27Ideal.Read.val_main_v4, Cert.Reference27Ideal.Read.val_main_v3, Cert.Reference27Ideal.Read.val_main_v2, Cert.Reference27Ideal.Read.val_main_cst]
  by_cases h : n.val % 128 < 96
  · rw [dif_pos h]
    refine Finset.sum_congr rfl fun q _ => ?_
    rw [queryLanes_apply, dif_pos h, mul_comm]
    refine congrArg (_ * ·) (congrArg D ?_)
    congr 1 <;> refine Fin.ext ?_ <;> simp only [] <;> omega
  · rw [dif_neg h]
    exact (Finset.sum_eq_zero fun q _ => by rw [queryLanes_apply, dif_neg h, mul_zero]).symm

end Cert.Kernel27Ideal.Val

end
-- ==== Proof.BranchResults.lean ====
/- The claims about the calls of the mixer's branches and of its output: each reference runs to the end, and of equal
   arguments the two programs' results are equal. -/
module

public import proofs.«01_k».proof.Defs
public import proofs.«01_k».proof.Proof.MixOut
public import proofs.«01_k».proof.Proof.MergeGrad
public import proofs.«01_k».proof.Proof.OutGrad
public import proofs.«01_k».proof.Proof.ProjSb
public import proofs.«01_k».proof.Proof.SbOutGrad
public import proofs.«01_k».proof.Proof.ProjSbGrad
public import proofs.«01_k».proof.Proof.ProjMla
public import proofs.«01_k».proof.Proof.MlaOutGrad
public import proofs.«01_k».proof.Proof.MlaProjGrad
public import proofs.«01_k».proof.Proof.CkvGrad
public import proofs.«01_k».proof.Proof.UkvGrad
public import proofs.«01_k».proof.Proof.CqGrad
public import proofs.«01_k».proof.Proof.UqGrad
public import proofs.«01_k».proof.Proof.Tiles
public import Idealize.ShloMosaic.Adequacy
public import Idealize.ShloMosaic.Init

@[expose] public section

set_option maxRecDepth 65536

noncomputable section

namespace Cert.Results

open Idealize.ShloMosaic Idealize.ShloMosaic.TcCoe Idealize.SL.Sem
open Cert.Tiles (eq_of_ix2)

theorem reference15_quiescent : Cert.quiescent_Reference15Ideal (hReference15Ideal := Cert.Reference15Ideal.Gen.facts) := fun m ρ _ =>
  (θ_run _ _ _).mono (fun r h => ⟨fun c => (h c).2, sem_eq_zero_of_no_sems rfl r.2⟩) (Cert.Reference15Ideal.Value.run m ρ)

open Cert.Kernel15Ideal.Val Cert.Reference15Ideal.Read in
/-- The mixer's output. -/
theorem mix_out : Cert.algebraic_Kernel15Ideal_Reference15Ideal (hKernel15Ideal := Cert.Kernel15Ideal.Gen.facts)
    (hReference15Ideal := Cert.Reference15Ideal.Gen.facts) := by
  intro m g m' g' _ hargs
  refine ⟨fun c => val_main_v0 (F := Ideal) (gA m c) (gB m c),
    (θ_run _ _ _).mono (fun r h c => ⟨(h c).1.trans ((arr m c).trans (eq_of_ix2 _ _ (ref _ _)).symm), (h c).2⟩)
      (Cert.Kernel15Ideal.Value.run_blocks m g),
    (θ_run _ _ _).mono (fun r h c => ⟨(h c).1.trans ?_, (h c).2⟩) (Cert.Reference15Ideal.Value.run m' g')⟩
  obtain ⟨e0, e1⟩ := hargs c
  exact (val_main_v0_eq _ _).trans (congr (congrArg _ e0) e1)

theorem reference16_quiescent : Cert.quiescent_Reference16Ideal (hReference16Ideal := Cert.Reference16Ideal.Gen.facts) := fun m ρ _ =>
  (θ_run _ _ _).mono (fun r h => ⟨fun c => (h c).2, sem_eq_zero_of_no_sems rfl r.2⟩) (Cert.Reference16Ideal.Value.run m ρ)

open Cert.Kernel16Ideal.Val Cert.Reference16Ideal.Read in
/-- The gradient of the merged branches. -/
theorem merge_grad : Cert.algebraic_Kernel16Ideal_Reference16Ideal (hKernel16Ideal := Cert.Kernel16Ideal.Gen.facts)
    (hReference16Ideal := Cert.Reference16Ideal.Gen.facts) := by
  intro m g m' g' _ hargs
  refine ⟨fun c => val_main_v1 (F := Ideal) (gB m c) (gA m c),
    (θ_run _ _ _).mono (fun r h c => ⟨(h c).1.trans ((arr m c).trans (eq_of_ix2 _ _ (ref _ _)).symm), (h c).2⟩)
      (Cert.Kernel16Ideal.Value.run_blocks m g),
    (θ_run _ _ _).mono (fun r h c => ⟨(h c).1.trans ?_, (h c).2⟩) (Cert.Reference16Ideal.Value.run m' g')⟩
  obtain ⟨_, e1, e2⟩ := hargs c
  exact (val_main_v1_eq _ _).trans (congr (congrArg _ e1) e2)

theorem reference17_quiescent : Cert.quiescent_Reference17Ideal (hReference17Ideal := Cert.Reference17Ideal.Gen.facts) := fun m ρ _ =>
  (θ_run _ _ _).mono (fun r h => ⟨fun c => (h c).2, sem_eq_zero_of_no_sems rfl r.2⟩) (Cert.Reference17Ideal.Value.run m ρ)

open Cert.Kernel17Ideal.Val Cert.Reference17Ideal.Read in
/-- The gradient of the weights of the mixer's output. -/
theorem out_grad : Cert.algebraic_Kernel17Ideal_Reference17Ideal (hKernel17Ideal := Cert.Kernel17Ideal.Gen.facts)
    (hReference17Ideal := Cert.Reference17Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel17Ideal.Value.run_blocks m g),
    (θ_run _ _ _).mono (fun r h c => ⟨(h c).1.trans ?_, (h c).2⟩) (Cert.Reference17Ideal.Value.run m' g')⟩
  obtain ⟨e0, _, e2⟩ := hargs c
  exact (val_main_v2_eq _ _).trans (congr (congrArg _ e0) e2)

theorem reference18_quiescent : Cert.quiescent_Reference18Ideal (hReference18Ideal := Cert.Reference18Ideal.Gen.facts) := fun m ρ _ =>
  (θ_run _ _ _).mono (fun r h => ⟨fun c => (h c).2, sem_eq_zero_of_no_sems rfl r.2⟩) (Cert.Reference18Ideal.Value.run m ρ)

open Cert.Kernel18Ideal.Val Cert.Reference18Ideal.Read in
/-- The stick-breaking branch. -/
theorem proj_sb : Cert.algebraic_Kernel18Ideal_Reference18Ideal (hKernel18Ideal := Cert.Kernel18Ideal.Gen.facts)
    (hReference18Ideal := Cert.Reference18Ideal.Gen.facts) := by
  intro m g m' g' _ hargs
  refine ⟨fun c => val_main_v0 (F := Ideal) (gA m c) (gB m c),
    (θ_run _ _ _).mono (fun r h c => ⟨(h c).1.trans ((arr m c).trans (eq_of_ix2 _ _ (ref _ _)).symm), (h c).2⟩)
      (Cert.Kernel18Ideal.Value.run_blocks m g),
    (θ_run _ _ _).mono (fun r h c => ⟨(h c).1.trans ?_, (h c).2⟩) (Cert.Reference18Ideal.Value.run m' g')⟩
  obtain ⟨e0, e1⟩ := hargs c
  exact (val_main_v0_eq _ _).trans (congr (congrArg _ e0) e1)

theorem reference19_quiescent : Cert.quiescent_Reference19Ideal (hReference19Ideal := Cert.Reference19Ideal.Gen.facts) := fun m ρ _ =>
  (θ_run _ _ _).mono (fun r h => ⟨fun c => (h c).2, sem_eq_zero_of_no_sems rfl r.2⟩) (Cert.Reference19Ideal.Value.run m ρ)

open Cert.Kernel19Ideal.Val Cert.Reference19Ideal.Read in
/-- The gradient of the stick-breaking attention's output. -/
theorem sb_out_grad : Cert.algebraic_Kernel19Ideal_Reference19Ideal (hKernel19Ideal := Cert.Kernel19Ideal.Gen.facts)
    (hReference19Ideal := Cert.Reference19Ideal.Gen.facts) := by
  intro m g m' g' _ hargs
  refine ⟨fun c => val_main_v2 (F := Ideal) (gB m c) (gA m c),
    (θ_run _ _ _).mono (fun r h c => ⟨(h c).1.trans ((arr m c).trans (eq_of_ix2 _ _ (ref _ _)).symm), (h c).2⟩)
      (Cert.Kernel19Ideal.Value.run_blocks m g),
    (θ_run _ _ _).mono (fun r h c => ⟨(h c).1.trans ?_, (h c).2⟩) (Cert.Reference19Ideal.Value.run m' g')⟩
  obtain ⟨_, e1, e2⟩ := hargs c
  exact (val_main_v2_eq _ _).trans (congr (congrArg _ e1) e2)

theorem reference20_quiescent : Cert.quiescent_Reference20Ideal (hReference20Ideal := Cert.Reference20Ideal.Gen.facts) := fun m ρ _ =>
  (θ_run _ _ _).mono (fun r h => ⟨fun c => (h c).2, sem_eq_zero_of_no_sems rfl r.2⟩) (Cert.Reference20Ideal.Value.run m ρ)

open Cert.Kernel20Ideal.Val Cert.Reference20Ideal.Read in
/-- The gradient of the weights of the stick-breaking branch. -/
theorem proj_sb_grad : Cert.algebraic_Kernel20Ideal_Reference20Ideal (hKernel20Ideal := Cert.Kernel20Ideal.Gen.facts)
    (hReference20Ideal := Cert.Reference20Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel20Ideal.Value.run_blocks m g),
    (θ_run _ _ _).mono (fun r h c => ⟨(h c).1.trans ?_, (h c).2⟩) (Cert.Reference20Ideal.Value.run m' g')⟩
  obtain ⟨e0, _, e2⟩ := hargs c
  exact (val_main_v2_eq _ _).trans (congr (congrArg _ e0) e2)

theorem reference23_quiescent : Cert.quiescent_Reference23Ideal (hReference23Ideal := Cert.Reference23Ideal.Gen.facts) := fun m ρ _ =>
  (θ_run _ _ _).mono (fun r h => ⟨fun c => (h c).2, sem_eq_zero_of_no_sems rfl r.2⟩) (Cert.Reference23Ideal.Value.run m ρ)

open Cert.Kernel23Ideal.Val Cert.Reference23Ideal.Read in
/-- The MLA branch. -/
theorem proj_mla : Cert.algebraic_Kernel23Ideal_Reference23Ideal (hKernel23Ideal := Cert.Kernel23Ideal.Gen.facts)
    (hReference23Ideal := Cert.Reference23Ideal.Gen.facts) := by
  intro m g m' g' _ hargs
  refine ⟨fun c => val_main_v1 (F := Ideal) (m (c, Proc.tc.devRef Cert.Kernel23Ideal.main_arg0)) (m (c, Proc.tc.devRef Cert.Kernel23Ideal.main_arg1)),
    (θ_run _ _ _).mono (fun r h c => ⟨(h c).1.trans ((arr m c).trans (eq_of_ix2 _ _ (ref _ _)).symm), (h c).2⟩)
      (Cert.Kernel23Ideal.Value.run_blocks m g),
    (θ_run _ _ _).mono (fun r h c => ⟨(h c).1.trans ?_, (h c).2⟩) (Cert.Reference23Ideal.Value.run m' g')⟩
  obtain ⟨e0, e1⟩ := hargs c
  exact (val_main_v1_eq _ _).trans (congr (congrArg _ e0) e1)

theorem reference24_quiescent : Cert.quiescent_Reference24Ideal (hReference24Ideal := Cert.Reference24Ideal.Gen.facts) := fun m ρ _ =>
  (θ_run _ _ _).mono (fun r h => ⟨fun c => (h c).2, sem_eq_zero_of_no_sems rfl r.2⟩) (Cert.Reference24Ideal.Value.run m ρ)

open Cert.Kernel24Ideal.Val Cert.Reference24Ideal.Read in
/-- The gradient of the MLA attention's output. -/
theorem mla_out_grad : Cert.algebraic_Kernel24Ideal_Reference24Ideal (hKernel24Ideal := Cert.Kernel24Ideal.Gen.facts)
    (hReference24Ideal := Cert.Reference24Ideal.Gen.facts) := by
  intro m g m' g' _ hargs
  refine ⟨fun c => val_main_v6 (F := Ideal) (m (c, Proc.tc.devRef Cert.Kernel24Ideal.main_arg1)) (gA m c),
    (θ_run _ _ _).mono (fun r h c => ⟨(h c).1.trans ((arr m c).trans (eq_of_ix2 _ _ (ref _ _)).symm), (h c).2⟩)
      (Cert.Kernel24Ideal.Value.run_blocks m g),
    (θ_run _ _ _).mono (fun r h c => ⟨(h c).1.trans ?_, (h c).2⟩) (Cert.Reference24Ideal.Value.run m' g')⟩
  obtain ⟨_, e1, e2⟩ := hargs c
  exact (val_main_v6_eq _ _).trans (congr (congrArg _ e1) e2)

theorem reference25_quiescent : Cert.quiescent_Reference25Ideal (hReference25Ideal := Cert.Reference25Ideal.Gen.facts) := fun m ρ _ =>
  (θ_run _ _ _).mono (fun r h => ⟨fun c => (h c).2, sem_eq_zero_of_no_sems rfl r.2⟩) (Cert.Reference25Ideal.Value.run m ρ)

open Cert.Kernel25Ideal.Val Cert.Reference25Ideal.Read in
/-- The gradient of the weights of the MLA branch. -/
theorem mla_proj_grad : Cert.algebraic_Kernel25Ideal_Reference25Ideal (hKernel25Ideal := Cert.Kernel25Ideal.Gen.facts)
    (hReference25Ideal := Cert.Reference25Ideal.Gen.facts) := by
  intro m g m' g' _ hargs
  refine ⟨fun c => val_main_v7 (F := Ideal) (m (c, Proc.tc.devRef Cert.Kernel25Ideal.main_arg0)) (gD m c),
    (θ_run _ _ _).mono (fun r h c => ⟨(h c).1.trans ((arr m c).trans (eq_of_ix2 _ _ (ref _ _)).symm), (h c).2⟩)
      (Cert.Kernel25Ideal.Value.run_blocks m g),
    (θ_run _ _ _).mono (fun r h c => ⟨(h c).1.trans ?_, (h c).2⟩) (Cert.Reference25Ideal.Value.run m' g')⟩
  obtain ⟨e0, _, e2⟩ := hargs c
  exact (val_main_v7_eq _ _).trans (congr (congrArg _ e0) e2)

theorem reference21_quiescent : Cert.quiescent_Reference21Ideal (hReference21Ideal := Cert.Reference21Ideal.Gen.facts) := fun m ρ _ =>
  (θ_run _ _ _).mono (fun r h => ⟨fun c => (h c).2, sem_eq_zero_of_no_sems rfl r.2⟩) (Cert.Reference21Ideal.Value.run m ρ)

open Cert.Kernel21Ideal.Val Cert.Reference21Ideal.Read in
/-- The gradient of the latents of keys and values. -/
theorem ckv_grad : Cert.algebraic_Kernel21Ideal_Reference21Ideal (hKernel21Ideal := Cert.Kernel21Ideal.Gen.facts)
    (hReference21Ideal := Cert.Reference21Ideal.Gen.facts) := by
  intro m g m' g' _ hargs
  refine ⟨fun c => val_main_v1 (F := Ideal) (gB m c) (gA m c),
    (θ_run _ _ _).mono (fun r h c => ⟨(h c).1.trans ((arr m c).trans (eq_of_ix2 _ _ (ref _ _)).symm), (h c).2⟩)
      (Cert.Kernel21Ideal.Value.run_blocks m g),
    (θ_run _ _ _).mono (fun r h c => ⟨(h c).1.trans ?_, (h c).2⟩) (Cert.Reference21Ideal.Value.run m' g')⟩
  obtain ⟨_, e1, e2⟩ := hargs c
  exact (val_main_v1_eq _ _).trans (congr (congrArg _ e1) e2)

theorem reference22_quiescent : Cert.quiescent_Reference22Ideal (hReference22Ideal := Cert.Reference22Ideal.Gen.facts) := fun m ρ _ =>
  (θ_run _ _ _).mono (fun r h => ⟨fun c => (h c).2, sem_eq_zero_of_no_sems rfl r.2⟩) (Cert.Reference22Ideal.Value.run m ρ)

open Cert.Kernel22Ideal.Val Cert.Reference22Ideal.Read in
/-- The gradient of the weights that make keys and values of the latents. -/
theorem ukv_grad : Cert.algebraic_Kernel22Ideal_Reference22Ideal (hKernel22Ideal := Cert.Kernel22Ideal.Gen.facts)
    (hReference22Ideal := Cert.Reference22Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel22Ideal.Value.run_blocks m g),
    (θ_run _ _ _).mono (fun r h c => ⟨(h c).1.trans ?_, (h c).2⟩) (Cert.Reference22Ideal.Value.run m' g')⟩
  obtain ⟨e0, _, e2⟩ := hargs c
  exact (val_main_v2_eq _ _).trans (congr (congrArg _ e0) e2)

theorem reference26_quiescent : Cert.quiescent_Reference26Ideal (hReference26Ideal := Cert.Reference26Ideal.Gen.facts) := fun m ρ _ =>
  (θ_run _ _ _).mono (fun r h => ⟨fun c => (h c).2, sem_eq_zero_of_no_sems rfl r.2⟩) (Cert.Reference26Ideal.Value.run m ρ)

open Cert.Kernel26Ideal.Val Cert.Reference26Ideal.Read in
/-- The gradient of the latents of the queries. -/
theorem cq_grad : Cert.algebraic_Kernel26Ideal_Reference26Ideal (hKernel26Ideal := Cert.Kernel26Ideal.Gen.facts)
    (hReference26Ideal := Cert.Reference26Ideal.Gen.facts) := by
  intro m g m' g' _ hargs
  refine ⟨fun c => val_main_v3 (F := Ideal) (m (c, Proc.tc.devRef Cert.Kernel26Ideal.main_arg1)) (m (c, Proc.tc.devRef Cert.Kernel26Ideal.main_arg2)),
    (θ_run _ _ _).mono (fun r h c => ⟨(h c).1.trans ((arr m c).trans (eq_of_ix2 _ _ (ref _ _)).symm), (h c).2⟩)
      (Cert.Kernel26Ideal.Value.run_blocks m g),
    (θ_run _ _ _).mono (fun r h c => ⟨(h c).1.trans ?_, (h c).2⟩) (Cert.Reference26Ideal.Value.run m' g')⟩
  obtain ⟨_, e1, e2⟩ := hargs c
  exact (val_main_v3_eq _ _).trans (congr (congrArg _ e1) e2)

theorem reference27_quiescent : Cert.quiescent_Reference27Ideal (hReference27Ideal := Cert.Reference27Ideal.Gen.facts) := fun m ρ _ =>
  (θ_run _ _ _).mono (fun r h => ⟨fun c => (h c).2, sem_eq_zero_of_no_sems rfl r.2⟩) (Cert.Reference27Ideal.Value.run m ρ)

open Cert.Kernel27Ideal.Val Cert.Reference27Ideal.Read in
/-- The gradient of the weights that make the queries of the latents. -/
theorem uq_grad : Cert.algebraic_Kernel27Ideal_Reference27Ideal (hKernel27Ideal := Cert.Kernel27Ideal.Gen.facts)
    (hReference27Ideal := Cert.Reference27Ideal.Gen.facts) := by
  intro m g m' g' _ hargs
  refine ⟨fun c => val_main_v8 (F := Ideal) (gH m c) (m (c, Proc.tc.devRef Cert.Kernel27Ideal.main_arg2)),
    (θ_run _ _ _).mono (fun r h c => ⟨(h c).1.trans ((arr m c).trans (eq_of_ix2 _ _ (ref _ _)).symm), (h c).2⟩)
      (Cert.Kernel27Ideal.Value.run_blocks m g),
    (θ_run _ _ _).mono (fun r h c => ⟨(h c).1.trans ?_, (h c).2⟩) (Cert.Reference27Ideal.Value.run m' g')⟩
  obtain ⟨e0, _, e2⟩ := hargs c
  exact (val_main_v8_eq _ _).trans (congr (congrArg _ e0) e2)

end Cert.Results

end
-- ==== Proof.ProjQkv.lean ====
/- The projection of the mixer's input to queries, keys and values: what the launch leaves, and the reference. -/
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit

@[expose] public section

set_option maxRecDepth 65536

noncomputable section

namespace Cert.Kernel8Ideal.Val

open Idealize.ShloMosaic Idealize.ShloMosaic.TcCoe
open Cert.Kernel8Ideal Cert.Kernel8Ideal.Gen

theorem hz : (![0, 0] : Fin 2 → Nat) = fun _ => 0 := funext fun a => by fin_cases a <;> rfl

/-- A tile of the product. -/
def tileProd (x : Vec Ideal S1024x1024 .bf16) (y : Vec Ideal S1024x768 .bf16) (r : Fin 1024) (n : Fin 768) : EReal :=
  ∑ j : Fin 1024, x (ix2 r j) * y (ix2 j n)

/-- What a point stores: its product added to zero. -/
theorem pay_apply (x : Vec Ideal S1024x1024 .bf16) (y : Vec Ideal S1024x768 .bf16) (r : Fin 1024) (n : Fin 768) :
    (k0_pay3 (k0_pay2 k0_pay1 x y)) (ix2 r n) = tileProd x y r n := by
  pointwise [k0_pay3, k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S1024x768 .bf16) (h4 : a4.IsWhole) (a5 : Memref sig .tc .vmem S1024x768 .bf16) (h5 : a5.IsWhole)
    (a6 : Memref sig .tc .vmem S1024x768 .f32) (h6 : a6.IsWhole) (hc0 : cond0_0 i) (hc1 : cond0_1 i)
    (x : Vec Ideal S1024x1024 .bf16) (y : Vec Ideal S1024x768 .bf16) :
    out0_A_2 c i a3 h3 a4 h4 a5 h5 a6 h6 hc0 hc1 x y = k0_pay3 (k0_pay2 k0_pay1 x y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz,
    View.ld_unit_zero (S := S1024x768) hz]

variable (m : (ℓ : Loc nD τ sig) → Buf (Elt Ideal) ℓ) (c : Dev nD)

/-- The mixer's input and the weights, as launched. -/
abbrev gH : FVec Ideal S8192x1024 .f32 := m (c, Proc.tc.devRef main_arg0)
abbrev gW : FVec Ideal S1024x1536 .f32 := m (c, Proc.tc.devRef main_arg1)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S1024x1536.Idx → EReal) = gW m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem ltN (t : Fin cfg0.N) : t.val < 16 := lt_of_lt_of_eq t.isLt N_0

/-- Row `r` and column `n` of the point's tile. -/
abbrev row (t : Fin cfg0.N) (r : Fin 1024) : Fin 8192 := ⟨1024 * (t.val / 2) + r.val, by have := ltN t; omega⟩
abbrev col (t : Fin cfg0.N) (n : Fin 768) : Fin 1536 := ⟨768 * (t.val % 2) + n.val, by omega⟩

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (k : Fin 1024) (n : Fin 768) :
    ((cfg0.win 1).blk t).view.read (Elt Ideal) f (ix2 k n) = (f : Vec Ideal S1024x1536 .bf16) (ix2 k (col t n)) := by
  refine congrArg f ?_
  blk_ext [idx1 t]

theorem iblk0 (t : Fin cfg0.N) (r k : Fin 1024) : iblk m c 0 t (ix2 r k) = gH m c (ix2 (row t r) k) := by
  unfold iblk
  exact (read0 c (V m c (Pipeline.arrRef spec0 0)) t r k).trans (congrFun (v0 m c) _)

theorem iblk1 (t : Fin cfg0.N) (k : Fin 1024) (n : Fin 768) : iblk m c 1 t (ix2 k n) = gW m c (ix2 k (col t n)) := by
  unfold iblk
  exact (read1 c (V m c (Pipeline.arrRef spec0 1)) t k n).trans (congrFun (v1 m c) _)

/-- The whole product at an index. -/
def prod (H : FVec Ideal S8192x1024 .f32) (W : FVec Ideal S1024x1536 .f32) (q : Fin 8192) (n : Fin 1536) : EReal :=
  ∑ x : Fin 1024, H (ix2 q x) * W (ix2 x n)

/-- The array after the run. -/
theorem arr : (dats m 0 c).arrAt 2 cfg0.N
    = (fun i : S8192x1536.Idx => prod (gH m c) (gW m c) (i 0) (i 1) : Vec Ideal S8192x1536 .bf16) := by
  refine (dats m 0 c).arrAt_eq_of_covers 2 _ (by decide +kernel) fun t hf y => ?_
  blk_simp
  rw [after0_2]
  obtain ⟨r, n, rfl⟩ : ∃ (r : Fin 1024) (n : Fin 768), y = ix2 r n := ⟨y 0, y 1, by funext a; fin_cases a <;> rfl⟩
  have e : ((cfg0.win 2).blk t).view.emb (ix2 r n) = ix2 (row t r) (col t n) := by blk_ext [idx2 t]
  rw [e]
  unfold outsAt0
  rw [outA]
  refine (pay_apply _ _ r n).trans ?_
  unfold tileProd
  simp only [iblk0, iblk1]
  rfl

/-- The reference's product at an index is that sum. -/
theorem ref (H : FVec Ideal S8192x1024 .f32) (W : FVec Ideal S1024x1536 .f32) (q : Fin 8192) (n : Fin 1536) :
    Cert.Reference8Ideal.Read.val_main_v1 (F := Ideal) H W (ix2 q n) = prod H W q n := by
  pointwise [Cert.Reference8Ideal.Read.val_main_v1, Cert.Reference8Ideal.Read.val_main_v0]
  rfl

end Cert.Kernel8Ideal.Val

end
-- ==== Proof.ProjLat.lean ====
/- The projection of the mixer's input to the latents and the shared rotary key, in the padded layout: 640 columns of latents,
   64 of zeros, 32 of the rotary key, 32 of zeros. What the launch leaves, and the reference. -/
module

public import proofs.«01_k».proof.Proof.Gen.Kernel13Ideal.Value
public import proofs.«01_k».proof.Proof.Gen.Reference13Ideal.Read
public import Idealize.ShloMosaic.Lib.Pointwise
public import Idealize.ShloMosaic.Lib.Pipeline.ValueKit

@[expose] public section

set_option maxRecDepth 65536

noncomputable section

namespace Cert.Kernel13Ideal.Val

open Idealize.ShloMosaic Idealize.ShloMosaic.TcCoe
open Cert.Kernel13Ideal Cert.Kernel13Ideal.Gen

theorem hz : (![0, 0] : Fin 2 → Nat) = fun _ => 0 := funext fun a => by fin_cases a <;> rfl

/-- A tile of the product. -/
def tileProd (x : Vec Ideal S1024x1024 .bf16) (y : Vec Ideal S1024x768 .bf16) (r : Fin 1024) (n : Fin 768) : EReal :=
  ∑ j : Fin 1024, x (ix2 r j) * y (ix2 j n)

/-- What a point stores: its product added to zero. -/
theorem pay_apply (x : Vec Ideal S1024x1024 .bf16) (y : Vec Ideal S1024x768 .bf16) (r : Fin 1024) (n : Fin 768) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S1024x768 .bf16) (h4 : a4.IsWhole) (a5 : Memref sig .tc .vmem S1024x768 .f32) (h5 : a5.IsWhole)
    (a6 : Memref sig .tc .vmem S1024x768 .f32) (h6 : a6.IsWhole) (hc0 : cond0_0 i) (hc1 : cond0_1 i)
    (x : Vec Ideal S1024x1024 .bf16) (y : Vec Ideal S1024x768 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz,
    View.ld_unit_zero (S := S1024x768) hz]

/-- The weights in the padded layout, at an index. -/
def latW (W : FVec Ideal S1024x4256 .f32) (k : Fin 1024) (n : Fin 768) : EReal :=
  if h : n.val < 640 then W (ix2 k ⟨1536 + n.val, by omega⟩)
  else if n.val < 704 then 0
  else if h : n.val < 736 then W (ix2 k ⟨1472 + n.val, by omega⟩)
  else 0

variable (m : (ℓ : Loc nD τ sig) → Buf (Elt Ideal) ℓ) (c : Dev nD)

/-- The mixer's input and the weights, as launched. -/
abbrev gH : FVec Ideal S8192x1024 .f32 := m (c, Proc.tc.devRef main_arg0)
abbrev gW : FVec Ideal S1024x4256 .f32 := m (c, Proc.tc.devRef main_arg1)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

/-- The host's padded array. -/
def padded (W : FVec Ideal S1024x4256 .f32) : FVec Ideal S1024x768 .bf16 :=
  concatenate S1024x768 1
    [⟨S1024x640, extractStridedSlice S1024x640 ![0, 1536] (truncf .bf16 W bitsLt_bf16_f32) slices_S1024x4256_S1024x640_0_1536⟩,
     ⟨S1024x64, broadcastInDim S1024x64 ![] bcast_S_S1024x64 (constant (F := Ideal) S_ .bf16 0x0000#16)⟩,
     ⟨S1024x32, extractStridedSlice S1024x32 ![0, 2176] (truncf .bf16 W bitsLt_bf16_f32) slices_S1024x4256_S1024x32_0_2176⟩,
     ⟨S1024x32, broadcastInDim S1024x32 ![] bcast_S_S1024x32 (constant (F := Ideal) S_ .bf16 0x0000#16)⟩]
    concatenates_S1024x640_S1024x64_S1024x32_S1024x32_S1024x768_d1

theorem v1 : (V m c (Pipeline.arrRef spec0 1) : S1024x768.Idx → EReal) = padded (gW m c) := by
  show V m c main_v6 = _
  unfold V
  simp only [hostOps0, List.flatten_cons, List.flatten_nil, List.append_nil, List.cons_append, List.nil_append]
  after_results
  all_goals rfl

/-- It holds `latW`. -/
theorem padded_apply (W : FVec Ideal S1024x4256 .f32) (k : Fin 1024) (n : Fin 768) : padded W (ix2 k n) = latW W k n := by
  have hn := n.isLt
  pointwise [padded]
  unfold latW
  by_cases h1 : n.val < 640
  · rw [dif_pos h1, dif_pos h1]
  rw [dif_neg h1, dif_neg h1]
  by_cases h2 : n.val < 704
  · rw [dif_pos (show n.val - 640 < 64 by omega), if_pos h2]
  rw [dif_neg (show ¬n.val - 640 < 64 by omega), if_neg h2]
  by_cases h3 : n.val < 736
  · rw [dif_pos (show n.val - 640 - 64 < 32 by omega), dif_pos h3]
    exact congrArg (fun a => W (ix2 k a)) (Fin.ext (show 2176 + (n.val - 640 - 64) = 1472 + n.val by omega))
  rw [dif_neg (show ¬n.val - 640 - 64 < 32 by omega), dif_neg h3]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem ltN (t : Fin cfg0.N) : t.val < 8 := lt_of_lt_of_eq t.isLt N_0

/-- Row `r` of the point's tile. -/
abbrev row (t : Fin cfg0.N) (r : Fin 1024) : Fin 8192 := ⟨1024 * t.val + r.val, by have := ltN t; omega⟩

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (k : Fin 1024) (n : Fin 768) :
    ((cfg0.win 1).blk t).view.read (Elt Ideal) f (ix2 k n) = (f : Vec Ideal S1024x768 .bf16) (ix2 k n) := by
  refine congrArg f ?_
  blk_ext [idx1 t]

theorem iblk0 (t : Fin cfg0.N) (r k : Fin 1024) : iblk m c 0 t (ix2 r k) = gH m c (ix2 (row t r) k) := by
  unfold iblk
  exact (read0 c (V m c (Pipeline.arrRef spec0 0)) t r k).trans (congrFun (v0 m c) _)

theorem iblk1 (t : Fin cfg0.N) (k : Fin 1024) (n : Fin 768) : iblk m c 1 t (ix2 k n) = latW (gW m c) k n := by
  unfold iblk
  exact ((read1 c (V m c (Pipeline.arrRef spec0 1)) t k n).trans (congrFun (v1 m c) _)).trans (padded_apply _ k n)

/-- The whole product at an index. -/
def prod (H : FVec Ideal S8192x1024 .f32) (W : FVec Ideal S1024x4256 .f32) (q : Fin 8192) (n : Fin 768) : EReal :=
  ∑ x : Fin 1024, H (ix2 q x) * latW W x n

/-- The array after the run. -/
theorem arr : (dats m 0 c).arrAt 2 cfg0.N
    = (fun i : S8192x768.Idx => prod (gH m c) (gW m c) (i 0) (i 1) : Vec Ideal S8192x768 .f32) := by
  refine (dats m 0 c).arrAt_eq_of_covers 2 _ (by decide +kernel) fun t hf y => ?_
  blk_simp
  rw [after0_2]
  obtain ⟨r, n, rfl⟩ : ∃ (r : Fin 1024) (n : Fin 768), y = ix2 r n := ⟨y 0, y 1, by funext a; fin_cases a <;> rfl⟩
  have e : ((cfg0.win 2).blk t).view.emb (ix2 r n) = ix2 (row t r) n := by blk_ext [idx2 t]
  rw [e]
  unfold outsAt0
  rw [outA]
  refine (pay_apply _ _ r n).trans ?_
  unfold tileProd
  simp only [iblk0, iblk1]
  rfl

/-- The reference's padded projection at an index is that sum. -/
theorem ref (H : FVec Ideal S8192x1024 .f32) (W : FVec Ideal S1024x4256 .f32) (q : Fin 8192) (n : Fin 768) :
    Cert.Reference13Ideal.Read.val_main_v6 (F := Ideal) H W (ix2 q n) = prod H W q n := by
  have hn := n.isLt
  pointwise [Cert.Reference13Ideal.Read.val_main_v6, Cert.Reference13Ideal.Read.val_main_v5, Cert.Reference13Ideal.Read.val_main_v4,
    Cert.Reference13Ideal.Read.val_main_v3, Cert.Reference13Ideal.Read.val_main_v2, Cert.Reference13Ideal.Read.val_main_v1,
    Cert.Reference13Ideal.Read.val_main_v0, Cert.Reference13Ideal.Read.val_main_cst, Cert.Reference13Ideal.Read.val_main_cst_0]
  unfold prod latW
  by_cases h1 : n.val < 640
  · rw [dif_pos h1]
    simp only [dif_pos h1]
  rw [dif_neg h1]
  simp only [dif_neg h1]
  by_cases h2 : n.val < 704
  · rw [dif_pos (show n.val - 640 < 64 by omega)]
    simp only [if_pos h2, mul_zero, Finset.sum_const_zero]
  rw [dif_neg (show ¬n.val - 640 < 64 by omega)]
  simp only [if_neg h2]
  by_cases h3 : n.val < 736
  · rw [dif_pos (show n.val - 640 - 64 < 32 by omega)]
    simp only [dif_pos h3]
    exact Finset.sum_congr rfl fun x _ => congrArg (fun a => _ * W (ix2 x a))
      (Fin.ext (show 1536 + (640 + (n.val - 640 - 64)) = 1472 + n.val by omega))
  rw [dif_neg (show ¬n.val - 640 - 64 < 32 by omega)]
  simp only [dif_neg h3, mul_zero, Finset.sum_const_zero]

end Cert.Kernel13Ideal.Val

end
-- ==== Proof.LatGrad.lean ====
/- The weights' gradient of the mixer's projection to the latents and the shared rotary key, in the padded layout: the
   accumulator over the eight row tiles, the array the launch leaves, and the reference. -/
module

public import proofs.«01_k».proof.Proof.Gen.Kernel14Ideal.Value
public import proofs.«01_k».proof.Proof.Gen.Reference14Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel14Ideal.Val

open Idealize.ShloMosaic Idealize.ShloMosaic.TcCoe
open Cert.Kernel14Ideal Cert.Kernel14Ideal.Gen

theorem hz : (![0, 0] : Fin 2 → Nat) = fun _ => 0 := funext fun a => by fin_cases a <;> rfl

/-- A tile of rows of the one factor against the same rows of the other. -/
def tileProd (x : Vec Ideal S1024x1024 .bf16) (y : Vec Ideal S1024x768 .bf16) (k : Fin 1024) (n : Fin 768) : EReal :=
  ∑ r : Fin 1024, x (ix2 r k) * y (ix2 r n)

/-- What a point adds to the accumulator. -/
theorem pay2_apply (acc : Vec Ideal S1024x768 .f32) (x : Vec Ideal S1024x1024 .bf16) (y : Vec Ideal S1024x768 .bf16)
    (k : Fin 1024) (n : Fin 768) : k0_pay2 acc x y (ix2 k n) = acc (ix2 k n) + tileProd x y k n := by
  pointwise [k0_pay2]
  rfl

/-- The accumulator starts at zero. -/
theorem pay1_apply (k : Fin 1024) (n : Fin 768) : k0_pay1 (F := Ideal) (ix2 k n) = 0 := by
  pointwise [k0_pay1]

section Cases

variable (c : Dev nD) (i : grid0.Coords) (a3 : Memref sig .tc .vmem S1024x1024 .bf16) (h3 : a3.IsWhole)
  (a4 : Memref sig .tc .vmem S1024x768 .bf16) (h4 : a4.IsWhole) (a5 : Memref sig .tc .vmem S1024x768 .f32) (h5 : a5.IsWhole)
  (a6 : Memref sig .tc .vmem S1024x768 .f32) (h6 : a6.IsWhole)
  (x : Vec Ideal S1024x1024 .bf16) (y : Vec Ideal S1024x768 .bf16) (s : Vec Ideal S1024x768 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x768) hz, View.readCov_unit_zero (S := S1024x768) _ hz]
  simp only [View.readAt_eq_ld, h3.read_unread, h4.read_unread, View.ld_unit_zero (S := S1024x1024) hz,
    View.ld_unit_zero (S := S1024x768) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz,
    View.ld_unit_zero (S := S1024x768) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S1024x768) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x768) _ hz]
  simp only [View.readAt_eq_ld, h3.read_unread, h4.read_unread, h6.read_unread, View.ld_unit_zero (S := S1024x1024) hz,
    View.ld_unit_zero (S := S1024x768) hz]

end Cases

/-- The gradients of the latents and of the shared rotary key in the padded layout. -/
def latD (D : FVec Ideal S8192x640 .f32) (R : FVec Ideal S8192x32 .f32) : FVec Ideal S8192x768 .f32 := fun i =>
  if h : (i 1).val < 640 then D (ix2 (i 0) ⟨(i 1).val, h⟩)
  else if (i 1).val < 704 then 0
  else if h : (i 1).val < 736 then R (ix2 (i 0) ⟨(i 1).val - 704, by omega⟩)
  else 0

/-- The host's padded array, -/
def padded (D : FVec Ideal S8192x640 .f32) (R : FVec Ideal S8192x32 .f32) : FVec Ideal S8192x768 .f32 :=
  concatenate S8192x768 1
    [⟨S8192x640, D⟩, ⟨S8192x64, broadcastInDim S8192x64 ![] bcast_S_S8192x64 (constant (F := Ideal) S_ .f32 0x00000000#32)⟩,
     ⟨S8192x32, R⟩, ⟨S8192x32, broadcastInDim S8192x32 ![] bcast_S_S8192x32 (constant (F := Ideal) S_ .f32 0x00000000#32)⟩]
    concatenates_S8192x640_S8192x64_S8192x32_S8192x32_S8192x768_d1

/-- which is that array. -/
theorem padded_apply (D : FVec Ideal S8192x640 .f32) (R : FVec Ideal S8192x32 .f32) (q : Fin 8192) (n : Fin 768) :
    padded D R (ix2 q n) = latD D R (ix2 q n) := by
  have hn := n.isLt
  pointwise [padded]
  show _ = if h : n.val < 640 then D (ix2 q ⟨n.val, h⟩) else if n.val < 704 then 0
    else if h : n.val < 736 then R (ix2 q ⟨n.val - 704, by omega⟩) else 0
  by_cases h1 : n.val < 640
  · rw [dif_pos h1, dif_pos h1]
  rw [dif_neg h1, dif_neg h1]
  by_cases h2 : n.val < 704
  · rw [dif_pos (show n.val - 640 < 64 by omega), if_pos h2]
  rw [dif_neg (show ¬n.val - 640 < 64 by omega), if_neg h2]
  by_cases h3 : n.val < 736
  · rw [dif_pos (show n.val - 640 - 64 < 32 by omega), dif_pos h3]
    exact congrArg (fun a => R (ix2 q a)) (Fin.ext (show n.val - 640 - 64 = n.val - 704 by omega))
  rw [dif_neg (show ¬n.val - 640 - 64 < 32 by omega), dif_neg h3]

variable (m : (ℓ : Loc nD τ sig) → Buf (Elt Ideal) ℓ) (c : Dev nD)

/-- The layer's input, as launched, and the padded gradients. -/
abbrev gH : FVec Ideal S8192x1024 .f32 := m (c, Proc.tc.devRef main_arg0)
abbrev gD : FVec Ideal S8192x768 .f32 := latD (m (c, Proc.tc.devRef main_arg2)) (m (c, Proc.tc.devRef main_arg3))

theorem v0 : (V m c (Pipeline.arrRef spec0 0) : S8192x1024.Idx → EReal) = gH m c := by
  show V m c main_v3 = _
  unfold V
  simp only [hostOps0, List.flatten_cons, List.flatten_nil, List.append_nil, List.cons_append, List.nil_append]
  after_results
  all_goals rfl

theorem v1 : (V m c (Pipeline.arrRef spec0 1) : S8192x768.Idx → EReal) = gD m c := by
  have e : (V m c main_v4 : S8192x768.Idx → EReal) = padded (m (c, Proc.tc.devRef main_arg2)) (m (c, Proc.tc.devRef main_arg3)) := by
    unfold V
    simp only [hostOps0, List.flatten_cons, List.flatten_nil, List.append_nil, List.cons_append, List.nil_append]
    after_results
    all_goals rfl
  refine e.trans (funext fun i => ?_)
  obtain ⟨q, n, rfl⟩ : ∃ (q : Fin 8192) (n : Fin 768), i = ix2 q n := ⟨i 0, i 1, by funext a; fin_cases a <;> rfl⟩
  exact padded_apply _ _ q n

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 768) : Fin 768 := ⟨768 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 768) :
    ((cfg0.win 1).blk t).view.read (Elt Ideal) f (ix2 r n)
      = (f : Vec Ideal S8192x768 .bf16) (ix2 (row (t.val % 8) (lt8 _) r) (col (t.val / 8) (ltC t) n)) := by
  refine congrArg f ?_
  blk_ext [idx1 t]

theorem iblk0 (t : Fin cfg0.N) (r k : Fin 1024) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 768) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 1024) (n : Fin 768) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 1024) (n : Fin 768) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1024) (n : Fin 768) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x1024 .f32) (D : FVec Ideal S8192x768 .f32) (k : Fin 1024) (n : Fin 768) : EReal :=
  ∑ q : Fin 8192, H (ix2 q k) * D (ix2 q n)

/-- The points of a column tile together give the product over all rows. -/
theorem sum_part (t : Fin cfg0.N) (k : Fin 1024) (n : Fin 768) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S1024x768.Idx => dW (gH m c) (gD m c) (i 0) (i 1) : Vec Ideal S1024x768 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1024) (n : Fin 768), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's padded gradient at an index is that sum over the padded gradients. -/
theorem ref (H : FVec Ideal S8192x1024 .f32) (D : FVec Ideal S8192x640 .f32) (R : FVec Ideal S8192x32 .f32) (k : Fin 1024)
    (n : Fin 768) : Cert.Reference14Ideal.Read.val_main_v8 (F := Ideal) H D R (ix2 k n) = dW H (latD D R) k n := by
  have hn := n.isLt
  have el : ∀ q, latD D R (ix2 q n) = if h : n.val < 640 then D (ix2 q ⟨n.val, h⟩) else if n.val < 704 then 0
    else if h : n.val < 736 then R (ix2 q ⟨n.val - 704, by omega⟩) else 0 := fun q => rfl
  pointwise [Cert.Reference14Ideal.Read.val_main_v8, Cert.Reference14Ideal.Read.val_main_v7, Cert.Reference14Ideal.Read.val_main_v6,
    Cert.Reference14Ideal.Read.val_main_v5, Cert.Reference14Ideal.Read.val_main_v4, Cert.Reference14Ideal.Read.val_main_v3,
    Cert.Reference14Ideal.Read.val_main_v2, Cert.Reference14Ideal.Read.val_main_v1, Cert.Reference14Ideal.Read.val_main_cst,
    Cert.Reference14Ideal.Read.val_main_cst_0]
  unfold dW
  simp only [el]
  by_cases h1 : n.val < 640
  · rw [dif_pos h1]
    simp only [dif_pos h1]
    exact Finset.sum_congr rfl fun q _ => mul_comm _ _
  rw [dif_neg h1]
  simp only [dif_neg h1]
  by_cases h2 : n.val < 704
  · rw [dif_pos (show n.val - 640 < 64 by omega)]
    simp only [if_pos h2, mul_zero, Finset.sum_const_zero]
  rw [dif_neg (show ¬n.val - 640 < 64 by omega)]
  simp only [if_neg h2]
  by_cases h3 : n.val < 736
  · rw [dif_pos (show n.val - 640 - 64 < 32 by omega)]
    simp only [dif_pos h3]
    refine Finset.sum_congr rfl fun q _ => (mul_comm _ _).trans (congrArg (_ * ·) ?_)
    exact congrArg (fun a => R (ix2 q a)) (Fin.ext (by simp only []; omega))
  rw [dif_neg (show ¬n.val - 640 - 64 < 32 by omega)]
  simp only [dif_neg h3, mul_zero, Finset.sum_const_zero]

end Cert.Kernel14Ideal.Val

end
-- ==== Proof.MixGrad.lean ====
/- The gradient of the mixer's input through its projections: five pairs of a gradient and a block of the weights' columns,
   the fourth in the padded layout; what the launch leaves, and the reference. -/
module

public import proofs.«01_k».proof.Proof.Gen.Kernel9Ideal.Value
public import proofs.«01_k».proof.Proof.Gen.Reference9Ideal.Read
public import proofs.«01_k».proof.Proof.ProjLat
public import proofs.«01_k».proof.Proof.LatGrad
public import Idealize.ShloMosaic.Lib.Pointwise
public import Idealize.ShloMosaic.Lib.Pipeline.ValueKit

@[expose] public section

set_option maxRecDepth 65536

noncomputable section

namespace Cert.Kernel9Ideal.Val

open Idealize.ShloMosaic Idealize.ShloMosaic.TcCoe
open Cert.Kernel9Ideal Cert.Kernel9Ideal.Gen
open Cert.Kernel13Ideal.Val (latW)
open Cert.Kernel14Ideal.Val (latD)

/-- A sum over the padded layout's columns that vanishes in the padding is a sum over the latents and one over the key. -/
theorem sum_padded (f : Fin 768 → EReal) (A : Fin 640 → EReal) (B : Fin 32 → EReal)
    (h1 : ∀ k : Fin 640, f ⟨k.val, by omega⟩ = A k) (h2 : ∀ k : Fin 768, 640 ≤ k.val → k.val < 704 → f k = 0)
    (h3 : ∀ j : Fin 32, f ⟨704 + j.val, by omega⟩ = B j) (h4 : ∀ k : Fin 768, 736 ≤ k.val → f k = 0) :
    ∑ k, f k = ∑ k, A k + ∑ j, B j := by
  have e : ∑ k, f k = ∑ k : Fin (640 + (64 + (32 + 32))), f k := rfl
  rw [e, Fin.sum_univ_add, Fin.sum_univ_add, Fin.sum_univ_add]
  have z2 : ∑ i : Fin 64, f (Fin.natAdd 640 (Fin.castAdd (32 + 32) i)) = 0 :=
    Finset.sum_eq_zero fun i _ => h2 _ (by simp) (by simp; omega)
  have z4 : ∑ i : Fin 32, f (Fin.natAdd 640 (Fin.natAdd 64 (Fin.natAdd 32 i))) = 0 :=
    Finset.sum_eq_zero fun i _ => h4 _ (by simp; omega)
  rw [z2, z4, zero_add, add_zero]
  exact congrArg₂ (· + ·) (Finset.sum_congr rfl fun k _ => h1 k)
    (Finset.sum_congr rfl fun j _ => (congrArg f (Fin.ext (by simp; omega))).trans (h3 j))

/-- The padded gradients against the padded weights. -/
theorem lat_sum (D : FVec Ideal S8192x640 .f32) (R : FVec Ideal S8192x32 .f32) (W : FVec Ideal S1024x4256 .f32) (q : Fin 8192)
    (n : Fin 1024) : ∑ k : Fin 768, latD D R (ix2 q k) * latW W n k
      = ∑ k : Fin 640, D (ix2 q k) * W (ix2 n ⟨1536 + k.val, by omega⟩) + ∑ j : Fin 32, R (ix2 q j) * W (ix2 n ⟨2176 + j.val, by omega⟩) := by
  have el : ∀ k : Fin 768, latD D R (ix2 q k) = if h : k.val < 640 then D (ix2 q ⟨k.val, h⟩) else if k.val < 704 then 0
    else if h : k.val < 736 then R (ix2 q ⟨k.val - 704, by omega⟩) else 0 := fun k => rfl
  refine sum_padded _ _ _ (fun k => ?_) (fun k a b => ?_) (fun j => ?_) fun k a => ?_
  · rw [el, latW, dif_pos k.isLt, dif_pos k.isLt]
  · rw [el, dif_neg (by omega), if_pos b, zero_mul]
  · have b := j.isLt
    rw [el, latW, dif_neg (by simp only []; omega), if_neg (by simp only []; omega), dif_pos (by simp only []; omega),
      dif_neg (by simp only []; omega), if_neg (by simp only []; omega), dif_pos (by simp only []; omega)]
    exact congrArg₂ (fun x y => R (ix2 q x) * W (ix2 n y)) (Fin.ext (by simp only []; omega)) (Fin.ext (by simp only []; omega))
  · rw [el, dif_neg (by omega), if_neg (by omega), dif_neg (by omega), zero_mul]

/-- What one point stores: the sum of five products against the rows of the weights. -/
theorem pay_apply (a0 : Vec Ideal S512x512 .bf16) (b0 : Vec Ideal S1024x512 .bf16) (a1 : Vec Ideal S512x512 .bf16)
    (b1 : Vec Ideal S1024x512 .bf16) (a2 : Vec Ideal S512x512 .bf16) (b2 : Vec Ideal S1024x512 .bf16) (a3 : Vec Ideal S512x768 .bf16)
    (b3 : Vec Ideal S1024x768 .bf16) (a4 : Vec Ideal S512x2048 .bf16) (b4 : Vec Ideal S1024x2048 .bf16) (r : Fin 512) (n : Fin 1024) :
    k0_pay1 a0 b0 a1 b1 a2 b2 a3 b3 a4 b4 (ix2 r n)
      = ∑ k : Fin 512, a0 (ix2 r k) * b0 (ix2 n k) + ∑ k : Fin 512, a1 (ix2 r k) * b1 (ix2 n k) + ∑ k : Fin 512, a2 (ix2 r k) * b2 (ix2 n k)
        + ∑ k : Fin 768, a3 (ix2 r k) * b3 (ix2 n k) + ∑ k : Fin 2048, a4 (ix2 r k) * b4 (ix2 n k) := by
  pointwise [k0_pay1]

variable (m : (ℓ : Loc nD τ sig) → Buf (Elt Ideal) ℓ) (c : Dev nD)

/-- The weights and the gradients, as launched. -/
abbrev gW : FVec Ideal S1024x4256 .f32 := m (c, Proc.tc.devRef main_arg1)
abbrev gQ : FVec Ideal S8192x512 .f32 := m (c, Proc.tc.devRef main_arg2)
abbrev gK : FVec Ideal S8192x512 .f32 := m (c, Proc.tc.devRef main_arg3)
abbrev gV : FVec Ideal S8192x512 .f32 := m (c, Proc.tc.devRef main_arg4)
abbrev gL : FVec Ideal S8192x640 .f32 := m (c, Proc.tc.devRef main_arg5)
abbrev gR : FVec Ideal S8192x32 .f32 := m (c, Proc.tc.devRef main_arg6)
abbrev gG : FVec Ideal S8192x2048 .f32 := m (c, Proc.tc.devRef main_arg7)

/-- The arrays that the region reads: the gradients, -/
theorem v0 : (V m c (Pipeline.arrRef spec0 0) : S8192x512.Idx → EReal) = gQ m c := by
  show V m c main_v4 = _
  unfold V
  simp only [hostOps0, List.flatten_cons, List.flatten_nil, List.append_nil, List.cons_append, List.nil_append]
  after_results
  all_goals rfl

theorem v2 : (V m c (Pipeline.arrRef spec0 2) : S8192x512.Idx → EReal) = gK m c := by
  show V m c main_v6 = _
  unfold V
  simp only [hostOps0, List.flatten_cons, List.flatten_nil, List.append_nil, List.cons_append, List.nil_append]
  after_results
  all_goals rfl

theorem v4 : (V m c (Pipeline.arrRef spec0 4) : S8192x512.Idx → EReal) = gV m c := by
  show V m c main_v8 = _
  unfold V
  simp only [hostOps0, List.flatten_cons, List.flatten_nil, List.append_nil, List.cons_append, List.nil_append]
  after_results
  all_goals rfl

theorem v8 : (V m c (Pipeline.arrRef spec0 8) : S8192x2048.Idx → EReal) = gG m c := by
  show V m c main_v16 = _
  unfold V
  simp only [hostOps0, List.flatten_cons, List.flatten_nil, List.append_nil, List.cons_append, List.nil_append]
  after_results
  all_goals rfl

theorem v6 (q : Fin 8192) (n : Fin 768) : (V m c (Pipeline.arrRef spec0 6) : S8192x768.Idx → EReal) (ix2 q n) = latD (gL m c) (gR m c) (ix2 q n) := by
  have e : (V m c main_v10 : S8192x768.Idx → EReal) = Cert.Kernel14Ideal.Val.padded (gL m c) (gR m c) := by
    unfold V
    simp only [hostOps0, List.flatten_cons, List.flatten_nil, List.append_nil, List.cons_append, List.nil_append]
    after_results
    all_goals rfl
  exact (congrFun e _).trans (Cert.Kernel14Ideal.Val.padded_apply _ _ q n)

/-- and the blocks of the weights' columns. -/
theorem v1 (n : Fin 1024) (k : Fin 512) : (V m c (Pipeline.arrRef spec0 1) : S1024x512.Idx → EReal) (ix2 n k) = gW m c (ix2 n ⟨k.val, by omega⟩) := by
  have e : (V m c main_v5 : S1024x512.Idx → EReal) = extractStridedSlice S1024x512 ![0, 0] (gW m c) slices_S1024x4256_S1024x512_0_0 := by
    unfold V
    simp only [hostOps0, List.flatten_cons, List.flatten_nil, List.append_nil, List.cons_append, List.nil_append]
    after_results
    all_goals rfl
  refine (congrFun e _).trans ?_
  pointwise

theorem v3 (n : Fin 1024) (k : Fin 512) : (V m c (Pipeline.arrRef spec0 3) : S1024x512.Idx → EReal) (ix2 n k) = gW m c (ix2 n ⟨512 + k.val, by omega⟩) := by
  have e : (V m c main_v7 : S1024x512.Idx → EReal) = extractStridedSlice S1024x512 ![0, 512] (gW m c) slices_S1024x4256_S1024x512_0_512 := by
    unfold V
    simp only [hostOps0, List.flatten_cons, List.flatten_nil, List.append_nil, List.cons_append, List.nil_append]
    after_results
    all_goals rfl
  refine (congrFun e _).trans ?_
  pointwise

theorem v5 (n : Fin 1024) (k : Fin 512) : (V m c (Pipeline.arrRef spec0 5) : S1024x512.Idx → EReal) (ix2 n k) = gW m c (ix2 n ⟨1024 + k.val, by omega⟩) := by
  have e : (V m c main_v9 : S1024x512.Idx → EReal) = extractStridedSlice S1024x512 ![0, 1024] (gW m c) slices_S1024x4256_S1024x512_0_1024 := by
    unfold V
    simp only [hostOps0, List.flatten_cons, List.flatten_nil, List.append_nil, List.cons_append, List.nil_append]
    after_results
    all_goals rfl
  refine (congrFun e _).trans ?_
  pointwise

theorem v9 (n : Fin 1024) (k : Fin 2048) : (V m c (Pipeline.arrRef spec0 9) : S1024x2048.Idx → EReal) (ix2 n k) = gW m c (ix2 n ⟨2208 + k.val, by omega⟩) := by
  have e : (V m c main_v17 : S1024x2048.Idx → EReal) = extractStridedSlice S1024x2048 ![0, 2208] (gW m c) slices_S1024x4256_S1024x2048_0_2208 := by
    unfold V
    simp only [hostOps0, List.flatten_cons, List.flatten_nil, List.append_nil, List.cons_append, List.nil_append]
    after_results
    all_goals rfl
  refine (congrFun e _).trans ?_
  pointwise

theorem v7 (n : Fin 1024) (k : Fin 768) : (V m c (Pipeline.arrRef spec0 7) : S1024x768.Idx → EReal) (ix2 n k) = latW (gW m c) n k := by
  have e : (V m c main_v15 : S1024x768.Idx → EReal) = Cert.Kernel13Ideal.Val.padded (gW m c) := by
    unfold V
    simp only [hostOps0, List.flatten_cons, List.flatten_nil, List.append_nil, List.cons_append, List.nil_append]
    after_results
    all_goals rfl
  exact (congrFun e _).trans (Cert.Kernel13Ideal.Val.padded_apply _ n k)

theorem lt16 (t : Fin cfg0.N) : t.val < 16 := lt_of_lt_of_eq t.isLt N_0

/-- Row `r` of the point's 512 rows. -/
abbrev row (t : Fin cfg0.N) (r : Fin 512) : Fin 8192 := ⟨512 * t.val + r.val, by have := lt16 t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)

theorem read0 (f : Buf (Elt Ideal) ((c : Thread nD τ).loc (Pipeline.arrRef spec0 0))) (t : Fin cfg0.N) (r : Fin 512) (k : Fin 512) :
    ((cfg0.win 0).blk t).view.read (Elt Ideal) f (ix2 r k) = (f : Vec Ideal S8192x512 .bf16) (ix2 (row t r) k) := by
  refine congrArg f ?_
  blk_ext [idx0 t]

theorem read1 (f : Buf (Elt Ideal) ((c : Thread nD τ).loc (Pipeline.arrRef spec0 1))) (t : Fin cfg0.N) (n : Fin 1024) (k : Fin 512) :
    ((cfg0.win 1).blk t).view.read (Elt Ideal) f (ix2 n k) = (f : Vec Ideal S1024x512 .bf16) (ix2 n k) := by
  refine congrArg f ?_
  blk_ext [idx1 t]

theorem read2 (f : Buf (Elt Ideal) ((c : Thread nD τ).loc (Pipeline.arrRef spec0 2))) (t : Fin cfg0.N) (r : Fin 512) (k : Fin 512) :
    ((cfg0.win 2).blk t).view.read (Elt Ideal) f (ix2 r k) = (f : Vec Ideal S8192x512 .bf16) (ix2 (row t r) k) := by
  refine congrArg f ?_
  blk_ext [idx2 t]

theorem read3 (f : Buf (Elt Ideal) ((c : Thread nD τ).loc (Pipeline.arrRef spec0 3))) (t : Fin cfg0.N) (n : Fin 1024) (k : Fin 512) :
    ((cfg0.win 3).blk t).view.read (Elt Ideal) f (ix2 n k) = (f : Vec Ideal S1024x512 .bf16) (ix2 n k) := by
  refine congrArg f ?_
  blk_ext [idx3 t]

theorem read4 (f : Buf (Elt Ideal) ((c : Thread nD τ).loc (Pipeline.arrRef spec0 4))) (t : Fin cfg0.N) (r : Fin 512) (k : Fin 512) :
    ((cfg0.win 4).blk t).view.read (Elt Ideal) f (ix2 r k) = (f : Vec Ideal S8192x512 .bf16) (ix2 (row t r) k) := by
  refine congrArg f ?_
  blk_ext [idx4 t]

theorem read5 (f : Buf (Elt Ideal) ((c : Thread nD τ).loc (Pipeline.arrRef spec0 5))) (t : Fin cfg0.N) (n : Fin 1024) (k : Fin 512) :
    ((cfg0.win 5).blk t).view.read (Elt Ideal) f (ix2 n k) = (f : Vec Ideal S1024x512 .bf16) (ix2 n k) := by
  refine congrArg f ?_
  blk_ext [idx5 t]

theorem read6 (f : Buf (Elt Ideal) ((c : Thread nD τ).loc (Pipeline.arrRef spec0 6))) (t : Fin cfg0.N) (r : Fin 512) (k : Fin 768) :
    ((cfg0.win 6).blk t).view.read (Elt Ideal) f (ix2 r k) = (f : Vec Ideal S8192x768 .bf16) (ix2 (row t r) k) := by
  refine congrArg f ?_
  blk_ext [idx6 t]

theorem read7 (f : Buf (Elt Ideal) ((c : Thread nD τ).loc (Pipeline.arrRef spec0 7))) (t : Fin cfg0.N) (n : Fin 1024) (k : Fin 768) :
    ((cfg0.win 7).blk t).view.read (Elt Ideal) f (ix2 n k) = (f : Vec Ideal S1024x768 .bf16) (ix2 n k) := by
  refine congrArg f ?_
  blk_ext [idx7 t]

theorem read8 (f : Buf (Elt Ideal) ((c : Thread nD τ).loc (Pipeline.arrRef spec0 8))) (t : Fin cfg0.N) (r : Fin 512) (k : Fin 2048) :
    ((cfg0.win 8).blk t).view.read (Elt Ideal) f (ix2 r k) = (f : Vec Ideal S8192x2048 .bf16) (ix2 (row t r) k) := by
  refine congrArg f ?_
  blk_ext [idx8 t]

theorem read9 (f : Buf (Elt Ideal) ((c : Thread nD τ).loc (Pipeline.arrRef spec0 9))) (t : Fin cfg0.N) (n : Fin 1024) (k : Fin 2048) :
    ((cfg0.win 9).blk t).view.read (Elt Ideal) f (ix2 n k) = (f : Vec Ideal S1024x2048 .bf16) (ix2 n k) := by
  refine congrArg f ?_
  blk_ext [idx9 t]

theorem iblk0 (t : Fin cfg0.N) (r : Fin 512) (k : Fin 512) : iblk m c 0 t (ix2 r k) = gQ m c (ix2 (row t r) k) := by
  unfold iblk
  exact (read0 c (V m c (Pipeline.arrRef spec0 0)) t r k).trans (congrFun (v0 m c) _)

theorem iblk1 (t : Fin cfg0.N) (n : Fin 1024) (k : Fin 512) : iblk m c 1 t (ix2 n k) = gW m c (ix2 n ⟨k.val, by omega⟩) := by
  unfold iblk
  exact (read1 c (V m c (Pipeline.arrRef spec0 1)) t n k).trans (v1 m c n k)

theorem iblk2 (t : Fin cfg0.N) (r : Fin 512) (k : Fin 512) : iblk m c 2 t (ix2 r k) = gK m c (ix2 (row t r) k) := by
  unfold iblk
  exact (read2 c (V m c (Pipeline.arrRef spec0 2)) t r k).trans (congrFun (v2 m c) _)

theorem iblk3 (t : Fin cfg0.N) (n : Fin 1024) (k : Fin 512) : iblk m c 3 t (ix2 n k) = gW m c (ix2 n ⟨512 + k.val, by omega⟩) := by
  unfold iblk
  exact (read3 c (V m c (Pipeline.arrRef spec0 3)) t n k).trans (v3 m c n k)

theorem iblk4 (t : Fin cfg0.N) (r : Fin 512) (k : Fin 512) : iblk m c 4 t (ix2 r k) = gV m c (ix2 (row t r) k) := by
  unfold iblk
  exact (read4 c (V m c (Pipeline.arrRef spec0 4)) t r k).trans (congrFun (v4 m c) _)

theorem iblk5 (t : Fin cfg0.N) (n : Fin 1024) (k : Fin 512) : iblk m c 5 t (ix2 n k) = gW m c (ix2 n ⟨1024 + k.val, by omega⟩) := by
  unfold iblk
  exact (read5 c (V m c (Pipeline.arrRef spec0 5)) t n k).trans (v5 m c n k)

theorem iblk6 (t : Fin cfg0.N) (r : Fin 512) (k : Fin 768) : iblk m c 6 t (ix2 r k) = latD (gL m c) (gR m c) (ix2 (row t r) k) := by
  unfold iblk
  exact (read6 c (V m c (Pipeline.arrRef spec0 6)) t r k).trans (v6 m c (row t r) k)

theorem iblk7 (t : Fin cfg0.N) (n : Fin 1024) (k : Fin 768) : iblk m c 7 t (ix2 n k) = latW (gW m c) n k := by
  unfold iblk
  exact (read7 c (V m c (Pipeline.arrRef spec0 7)) t n k).trans (v7 m c n k)

theorem iblk8 (t : Fin cfg0.N) (r : Fin 512) (k : Fin 2048) : iblk m c 8 t (ix2 r k) = gG m c (ix2 (row t r) k) := by
  unfold iblk
  exact (read8 c (V m c (Pipeline.arrRef spec0 8)) t r k).trans (congrFun (v8 m c) _)

theorem iblk9 (t : Fin cfg0.N) (n : Fin 1024) (k : Fin 2048) : iblk m c 9 t (ix2 n k) = gW m c (ix2 n ⟨2208 + k.val, by omega⟩) := by
  unfold iblk
  exact (read9 c (V m c (Pipeline.arrRef spec0 9)) t n k).trans (v9 m c n k)

/-- The whole product that the array ends holding: the gradients beside each other against the rows of the weights. -/
def dH (W : FVec Ideal S1024x4256 .f32) (Q K V : FVec Ideal S8192x512 .f32) (L : FVec Ideal S8192x640 .f32) (R : FVec Ideal S8192x32 .f32)
    (G : FVec Ideal S8192x2048 .f32) (q : Fin 8192) (n : Fin 1024) : EReal :=
  ∑ k : Fin 512, Q (ix2 q k) * W (ix2 n ⟨k.val, by omega⟩) + ∑ k : Fin 512, K (ix2 q k) * W (ix2 n ⟨512 + k.val, by omega⟩)
    + ∑ k : Fin 512, V (ix2 q k) * W (ix2 n ⟨1024 + k.val, by omega⟩)
    + (∑ k : Fin 640, L (ix2 q k) * W (ix2 n ⟨1536 + k.val, by omega⟩) + ∑ k : Fin 32, R (ix2 q k) * W (ix2 n ⟨2176 + k.val, by omega⟩))
    + ∑ k : Fin 2048, G (ix2 q k) * W (ix2 n ⟨2208 + k.val, by omega⟩)

/-- The array after the run. -/
theorem arr : (dats m 0 c).arrAt 10 cfg0.N
    = (fun i : S8192x1024.Idx => dH (gW m c) (gQ m c) (gK m c) (gV m c) (gL m c) (gR m c) (gG m c) (i 0) (i 1) : Vec Ideal S8192x1024 .f32) := by
  refine (dats m 0 c).arrAt_eq_of_covers 10 _ (by decide +kernel) fun t hf y => ?_
  blk_simp
  rw [after0_10]
  obtain ⟨r, n, rfl⟩ : ∃ (r : Fin 512) (n : Fin 1024), y = ix2 r n := ⟨y 0, y 1, by funext a; fin_cases a <;> rfl⟩
  have e : ((cfg0.win 10).blk t).view.emb (ix2 r n) = ix2 (row t r) n := by blk_ext [idx10 t]
  rw [e]
  have hz : (![0, 0] : Fin 2 → Nat) = fun _ => 0 := funext fun a => by fin_cases a <;> rfl
  unfold out0_10
  rw [View.canon_unit_zero hz]
  simp only [View.ld_unit_zero (S := S512x512) hz, View.ld_unit_zero (S := S1024x512) hz, View.ld_unit_zero (S := S512x768) hz,
    View.ld_unit_zero (S := S1024x768) hz, View.ld_unit_zero (S := S512x2048) hz, View.ld_unit_zero (S := S1024x2048) hz]
  refine (pay_apply _ _ _ _ _ _ _ _ _ _ r n).trans ?_
  simp only [iblk0, iblk1, iblk2, iblk3, iblk4, iblk5, iblk6, iblk7, iblk8, iblk9]
  rw [lat_sum]
  rfl

/-- A sum over the columns of the joined gradients is the six sums over its parts. -/
theorem sum_six (f : Fin 4256 → EReal) (A B C : Fin 512 → EReal) (D : Fin 640 → EReal) (E : Fin 32 → EReal) (G : Fin 2048 → EReal)
    (hA : ∀ k : Fin 512, f ⟨k.val, by omega⟩ = A k) (hB : ∀ k : Fin 512, f ⟨512 + k.val, by omega⟩ = B k)
    (hC : ∀ k : Fin 512, f ⟨1024 + k.val, by omega⟩ = C k) (hD : ∀ k : Fin 640, f ⟨1536 + k.val, by omega⟩ = D k)
    (hE : ∀ k : Fin 32, f ⟨2176 + k.val, by omega⟩ = E k) (hG : ∀ k : Fin 2048, f ⟨2208 + k.val, by omega⟩ = G k) :
    ∑ k, f k = ∑ k, A k + (∑ k, B k + (∑ k, C k + (∑ k, D k + (∑ k, E k + ∑ k, G k)))) := by
  have e : ∑ k, f k = ∑ k : Fin (512 + (512 + (512 + (640 + (32 + 2048))))), f k := rfl
  rw [e, Fin.sum_univ_add, Fin.sum_univ_add, Fin.sum_univ_add, Fin.sum_univ_add, Fin.sum_univ_add]
  simp only [← hA, ← hB, ← hC, ← hD, ← hE, ← hG]
  refine congrArg₂ (· + ·) rfl (congrArg₂ (· + ·) rfl (congrArg₂ (· + ·) ?_ (congrArg₂ (· + ·) ?_ (congrArg₂ (· + ·) ?_ ?_)))) <;>
    exact Finset.sum_congr rfl fun k _ => congrArg f (Fin.ext (by simp; omega))

/-- The reference's product at an index is that sum. -/
theorem ref (W : FVec Ideal S1024x4256 .f32) (Q K V : FVec Ideal S8192x512 .f32) (L : FVec Ideal S8192x640 .f32)
    (R : FVec Ideal S8192x32 .f32) (G : FVec Ideal S8192x2048 .f32) (q : Fin 8192) (n : Fin 1024) :
    Cert.Reference9Ideal.Read.val_main_v2 (F := Ideal) W Q K V L R G (ix2 q n) = dH W Q K V L R G q n := by
  pointwise [Cert.Reference9Ideal.Read.val_main_v2, Cert.Reference9Ideal.Read.val_main_v0]
  refine (sum_six _ (fun k => Q (ix2 q k) * W (ix2 n ⟨k.val, by omega⟩)) (fun k => K (ix2 q k) * W (ix2 n ⟨512 + k.val, by omega⟩))
    (fun k => V (ix2 q k) * W (ix2 n ⟨1024 + k.val, by omega⟩)) (fun k => L (ix2 q k) * W (ix2 n ⟨1536 + k.val, by omega⟩))
    (fun k => R (ix2 q k) * W (ix2 n ⟨2176 + k.val, by omega⟩)) (fun k => G (ix2 q k) * W (ix2 n ⟨2208 + k.val, by omega⟩))
    (fun k => ?_) (fun k => ?_) (fun k => ?_) (fun k => ?_) (fun k => ?_) fun k => ?_).trans ?_
  · rw [dif_pos k.isLt]
  · rw [dif_neg (by simp only []; omega), dif_pos (by simp only []; omega)]
    exact congrArg (fun x => K (ix2 q x) * _) (Fin.ext (by simp only []; omega))
  · rw [dif_neg (by simp only []; omega), dif_neg (by simp only []; omega), dif_pos (by simp only []; omega)]
    exact congrArg (fun x => V (ix2 q x) * _) (Fin.ext (by simp only []; omega))
  · rw [dif_neg (by simp only []; omega), dif_neg (by simp only []; omega), dif_neg (by simp only []; omega), dif_pos (by simp only []; omega)]
    exact congrArg (fun x => L (ix2 q x) * _) (Fin.ext (by simp only []; omega))
  · rw [dif_neg (by simp only []; omega), dif_neg (by simp only []; omega), dif_neg (by simp only []; omega), dif_neg (by simp only []; omega),
      dif_pos (by simp only []; omega)]
    exact congrArg (fun x => R (ix2 q x) * _) (Fin.ext (by simp only []; omega))
  · rw [dif_neg (by simp only []; omega), dif_neg (by simp only []; omega), dif_neg (by simp only []; omega), dif_neg (by simp only []; omega),
      dif_neg (by simp only []; omega)]
    exact congrArg (fun x => G (ix2 q x) * _) (Fin.ext (by simp only []; omega))
  · unfold dH
    simp only [add_assoc]

end Cert.Kernel9Ideal.Val

end
-- ==== Proof.QkvGrad.lean ====
/- The weights' gradient of the mixer's projection to queries (keys and values: the same product): the accumulator over the
   eight row tiles, the array the launch leaves, and the reference. -/
module

public import proofs.«01_k».proof.Proof.Gen.Kernel10Ideal.Value
public import proofs.«01_k».proof.Proof.Gen.Reference10Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel10Ideal.Val

open Idealize.ShloMosaic Idealize.ShloMosaic.TcCoe
open Cert.Kernel10Ideal Cert.Kernel10Ideal.Gen

theorem hz : (![0, 0] : Fin 2 → Nat) = fun _ => 0 := funext fun a => by fin_cases a <;> rfl

/-- A tile of rows of the one factor against the same rows of the other. -/
def tileProd (x : Vec Ideal S1024x1024 .bf16) (y : Vec Ideal S1024x512 .bf16) (k : Fin 1024) (n : Fin 512) : EReal :=
  ∑ r : Fin 1024, x (ix2 r k) * y (ix2 r n)

/-- What a point adds to the accumulator. -/
theorem pay2_apply (acc : Vec Ideal S1024x512 .f32) (x : Vec Ideal S1024x1024 .bf16) (y : Vec Ideal S1024x512 .bf16)
    (k : Fin 1024) (n : Fin 512) : k0_pay2 acc x y (ix2 k n) = acc (ix2 k n) + tileProd x y k n := by
  pointwise [k0_pay2]
  rfl

/-- The accumulator starts at zero. -/
theorem pay1_apply (k : Fin 1024) (n : Fin 512) : k0_pay1 (F := Ideal) (ix2 k n) = 0 := by
  pointwise [k0_pay1]

section Cases

variable (c : Dev nD) (i : grid0.Coords) (a3 : Memref sig .tc .vmem S1024x1024 .bf16) (h3 : a3.IsWhole)
  (a4 : Memref sig .tc .vmem S1024x512 .bf16) (h4 : a4.IsWhole) (a5 : Memref sig .tc .vmem S1024x512 .f32) (h5 : a5.IsWhole)
  (a6 : Memref sig .tc .vmem S1024x512 .f32) (h6 : a6.IsWhole)
  (x : Vec Ideal S1024x1024 .bf16) (y : Vec Ideal S1024x512 .bf16) (s : Vec Ideal S1024x512 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x1024) hz,
    View.ld_unit_zero (S := S1024x512) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz,
    View.ld_unit_zero (S := S1024x512) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S1024x512) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x512) _ hz]
  simp only [View.readAt_eq_ld, h3.read_unread, h4.read_unread, h6.read_unread, View.ld_unit_zero (S := S1024x1024) hz,
    View.ld_unit_zero (S := S1024x512) hz]

end Cases

variable (m : (ℓ : Loc nD τ sig) → Buf (Elt Ideal) ℓ) (c : Dev nD)

/-- The layer's input and the gradient of its output, as launched. -/
abbrev gH : FVec Ideal S8192x1024 .f32 := m (c, Proc.tc.devRef main_arg0)
abbrev gD : FVec Ideal S8192x512 .f32 := m (c, Proc.tc.devRef main_arg2)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x512.Idx → EReal) = gD m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 8 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 1) (n : Fin 512) : Fin 512 := ⟨512 * j + n.val, by omega⟩

theorem lt8 (n : ℕ) : n % 8 < 8 := Nat.mod_lt _ (by decide)
theorem ltC (t : Fin cfg0.N) : t.val / 8 < 1 := by have := ltN t; omega

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 512) :
    ((cfg0.win 1).blk t).view.read (Elt Ideal) f (ix2 r n)
      = (f : Vec Ideal S8192x512 .bf16) (ix2 (row (t.val % 8) (lt8 _) r) (col (t.val / 8) (ltC t) n)) := by
  refine congrArg f ?_
  blk_ext [idx1 t]

theorem iblk0 (t : Fin cfg0.N) (r k : Fin 1024) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 512) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 1024) (n : Fin 512) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 1024) (n : Fin 512) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1024) (n : Fin 512) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x1024 .f32) (D : FVec Ideal S8192x512 .f32) (k : Fin 1024) (n : Fin 512) : EReal :=
  ∑ q : Fin 8192, H (ix2 q k) * D (ix2 q n)

/-- The points of a column tile together give the product over all rows. -/
theorem sum_part (t : Fin cfg0.N) (k : Fin 1024) (n : Fin 512) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 8 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S1024x512.Idx => dW (gH m c) (gD m c) (i 0) (i 1) : Vec Ideal S1024x512 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1024) (n : Fin 512), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x1024 .f32) (D : FVec Ideal S8192x512 .f32) (k : Fin 1024) (n : Fin 512) :
    Cert.Reference10Ideal.Read.val_main_v2 (F := Ideal) H D (ix2 k n) = dW H D k n := by
  pointwise [Cert.Reference10Ideal.Read.val_main_v2, Cert.Reference10Ideal.Read.val_main_v1]
  exact Finset.sum_congr rfl fun q _ => mul_comm _ _

end Cert.Kernel10Ideal.Val

end
-- ==== Proof.GatesGrad.lean ====
/- The weights' gradient of the mixer's projection to the gates' logits: the accumulator over the
   eight row tiles, the array the launch leaves, and the reference. -/
module

public import proofs.«01_k».proof.Proof.Gen.Kernel11Ideal.Value
public import proofs.«01_k».proof.Proof.Gen.Reference11Ideal.Read
public import proofs.«01_k».proof.Proof.Tiles
public import Idealize.ShloMosaic.Lib.Pointwise
public import Idealize.ShloMosaic.Lib.Pipeline.ValueKit

@[expose] public section

set_option maxRecDepth 65536

noncomputable section

namespace Cert.Kernel11Ideal.Val

open Idealize.ShloMosaic Idealize.ShloMosaic.TcCoe
open Cert.Kernel11Ideal Cert.Kernel11Ideal.Gen

theorem hz : (![0, 0] : Fin 2 → Nat) = fun _ => 0 := funext fun a => by fin_cases a <;> rfl

/-- A tile of rows of the one factor against the same rows of the other. -/
def tileProd (x : Vec Ideal S1024x1024 .bf16) (y : Vec Ideal S1024x1024 .bf16) (k : Fin 1024) (n : Fin 1024) : EReal :=
  ∑ r : Fin 1024, x (ix2 r k) * y (ix2 r n)

/-- What a point adds to the accumulator. -/
theorem pay2_apply (acc : Vec Ideal S1024x1024 .f32) (x : Vec Ideal S1024x1024 .bf16) (y : Vec Ideal S1024x1024 .bf16)
    (k : Fin 1024) (n : Fin 1024) : k0_pay2 acc x y (ix2 k n) = acc (ix2 k n) + tileProd x y k n := by
  pointwise [k0_pay2]
  rfl

/-- The accumulator starts at zero. -/
theorem pay1_apply (k : Fin 1024) (n : Fin 1024) : k0_pay1 (F := Ideal) (ix2 k n) = 0 := by
  pointwise [k0_pay1]

section Cases

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x1024 .bf16) (y : Vec Ideal S1024x1024 .bf16) (s : Vec Ideal S1024x1024 .f32)

/-- The first tile's point leaves the product added to zero, -/
theorem accA (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz,
    View.ld_unit_zero (S := S1024x1024) hz]

/-- a middle point adds its own product, -/
theorem accB (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz,
    View.ld_unit_zero (S := S1024x1024) hz]

/-- and so does the last one, -/
theorem accC (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S1024x1024) hz]

/-- which copies the accumulator out. -/
theorem outC (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz,
    View.ld_unit_zero (S := S1024x1024) hz]

end Cases

variable (m : (ℓ : Loc nD τ sig) → Buf (Elt Ideal) ℓ) (c : Dev nD)

/-- The layer's input and the gradient of its output, as launched. -/
abbrev gH : FVec Ideal S8192x1024 .f32 := m (c, Proc.tc.devRef main_arg0)
abbrev gD : FVec Ideal S8192x2048 .f32 := m (c, Proc.tc.devRef main_arg2)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S8192x2048.Idx → EReal) = gD m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem ltN (t : Fin cfg0.N) : t.val < 16 := lt_of_lt_of_eq t.isLt N_0

/-- Row `r` of a row tile and column `n` of a column tile. -/
abbrev row (j : ℕ) (hj : j < 8) (r : Fin 1024) : Fin 8192 := ⟨1024 * j + r.val, by omega⟩
abbrev col (j : ℕ) (hj : j < 2) (n : Fin 1024) : Fin 2048 := ⟨1024 * j + n.val, by omega⟩

theorem lt8 (n : ℕ) : n % 8 < 8 := Nat.mod_lt _ (by decide)
theorem ltC (t : Fin cfg0.N) : t.val / 8 < 2 := by have := ltN t; omega

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row (t.val % 8) (lt8 _) r) k) := by
  refine congrArg f ?_
  blk_ext [idx0 t]

theorem read1 (f : Buf (Elt Ideal) ((c : Thread nD τ).loc (Pipeline.arrRef spec0 1))) (t : Fin cfg0.N) (r : Fin 1024) (n : Fin 1024) :
    ((cfg0.win 1).blk t).view.read (Elt Ideal) f (ix2 r n)
      = (f : Vec Ideal S8192x2048 .bf16) (ix2 (row (t.val % 8) (lt8 _) r) (col (t.val / 8) (ltC t) n)) := by
  refine congrArg f ?_
  blk_ext [idx1 t]

theorem iblk0 (t : Fin cfg0.N) (r k : Fin 1024) : iblk m c 0 t (ix2 r k) = gH m c (ix2 (row (t.val % 8) (lt8 _) r) k) := by
  unfold iblk
  exact (read0 c (V m c (Pipeline.arrRef spec0 0)) t r k).trans (congrFun (v0 m c) _)

theorem iblk1 (t : Fin cfg0.N) (r : Fin 1024) (n : Fin 1024) :
    iblk m c 1 t (ix2 r n) = gD m c (ix2 (row (t.val % 8) (lt8 _) r) (col (t.val / 8) (ltC t) n)) := by
  unfold iblk
  exact (read1 c (V m c (Pipeline.arrRef spec0 1)) t r n).trans (congrFun (v1 m c) _)

/-- What point `n` adds at an element of the accumulator. -/
def part (k : Fin 1024) (n : Fin 1024) (t : ℕ) : EReal :=
  if h : t < cfg0.N then ∑ r : Fin 1024, gH m c (ix2 (row (t % 8) (lt8 _) r) k) * gD m c (ix2 (row (t % 8) (lt8 _) r) (col (t / 8) (ltC ⟨t, h⟩) n)) else 0

theorem part_eq (t : Fin cfg0.N) (k : Fin 1024) (n : Fin 1024) :
    tileProd (iblk m c 0 t) (iblk m c 1 t) k n = part m c k n t.val := by
  unfold part tileProd
  rw [dif_pos t.isLt]
  simp only [iblk0, iblk1]

/-- The accumulator after point `n`: the points of the column tile up to `n`. -/
theorem acc_eq (k : Fin 1024) (n : Fin 1024) : ∀ (t : ℕ) (h : t < cfg0.N),
    (outsAt0 m c t h).2 (ix2 k n) = ∑ j ∈ Finset.range (t % 8 + 1), part m c k n (8 * (t / 8) + j) := by
  refine Cert.Tiles.fold_runs (by decide) (fun t h => (outsAt0 m c t h).2 (ix2 k n)) (part m c k n) (fun t h e => ?_) fun t h e => ?_
  · show (outsAt0 m c t h).2 (ix2 k n) = _
    rw [show outsAt0 m c t h = _ from outsAt0_A m c ⟨t, h⟩ e (by simp only []; omega)]
    dsimp only
    rw [accA, pay2_apply, pay1_apply, zero_add]
    exact part_eq m c ⟨t, h⟩ k n
  · show (outsAt0 m c (t + 1) h).2 (ix2 k n) = (outsAt0 m c t _).2 (ix2 k n) + _
    by_cases e1 : (t + 1) % 8 = 7
    · rw [show outsAt0 m c (t + 1) h = _ from outsAt0_C m c ⟨t + 1, h⟩ e e1]
      dsimp only
      rw [accC, pay2_apply]
      exact congrArg (_ + ·) (part_eq m c ⟨t + 1, h⟩ k n)
    · rw [show outsAt0 m c (t + 1) h = _ from outsAt0_B m c ⟨t + 1, h⟩ e e1]
      dsimp only
      rw [accB, pay2_apply]
      exact congrArg (_ + ·) (part_eq m c ⟨t + 1, h⟩ k n)

/-- The whole product at an index. -/
def dW (H : FVec Ideal S8192x1024 .f32) (D : FVec Ideal S8192x2048 .f32) (k : Fin 1024) (n : Fin 2048) : EReal :=
  ∑ q : Fin 8192, H (ix2 q k) * D (ix2 q n)

/-- The points of a column tile together give the product over all rows. -/
theorem sum_part (t : Fin cfg0.N) (k : Fin 1024) (n : Fin 1024) :
    ∑ j ∈ Finset.range 8, part m c k n (8 * (t.val / 8) + j) = dW (gH m c) (gD m c) k (col (t.val / 8) (ltC t) n) := by
  refine Cert.Tiles.sum_tiles (w := 1024) rfl _ _ fun j hj => ?_
  have hn := ltN t
  have hN : 8 * (t.val / 8) + j < cfg0.N := lt_of_lt_of_eq (show _ < 16 by omega) N_0.symm
  have hm : (8 * (t.val / 8) + j) % 8 = j := by omega
  have hd : (8 * (t.val / 8) + j) / 8 = t.val / 8 := by omega
  unfold part
  rw [dif_pos hN]
  simp only [row, col, hm, hd]

/-- The array after the run. -/
theorem arr : (dats m 0 c).arrAt 2 cfg0.N
    = (fun i : S1024x2048.Idx => dW (gH m c) (gD m c) (i 0) (i 1) : Vec Ideal S1024x2048 .f32) := by
  refine (dats m 0 c).arrAt_eq_of_covers 2 _ (by decide +kernel) fun t hf y => ?_
  blk_simp
  rw [after0_2]
  have h7 : t.val % 8 = 7 := (flush0_2 t).mp hf
  obtain ⟨k, n, rfl⟩ : ∃ (k : Fin 1024) (n : Fin 1024), y = ix2 k n := ⟨y 0, y 1, by funext a; fin_cases a <;> rfl⟩
  have e : ((cfg0.win 2).blk t).view.emb (ix2 k n) = ix2 k (col (t.val / 8) (ltC t) n) := by blk_ext [idx2 t]
  rw [e]
  have eo : (outsAt0 m c t.val t.isLt).1 (ix2 k n) = (outsAt0 m c t.val t.isLt).2 (ix2 k n) := by
    rw [outsAt0_C m c t (by omega) h7]
    dsimp only
    rw [outC, accC]
  refine (eo.trans (acc_eq m c k n t.val t.isLt)).trans ?_
  rw [h7]
  exact sum_part m c t k n

/-- The reference's product at an index is that sum. -/
theorem ref (H : FVec Ideal S8192x1024 .f32) (D : FVec Ideal S8192x2048 .f32) (k : Fin 1024) (n : Fin 2048) :
    Cert.Reference11Ideal.Read.val_main_v2 (F := Ideal) H D (ix2 k n) = dW H D k n := by
  pointwise [Cert.Reference11Ideal.Read.val_main_v2, Cert.Reference11Ideal.Read.val_main_v1]
  exact Finset.sum_congr rfl fun q _ => mul_comm _ _

end Cert.Kernel11Ideal.Val

end
-- ==== Proof.ProjGates.lean ====
/- The projection of the mixer's input to the gates' logits: what the launch leaves, and the reference. -/
module

public import proofs.«01_k».proof.Proof.Gen.Kernel12Ideal.Value
public import proofs.«01_k».proof.Proof.Gen.Reference12Ideal.Read
public import Idealize.ShloMosaic.Lib.Pointwise
public import Idealize.ShloMosaic.Lib.Pipeline.ValueKit

@[expose] public section

set_option maxRecDepth 65536

noncomputable section

namespace Cert.Kernel12Ideal.Val

open Idealize.ShloMosaic Idealize.ShloMosaic.TcCoe
open Cert.Kernel12Ideal Cert.Kernel12Ideal.Gen

theorem hz : (![0, 0] : Fin 2 → Nat) = fun _ => 0 := funext fun a => by fin_cases a <;> rfl

/-- A tile of the product. -/
def tileProd (x : Vec Ideal S1024x1024 .bf16) (y : Vec Ideal S1024x1024 .bf16) (r : Fin 1024) (n : Fin 1024) : EReal :=
  ∑ j : Fin 1024, x (ix2 r j) * y (ix2 j n)

/-- What a point stores: its product added to zero. -/
theorem pay_apply (x : Vec Ideal S1024x1024 .bf16) (y : Vec Ideal S1024x1024 .bf16) (r : Fin 1024) (n : Fin 1024) :
    (k0_pay2 k0_pay1 x y) (ix2 r n) = tileProd x y r n := by
  pointwise [k0_pay2, k0_pay1]
  rfl

/-- The point clears the accumulator, adds its product and copies it out. -/
theorem outA (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i)
    (x : Vec Ideal S1024x1024 .bf16) (y : Vec Ideal S1024x1024 .bf16) :
    out0_A_2 c i a3 h3 a4 h4 a5 h5 a6 h6 hc0 hc1 x y = k0_pay2 k0_pay1 x y := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, View.readCov_cons_toLoadRect, View.readCov_cons_toLoadRect]
  simp only [View.readAt_eq_ld, h3.read_unread, h4.read_unread, View.ld_unit_zero (S := S1024x1024) hz]

variable (m : (ℓ : Loc nD τ sig) → Buf (Elt Ideal) ℓ) (c : Dev nD)

/-- The mixer's input and the weights, as launched. -/
abbrev gH : FVec Ideal S8192x1024 .f32 := m (c, Proc.tc.devRef main_arg0)
abbrev gW : FVec Ideal S1024x2048 .f32 := m (c, Proc.tc.devRef main_arg1)

theorem v0 : (V m c (Pipeline.arrRef spec0 0) : S8192x1024.Idx → EReal) = gH m c := by
  show V m c main_v0 = _
  unfold V
  simp only [hostOps0, List.flatten_cons, List.flatten_nil, List.append_nil, List.cons_append, List.nil_append]
  after_results
  all_goals rfl

theorem v1 : (V m c (Pipeline.arrRef spec0 1) : S1024x2048.Idx → EReal) = gW m c := by
  show V m c main_v1 = _
  unfold V
  simp only [hostOps0, List.flatten_cons, List.flatten_nil, List.append_nil, List.cons_append, List.nil_append]
  after_results
  all_goals rfl

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem ltN (t : Fin cfg0.N) : t.val < 16 := lt_of_lt_of_eq t.isLt N_0

/-- Row `r` and column `n` of the point's tile. -/
abbrev row (t : Fin cfg0.N) (r : Fin 1024) : Fin 8192 := ⟨1024 * (t.val / 2) + r.val, by have := ltN t; omega⟩
abbrev col (t : Fin cfg0.N) (n : Fin 1024) : Fin 2048 := ⟨1024 * (t.val % 2) + n.val, by omega⟩

theorem read0 (f : Buf (Elt Ideal) ((c : Thread nD τ).loc (Pipeline.arrRef spec0 0))) (t : Fin cfg0.N) (r k : Fin 1024) :
    ((cfg0.win 0).blk t).view.read (Elt Ideal) f (ix2 r k) = (f : Vec Ideal S8192x1024 .bf16) (ix2 (row t r) k) := by
  refine congrArg f ?_
  blk_ext [idx0 t]

theorem read1 (f : Buf (Elt Ideal) ((c : Thread nD τ).loc (Pipeline.arrRef spec0 1))) (t : Fin cfg0.N) (k : Fin 1024) (n : Fin 1024) :
    ((cfg0.win 1).blk t).view.read (Elt Ideal) f (ix2 k n) = (f : Vec Ideal S1024x2048 .bf16) (ix2 k (col t n)) := by
  refine congrArg f ?_
  blk_ext [idx1 t]

theorem iblk0 (t : Fin cfg0.N) (r k : Fin 1024) : iblk m c 0 t (ix2 r k) = gH m c (ix2 (row t r) k) := by
  unfold iblk
  exact (read0 c (V m c (Pipeline.arrRef spec0 0)) t r k).trans (congrFun (v0 m c) _)

theorem iblk1 (t : Fin cfg0.N) (k : Fin 1024) (n : Fin 1024) : iblk m c 1 t (ix2 k n) = gW m c (ix2 k (col t n)) := by
  unfold iblk
  exact (read1 c (V m c (Pipeline.arrRef spec0 1)) t k n).trans (congrFun (v1 m c) _)

/-- The whole product at an index. -/
def prod (H : FVec Ideal S8192x1024 .f32) (W : FVec Ideal S1024x2048 .f32) (q : Fin 8192) (n : Fin 2048) : EReal :=
  ∑ x : Fin 1024, H (ix2 q x) * W (ix2 x n)

/-- The array after the run. -/
theorem arr : (dats m 0 c).arrAt 2 cfg0.N
    = (fun i : S8192x2048.Idx => prod (gH m c) (gW m c) (i 0) (i 1) : Vec Ideal S8192x2048 .f32) := by
  refine (dats m 0 c).arrAt_eq_of_covers 2 _ (by decide +kernel) fun t hf y => ?_
  blk_simp
  rw [after0_2]
  obtain ⟨r, n, rfl⟩ : ∃ (r : Fin 1024) (n : Fin 1024), y = ix2 r n := ⟨y 0, y 1, by funext a; fin_cases a <;> rfl⟩
  have e : ((cfg0.win 2).blk t).view.emb (ix2 r n) = ix2 (row t r) (col t n) := by blk_ext [idx2 t]
  rw [e]
  unfold outsAt0
  rw [outA]
  refine (pay_apply _ _ r n).trans ?_
  unfold tileProd
  simp only [iblk0, iblk1]
  rfl

/-- The reference's product at an index is that sum. -/
theorem ref (H : FVec Ideal S8192x1024 .f32) (W : FVec Ideal S1024x2048 .f32) (q : Fin 8192) (n : Fin 2048) :
    Cert.Reference12Ideal.Read.val_main_v0 (F := Ideal) H W (ix2 q n) = prod H W q n := by
  pointwise [Cert.Reference12Ideal.Read.val_main_v0]
  rfl

end Cert.Kernel12Ideal.Val

end
-- ==== Proof.MixResults.lean ====
/- The claims about the calls of the mixer's input projections: each reference runs to the end, and of equal arguments the two
   programs' results are equal. -/
module

public import proofs.«01_k».proof.Defs
public import proofs.«01_k».proof.Proof.ProjQkv
public import proofs.«01_k».proof.Proof.MixGrad
public import proofs.«01_k».proof.Proof.QkvGrad
public import proofs.«01_k».proof.Proof.GatesGrad
public import proofs.«01_k».proof.Proof.ProjGates
public import proofs.«01_k».proof.Proof.Tiles
public import Idealize.ShloMosaic.Adequacy
public import Idealize.ShloMosaic.Init

@[expose] public section

set_option maxRecDepth 65536

noncomputable section

namespace Cert.Results

open Idealize.ShloMosaic Idealize.ShloMosaic.TcCoe Idealize.SL.Sem
open Cert.Tiles (eq_of_ix2)

theorem reference8_quiescent : Cert.quiescent_Reference8Ideal (hReference8Ideal := Cert.Reference8Ideal.Gen.facts) := fun m ρ _ =>
  (θ_run _ _ _).mono (fun r h => ⟨fun c => (h c).2, sem_eq_zero_of_no_sems rfl r.2⟩) (Cert.Reference8Ideal.Value.run m ρ)

open Cert.Kernel8Ideal.Val Cert.Reference8Ideal.Read in
/-- The queries, keys and values. -/
theorem proj_qkv : Cert.algebraic_Kernel8Ideal_Reference8Ideal (hKernel8Ideal := Cert.Kernel8Ideal.Gen.facts)
    (hReference8Ideal := Cert.Reference8Ideal.Gen.facts) := by
  intro m g m' g' _ hargs
  refine ⟨fun c => val_main_v1 (F := Ideal) (gH m c) (gW m c),
    (θ_run _ _ _).mono (fun r h c => ⟨(h c).1.trans ((arr m c).trans (eq_of_ix2 _ _ (ref _ _)).symm), (h c).2⟩)
      (Cert.Kernel8Ideal.Value.run_blocks m g),
    (θ_run _ _ _).mono (fun r h c => ⟨(h c).1.trans ?_, (h c).2⟩) (Cert.Reference8Ideal.Value.run m' g')⟩
  obtain ⟨e0, e1⟩ := hargs c
  exact (val_main_v1_eq _ _).trans (congr (congrArg _ e0) e1)

theorem reference9_quiescent : Cert.quiescent_Reference9Ideal (hReference9Ideal := Cert.Reference9Ideal.Gen.facts) := fun m ρ _ =>
  (θ_run _ _ _).mono (fun r h => ⟨fun c => (h c).2, sem_eq_zero_of_no_sems rfl r.2⟩) (Cert.Reference9Ideal.Value.run m ρ)

open Cert.Kernel9Ideal.Val Cert.Reference9Ideal.Read in
/-- The gradient of the mixer's input. -/
theorem mix_grad : Cert.algebraic_Kernel9Ideal_Reference9Ideal (hKernel9Ideal := Cert.Kernel9Ideal.Gen.facts)
    (hReference9Ideal := Cert.Reference9Ideal.Gen.facts) := by
  intro m g m' g' _ hargs
  refine ⟨fun c => val_main_v2 (F := Ideal) (gW m c) (gQ m c) (gK m c) (gV m c) (gL m c) (gR m c) (gG m c),
    (θ_run _ _ _).mono (fun r h c => ⟨(h c).1.trans ((arr m c).trans (eq_of_ix2 _ _ (ref _ _ _ _ _ _ _)).symm), (h c).2⟩)
      (Cert.Kernel9Ideal.Value.run_blocks m g),
    (θ_run _ _ _).mono (fun r h c => ⟨(h c).1.trans ?_, (h c).2⟩) (Cert.Reference9Ideal.Value.run m' g')⟩
  obtain ⟨_, e1, e2, e3, e4, e5, e6, e7⟩ := hargs c
  exact (val_main_v2_eq _ _ _ _ _ _ _).trans (congr (congr (congr (congr (congr (congr (congrArg _ e1) e2) e3) e4) e5) e6) e7)

theorem reference10_quiescent : Cert.quiescent_Reference10Ideal (hReference10Ideal := Cert.Reference10Ideal.Gen.facts) := fun m ρ _ =>
  (θ_run _ _ _).mono (fun r h => ⟨fun c => (h c).2, sem_eq_zero_of_no_sems rfl r.2⟩) (Cert.Reference10Ideal.Value.run m ρ)

open Cert.Kernel10Ideal.Val Cert.Reference10Ideal.Read in
/-- The gradient of a block of the mixer's weights that makes queries, keys or values. -/
theorem qkv_grad : Cert.algebraic_Kernel10Ideal_Reference10Ideal (hKernel10Ideal := Cert.Kernel10Ideal.Gen.facts)
    (hReference10Ideal := Cert.Reference10Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel10Ideal.Value.run_blocks m g),
    (θ_run _ _ _).mono (fun r h c => ⟨(h c).1.trans ?_, (h c).2⟩) (Cert.Reference10Ideal.Value.run m' g')⟩
  obtain ⟨e0, _, e2⟩ := hargs c
  exact (val_main_v2_eq _ _).trans (congr (congrArg _ e0) e2)

theorem reference11_quiescent : Cert.quiescent_Reference11Ideal (hReference11Ideal := Cert.Reference11Ideal.Gen.facts) := fun m ρ _ =>
  (θ_run _ _ _).mono (fun r h => ⟨fun c => (h c).2, sem_eq_zero_of_no_sems rfl r.2⟩) (Cert.Reference11Ideal.Value.run m ρ)

open Cert.Kernel11Ideal.Val Cert.Reference11Ideal.Read in
/-- The gradient of the block that makes the gates. -/
theorem gates_grad : Cert.algebraic_Kernel11Ideal_Reference11Ideal (hKernel11Ideal := Cert.Kernel11Ideal.Gen.facts)
    (hReference11Ideal := Cert.Reference11Ideal.Gen.facts) := by
  intro m g m' g' _ hargs
  refine ⟨fun c => val_main_v2 (F := Ideal) (gH m c) (gD m c),
    (θ_run _ _ _).mono (fun r h c => ⟨(h c).1.trans ((arr m c).trans (eq_of_ix2 _ _ (ref _ _)).symm), (h c).2⟩)
      (Cert.Kernel11Ideal.Value.run_blocks m g),
    (θ_run _ _ _).mono (fun r h c => ⟨(h c).1.trans ?_, (h c).2⟩) (Cert.Reference11Ideal.Value.run m' g')⟩
  obtain ⟨e0, _, e2⟩ := hargs c
  exact (val_main_v2_eq _ _).trans (congr (congrArg _ e0) e2)

theorem reference12_quiescent : Cert.quiescent_Reference12Ideal (hReference12Ideal := Cert.Reference12Ideal.Gen.facts) := fun m ρ _ =>
  (θ_run _ _ _).mono (fun r h => ⟨fun c => (h c).2, sem_eq_zero_of_no_sems rfl r.2⟩) (Cert.Reference12Ideal.Value.run m ρ)

open Cert.Kernel12Ideal.Val Cert.Reference12Ideal.Read in
/-- The gates' logits. -/
theorem proj_gates : Cert.algebraic_Kernel12Ideal_Reference12Ideal (hKernel12Ideal := Cert.Kernel12Ideal.Gen.facts)
    (hReference12Ideal := Cert.Reference12Ideal.Gen.facts) := by
  intro m g m' g' _ hargs
  refine ⟨fun c => val_main_v0 (F := Ideal) (gH m c) (gW m c),
    (θ_run _ _ _).mono (fun r h c => ⟨(h c).1.trans ((arr m c).trans (eq_of_ix2 _ _ (ref _ _)).symm), (h c).2⟩)
      (Cert.Kernel12Ideal.Value.run_blocks m g),
    (θ_run _ _ _).mono (fun r h c => ⟨(h c).1.trans ?_, (h c).2⟩) (Cert.Reference12Ideal.Value.run m' g')⟩
  obtain ⟨e0, e1⟩ := hargs c
  exact (val_main_v0_eq _ _).trans (congr (congrArg _ e0) e1)

theorem reference13_quiescent : Cert.quiescent_Reference13Ideal (hReference13Ideal := Cert.Reference13Ideal.Gen.facts) := fun m ρ _ =>
  (θ_run _ _ _).mono (fun r h => ⟨fun c => (h c).2, sem_eq_zero_of_no_sems rfl r.2⟩) (Cert.Reference13Ideal.Value.run m ρ)

open Cert.Kernel13Ideal.Val Cert.Reference13Ideal.Read in
/-- The latents and the shared rotary key, padded. -/
theorem proj_lat : Cert.algebraic_Kernel13Ideal_Reference13Ideal (hKernel13Ideal := Cert.Kernel13Ideal.Gen.facts)
    (hReference13Ideal := Cert.Reference13Ideal.Gen.facts) := by
  intro m g m' g' _ hargs
  refine ⟨fun c => val_main_v6 (F := Ideal) (gH m c) (gW m c),
    (θ_run _ _ _).mono (fun r h c => ⟨(h c).1.trans ((arr m c).trans (eq_of_ix2 _ _ (ref _ _)).symm), (h c).2⟩)
      (Cert.Kernel13Ideal.Value.run_blocks m g),
    (θ_run _ _ _).mono (fun r h c => ⟨(h c).1.trans ?_, (h c).2⟩) (Cert.Reference13Ideal.Value.run m' g')⟩
  obtain ⟨e0, e1⟩ := hargs c
  exact (val_main_v6_eq _ _).trans (congr (congrArg _ e0) e1)

theorem reference14_quiescent : Cert.quiescent_Reference14Ideal (hReference14Ideal := Cert.Reference14Ideal.Gen.facts) := fun m ρ _ =>
  (θ_run _ _ _).mono (fun r h => ⟨fun c => (h c).2, sem_eq_zero_of_no_sems rfl r.2⟩) (Cert.Reference14Ideal.Value.run m ρ)

open Cert.Kernel14Ideal.Val Cert.Reference14Ideal.Read in
/-- The gradient of the block that makes the latents and the shared rotary key, padded. -/
theorem lat_grad : Cert.algebraic_Kernel14Ideal_Reference14Ideal (hKernel14Ideal := Cert.Kernel14Ideal.Gen.facts)
    (hReference14Ideal := Cert.Reference14Ideal.Gen.facts) := by
  intro m g m' g' _ hargs
  refine ⟨fun c => val_main_v8 (F := Ideal) (gH m c) (m (c, Proc.tc.devRef Cert.Kernel14Ideal.main_arg2)) (m (c, Proc.tc.devRef Cert.Kernel14Ideal.main_arg3)),
    (θ_run _ _ _).mono (fun r h c => ⟨(h c).1.trans ((arr m c).trans (eq_of_ix2 _ _ (ref _ _ _)).symm), (h c).2⟩)
      (Cert.Kernel14Ideal.Value.run_blocks m g),
    (θ_run _ _ _).mono (fun r h c => ⟨(h c).1.trans ?_, (h c).2⟩) (Cert.Reference14Ideal.Value.run m' g')⟩
  obtain ⟨e0, _, e2, e3⟩ := hargs c
  exact (val_main_v8_eq _ _ _).trans (congr (congr (congrArg _ e0) e2) e3)

end Cert.Results

end
-- ==== Proof.AdamSmall.lean ====
/- The optimiser's step of the small weights: each of the three results is the reference's, index by index. -/
module

public import proofs.«01_k».proof.Defs
public import proofs.«01_k».proof.Proof.Gen.Kernel28Ideal.Value
public import proofs.«01_k».proof.Proof.Gen.Reference28Ideal.Read
public import Idealize.ShloMosaic.Adequacy
public import Idealize.ShloMosaic.Init

@[expose] public section

set_option maxRecDepth 65536

noncomputable section

namespace Cert.Results

open Idealize.ShloMosaic Idealize.ShloMosaic.TcCoe Idealize.SL.Sem

theorem reference28_quiescent : Cert.quiescent_Reference28Ideal (hReference28Ideal := Cert.Reference28Ideal.Gen.facts) := fun m ρ _ =>
  (θ_run _ _ _).mono (fun r h => ⟨fun c => (h c).2.2.2, sem_eq_zero_of_no_sems rfl r.2⟩) (Cert.Reference28Ideal.Value.run m ρ)

section Read

open Cert.Kernel28Ideal Cert.Kernel28Ideal.Value Cert.Reference28Ideal.Read

variable (w g a s : FVec Ideal S8x1024 .f32)

theorem step_eq : G4 w g a s = val_main_v23 (F := Ideal) w g a s := funext fun _ => rfl
theorem mean_eq : G5 g a = val_main_v4 (F := Ideal) g a := funext fun _ => rfl
theorem square_eq : G6 g s = val_main_v10 (F := Ideal) g s := funext fun _ => rfl

end Read

open Cert.Kernel28Ideal Cert.Reference28Ideal.Read in
/-- The step of the small weights and the two running means. -/
theorem adamw_small : Cert.algebraic_Kernel28Ideal_Reference28Ideal (hKernel28Ideal := Cert.Kernel28Ideal.Gen.facts)
    (hReference28Ideal := Cert.Reference28Ideal.Gen.facts) := by
  intro m g m' g' _ hargs
  refine ⟨fun c => val_main_v23 (F := Ideal) (m (c, Proc.tc.devRef main_arg0)) (m (c, Proc.tc.devRef main_arg1))
      (m (c, Proc.tc.devRef main_arg2)) (m (c, Proc.tc.devRef main_arg3)),
    fun c => val_main_v4 (F := Ideal) (m (c, Proc.tc.devRef main_arg1)) (m (c, Proc.tc.devRef main_arg2)),
    fun c => val_main_v10 (F := Ideal) (m (c, Proc.tc.devRef main_arg1)) (m (c, Proc.tc.devRef main_arg3)),
    (θ_run _ _ _).mono (fun r h c => ⟨(h c).1.trans (step_eq _ _ _ _), (h c).2.1.trans (mean_eq _ _),
        (h c).2.2.1.trans (square_eq _ _), (h c).2.2.2⟩)
      (Cert.Kernel28Ideal.Value.run m g),
    (θ_run _ _ _).mono (fun r h c => ?_) (Cert.Reference28Ideal.Value.run m' g')⟩
  obtain ⟨e0, e1, e2, e3⟩ := hargs c
  exact ⟨(h c).1.trans ((val_main_v23_eq _ _ _ _).trans (congr (congr (congr (congrArg _ e0) e1) e2) e3)),
    (h c).2.1.trans ((val_main_v4_eq _ _).trans (congr (congrArg _ e1) e2)),
    (h c).2.2.1.trans ((val_main_v10_eq _ _).trans (congr (congrArg _ e1) e3)), (h c).2.2.2⟩

end Cert.Results

end
-- ==== Proof.MergeSplit.lean ====
/- The gates' backward pass: what the launch leaves, and the reference. -/
module

public import proofs.«01_k».proof.Proof.Gen.Kernel29Ideal.Value
public import proofs.«01_k».proof.Proof.Gen.Reference29Ideal.Read
public import proofs.«01_k».proof.Proof.Tiles
public import proofs.«01_k».proof.Proof.Silu
public import Idealize.ShloMosaic.Lib.Pointwise
public import Idealize.ShloMosaic.Lib.Pipeline.ValueKit

@[expose] public section

set_option maxRecDepth 65536

noncomputable section

namespace Cert.Kernel29Ideal.Val

open Idealize.ShloMosaic Idealize.ShloMosaic.TcCoe
open Cert.Kernel29Ideal Cert.Kernel29Ideal.Gen
open Cert.Silu (sg)

theorem hz : (![0, 0] : Fin 2 → Nat) = fun _ => 0 := funext fun a => by fin_cases a <;> rfl

/-- The gates of a tile. -/
theorem pay3_apply (x : Vec Ideal S512x2048 .f32) (b : Vec Ideal S1x2048 .f32) (r : Fin 512) (l : Fin 2048) :
    k0_pay3 x b (ix2 r l) = sg (x (ix2 r l) + b (ix2 0 l)) := by
  pointwise [k0_pay3]
  unfold sg
  rw [zero_sub]

/-- The gradients of the two branches in a tile, -/
theorem pay8_apply (d : Vec Ideal S512x1024 .f32) (x : Vec Ideal S512x2048 .f32) (b : Vec Ideal S1x2048 .f32) (r : Fin 512) (n : Fin 1024) :
    k0_pay8 d x b (ix2 r n) = d (ix2 r n) * k0_pay3 x b (ix2 r ⟨n.val, by omega⟩) := by
  pointwise [k0_pay8, k0_pay4]

theorem pay9_apply (d : Vec Ideal S512x1024 .f32) (x : Vec Ideal S512x2048 .f32) (b : Vec Ideal S1x2048 .f32) (r : Fin 512) (n : Fin 1024) :
    k0_pay9 d x b (ix2 r n) = d (ix2 r n) * k0_pay3 x b (ix2 r ⟨1024 + n.val, by omega⟩) := by
  pointwise [k0_pay9, k0_pay5]

/-- of the gates' arguments, -/
theorem pay6_apply (d u v : Vec Ideal S512x1024 .f32) (x : Vec Ideal S512x2048 .f32) (b : Vec Ideal S1x2048 .f32) (r : Fin 512) (l : Fin 2048) :
    k0_pay6 d u v x b (ix2 r l) = (if h : l.val < 1024 then d (ix2 r ⟨l.val, h⟩) * u (ix2 r ⟨l.val, h⟩)
      else d (ix2 r ⟨l.val - 1024, by omega⟩) * v (ix2 r ⟨l.val - 1024, by omega⟩)) * k0_pay3 x b (ix2 r l) * (1 - k0_pay3 x b (ix2 r l)) := by
  pointwise [k0_pay6, k0_pay4, k0_pay5]
  by_cases h : l.val < 1024
  · rw [dif_pos h, dif_pos h]
  · have e : (⟨1024 + (l.val - 1024), by omega⟩ : Fin 2048) = l := Fin.ext (by simp only []; omega)
    rw [dif_neg h, dif_neg h, e]

/-- and their column sums. -/
theorem pay7_apply (d u v : Vec Ideal S512x1024 .f32) (x : Vec Ideal S512x2048 .f32) (b : Vec Ideal S1x2048 .f32) (l : Fin 2048) :
    k0_pay7 d u v x b (ix2 0 l) = ∑ r : Fin 512, k0_pay6 d u v x b (ix2 r l) := by
  pointwise [k0_pay7]

theorem pay2_apply (p s : Vec Ideal S1x2048 .f32) (l : Fin 2048) : k0_pay2 p s (ix2 0 l) = s (ix2 0 l) + p (ix2 0 l) := by
  pointwise [k0_pay2]

theorem pay1_apply (l : Fin 2048) : k0_pay1 (F := Ideal) (ix2 0 l) = 0 := by
  pointwise [k0_pay1]

section Cases

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x2048 .f32) (h4 : a4.IsWhole)
  (a5 : Memref sig .tc .vmem S1x2048 .f32) (h5 : a5.IsWhole) (a6 : Memref sig .tc .vmem S512x1024 .bf16) (h6 : a6.IsWhole)
  (a7 : Memref sig .tc .vmem S512x1024 .bf16) (h7 : a7.IsWhole) (a8 : Memref sig .tc .vmem S512x2048 .bf16) (h8 : a8.IsWhole)
  (a9 : Memref sig .tc .vmem S1x2048 .f32) (h9 : a9.IsWhole)
  (d u v : Vec Ideal S512x1024 .f32) (x : Vec Ideal S512x2048 .f32) (b s : Vec Ideal S1x2048 .f32)

/-- The first branch's gradient, at the first point. -/
theorem outA5 (hc0 : cond0_0 i) : out0_A_5 c i a1 h1 a2 h2 a3 h3 a4 h4 a5 h5 a6 h6 a7 h7 a8 h8 a9 h9 hc0 d u v x b = k0_pay8 d x b := by
  unfold out0_A_5
  rw [View.read_writes_eq_canon _ _ _ (cover0_A_5 c i a1 h1 a2 h2 a3 h3 a4 h4 a5 h5 a6 h6 a7 h7 a8 h8 a9 h9 hc0 d u v x b)]
  unfold kernelRun0_A
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- The first branch's gradient, and at a later one. -/
theorem outB5 (hc0 : ¬cond0_0 i) : out0_B_5 c i a1 h1 a2 h2 a3 h3 a4 h4 a5 h5 a6 h6 a7 h7 a8 h8 a9 h9 hc0 d u v x b s = k0_pay8 d x b := by
  unfold out0_B_5
  rw [View.read_writes_eq_canon _ _ _ (cover0_B_5 c i a1 h1 a2 h2 a3 h3 a4 h4 a5 h5 a6 h6 a7 h7 a8 h8 a9 h9 hc0 d u v x b s)]
  unfold kernelRun0_B
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- The second branch's gradient, at the first point. -/
theorem outA6 (hc0 : cond0_0 i) : out0_A_6 c i a1 h1 a2 h2 a3 h3 a4 h4 a5 h5 a6 h6 a7 h7 a8 h8 a9 h9 hc0 d u v x b = k0_pay9 d x b := by
  unfold out0_A_6
  rw [View.read_writes_eq_canon _ _ _ (cover0_A_6 c i a1 h1 a2 h2 a3 h3 a4 h4 a5 h5 a6 h6 a7 h7 a8 h8 a9 h9 hc0 d u v x b)]
  unfold kernelRun0_A
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- The second branch's gradient, and at a later one. -/
theorem outB6 (hc0 : ¬cond0_0 i) : out0_B_6 c i a1 h1 a2 h2 a3 h3 a4 h4 a5 h5 a6 h6 a7 h7 a8 h8 a9 h9 hc0 d u v x b s = k0_pay9 d x b := by
  unfold out0_B_6
  rw [View.read_writes_eq_canon _ _ _ (cover0_B_6 c i a1 h1 a2 h2 a3 h3 a4 h4 a5 h5 a6 h6 a7 h7 a8 h8 a9 h9 hc0 d u v x b s)]
  unfold kernelRun0_B
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- The gradient of the gates' arguments, at the first point. -/
theorem outA7 (hc0 : cond0_0 i) : out0_A_7 c i a1 h1 a2 h2 a3 h3 a4 h4 a5 h5 a6 h6 a7 h7 a8 h8 a9 h9 hc0 d u v x b = k0_pay10 d u v x b := by
  unfold out0_A_7
  rw [View.read_writes_eq_canon _ _ _ (cover0_A_7 c i a1 h1 a2 h2 a3 h3 a4 h4 a5 h5 a6 h6 a7 h7 a8 h8 a9 h9 hc0 d u v x b)]
  unfold kernelRun0_A
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- The gradient of the gates' arguments, and at a later one. -/
theorem outB7 (hc0 : ¬cond0_0 i) : out0_B_7 c i a1 h1 a2 h2 a3 h3 a4 h4 a5 h5 a6 h6 a7 h7 a8 h8 a9 h9 hc0 d u v x b s = k0_pay10 d u v x b := by
  unfold out0_B_7
  rw [View.read_writes_eq_canon _ _ _ (cover0_B_7 c i a1 h1 a2 h2 a3 h3 a4 h4 a5 h5 a6 h6 a7 h7 a8 h8 a9 h9 hc0 d u v x b s)]
  unfold kernelRun0_B
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- The first point adds its column sums to zero, -/
theorem outA8 (hc0 : cond0_0 i) : out0_A_8 c i a1 h1 a2 h2 a3 h3 a4 h4 a5 h5 a6 h6 a7 h7 a8 h8 a9 h9 hc0 d u v x b = k0_pay2 (k0_pay7 d u v x b) (k0_pay1 (F := Ideal)) := by
  unfold out0_A_8
  rw [View.read_writes_eq_canon _ _ _ (cover0_A_8 c i a1 h1 a2 h2 a3 h3 a4 h4 a5 h5 a6 h6 a7 h7 a8 h8 a9 h9 hc0 d u v x b)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, View.ld_unit_zero (S := S512x1024) hz, View.ld_unit_zero (S := S512x2048) hz, View.ld_unit_zero (S := S1x2048) hz]

/-- a later one to what the point before left. -/
theorem outB8 (hc0 : ¬cond0_0 i) : out0_B_8 c i a1 h1 a2 h2 a3 h3 a4 h4 a5 h5 a6 h6 a7 h7 a8 h8 a9 h9 hc0 d u v x b s = k0_pay2 (k0_pay7 d u v x b) s := by
  unfold out0_B_8
  rw [View.read_writes_eq_canon _ _ _ (cover0_B_8 c i a1 h1 a2 h2 a3 h3 a4 h4 a5 h5 a6 h6 a7 h7 a8 h8 a9 h9 hc0 d u v x b s)]
  unfold kernelRun0_B
  dsimp only
  sl_unfold_words
  rw [View.canon_unit_zero hz]
  simp only [View.readAt_eq_ld, h1.read_unread, h2.read_unread, h3.read_unread, h4.read_unread, h5.read_unread, h9.read_unread, View.ld_unit_zero (S := S512x1024) hz, View.ld_unit_zero (S := S512x2048) hz, View.ld_unit_zero (S := S1x2048) hz]

end Cases

variable (m : (ℓ : Loc nD τ sig) → Buf (Elt Ideal) ℓ) (c : Dev nD)

/-- The gradient, the two branches, the gates' arguments and their bias, as launched. -/
abbrev gD : FVec Ideal S8192x1024 .f32 := m (c, Proc.tc.devRef main_arg0)
abbrev gU : FVec Ideal S8192x1024 .f32 := m (c, Proc.tc.devRef main_arg1)
abbrev gV : FVec Ideal S8192x1024 .f32 := m (c, Proc.tc.devRef main_arg2)
abbrev gG : FVec Ideal S8192x2048 .f32 := m (c, Proc.tc.devRef main_arg3)
abbrev gB : FVec Ideal S1x2048 .f32 := m (c, Proc.tc.devRef main_arg4)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)

theorem ltN (t : Fin cfg0.N) : t.val < 16 := lt_of_lt_of_eq t.isLt N_0

/-- Row `r` of tile `j`. -/
abbrev row (j : ℕ) (h : j < 16) (r : Fin 512) : Fin 8192 := ⟨512 * j + r.val, by omega⟩

theorem read0 (f : Buf (Elt Ideal) ((c : Thread nD τ).loc (Pipeline.arrRef spec0 0))) (t : Fin cfg0.N) (r : Fin 512) (n : Fin 1024) :
    ((cfg0.win 0).blk t).view.read (Elt Ideal) f (ix2 r n) = (f : Vec Ideal S8192x1024 .f32) (ix2 (row t.val (ltN t) r) n) := by
  refine congrArg f ?_
  blk_ext [idx0 t]

theorem iblk0 (t : Fin cfg0.N) (r : Fin 512) (n : Fin 1024) : iblk m c 0 t (ix2 r n) = gD m c (ix2 (row t.val (ltN t) r) n) := by
  unfold iblk
  exact (read0 c (V m c (Pipeline.arrRef spec0 0)) t r n).trans (congrFun (V_main_arg0 m c) _)

theorem read1 (f : Buf (Elt Ideal) ((c : Thread nD τ).loc (Pipeline.arrRef spec0 1))) (t : Fin cfg0.N) (r : Fin 512) (n : Fin 1024) :
    ((cfg0.win 1).blk t).view.read (Elt Ideal) f (ix2 r n) = (f : Vec Ideal S8192x1024 .f32) (ix2 (row t.val (ltN t) r) n) := by
  refine congrArg f ?_
  blk_ext [idx1 t]

theorem iblk1 (t : Fin cfg0.N) (r : Fin 512) (n : Fin 1024) : iblk m c 1 t (ix2 r n) = gU m c (ix2 (row t.val (ltN t) r) n) := by
  unfold iblk
  exact (read1 c (V m c (Pipeline.arrRef spec0 1)) t r n).trans (congrFun (V_main_arg1 m c) _)

theorem read2 (f : Buf (Elt Ideal) ((c : Thread nD τ).loc (Pipeline.arrRef spec0 2))) (t : Fin cfg0.N) (r : Fin 512) (n : Fin 1024) :
    ((cfg0.win 2).blk t).view.read (Elt Ideal) f (ix2 r n) = (f : Vec Ideal S8192x1024 .f32) (ix2 (row t.val (ltN t) r) n) := by
  refine congrArg f ?_
  blk_ext [idx2 t]

theorem iblk2 (t : Fin cfg0.N) (r : Fin 512) (n : Fin 1024) : iblk m c 2 t (ix2 r n) = gV m c (ix2 (row t.val (ltN t) r) n) := by
  unfold iblk
  exact (read2 c (V m c (Pipeline.arrRef spec0 2)) t r n).trans (congrFun (V_main_arg2 m c) _)

theorem read3 (f : Buf (Elt Ideal) ((c : Thread nD τ).loc (Pipeline.arrRef spec0 3))) (t : Fin cfg0.N) (r : Fin 512) (n : Fin 2048) :
    ((cfg0.win 3).blk t).view.read (Elt Ideal) f (ix2 r n) = (f : Vec Ideal S8192x2048 .f32) (ix2 (row t.val (ltN t) r) n) := by
  refine congrArg f ?_
  blk_ext [idx3 t]

theorem iblk3 (t : Fin cfg0.N) (r : Fin 512) (n : Fin 2048) : iblk m c 3 t (ix2 r n) = gG m c (ix2 (row t.val (ltN t) r) n) := by
  unfold iblk
  exact (read3 c (V m c (Pipeline.arrRef spec0 3)) t r n).trans (congrFun (V_main_arg3 m c) _)

theorem read4 (f : Buf (Elt Ideal) ((c : Thread nD τ).loc (Pipeline.arrRef spec0 4))) (t : Fin cfg0.N) (n : Fin 2048) :
    ((cfg0.win 4).blk t).view.read (Elt Ideal) f (ix2 0 n) = (f : Vec Ideal S1x2048 .f32) (ix2 0 n) := by
  refine congrArg f ?_
  blk_ext [idx4 t]

theorem iblk4 (t : Fin cfg0.N) (n : Fin 2048) : iblk m c 4 t (ix2 0 n) = gB m c (ix2 0 n) := by
  unfold iblk
  exact (read4 c (V m c (Pipeline.arrRef spec0 4)) t n).trans (congrFun (V_main_arg4 m c) _)

/-- A gate, -/
def gate (G : FVec Ideal S8192x2048 .f32) (b : FVec Ideal S1x2048 .f32) (q : Fin 8192) (l : Fin 2048) : EReal :=
  sg (G (ix2 q l) + b (ix2 0 l))

/-- the gradients of the two branches, -/
def dFirst (D : FVec Ideal S8192x1024 .f32) (G : FVec Ideal S8192x2048 .f32) (b : FVec Ideal S1x2048 .f32) (q : Fin 8192) (n : Fin 1024) : EReal :=
  D (ix2 q n) * gate G b q ⟨n.val, by omega⟩

def dSecond (D : FVec Ideal S8192x1024 .f32) (G : FVec Ideal S8192x2048 .f32) (b : FVec Ideal S1x2048 .f32) (q : Fin 8192) (n : Fin 1024) : EReal :=
  D (ix2 q n) * gate G b q ⟨1024 + n.val, by omega⟩

/-- of the gates' arguments, -/
def dGate (D U W : FVec Ideal S8192x1024 .f32) (G : FVec Ideal S8192x2048 .f32) (b : FVec Ideal S1x2048 .f32) (q : Fin 8192) (l : Fin 2048) : EReal :=
  (if h : l.val < 1024 then D (ix2 q ⟨l.val, h⟩) * U (ix2 q ⟨l.val, h⟩)
    else D (ix2 q ⟨l.val - 1024, by omega⟩) * W (ix2 q ⟨l.val - 1024, by omega⟩)) * gate G b q l * (1 - gate G b q l)

/-- and of their bias. -/
def dBias (D U W : FVec Ideal S8192x1024 .f32) (G : FVec Ideal S8192x2048 .f32) (b : FVec Ideal S1x2048 .f32) (l : Fin 2048) : EReal :=
  ∑ q : Fin 8192, dGate D U W G b q l

theorem gate_eq (t : Fin cfg0.N) (r : Fin 512) (l : Fin 2048) :
    k0_pay3 (iblk m c 3 t) (iblk m c 4 t) (ix2 r l) = gate (gG m c) (gB m c) (row t.val (ltN t) r) l := by
  rw [pay3_apply, iblk3, iblk4]
  rfl

theorem dGate_eq (t : Fin cfg0.N) (r : Fin 512) (l : Fin 2048) :
    k0_pay6 (iblk m c 0 t) (iblk m c 1 t) (iblk m c 2 t) (iblk m c 3 t) (iblk m c 4 t) (ix2 r l)
      = dGate (gD m c) (gU m c) (gV m c) (gG m c) (gB m c) (row t.val (ltN t) r) l := by
  rw [pay6_apply, gate_eq]
  simp only [iblk0, iblk1, iblk2]
  rfl

/-- The arrays after the run. -/
theorem arrFirst : (dats m 0 c).arrAt 5 cfg0.N
    = (fun i : S8192x1024.Idx => dFirst (gD m c) (gG m c) (gB m c) (i 0) (i 1) : Vec Ideal S8192x1024 .bf16) := by
  refine (dats m 0 c).arrAt_eq_of_covers 5 _ (by decide +kernel) fun t hf y => ?_
  blk_simp
  rw [after0_5]
  obtain ⟨r, n, rfl⟩ : ∃ (r : Fin 512) (n : Fin 1024), y = ix2 r n := ⟨y 0, y 1, by funext a; fin_cases a <;> rfl⟩
  have e : ((cfg0.win 5).blk t).view.emb (ix2 r n) = ix2 (row t.val (ltN t) r) n := by blk_ext [idx5 t]
  rw [e]
  have o : (outsAt0 m c t.val t.isLt).1 = k0_pay8 (iblk m c 0 t) (iblk m c 3 t) (iblk m c 4 t) := by
    by_cases h0 : t.val % 16 = 0
    · rw [outsAt0_A m c t h0]
      dsimp only
      rw [outA5]
    · rw [outsAt0_B m c t h0]
      dsimp only
      rw [outB5]
  rw [o]
  rw [pay8_apply, gate_eq, iblk0]
  rfl

theorem arrSecond : (dats m 0 c).arrAt 6 cfg0.N
    = (fun i : S8192x1024.Idx => dSecond (gD m c) (gG m c) (gB m c) (i 0) (i 1) : Vec Ideal S8192x1024 .bf16) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, by funext a; fin_cases a <;> rfl⟩
  have e : ((cfg0.win 6).blk t).view.emb (ix2 r n) = ix2 (row t.val (ltN t) r) n := by blk_ext [idx6 t]
  rw [e]
  have o : (outsAt0 m c t.val t.isLt).2.1 = k0_pay9 (iblk m c 0 t) (iblk m c 3 t) (iblk m c 4 t) := by
    by_cases h0 : t.val % 16 = 0
    · rw [outsAt0_A m c t h0]
      dsimp only
      rw [outA6]
    · rw [outsAt0_B m c t h0]
      dsimp only
      rw [outB6]
  rw [o]
  rw [pay9_apply, gate_eq, iblk0]
  rfl

theorem arrGate : (dats m 0 c).arrAt 7 cfg0.N
    = (fun i : S8192x2048.Idx => dGate (gD m c) (gU m c) (gV m c) (gG m c) (gB m c) (i 0) (i 1) : Vec Ideal S8192x2048 .bf16) := by
  refine (dats m 0 c).arrAt_eq_of_covers 7 _ (by decide +kernel) fun t hf y => ?_
  blk_simp
  rw [after0_7]
  obtain ⟨r, n, rfl⟩ : ∃ (r : Fin 512) (n : Fin 2048), y = ix2 r n := ⟨y 0, y 1, by funext a; fin_cases a <;> rfl⟩
  have e : ((cfg0.win 7).blk t).view.emb (ix2 r n) = ix2 (row t.val (ltN t) r) n := by blk_ext [idx7 t]
  rw [e]
  have o : (outsAt0 m c t.val t.isLt).2.2.1 = k0_pay10 (iblk m c 0 t) (iblk m c 1 t) (iblk m c 2 t) (iblk m c 3 t) (iblk m c 4 t) := by
    by_cases h0 : t.val % 16 = 0
    · rw [outsAt0_A m c t h0]
      dsimp only
      rw [outA7]
    · rw [outsAt0_B m c t h0]
      dsimp only
      rw [outB7]
  rw [o]
  exact dGate_eq m c t r n

/-- What point `t` adds at a column. -/
def part (l : Fin 2048) (t : ℕ) : EReal :=
  if h : t < 16 then ∑ r : Fin 512, dGate (gD m c) (gU m c) (gV m c) (gG m c) (gB m c) (row t h r) l else 0

theorem part_eq (t : Fin cfg0.N) (l : Fin 2048) :
    k0_pay7 (iblk m c 0 t) (iblk m c 1 t) (iblk m c 2 t) (iblk m c 3 t) (iblk m c 4 t) (ix2 0 l) = part m c l t.val := by
  unfold part
  rw [pay7_apply, dif_pos (ltN t)]
  exact Finset.sum_congr rfl fun r _ => dGate_eq m c t r l

/-- The column sums after point `n`. -/
theorem acc_eq (l : Fin 2048) : ∀ (t : ℕ) (h : t < cfg0.N),
    (outsAt0 m c t h).2.2.2 (ix2 0 l) = ∑ j ∈ Finset.range (t % 16 + 1), part m c l (16 * (t / 16) + j) := by
  refine Cert.Tiles.fold_runs (by decide) (fun t h => (outsAt0 m c t h).2.2.2 (ix2 0 l)) (part m c l) (fun t h e => ?_) fun t h e => ?_
  · show (outsAt0 m c t h).2.2.2 (ix2 0 l) = _
    rw [show outsAt0 m c t h = _ from outsAt0_A m c ⟨t, h⟩ e]
    dsimp only
    rw [outA8, pay2_apply, pay1_apply, zero_add]
    exact part_eq m c ⟨t, h⟩ l
  · show (outsAt0 m c (t + 1) h).2.2.2 (ix2 0 l) = (outsAt0 m c t _).2.2.2 (ix2 0 l) + _
    rw [show outsAt0 m c (t + 1) h = _ from outsAt0_B m c ⟨t + 1, h⟩ e]
    dsimp only
    rw [outB8, pay2_apply]
    exact congrArg (_ + ·) (part_eq m c ⟨t + 1, h⟩ l)

theorem arrBias : (dats m 0 c).arrAt 8 cfg0.N
    = (fun i : S1x2048.Idx => dBias (gD m c) (gU m c) (gV m c) (gG m c) (gB m c) (i 1) : Vec Ideal S1x2048 .f32) := by
  refine (dats m 0 c).arrAt_eq_of_covers 8 _ (by decide +kernel) fun t hf y => ?_
  blk_simp
  rw [after0_8]
  have h15 : t.val % 16 = 15 := (flush0_8 t).mp hf
  have hN := ltN t
  obtain ⟨l, rfl⟩ : ∃ l : Fin 2048, y = ix2 0 l := ⟨y 1, by funext a; fin_cases a <;> [exact Fin.ext (by have h : (y 0).val < 1 := (y 0).isLt; show (y 0).val = 0; omega); rfl]⟩
  have e : ((cfg0.win 8).blk t).view.emb (ix2 0 l) = ix2 0 l := by blk_ext [idx8 t]
  rw [e]
  refine (acc_eq m c l t.val t.isLt).trans ?_
  rw [h15, show t.val / 16 = 0 by omega]
  refine Cert.Tiles.sum_tiles (w := 512) rfl _ _ fun j hj => ?_
  unfold part
  rw [dif_pos (show 16 * 0 + j < 16 by omega)]
  exact Finset.sum_congr rfl fun r _ => congrArg (fun q => dGate _ _ _ _ _ q l) (Fin.ext (by simp only []; omega))

open Cert.Reference29Ideal.Read

/-- The reference's results at an index. -/
theorem refFirst (D : FVec Ideal S8192x1024 .f32) (G : FVec Ideal S8192x2048 .f32) (b : FVec Ideal S1x2048 .f32) (q : Fin 8192) (n : Fin 1024) :
    val_main_v26 (F := Ideal) D G b (ix2 q n) = dFirst D G b q n := by
  pointwise [val_main_v26, val_main_v20, val_main_v11, val_main_v16, val_main_v7, val_main_v6, val_main_v5, val_main_v4, val_main_v3, val_main_v2,
    val_main_v1, val_main_v0, val_main_cst, val_main_cst_0]
  exact mul_comm _ _

theorem refSecond (D : FVec Ideal S8192x1024 .f32) (G : FVec Ideal S8192x2048 .f32) (b : FVec Ideal S1x2048 .f32) (q : Fin 8192) (n : Fin 1024) :
    val_main_v27 (F := Ideal) D G b (ix2 q n) = dSecond D G b q n := by
  pointwise [val_main_v27, val_main_v18, val_main_v12, val_main_v17, val_main_v7, val_main_v6, val_main_v5, val_main_v4, val_main_v3, val_main_v2,
    val_main_v1, val_main_v0, val_main_cst, val_main_cst_0]
  exact mul_comm _ _

theorem refSplit (D U W : FVec Ideal S8192x1024 .f32) (G : FVec Ideal S8192x2048 .f32) (b : FVec Ideal S1x2048 .f32) (q : Fin 8192) (l : Fin 2048) :
    val_main_v23 (F := Ideal) D U W G b (ix2 q l) = dGate D U W G b q l := by
  pointwise [val_main_v23, val_main_v22, val_main_v21, val_main_v19, val_main_v17, val_main_v16, val_main_v10, val_main_v9, val_main_v8,
    val_main_cst_1, val_main_v7, val_main_v6, val_main_v5, val_main_v4, val_main_v3, val_main_v2, val_main_v1, val_main_v0, val_main_cst,
    val_main_cst_0]
  exact (mul_assoc _ _ _).symm

theorem refGate (D U W : FVec Ideal S8192x1024 .f32) (G : FVec Ideal S8192x2048 .f32) (b : FVec Ideal S1x2048 .f32) (q : Fin 8192) (l : Fin 2048) :
    val_main_v28 (F := Ideal) D U W G b (ix2 q l) = dGate D U W G b q l :=
  refSplit D U W G b q l

theorem refBias (D U W : FVec Ideal S8192x1024 .f32) (G : FVec Ideal S8192x2048 .f32) (b : FVec Ideal S1x2048 .f32) (a : Fin 1) (l : Fin 2048) :
    val_main_v25 (F := Ideal) D U W G b (ix2 a l) = dBias D U W G b l := by
  obtain rfl : a = 0 := Subsingleton.elim _ _
  pointwise [val_main_v25, val_main_v24, val_main_cst_2]
  exact Finset.sum_congr rfl fun q _ => refSplit D U W G b q l

end Cert.Kernel29Ideal.Val

end
-- ==== Proof.Rms.lean ====
/- The backward pass of a normalisation of 1024 numbers by their mean square: the two ways it is written agree. -/
module

public import proofs.«01_k».proof.Proof.Reals

@[expose] public section

noncomputable section

namespace Cert.Rms

open Idealize.ShloMosaic
open Cert.KernelIdeal.Val (coe_sum div_real)

/-- The length of a row, and what is added to the mean square. -/
abbrev len : EReal := Ideal.ofBits .f32 0x44800000#32
abbrev eps : EReal := Ideal.ofBits .f32 0x358637BD#32
abbrev minusHalf : EReal := Ideal.ofBits .f32 0xBF000000#32

theorem len_eq : len = ((1024 : ℝ) : EReal) := by
  simp [len, Ideal.ofBits, Ideal.ieee, -EReal.coe_mul]; norm_num

theorem minusHalf_eq : minusHalf = ((-(1 / 2) : ℝ) : EReal) := by
  simp [minusHalf, Ideal.ofBits, Ideal.ieee, -EReal.coe_mul]; norm_num

theorem eps_pos : ∃ e : ℝ, 0 < e ∧ eps = (e : EReal) := by
  refine ⟨8796093 / 8796093022208, by norm_num, ?_⟩
  simp [eps, Ideal.ofBits, Ideal.ieee, -EReal.coe_mul]; norm_num

/-- The mean square of a row, with the addend. -/
def ms (X : Fin 1024 → EReal) : EReal := Ideal.div (∑ j, X j * X j) len + eps

/-- The gradient of a row `X` whose normalised row has the gradient `U`. -/
def bwd (X U : Fin 1024 → EReal) (n : Fin 1024) : EReal :=
  Ideal.rsqrt (ms X) * (U n - X n * Ideal.rsqrt (ms X) * Ideal.div (∑ j, U j * (X j * Ideal.rsqrt (ms X))) len)

/-- Half the coefficient of the row in that gradient, by the derivative of the inverse root. -/
def coef (X U : Fin 1024 → EReal) : EReal :=
  Ideal.div ((∑ j, X j * U j) * (minusHalf * Ideal.div (Ideal.rsqrt (ms X)) (ms X))) len

theorem ms_real (x : Fin 1024 → ℝ) : ∃ M : ℝ, 0 < M ∧ ms (fun j => (x j : EReal)) = (M : EReal) := by
  obtain ⟨e, he, ee⟩ := eps_pos
  refine ⟨(∑ j, x j * x j) / 1024 + e, add_pos_of_nonneg_of_pos (div_nonneg (Finset.sum_nonneg fun j _ => mul_self_nonneg _) (by norm_num)) he, ?_⟩
  unfold ms
  rw [ee, len_eq, EReal.coe_add, ← div_real _ _ (by norm_num), coe_sum]
  simp only [EReal.coe_mul]

theorem root_real (x : Fin 1024 → ℝ) : ∃ p M : ℝ, 0 < M ∧ 0 ≤ p ∧ p * p * M = 1 ∧ ms (fun j => (x j : EReal)) = (M : EReal)
    ∧ Ideal.rsqrt (ms fun j => (x j : EReal)) = (p : EReal) := by
  obtain ⟨M, hM, e⟩ := ms_real x
  refine ⟨(Real.sqrt M)⁻¹, M, hM, inv_nonneg.mpr (Real.sqrt_nonneg M), ?_, e, ?_⟩
  · rw [← mul_inv, Real.mul_self_sqrt hM.le, inv_mul_cancel₀ hM.ne']
  · rw [e, Ideal.rsqrt_coe, if_neg hM.le.not_gt, if_neg hM.ne']

/-- A nonnegative real factor goes through a sum, whatever the terms are. -/
theorem mul_sum {ι : Type} (s : Finset ι) (p : ℝ) (hp : 0 ≤ p) (f : ι → EReal) : (p : EReal) * ∑ j ∈ s, f j = ∑ j ∈ s, (p : EReal) * f j := by
  classical
  induction s using Finset.induction_on with
  | empty => simp
  | insert a s ha ih =>
    rw [Finset.sum_insert ha, Finset.sum_insert ha, ← ih]
    exact EReal.left_distrib_of_nonneg_of_ne_top (EReal.coe_nonneg.mpr hp) (EReal.coe_ne_top p) _ _

theorem add_self (z : EReal) : z + z = ((2 : ℝ) : EReal) * z := by
  rw [show ((2 : ℝ) : EReal) = 1 + 1 by rw [← EReal.coe_one, ← EReal.coe_add]; norm_num,
    EReal.right_distrib_of_nonneg zero_le_one zero_le_one, one_mul]

/-- Of a row of real numbers the two forms agree, whatever it receives. -/
theorem bwd_eq_real (x : Fin 1024 → ℝ) (U : Fin 1024 → EReal) (n : Fin 1024) :
    U n * Ideal.rsqrt (ms fun j => (x j : EReal)) + (x n : EReal) * coef (fun j => (x j : EReal)) U + coef (fun j => (x j : EReal)) U * (x n : EReal)
      = bwd (fun j => (x j : EReal)) U n := by
  obtain ⟨p, M, hM, hp0, hp, eM, ep⟩ := root_real x
  have hd : p / M = p * p * p := by
    rw [div_eq_iff hM.ne']
    linear_combination -p * hp
  set S : EReal := ∑ j, (x j : EReal) * U j with hS
  have h1 : ∑ j, U j * ((x j : EReal) * (p : EReal)) = (p : EReal) * S := by
    rw [hS, mul_sum _ p hp0]
    exact Finset.sum_congr rfl fun j _ => by rw [mul_comm (x j : EReal), mul_left_comm, mul_comm (U j)]
  have h2 : coef (fun j => (x j : EReal)) U = ((-(1 / 2) * (p * p * p) * (1 / 1024) : ℝ) : EReal) * S := by
    unfold coef
    rw [ep, eM, len_eq, minusHalf_eq, div_real _ _ hM.ne', hd, ← EReal.coe_mul, Ideal.div_coe (by norm_num), mul_assoc, ← EReal.coe_mul, mul_comm]
  have h3 : (x n : EReal) * (p : EReal) * (((p : EReal) * S) * ((1 / 1024 : ℝ) : EReal)) = ((x n * p * p * (1 / 1024) : ℝ) : EReal) * S := by
    rw [mul_right_comm (p : EReal) S, ← EReal.coe_mul, ← EReal.coe_mul, ← mul_assoc, ← EReal.coe_mul]
    exact congrArg (fun q : ℝ => (q : EReal) * S) (by ring)
  unfold bwd
  rw [h2, ep, len_eq, Ideal.div_coe (by norm_num), h1, h3, mul_comm _ (x n : EReal), add_assoc, add_self, sub_eq_add_neg,
    EReal.left_distrib_of_nonneg_of_ne_top (EReal.coe_nonneg.mpr hp0) (EReal.coe_ne_top p), mul_comm (U n), ← EReal.neg_mul, ← EReal.coe_neg]
  simp only [← mul_assoc, ← EReal.coe_mul]
  exact congrArg (fun q : ℝ => (p : EReal) * U n + (q : EReal) * S) (by ring)

/-- Of a row with an infinite element the mean square is infinite, -/
theorem ms_top (X : Fin 1024 → EReal) (j : Fin 1024) (h : X j * X j = ⊤) : ms X = ⊤ := by
  have h0 : ∀ i, 0 ≤ X i * X i := fun i => by
    induction X i using EReal.rec with
    | bot => simp
    | coe r => rw [← EReal.coe_mul]; exact EReal.coe_nonneg.mpr (mul_self_nonneg r)
    | top => simp
  have hs : ∑ i, X i * X i = ⊤ := top_le_iff.mp (h ▸ Finset.single_le_sum (f := fun i => X i * X i) (fun i _ => h0 i) (Finset.mem_univ j))
  obtain ⟨e, -, ee⟩ := eps_pos
  unfold ms
  rw [hs, len_eq, Ideal.div_coe (by norm_num), EReal.top_mul_coe_of_pos (by norm_num), ee, EReal.top_add_coe]

/-- The derivative of the inverse root gives the same gradient, on infinite elements too. -/
theorem bwd_eq (X U : Fin 1024 → EReal) (n : Fin 1024) : U n * Ideal.rsqrt (ms X) + X n * coef X U + coef X U * X n = bwd X U n := by
  by_cases h : ∃ j, X j * X j = ⊤
  · obtain ⟨j, h⟩ := h
    have e := ms_top X j h
    have h0 : Ideal.div 0 ⊤ = 0 := by rw [Ideal.div, if_neg EReal.top_ne_zero, zero_mul]
    have hc : coef X U = 0 := by
      unfold coef
      rw [e, Ideal.rsqrt_top, h0, mul_zero, mul_zero, len_eq, Ideal.div_coe (by norm_num), zero_mul]
    unfold bwd
    rw [hc, e, Ideal.rsqrt_top, mul_zero, mul_zero, zero_mul, zero_mul, add_zero, add_zero]
  · have hr : ∀ j, X j = ((X j).toReal : EReal) := fun j => by
      refine (EReal.coe_toReal (fun e => h ⟨j, ?_⟩) fun e => h ⟨j, ?_⟩).symm <;> rw [e] <;> rfl
    rw [show X = fun j => ((X j).toReal : EReal) from funext hr]
    exact bwd_eq_real _ U n

end Cert.Rms

end
-- ==== Proof.InputGrad.lean ====
/- The gradient of the layer's input: what the launch leaves, and the reference. -/
module

public import proofs.«01_k».proof.Proof.Gen.Kernel30Ideal.Value
public import proofs.«01_k».proof.Proof.Gen.Reference30Ideal.Read
public import proofs.«01_k».proof.Proof.Tiles
public import proofs.«01_k».proof.Proof.Rms
public import Idealize.ShloMosaic.Lib.Pointwise
public import Idealize.ShloMosaic.Lib.Pipeline.ValueKit

@[expose] public section

set_option maxRecDepth 65536

noncomputable section

namespace Cert.Kernel30Ideal.Val

open Idealize.ShloMosaic Idealize.ShloMosaic.TcCoe
open Cert.Kernel30Ideal Cert.Kernel30Ideal.Gen
open Cert.Rms

theorem hz : (![0, 0] : Fin 2 → Nat) = fun _ => 0 := funext fun a => by fin_cases a <;> rfl

/-- The inverse root of a tile's row, -/
theorem pay1_apply (x : Vec Ideal S512x1024 .f32) (r : Fin 512) (a : Fin 1) : k0_pay1 x (ix2 r a) = Ideal.rsqrt (ms fun j => x (ix2 r j)) := by
  pointwise [k0_pay1]
  rfl

/-- the row's gradient added to the one it already has, -/
theorem pay3_apply (x a b : Vec Ideal S512x1024 .f32) (g : Vec Ideal S1x1024 .f32) (r : Fin 512) (n : Fin 1024) :
    k0_pay3 x a b g (ix2 r n) = a (ix2 r n) + bwd (fun j => x (ix2 r j)) (fun j => b (ix2 r j) * g (ix2 0 j)) n := by
  pointwise [k0_pay3, k0_pay2]
  simp only [pay1_apply]
  rfl

/-- and a tile's part of the gains' gradient, -/
def gainTile (x b : Vec Ideal S512x1024 .f32) (n : Fin 1024) : EReal :=
  ∑ r : Fin 512, b (ix2 r n) * (x (ix2 r n) * Ideal.rsqrt (ms fun j => x (ix2 r j)))

/-- added to what is there. -/
theorem pay5_apply (x b : Vec Ideal S512x1024 .f32) (s : Vec Ideal S1x1024 .f32) (n : Fin 1024) :
    k0_pay5 x b s (ix2 0 n) = s (ix2 0 n) + gainTile x b n := by
  pointwise [k0_pay5, k0_pay2]
  simp only [pay1_apply]
  rfl

theorem pay4_apply (n : Fin 1024) : k0_pay4 (F := Ideal) (ix2 0 n) = 0 := by
  pointwise [k0_pay4]

section Cases

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x1024 .f32) (h6 : a6.IsWhole)
  (x0 : Vec Ideal S512x1024 .f32) (x1 : Vec Ideal S512x1024 .f32) (x2 : Vec Ideal S512x1024 .f32) (x3 : Vec Ideal S1x1024 .f32)
  (s5 : Vec Ideal S1x1024 .f32)

/-- The input's gradient, at the first point -/
theorem outA4 (hc0 : cond0_0 i) : out0_A_4 c i a1 h1 a2 h2 a3 h3 a4 h4 a5 h5 a6 h6 hc0 x0 x1 x2 x3
    = k0_pay3 x0 x1 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

/-- and at a later one. -/
theorem outB4 (hc0 : ¬cond0_0 i) : out0_B_4 c i a1 h1 a2 h2 a3 h3 a4 h4 a5 h5 a6 h6 hc0 x0 x1 x2 x3 s5
    = k0_pay3 x0 x1 x2 x3 := by
  unfold out0_B_4
  rw [View.read_writes_eq_canon _ _ _ (cover0_B_4 c i a1 h1 a2 h2 a3 h3 a4 h4 a5 h5 a6 h6 hc0 x0 x1 x2 x3 s5)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

/-- The first point adds its part of the gains' gradient to zero, -/
theorem outA5 (hc0 : cond0_0 i) : out0_A_5 c i a1 h1 a2 h2 a3 h3 a4 h4 a5 h5 a6 h6 hc0 x0 x1 x2 x3
    = k0_pay5 x0 x2 (k0_pay4 (F := Ideal)) := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, View.ld_unit_zero (S := S512x1024) hz, View.ld_unit_zero (S := S1x1024) hz]

/-- a later one to what the point before left. -/
theorem outB5 (hc0 : ¬cond0_0 i) : out0_B_5 c i a1 h1 a2 h2 a3 h3 a4 h4 a5 h5 a6 h6 hc0 x0 x1 x2 x3 s5
    = k0_pay5 x0 x2 s5 := by
  unfold out0_B_5
  rw [View.read_writes_eq_canon _ _ _ (cover0_B_5 c i a1 h1 a2 h2 a3 h3 a4 h4 a5 h5 a6 h6 hc0 x0 x1 x2 x3 s5)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]

end Cases

variable (m : (ℓ : Loc nD τ sig) → Buf (Elt Ideal) ℓ) (c : Dev nD)

/-- The arguments, as launched. -/
abbrev gX : FVec Ideal S8192x1024 .f32 := m (c, Proc.tc.devRef main_arg0)
abbrev gE : FVec Ideal S8192x1024 .f32 := m (c, Proc.tc.devRef main_arg1)
abbrev gD : FVec Ideal S8192x1024 .f32 := m (c, Proc.tc.devRef main_arg2)
abbrev gG : FVec Ideal S1x1024 .f32 := m (c, Proc.tc.devRef main_arg3)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

theorem ltN (t : Fin cfg0.N) : t.val < 16 := lt_of_lt_of_eq t.isLt N_0

/-- Row `r` of tile `j`. -/
abbrev row (j : ℕ) (h : j < 16) (r : Fin 512) : Fin 8192 := ⟨512 * j + r.val, by omega⟩

theorem read0 (f : Buf (Elt Ideal) ((c : Thread nD τ).loc (Pipeline.arrRef spec0 0))) (t : Fin cfg0.N) (r : Fin 512) (n : Fin 1024) :
    ((cfg0.win 0).blk t).view.read (Elt Ideal) f (ix2 r n) = (f : Vec Ideal S8192x1024 .f32) (ix2 (row t.val (ltN t) r) n) := by
  refine congrArg f ?_
  blk_ext [idx0 t]

theorem iblk0 (t : Fin cfg0.N) (r : Fin 512) (n : Fin 1024) : iblk m c 0 t (ix2 r n) = gX m c (ix2 (row t.val (ltN t) r) n) := by
  unfold iblk
  exact (read0 c (V m c (Pipeline.arrRef spec0 0)) t r n).trans (congrFun (V_main_arg0 m c) _)

theorem read1 (f : Buf (Elt Ideal) ((c : Thread nD τ).loc (Pipeline.arrRef spec0 1))) (t : Fin cfg0.N) (r : Fin 512) (n : Fin 1024) :
    ((cfg0.win 1).blk t).view.read (Elt Ideal) f (ix2 r n) = (f : Vec Ideal S8192x1024 .f32) (ix2 (row t.val (ltN t) r) n) := by
  refine congrArg f ?_
  blk_ext [idx1 t]

theorem iblk1 (t : Fin cfg0.N) (r : Fin 512) (n : Fin 1024) : iblk m c 1 t (ix2 r n) = gE m c (ix2 (row t.val (ltN t) r) n) := by
  unfold iblk
  exact (read1 c (V m c (Pipeline.arrRef spec0 1)) t r n).trans (congrFun (V_main_arg1 m c) _)

theorem read2 (f : Buf (Elt Ideal) ((c : Thread nD τ).loc (Pipeline.arrRef spec0 2))) (t : Fin cfg0.N) (r : Fin 512) (n : Fin 1024) :
    ((cfg0.win 2).blk t).view.read (Elt Ideal) f (ix2 r n) = (f : Vec Ideal S8192x1024 .f32) (ix2 (row t.val (ltN t) r) n) := by
  refine congrArg f ?_
  blk_ext [idx2 t]

theorem iblk2 (t : Fin cfg0.N) (r : Fin 512) (n : Fin 1024) : iblk m c 2 t (ix2 r n) = gD m c (ix2 (row t.val (ltN t) r) n) := by
  unfold iblk
  exact (read2 c (V m c (Pipeline.arrRef spec0 2)) t r n).trans (congrFun (V_main_arg2 m c) _)

theorem read3 (f : Buf (Elt Ideal) ((c : Thread nD τ).loc (Pipeline.arrRef spec0 3))) (t : Fin cfg0.N) (n : Fin 1024) :
    ((cfg0.win 3).blk t).view.read (Elt Ideal) f (ix2 0 n) = (f : Vec Ideal S1x1024 .f32) (ix2 0 n) := by
  refine congrArg f ?_
  blk_ext [idx3 t]

theorem iblk3 (t : Fin cfg0.N) (n : Fin 1024) : iblk m c 3 t (ix2 0 n) = gG m c (ix2 0 n) := by
  unfold iblk
  exact (read3 c (V m c (Pipeline.arrRef spec0 3)) t n).trans (congrFun (V_main_arg3 m c) _)

/-- The gradient of the layer's input, -/
def dX (X E D : FVec Ideal S8192x1024 .f32) (g : FVec Ideal S1x1024 .f32) (q : Fin 8192) (n : Fin 1024) : EReal :=
  E (ix2 q n) + bwd (fun j => X (ix2 q j)) (fun j => D (ix2 q j) * g (ix2 0 j)) n

/-- and of the norm's gains, a row's part of it and the sum. -/
def dGainRow (X D : FVec Ideal S8192x1024 .f32) (n : Fin 1024) (q : Fin 8192) : EReal :=
  D (ix2 q n) * (X (ix2 q n) * Ideal.rsqrt (ms fun j => X (ix2 q j)))

def dGain (X D : FVec Ideal S8192x1024 .f32) (n : Fin 1024) : EReal := ∑ q : Fin 8192, dGainRow X D n q

theorem tileX (t : Fin cfg0.N) (r : Fin 512) (n : Fin 1024) :
    k0_pay3 (iblk m c 0 t) (iblk m c 1 t) (iblk m c 2 t) (iblk m c 3 t) (ix2 r n)
      = dX (gX m c) (gE m c) (gD m c) (gG m c) (row t.val (ltN t) r) n := by
  rw [pay3_apply]
  simp only [iblk0, iblk1, iblk2, iblk3]
  rfl

/-- The arrays after the run. -/
theorem arrX : (dats m 0 c).arrAt 4 cfg0.N
    = (fun i : S8192x1024.Idx => dX (gX m c) (gE m c) (gD m c) (gG m c) (i 0) (i 1) : Vec Ideal S8192x1024 .f32) := by
  refine (dats m 0 c).arrAt_eq_of_covers 4 _ (by decide +kernel) fun t hf y => ?_
  blk_simp
  rw [after0_4]
  obtain ⟨r, n, rfl⟩ : ∃ (r : Fin 512) (n : Fin 1024), y = ix2 r n := ⟨y 0, y 1, by funext a; fin_cases a <;> rfl⟩
  have e : ((cfg0.win 4).blk t).view.emb (ix2 r n) = ix2 (row t.val (ltN t) r) n := by blk_ext [idx4 t]
  rw [e]
  have o : (outsAt0 m c t.val t.isLt).1 = k0_pay3 (iblk m c 0 t) (iblk m c 1 t) (iblk m c 2 t) (iblk m c 3 t) := by
    by_cases h0 : t.val % 16 = 0
    · rw [outsAt0_A m c t h0]
      dsimp only
      rw [outA4]
    · rw [outsAt0_B m c t h0]
      dsimp only
      rw [outB4]
  rw [o]
  exact tileX m c t r n

/-- What point `t` adds at a column. -/
def part5 (n : Fin 1024) (t : ℕ) : EReal :=
  if h : t < 16 then ∑ r : Fin 512, dGainRow (gX m c) (gD m c) n (row t h r) else 0

theorem part5_eq (t : Fin cfg0.N) (n : Fin 1024) :
    gainTile (iblk m c 0 t) (iblk m c 2 t) n = part5 m c n t.val := by
  unfold part5
  rw [dif_pos (ltN t)]
  unfold gainTile
  simp only [iblk0, iblk2]
  rfl

theorem acc5 (n : Fin 1024) : ∀ (t : ℕ) (h : t < cfg0.N),
    (outsAt0 m c t h).2 (ix2 0 n) = ∑ j ∈ Finset.range (t % 16 + 1), part5 m c n (16 * (t / 16) + j) := by
  refine Cert.Tiles.fold_runs (by decide) (fun t h => (outsAt0 m c t h).2 (ix2 0 n)) (part5 m c n) (fun t h e => ?_) fun t h e => ?_
  · show (outsAt0 m c t h).2 (ix2 0 n) = _
    rw [show outsAt0 m c t h = _ from outsAt0_A m c ⟨t, h⟩ e]
    dsimp only
    rw [outA5, pay5_apply, pay4_apply, zero_add]
    exact part5_eq m c ⟨t, h⟩ n
  · show (outsAt0 m c (t + 1) h).2 (ix2 0 n) = (outsAt0 m c t _).2 (ix2 0 n) + _
    rw [show outsAt0 m c (t + 1) h = _ from outsAt0_B m c ⟨t + 1, h⟩ e]
    dsimp only
    rw [outB5, pay5_apply]
    exact congrArg (_ + ·) (part5_eq m c ⟨t + 1, h⟩ n)

/-- The gains' gradient after the run. -/
theorem arrG : (dats m 0 c).arrAt 5 cfg0.N
    = (fun i : S1x1024.Idx => dGain (gX m c) (gD m c) (i 1) : Vec Ideal S1x1024 .f32) := by
  refine (dats m 0 c).arrAt_eq_of_covers 5 _ (by decide +kernel) fun t hf y => ?_
  blk_simp
  rw [after0_5]
  have h15 : t.val % 16 = 15 := (flush0_5 t).mp hf
  have hN := ltN t
  obtain ⟨n, rfl⟩ : ∃ n : Fin 1024, y = ix2 0 n :=
    ⟨y 1, by funext a; fin_cases a <;> [exact Fin.ext (by have h : (y 0).val < 1 := (y 0).isLt; show (y 0).val = 0; omega); rfl]⟩
  have e : ((cfg0.win 5).blk t).view.emb (ix2 0 n) = ix2 0 n := by blk_ext [idx5 t]
  rw [e]
  refine (acc5 m c n t.val t.isLt).trans ?_
  rw [h15, show t.val / 16 = 0 by omega]
  refine Cert.Tiles.sum_tiles (w := 512) rfl _ _ fun j hj => ?_
  unfold part5
  rw [dif_pos (show 16 * 0 + j < 16 by omega)]
  exact Finset.sum_congr rfl fun r _ => congrArg (fun q : Fin 8192 => dGainRow (gX m c) (gD m c) n q) (Fin.ext (by simp only []; omega))

open Cert.Reference30Ideal.Read

theorem ref6 (X : FVec Ideal S8192x1024 .f32) (q : Fin 8192) (a : Fin 1) : val_main_v6 (F := Ideal) X (ix2 q a) = ms fun j => X (ix2 q j) := by
  pointwise [val_main_v6, val_main_v5, val_main_v4, val_main_v3, val_main_v2, val_main_v1, val_main_v0, val_main_cst, val_main_cst_0, val_main_cst_1]
  rfl

theorem ref7 (X : FVec Ideal S8192x1024 .f32) (q : Fin 8192) (a : Fin 1) :
    val_main_v7 (F := Ideal) X (ix2 q a) = Ideal.rsqrt (ms fun j => X (ix2 q j)) := by
  pointwise [val_main_v7]
  rw [ref6]

/-- The reference's gradient of the input -/
theorem refX (X E D : FVec Ideal S8192x1024 .f32) (g : FVec Ideal S1x1024 .f32) (q : Fin 8192) (n : Fin 1024) :
    val_main_v34 (F := Ideal) X E D g (ix2 q n) = dX X E D g q n := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9,
    val_main_v8, val_main_cst_2, val_main_cst_4, val_main_cst_5, val_main_cst_6]
  simp only [Fin.sum_univ_one, ref6, ref7]
  exact congrArg (_ + ·) (bwd_eq (fun j => X (ix2 q j)) (fun j => D (ix2 q j) * g (ix2 0 j)) n)

/-- and of the gains. -/
theorem refG (X D : FVec Ideal S8192x1024 .f32) (a : Fin 1) (n : Fin 1024) : val_main_v17 (F := Ideal) X D (ix2 a n) = dGain X D n := by
  obtain rfl : a = 0 := Subsingleton.elim _ _
  pointwise [val_main_v17, val_main_v16, val_main_v15, val_main_v12, val_main_v11, val_main_cst_3]
  simp only [ref7]
  exact Finset.sum_congr rfl fun q _ => mul_comm _ _

end Cert.Kernel30Ideal.Val

end
-- ==== Proof.ResGrad.lean ====
/- The gradient of the attention block's residual: what the launch leaves, and the reference. -/
module

public import proofs.«01_k».proof.Proof.Gen.Kernel31Ideal.Value
public import proofs.«01_k».proof.Proof.Gen.Reference31Ideal.Read
public import proofs.«01_k».proof.Proof.Tiles
public import proofs.«01_k».proof.Proof.Rms
public import Idealize.ShloMosaic.Lib.Pointwise
public import Idealize.ShloMosaic.Lib.Pipeline.ValueKit

@[expose] public section

set_option maxRecDepth 65536

noncomputable section

namespace Cert.Kernel31Ideal.Val

open Idealize.ShloMosaic Idealize.ShloMosaic.TcCoe
open Cert.Kernel31Ideal Cert.Kernel31Ideal.Gen
open Cert.Rms

theorem hz : (![0, 0] : Fin 2 → Nat) = fun _ => 0 := funext fun a => by fin_cases a <;> rfl

/-- The inverse root of a tile's row of the first input, -/
theorem pay1_apply (x : Vec Ideal S512x1024 .f32) (r : Fin 512) (a : Fin 1) : k0_pay1 x (ix2 r a) = Ideal.rsqrt (ms fun j => x (ix2 r j)) := by
  pointwise [k0_pay1]
  rfl

/-- the row's gradient added to the one from above, -/
theorem pay3_apply (o b x : Vec Ideal S512x1024 .f32) (g : Vec Ideal S1x1024 .f32) (r : Fin 512) (n : Fin 1024) :
    k0_pay3 o b x g (ix2 r n) = o (ix2 r n) + bwd (fun j => x (ix2 r j)) (fun j => b (ix2 r j) * g (ix2 0 j)) n := by
  pointwise [k0_pay3, k0_pay2]
  simp only [pay1_apply]
  rfl

/-- the inverse root of a row of the second, -/
theorem pay4_apply (y : Vec Ideal S512x1024 .f32) (r : Fin 512) (a : Fin 1) : k0_pay4 y (ix2 r a) = Ideal.rsqrt (ms fun j => y (ix2 r j)) := by
  pointwise [k0_pay4]
  rfl

/-- its gradient, from any gradient `z` of the sum, -/
theorem pay6_apply (p : Vec Ideal S1x1024 .f32) (z y : FVec Ideal S512x1024 .f32) (r : Fin 512) (n : Fin 1024) :
    k0_pay6 p z (k0_pay4 y) (k0_pay5 y) (ix2 r n) = bwd (fun j => y (ix2 r j)) (fun j => z (ix2 r j) * p (ix2 0 j)) n := by
  pointwise [k0_pay6, k0_pay5]
  simp only [pay4_apply]
  rfl

/-- and a tile's part of the gains' gradient of a row `x` that received `b`, -/
def gainTile (x b : FVec Ideal S512x1024 .f32) (n : Fin 1024) : EReal :=
  ∑ r : Fin 512, b (ix2 r n) * (x (ix2 r n) * Ideal.rsqrt (ms fun j => x (ix2 r j)))

/-- added to what is there. -/
theorem pay8_apply (x b : Vec Ideal S512x1024 .f32) (s : Vec Ideal S1x1024 .f32) (n : Fin 1024) :
    k0_pay8 b (k0_pay2 x) s (ix2 0 n) = s (ix2 0 n) + gainTile x b n := by
  pointwise [k0_pay8, k0_pay2]
  simp only [pay1_apply]
  rfl

theorem pay10_apply (y : Vec Ideal S512x1024 .f32) (z : FVec Ideal S512x1024 .f32) (s : Vec Ideal S1x1024 .f32) (n : Fin 1024) :
    k0_pay10 z (k0_pay5 y) s (ix2 0 n) = s (ix2 0 n) + gainTile y z n := by
  pointwise [k0_pay10, k0_pay5]
  simp only [pay4_apply]
  rfl

theorem pay7_apply (n : Fin 1024) : k0_pay7 (F := Ideal) (ix2 0 n) = 0 := by
  pointwise [k0_pay7]

theorem pay9_apply (n : Fin 1024) : k0_pay9 (F := Ideal) (ix2 0 n) = 0 := by
  pointwise [k0_pay9]

section Cases

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .bf16) (h8 : a8.IsWhole)
  (a9 : Memref sig .tc .vmem S1x1024 .f32) (h9 : a9.IsWhole) (a10 : Memref sig .tc .vmem S1x1024 .f32) (h10 : a10.IsWhole)
  (x0 : Vec Ideal S512x1024 .f32) (x1 : Vec Ideal S512x1024 .f32) (x2 : Vec Ideal S512x1024 .f32) (x3 : Vec Ideal S512x1024 .f32) (x4 : Vec Ideal S1x1024 .f32) (x5 : Vec Ideal S1x1024 .f32)
  (s8 : Vec Ideal S1x1024 .f32) (s9 : Vec Ideal S1x1024 .f32)

/-- The sum's gradient, at the first point -/
theorem outA6 (hc0 : cond0_0 i) (hc1 : cond0_1 i) : out0_A_6 c i a1 h1 a2 h2 a3 h3 a4 h4 a5 h5 a6 h6 a7 h7 a8 h8 a9 h9 a10 h10 hc0 hc1 x0 x1 x2 x3 x4 x5
    = k0_pay3 x0 x1 x2 x4 := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz]

/-- and at a later one. -/
theorem outB6 (hc0 : ¬cond0_0 i) (hc1 : ¬cond0_1 i) : out0_B_6 c i a1 h1 a2 h2 a3 h3 a4 h4 a5 h5 a6 h6 a7 h7 a8 h8 a9 h9 a10 h10 hc0 hc1 x0 x1 x2 x3 x4 x5 s8 s9
    = k0_pay3 x0 x1 x2 x4 := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x5 s8 s9)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz]

/-- The output's gradient, at the first point -/
theorem outA7 (hc0 : cond0_0 i) (hc1 : cond0_1 i) : out0_A_7 c i a1 h1 a2 h2 a3 h3 a4 h4 a5 h5 a6 h6 a7 h7 a8 h8 a9 h9 a10 h10 hc0 hc1 x0 x1 x2 x3 x4 x5
    = k0_pay6 x5 (k0_pay3 x0 x1 x2 x4) (k0_pay4 x3) (k0_pay5 x3) := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz]

/-- and at a later one. -/
theorem outB7 (hc0 : ¬cond0_0 i) (hc1 : ¬cond0_1 i) : out0_B_7 c i a1 h1 a2 h2 a3 h3 a4 h4 a5 h5 a6 h6 a7 h7 a8 h8 a9 h9 a10 h10 hc0 hc1 x0 x1 x2 x3 x4 x5 s8 s9
    = k0_pay6 x5 (k0_pay3 x0 x1 x2 x4) (k0_pay4 x3) (k0_pay5 x3) := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 s8 s9)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz]

/-- The first point adds its part of the gains' gradient to zero, -/
theorem outA8 (hc0 : cond0_0 i) (hc1 : cond0_1 i) : out0_A_8 c i a1 h1 a2 h2 a3 h3 a4 h4 a5 h5 a6 h6 a7 h7 a8 h8 a9 h9 a10 h10 hc0 hc1 x0 x1 x2 x3 x4 x5
    = k0_pay8 x1 (k0_pay2 x2) (k0_pay7 (F := Ideal)) := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, View.ld_unit_zero (S := S512x1024) hz, View.ld_unit_zero (S := S1x1024) hz]

/-- a later one to what the point before left. -/
theorem outB8 (hc0 : ¬cond0_0 i) (hc1 : ¬cond0_1 i) : out0_B_8 c i a1 h1 a2 h2 a3 h3 a4 h4 a5 h5 a6 h6 a7 h7 a8 h8 a9 h9 a10 h10 hc0 hc1 x0 x1 x2 x3 x4 x5 s8 s9
    = k0_pay8 x1 (k0_pay2 x2) s8 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 s8 s9)]
  unfold kernelRun0_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S512x1024) hz, View.ld_unit_zero (S := S1x1024) hz]

/-- Likewise for the other gains, at the first point -/
theorem outA9 (hc0 : cond0_0 i) (hc1 : cond0_1 i) : out0_A_9 c i a1 h1 a2 h2 a3 h3 a4 h4 a5 h5 a6 h6 a7 h7 a8 h8 a9 h9 a10 h10 hc0 hc1 x0 x1 x2 x3 x4 x5
    = k0_pay10 (k0_pay3 x0 x1 x2 x4) (k0_pay5 x3) (k0_pay9 (F := Ideal)) := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, View.ld_unit_zero (S := S512x1024) hz, View.ld_unit_zero (S := S1x1024) hz]

/-- and at a later one. -/
theorem outB9 (hc0 : ¬cond0_0 i) (hc1 : ¬cond0_1 i) : out0_B_9 c i a1 h1 a2 h2 a3 h3 a4 h4 a5 h5 a6 h6 a7 h7 a8 h8 a9 h9 a10 h10 hc0 hc1 x0 x1 x2 x3 x4 x5 s8 s9
    = k0_pay10 (k0_pay3 x0 x1 x2 x4) (k0_pay5 x3) s9 := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 s8 s9)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S1x1024) hz]

end Cases

variable (m : (ℓ : Loc nD τ sig) → Buf (Elt Ideal) ℓ) (c : Dev nD)

/-- The arguments, as launched. -/
abbrev gO : FVec Ideal S8192x1024 .f32 := m (c, Proc.tc.devRef main_arg0)
abbrev gD : FVec Ideal S8192x1024 .f32 := m (c, Proc.tc.devRef main_arg1)
abbrev gX : FVec Ideal S8192x1024 .f32 := m (c, Proc.tc.devRef main_arg2)
abbrev gY : FVec Ideal S8192x1024 .f32 := m (c, Proc.tc.devRef main_arg3)
abbrev gN : FVec Ideal S1x1024 .f32 := m (c, Proc.tc.devRef main_arg4)
abbrev gP : FVec Ideal S1x1024 .f32 := m (c, Proc.tc.devRef main_arg5)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

theorem ltN (t : Fin cfg0.N) : t.val < 16 := lt_of_lt_of_eq t.isLt N_0

/-- Row `r` of tile `j`. -/
abbrev row (j : ℕ) (h : j < 16) (r : Fin 512) : Fin 8192 := ⟨512 * j + r.val, by omega⟩

theorem read0 (f : Buf (Elt Ideal) ((c : Thread nD τ).loc (Pipeline.arrRef spec0 0))) (t : Fin cfg0.N) (r : Fin 512) (n : Fin 1024) :
    ((cfg0.win 0).blk t).view.read (Elt Ideal) f (ix2 r n) = (f : Vec Ideal S8192x1024 .f32) (ix2 (row t.val (ltN t) r) n) := by
  refine congrArg f ?_
  blk_ext [idx0 t]

theorem iblk0 (t : Fin cfg0.N) (r : Fin 512) (n : Fin 1024) : iblk m c 0 t (ix2 r n) = gO m c (ix2 (row t.val (ltN t) r) n) := by
  unfold iblk
  exact (read0 c (V m c (Pipeline.arrRef spec0 0)) t r n).trans (congrFun (V_main_arg0 m c) _)

theorem read1 (f : Buf (Elt Ideal) ((c : Thread nD τ).loc (Pipeline.arrRef spec0 1))) (t : Fin cfg0.N) (r : Fin 512) (n : Fin 1024) :
    ((cfg0.win 1).blk t).view.read (Elt Ideal) f (ix2 r n) = (f : Vec Ideal S8192x1024 .f32) (ix2 (row t.val (ltN t) r) n) := by
  refine congrArg f ?_
  blk_ext [idx1 t]

theorem iblk1 (t : Fin cfg0.N) (r : Fin 512) (n : Fin 1024) : iblk m c 1 t (ix2 r n) = gD m c (ix2 (row t.val (ltN t) r) n) := by
  unfold iblk
  exact (read1 c (V m c (Pipeline.arrRef spec0 1)) t r n).trans (congrFun (V_main_arg1 m c) _)

theorem read2 (f : Buf (Elt Ideal) ((c : Thread nD τ).loc (Pipeline.arrRef spec0 2))) (t : Fin cfg0.N) (r : Fin 512) (n : Fin 1024) :
    ((cfg0.win 2).blk t).view.read (Elt Ideal) f (ix2 r n) = (f : Vec Ideal S8192x1024 .f32) (ix2 (row t.val (ltN t) r) n) := by
  refine congrArg f ?_
  blk_ext [idx2 t]

theorem iblk2 (t : Fin cfg0.N) (r : Fin 512) (n : Fin 1024) : iblk m c 2 t (ix2 r n) = gX m c (ix2 (row t.val (ltN t) r) n) := by
  unfold iblk
  exact (read2 c (V m c (Pipeline.arrRef spec0 2)) t r n).trans (congrFun (V_main_arg2 m c) _)

theorem read3 (f : Buf (Elt Ideal) ((c : Thread nD τ).loc (Pipeline.arrRef spec0 3))) (t : Fin cfg0.N) (r : Fin 512) (n : Fin 1024) :
    ((cfg0.win 3).blk t).view.read (Elt Ideal) f (ix2 r n) = (f : Vec Ideal S8192x1024 .f32) (ix2 (row t.val (ltN t) r) n) := by
  refine congrArg f ?_
  blk_ext [idx3 t]

theorem iblk3 (t : Fin cfg0.N) (r : Fin 512) (n : Fin 1024) : iblk m c 3 t (ix2 r n) = gY m c (ix2 (row t.val (ltN t) r) n) := by
  unfold iblk
  exact (read3 c (V m c (Pipeline.arrRef spec0 3)) t r n).trans (congrFun (V_main_arg3 m c) _)

theorem read4 (f : Buf (Elt Ideal) ((c : Thread nD τ).loc (Pipeline.arrRef spec0 4))) (t : Fin cfg0.N) (n : Fin 1024) :
    ((cfg0.win 4).blk t).view.read (Elt Ideal) f (ix2 0 n) = (f : Vec Ideal S1x1024 .f32) (ix2 0 n) := by
  refine congrArg f ?_
  blk_ext [idx4 t]

theorem iblk4 (t : Fin cfg0.N) (n : Fin 1024) : iblk m c 4 t (ix2 0 n) = gN m c (ix2 0 n) := by
  unfold iblk
  exact (read4 c (V m c (Pipeline.arrRef spec0 4)) t n).trans (congrFun (V_main_arg4 m c) _)

theorem read5 (f : Buf (Elt Ideal) ((c : Thread nD τ).loc (Pipeline.arrRef spec0 5))) (t : Fin cfg0.N) (n : Fin 1024) :
    ((cfg0.win 5).blk t).view.read (Elt Ideal) f (ix2 0 n) = (f : Vec Ideal S1x1024 .f32) (ix2 0 n) := by
  refine congrArg f ?_
  blk_ext [idx5 t]

theorem iblk5 (t : Fin cfg0.N) (n : Fin 1024) : iblk m c 5 t (ix2 0 n) = gP m c (ix2 0 n) := by
  unfold iblk
  exact (read5 c (V m c (Pipeline.arrRef spec0 5)) t n).trans (congrFun (V_main_arg5 m c) _)

/-- The gradient of the sum after the attention block, -/
def dSum (O D X : FVec Ideal S8192x1024 .f32) (g : FVec Ideal S1x1024 .f32) (q : Fin 8192) (n : Fin 1024) : EReal :=
  O (ix2 q n) + bwd (fun j => X (ix2 q j)) (fun j => D (ix2 q j) * g (ix2 0 j)) n

/-- of the block's output, -/
def dOut (O D X Y : FVec Ideal S8192x1024 .f32) (g p : FVec Ideal S1x1024 .f32) (q : Fin 8192) (n : Fin 1024) : EReal :=
  bwd (fun j => Y (ix2 q j)) (fun j => dSum O D X g q j * p (ix2 0 j)) n

/-- and of the two norms' gains, a row's part of it. -/
def dPreRow (D X : FVec Ideal S8192x1024 .f32) (n : Fin 1024) (q : Fin 8192) : EReal :=
  D (ix2 q n) * (X (ix2 q n) * Ideal.rsqrt (ms fun j => X (ix2 q j)))

def dPostRow (O D X Y : FVec Ideal S8192x1024 .f32) (g : FVec Ideal S1x1024 .f32) (n : Fin 1024) (q : Fin 8192) : EReal :=
  dSum O D X g q n * (Y (ix2 q n) * Ideal.rsqrt (ms fun j => Y (ix2 q j)))

theorem tileSum (t : Fin cfg0.N) (r : Fin 512) (n : Fin 1024) :
    k0_pay3 (iblk m c 0 t) (iblk m c 1 t) (iblk m c 2 t) (iblk m c 4 t) (ix2 r n)
      = dSum (gO m c) (gD m c) (gX m c) (gN m c) (row t.val (ltN t) r) n := by
  rw [pay3_apply]
  simp only [iblk0, iblk1, iblk2, iblk4]
  rfl

theorem tileOut (t : Fin cfg0.N) (r : Fin 512) (n : Fin 1024) :
    k0_pay6 (iblk m c 5 t) (k0_pay3 (iblk m c 0 t) (iblk m c 1 t) (iblk m c 2 t) (iblk m c 4 t)) (k0_pay4 (iblk m c 3 t)) (k0_pay5 (iblk m c 3 t)) (ix2 r n)
      = dOut (gO m c) (gD m c) (gX m c) (gY m c) (gN m c) (gP m c) (row t.val (ltN t) r) n := by
  rw [pay6_apply]
  simp only [tileSum, iblk3, iblk5]
  rfl

/-- The arrays after the run: the sum's gradient, -/
theorem arrSum : (dats m 0 c).arrAt 6 cfg0.N
    = (fun i : S8192x1024.Idx => dSum (gO m c) (gD m c) (gX m c) (gN m c) (i 0) (i 1) : Vec Ideal S8192x1024 .f32) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, by funext a; fin_cases a <;> rfl⟩
  have e : ((cfg0.win 6).blk t).view.emb (ix2 r n) = ix2 (row t.val (ltN t) r) n := by blk_ext [idx6 t]
  rw [e]
  have o : (outsAt0 m c t.val t.isLt).1 = k0_pay3 (iblk m c 0 t) (iblk m c 1 t) (iblk m c 2 t) (iblk m c 4 t) := by
    by_cases h0 : t.val % 16 = 0
    · rw [outsAt0_A m c t h0 h0]
      dsimp only
      rw [outA6]
    · rw [outsAt0_B m c t h0 h0]
      dsimp only
      rw [outB6]
  rw [o]
  exact tileSum m c t r n

/-- the output's, -/
theorem arrOut : (dats m 0 c).arrAt 7 cfg0.N
    = (fun i : S8192x1024.Idx => dOut (gO m c) (gD m c) (gX m c) (gY m c) (gN m c) (gP m c) (i 0) (i 1) : Vec Ideal S8192x1024 .bf16) := by
  refine (dats m 0 c).arrAt_eq_of_covers 7 _ (by decide +kernel) fun t hf y => ?_
  blk_simp
  rw [after0_7]
  obtain ⟨r, n, rfl⟩ : ∃ (r : Fin 512) (n : Fin 1024), y = ix2 r n := ⟨y 0, y 1, by funext a; fin_cases a <;> rfl⟩
  have e : ((cfg0.win 7).blk t).view.emb (ix2 r n) = ix2 (row t.val (ltN t) r) n := by blk_ext [idx7 t]
  rw [e]
  have o : (outsAt0 m c t.val t.isLt).2.1 = k0_pay6 (iblk m c 5 t) (k0_pay3 (iblk m c 0 t) (iblk m c 1 t) (iblk m c 2 t) (iblk m c 4 t)) (k0_pay4 (iblk m c 3 t)) (k0_pay5 (iblk m c 3 t)) := by
    by_cases h0 : t.val % 16 = 0
    · rw [outsAt0_A m c t h0 h0]
      dsimp only
      rw [outA7]
    · rw [outsAt0_B m c t h0 h0]
      dsimp only
      rw [outB7]
  rw [o]
  exact tileOut m c t r n

/-- What point `t` adds at a column. -/
def part8 (n : Fin 1024) (t : ℕ) : EReal :=
  if h : t < 16 then ∑ r : Fin 512, dPreRow (gD m c) (gX m c) n (row t h r) else 0

theorem part8_eq (t : Fin cfg0.N) (n : Fin 1024) :
    gainTile (iblk m c 2 t) (iblk m c 1 t) n = part8 m c n t.val := by
  unfold part8
  rw [dif_pos (ltN t)]
  unfold gainTile
  simp only [iblk1, iblk2]
  rfl

theorem acc8 (n : Fin 1024) : ∀ (t : ℕ) (h : t < cfg0.N),
    (outsAt0 m c t h).2.2.1 (ix2 0 n) = ∑ j ∈ Finset.range (t % 16 + 1), part8 m c n (16 * (t / 16) + j) := by
  refine Cert.Tiles.fold_runs (by decide) (fun t h => (outsAt0 m c t h).2.2.1 (ix2 0 n)) (part8 m c n) (fun t h e => ?_) fun t h e => ?_
  · show (outsAt0 m c t h).2.2.1 (ix2 0 n) = _
    rw [show outsAt0 m c t h = _ from outsAt0_A m c ⟨t, h⟩ e e]
    dsimp only
    rw [outA8, pay8_apply, pay7_apply, zero_add]
    exact part8_eq m c ⟨t, h⟩ n
  · show (outsAt0 m c (t + 1) h).2.2.1 (ix2 0 n) = (outsAt0 m c t _).2.2.1 (ix2 0 n) + _
    rw [show outsAt0 m c (t + 1) h = _ from outsAt0_B m c ⟨t + 1, h⟩ e e]
    dsimp only
    rw [outB8, pay8_apply]
    exact congrArg (_ + ·) (part8_eq m c ⟨t + 1, h⟩ n)

/-- and the gains'. -/
theorem arrPre : (dats m 0 c).arrAt 8 cfg0.N
    = (fun i : S1x1024.Idx => ∑ q : Fin 8192, dPreRow (gD m c) (gX m c) (i 1) q : Vec Ideal S1x1024 .f32) := by
  refine (dats m 0 c).arrAt_eq_of_covers 8 _ (by decide +kernel) fun t hf y => ?_
  blk_simp
  rw [after0_8]
  have h15 : t.val % 16 = 15 := (flush0_8 t).mp hf
  have hN := ltN t
  obtain ⟨n, rfl⟩ : ∃ n : Fin 1024, y = ix2 0 n :=
    ⟨y 1, by funext a; fin_cases a <;> [exact Fin.ext (by have h : (y 0).val < 1 := (y 0).isLt; show (y 0).val = 0; omega); rfl]⟩
  have e : ((cfg0.win 8).blk t).view.emb (ix2 0 n) = ix2 0 n := by blk_ext [idx8 t]
  rw [e]
  refine (acc8 m c n t.val t.isLt).trans ?_
  rw [h15, show t.val / 16 = 0 by omega]
  refine Cert.Tiles.sum_tiles (w := 512) rfl _ _ fun j hj => ?_
  unfold part8
  rw [dif_pos (show 16 * 0 + j < 16 by omega)]
  exact Finset.sum_congr rfl fun r _ => congrArg (fun q : Fin 8192 => dPreRow (gD m c) (gX m c) n q) (Fin.ext (by simp only []; omega))

/-- What point `t` adds at a column. -/
def part9 (n : Fin 1024) (t : ℕ) : EReal :=
  if h : t < 16 then ∑ r : Fin 512, dPostRow (gO m c) (gD m c) (gX m c) (gY m c) (gN m c) n (row t h r) else 0

theorem part9_eq (t : Fin cfg0.N) (n : Fin 1024) :
    gainTile (iblk m c 3 t) (k0_pay3 (iblk m c 0 t) (iblk m c 1 t) (iblk m c 2 t) (iblk m c 4 t)) n = part9 m c n t.val := by
  unfold part9
  rw [dif_pos (ltN t)]
  unfold gainTile
  simp only [tileSum, iblk3]
  rfl

theorem acc9 (n : Fin 1024) : ∀ (t : ℕ) (h : t < cfg0.N),
    (outsAt0 m c t h).2.2.2 (ix2 0 n) = ∑ j ∈ Finset.range (t % 16 + 1), part9 m c n (16 * (t / 16) + j) := by
  refine Cert.Tiles.fold_runs (by decide) (fun t h => (outsAt0 m c t h).2.2.2 (ix2 0 n)) (part9 m c n) (fun t h e => ?_) fun t h e => ?_
  · show (outsAt0 m c t h).2.2.2 (ix2 0 n) = _
    rw [show outsAt0 m c t h = _ from outsAt0_A m c ⟨t, h⟩ e e]
    dsimp only
    rw [outA9, pay10_apply, pay9_apply, zero_add]
    exact part9_eq m c ⟨t, h⟩ n
  · show (outsAt0 m c (t + 1) h).2.2.2 (ix2 0 n) = (outsAt0 m c t _).2.2.2 (ix2 0 n) + _
    rw [show outsAt0 m c (t + 1) h = _ from outsAt0_B m c ⟨t + 1, h⟩ e e]
    dsimp only
    rw [outB9, pay10_apply]
    exact congrArg (_ + ·) (part9_eq m c ⟨t + 1, h⟩ n)

/-- The other gains' gradient. -/
theorem arrPost : (dats m 0 c).arrAt 9 cfg0.N
    = (fun i : S1x1024.Idx => ∑ q : Fin 8192, dPostRow (gO m c) (gD m c) (gX m c) (gY m c) (gN m c) (i 1) q : Vec Ideal S1x1024 .f32) := by
  refine (dats m 0 c).arrAt_eq_of_covers 9 _ (by decide +kernel) fun t hf y => ?_
  blk_simp
  rw [after0_9]
  have h15 : t.val % 16 = 15 := (flush0_9 t).mp hf
  have hN := ltN t
  obtain ⟨n, rfl⟩ : ∃ n : Fin 1024, y = ix2 0 n :=
    ⟨y 1, by funext a; fin_cases a <;> [exact Fin.ext (by have h : (y 0).val < 1 := (y 0).isLt; show (y 0).val = 0; omega); rfl]⟩
  have e : ((cfg0.win 9).blk t).view.emb (ix2 0 n) = ix2 0 n := by blk_ext [idx9 t]
  rw [e]
  refine (acc9 m c n t.val t.isLt).trans ?_
  rw [h15, show t.val / 16 = 0 by omega]
  refine Cert.Tiles.sum_tiles (w := 512) rfl _ _ fun j hj => ?_
  unfold part9
  rw [dif_pos (show 16 * 0 + j < 16 by omega)]
  exact Finset.sum_congr rfl fun r _ => congrArg (fun q : Fin 8192 => dPostRow (gO m c) (gD m c) (gX m c) (gY m c) (gN m c) n q) (Fin.ext (by simp only []; omega))

open Cert.Reference31Ideal.Read

theorem ref6 (X : FVec Ideal S8192x1024 .f32) (q : Fin 8192) (a : Fin 1) : val_main_v6 (F := Ideal) X (ix2 q a) = ms fun j => X (ix2 q j) := by
  pointwise [val_main_v6, val_main_v5, val_main_v4, val_main_v3, val_main_v2, val_main_v1, val_main_v0, val_main_cst, val_main_cst_0, val_main_cst_1]
  rfl

theorem ref7 (X : FVec Ideal S8192x1024 .f32) (q : Fin 8192) (a : Fin 1) :
    val_main_v7 (F := Ideal) X (ix2 q a) = Ideal.rsqrt (ms fun j => X (ix2 q j)) := by
  pointwise [val_main_v7]
  rw [ref6]

theorem ref41 (Y : FVec Ideal S8192x1024 .f32) (q : Fin 8192) (a : Fin 1) : val_main_v41 (F := Ideal) Y (ix2 q a) = ms fun j => Y (ix2 q j) := by
  pointwise [val_main_v41, val_main_v40, val_main_v39, val_main_v38, val_main_v37, val_main_v36, val_main_v35, val_main_cst_7, val_main_cst_8, val_main_cst_9]
  rfl

theorem ref42 (Y : FVec Ideal S8192x1024 .f32) (q : Fin 8192) (a : Fin 1) :
    val_main_v42 (F := Ideal) Y (ix2 q a) = Ideal.rsqrt (ms fun j => Y (ix2 q j)) := by
  pointwise [val_main_v42]
  rw [ref41]

/-- The reference's gradient of the sum, -/
theorem refSum (O D X : FVec Ideal S8192x1024 .f32) (g : FVec Ideal S1x1024 .f32) (q : Fin 8192) (n : Fin 1024) :
    val_main_v34 (F := Ideal) O D X g (ix2 q n) = dSum O D X g q n := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9,
    val_main_v8, val_main_cst_2, val_main_cst_4, val_main_cst_5, val_main_cst_6]
  simp only [Fin.sum_univ_one, ref6, ref7]
  exact congrArg (_ + ·) (bwd_eq (fun j => X (ix2 q j)) (fun j => D (ix2 q j) * g (ix2 0 j)) n)

/-- of the output, -/
theorem refOut (O D X Y : FVec Ideal S8192x1024 .f32) (g p : FVec Ideal S1x1024 .f32) (q : Fin 8192) (n : Fin 1024) :
    val_main_v69 (F := Ideal) O D X Y g p (ix2 q n) = dOut O D X Y g p q n := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v45, val_main_v44,
    val_main_v43, val_main_cst_10, val_main_cst_12, val_main_cst_13, val_main_cst_14]
  simp only [Fin.sum_univ_one, ref41, ref42, refSum]
  exact bwd_eq (fun j => Y (ix2 q j)) (fun j => dSum O D X g q j * p (ix2 0 j)) n

/-- and of the gains. -/
theorem refPre (D X : FVec Ideal S8192x1024 .f32) (a : Fin 1) (n : Fin 1024) :
    val_main_v17 (F := Ideal) D X (ix2 a n) = ∑ q : Fin 8192, dPreRow D X n q := by
  obtain rfl : a = 0 := Subsingleton.elim _ _
  pointwise [val_main_v17, val_main_v16, val_main_v15, val_main_v12, val_main_v11, val_main_cst_3]
  simp only [ref7]
  exact Finset.sum_congr rfl fun q _ => mul_comm _ _

theorem refPost (O D X Y : FVec Ideal S8192x1024 .f32) (g : FVec Ideal S1x1024 .f32) (a : Fin 1) (n : Fin 1024) :
    val_main_v52 (F := Ideal) O D X Y g (ix2 a n) = ∑ q : Fin 8192, dPostRow O D X Y g n q := by
  obtain rfl : a = 0 := Subsingleton.elim _ _
  pointwise [val_main_v52, val_main_v51, val_main_v50, val_main_v47, val_main_v46, val_main_cst_11]
  simp only [ref42, refSum]
  exact Finset.sum_congr rfl fun q _ => mul_comm _ _

end Cert.Kernel31Ideal.Val

end
-- ==== Proof.LossGrad.lean ====
/- The loss and its gradient: what the launch leaves, and the reference. -/
module

public import proofs.«01_k».proof.Proof.Gen.Kernel32Ideal.Value
public import proofs.«01_k».proof.Proof.Gen.Reference32Ideal.Read
public import proofs.«01_k».proof.Proof.Tiles
public import proofs.«01_k».proof.Proof.Rms
public import Idealize.ShloMosaic.Lib.Pointwise
public import Idealize.ShloMosaic.Lib.Pipeline.ValueKit

@[expose] public section

set_option maxRecDepth 65536

noncomputable section

namespace Cert.Kernel32Ideal.Val

open Idealize.ShloMosaic Idealize.ShloMosaic.TcCoe
open Cert.Kernel32Ideal Cert.Kernel32Ideal.Gen
open Cert.Rms

theorem hz : (![0, 0] : Fin 2 → Nat) = fun _ => 0 := funext fun a => by fin_cases a <;> rfl

abbrev half : EReal := Ideal.ofBits .f32 0x3F000000#32
abbrev two : EReal := Ideal.ofBits .f32 0x40000000#32

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- The inverse root of a tile's row, -/
theorem pay6_apply (f : Vec Ideal S512x1024 .f32) (r : Fin 512) (a : Fin 1) : k0_pay6 f (ix2 r a) = Ideal.rsqrt (ms fun j => f (ix2 r j)) := by
  pointwise [k0_pay6]
  rfl

/-- the error of the output, -/
def errTile (x f : Vec Ideal S512x1024 .f32) (g : Vec Ideal S1x1024 .f32) (t : Vec Ideal S512x1024 .f32) (r : Fin 512) (n : Fin 1024) : EReal :=
  x (ix2 r n) + f (ix2 r n) * Ideal.rsqrt (ms fun j => f (ix2 r j)) * g (ix2 0 n) - t (ix2 r n)

theorem pay8_apply (x f : Vec Ideal S512x1024 .f32) (g : Vec Ideal S1x1024 .f32) (t : Vec Ideal S512x1024 .f32) (r : Fin 512) (n : Fin 1024) :
    k0_pay8 x f g t (ix2 r n) = errTile x f g t r n := by
  pointwise [k0_pay8, k0_pay7]
  simp only [pay6_apply]
  rfl

/-- its gradient, -/
theorem pay10_apply (x f : Vec Ideal S512x1024 .f32) (g : Vec Ideal S1x1024 .f32) (t : Vec Ideal S512x1024 .f32) (r : Fin 512) (n : Fin 1024) :
    k0_pay10 x f g t (ix2 r n) = Ideal.div (errTile x f g t r n) len := by
  pointwise [k0_pay10]
  simp only [pay8_apply]

/-- the gradient of the normalised rows, -/
theorem pay1_apply (x f : Vec Ideal S512x1024 .f32) (g : Vec Ideal S1x1024 .f32) (t : Vec Ideal S512x1024 .f32) (r : Fin 512) (n : Fin 1024) :
    k0_pay1 (k0_pay11 x f g t) (ix2 r n) = bwd (fun j => f (ix2 r j)) (fun j => Ideal.div (errTile x f g t r j) len * g (ix2 0 j)) n := by
  pointwise [k0_pay1, k0_pay11, k0_pay7]
  simp only [pay6_apply, pay10_apply]
  rfl

/-- a tile's loss, -/
def lossTile (x f : Vec Ideal S512x1024 .f32) (g : Vec Ideal S1x1024 .f32) (t : Vec Ideal S512x1024 .f32) : EReal :=
  Ideal.div (half * ∑ r : Fin 512, ∑ n : Fin 1024, errTile x f g t r n * errTile x f g t r n) len

theorem pay3_apply (x f : Vec Ideal S512x1024 .f32) (g : Vec Ideal S1x1024 .f32) (t : Vec Ideal S512x1024 .f32) (s : Vec Ideal S1x1 .f32) (n : Fin 1) :
    k0_pay3 (k0_pay9 x f g t) s (ix2 0 n) = s (ix2 0 n) + lossTile x f g t := by
  obtain rfl : n = 0 := Subsingleton.elim _ _
  pointwise [k0_pay3, k0_pay9]
  simp only [pay8_apply]
  rfl

/-- and its part of the gains' gradient, added to what is there. -/
def gainTile (x f : Vec Ideal S512x1024 .f32) (g : Vec Ideal S1x1024 .f32) (t : Vec Ideal S512x1024 .f32) (n : Fin 1024) : EReal :=
  ∑ r : Fin 512, Ideal.div (errTile x f g t r n) len * (f (ix2 r n) * Ideal.rsqrt (ms fun j => f (ix2 r j)))

theorem pay5_apply (x f : Vec Ideal S512x1024 .f32) (g : Vec Ideal S1x1024 .f32) (t : Vec Ideal S512x1024 .f32) (s : Vec Ideal S1x1024 .f32)
    (n : Fin 1024) : k0_pay5 (k0_pay7 f) (k0_pay10 x f g t) s (ix2 0 n) = s (ix2 0 n) + gainTile x f g t n := by
  pointwise [k0_pay5, k0_pay7]
  simp only [pay6_apply, pay10_apply]
  rfl

theorem pay2_apply (n : Fin 1) : k0_pay2 (F := Ideal) (ix2 0 n) = 0 := by
  pointwise [k0_pay2]

theorem pay4_apply (n : Fin 1024) : k0_pay4 (F := Ideal) (ix2 0 n) = 0 := by
  pointwise [k0_pay4]

section Cases

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S1x1 .f32) (h7 : a7.IsWhole) (a8 : Memref sig .tc .vmem S1x1024 .f32) (h8 : a8.IsWhole)
  (x0 : Vec Ideal S512x1024 .f32) (x1 : Vec Ideal S512x1024 .f32) (x2 : Vec Ideal S1x1024 .f32) (x3 : Vec Ideal S512x1024 .f32)
  (s6 : Vec Ideal S1x1 .f32) (s7 : Vec Ideal S1x1024 .f32)

/-- The output's gradient, at the first point -/
theorem outA4 (hc0 : cond0_0 i) (hc1 : cond0_1 i) : out0_A_4 c i a1 h1 a2 h2 a3 h3 a4 h4 a5 h5 a6 h6 a7 h7 a8 h8 hc0 hc1 x0 x1 x2 x3
    = k0_pay10 x0 x1 x2 x3 := by
  unfold out0_A_4
  rw [View.read_writes_eq_canon _ _ _ (cover0_A_4 c i a1 h1 a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz, View.ld_unit_zero (S := S1x1) hz]

/-- and at a later one. -/
theorem outB4 (hc0 : ¬cond0_0 i) (hc1 : ¬cond0_1 i) : out0_B_4 c i a1 h1 a2 h2 a3 h3 a4 h4 a5 h5 a6 h6 a7 h7 a8 h8 hc0 hc1 x0 x1 x2 x3 s6 s7
    = k0_pay10 x0 x1 x2 x3 := by
  unfold out0_B_4
  rw [View.read_writes_eq_canon _ _ _ (cover0_B_4 c i a1 h1 a2 h2 a3 h3 a4 h4 a5 h5 a6 h6 a7 h7 a8 h8 hc0 hc1 x0 x1 x2 x3 s6 s7)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz, View.ld_unit_zero (S := S1x1) hz]

/-- The block's, at the first point -/
theorem outA5 (hc0 : cond0_0 i) (hc1 : cond0_1 i) : out0_A_5 c i a1 h1 a2 h2 a3 h3 a4 h4 a5 h5 a6 h6 a7 h7 a8 h8 hc0 hc1 x0 x1 x2 x3
    = k0_pay1 (k0_pay11 x0 x1 x2 x3) := by
  unfold out0_A_5
  rw [View.read_writes_eq_canon _ _ _ (cover0_A_5 c i a1 h1 a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz, View.ld_unit_zero (S := S1x1) hz]

/-- and at a later one. -/
theorem outB5 (hc0 : ¬cond0_0 i) (hc1 : ¬cond0_1 i) : out0_B_5 c i a1 h1 a2 h2 a3 h3 a4 h4 a5 h5 a6 h6 a7 h7 a8 h8 hc0 hc1 x0 x1 x2 x3 s6 s7
    = k0_pay1 (k0_pay11 x0 x1 x2 x3) := by
  unfold out0_B_5
  rw [View.read_writes_eq_canon _ _ _ (cover0_B_5 c i a1 h1 a2 h2 a3 h3 a4 h4 a5 h5 a6 h6 a7 h7 a8 h8 hc0 hc1 x0 x1 x2 x3 s6 s7)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz, View.ld_unit_zero (S := S1x1) hz]

/-- The first point adds its loss to zero, -/
theorem outA6 (hc0 : cond0_0 i) (hc1 : cond0_1 i) : out0_A_6 c i a1 h1 a2 h2 a3 h3 a4 h4 a5 h5 a6 h6 a7 h7 a8 h8 hc0 hc1 x0 x1 x2 x3
    = k0_pay3 (k0_pay9 x0 x1 x2 x3) (k0_pay2 (F := Ideal)) := by
  unfold out0_A_6
  rw [View.read_writes_eq_canon _ _ _ (cover0_A_6 c i a1 h1 a2 h2 a3 h3 a4 h4 a5 h5 a6 h6 a7 h7 a8 h8 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, View.ld_unit_zero (S := S512x1024) hz, View.ld_unit_zero (S := S1x1024) hz, View.ld_unit_zero (S := S1x1) hz]

/-- a later one to what the point before left. -/
theorem outB6 (hc0 : ¬cond0_0 i) (hc1 : ¬cond0_1 i) : out0_B_6 c i a1 h1 a2 h2 a3 h3 a4 h4 a5 h5 a6 h6 a7 h7 a8 h8 hc0 hc1 x0 x1 x2 x3 s6 s7
    = k0_pay3 (k0_pay9 x0 x1 x2 x3) s6 := by
  unfold out0_B_6
  rw [View.read_writes_eq_canon _ _ _ (cover0_B_6 c i a1 h1 a2 h2 a3 h3 a4 h4 a5 h5 a6 h6 a7 h7 a8 h8 hc0 hc1 x0 x1 x2 x3 s6 s7)]
  unfold kernelRun0_B
  dsimp only
  sl_unfold_words
  rw [View.canon_unit_zero hz]
  simp only [View.readAt_eq_ld, h1.read_unread, h2.read_unread, h3.read_unread, h4.read_unread, h7.read_unread, View.ld_unit_zero (S := S512x1024) hz, View.ld_unit_zero (S := S1x1024) hz, View.ld_unit_zero (S := S1x1) hz]

/-- Likewise for the gains, at the first point -/
theorem outA7 (hc0 : cond0_0 i) (hc1 : cond0_1 i) : out0_A_7 c i a1 h1 a2 h2 a3 h3 a4 h4 a5 h5 a6 h6 a7 h7 a8 h8 hc0 hc1 x0 x1 x2 x3
    = k0_pay5 (k0_pay7 x1) (k0_pay10 x0 x1 x2 x3) (k0_pay4 (F := Ideal)) := by
  unfold out0_A_7
  rw [View.read_writes_eq_canon _ _ _ (cover0_A_7 c i a1 h1 a2 h2 a3 h3 a4 h4 a5 h5 a6 h6 a7 h7 a8 h8 hc0 hc1 x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, View.ld_unit_zero (S := S512x1024) hz, View.ld_unit_zero (S := S1x1024) hz, View.ld_unit_zero (S := S1x1) hz]

/-- and at a later one. -/
theorem outB7 (hc0 : ¬cond0_0 i) (hc1 : ¬cond0_1 i) : out0_B_7 c i a1 h1 a2 h2 a3 h3 a4 h4 a5 h5 a6 h6 a7 h7 a8 h8 hc0 hc1 x0 x1 x2 x3 s6 s7
    = k0_pay5 (k0_pay7 x1) (k0_pay10 x0 x1 x2 x3) s7 := by
  unfold out0_B_7
  rw [View.read_writes_eq_canon _ _ _ (cover0_B_7 c i a1 h1 a2 h2 a3 h3 a4 h4 a5 h5 a6 h6 a7 h7 a8 h8 hc0 hc1 x0 x1 x2 x3 s6 s7)]
  unfold kernelRun0_B
  dsimp only
  sl_unfold_words
  rw [View.canon_unit_zero hz]
  simp only [View.readAt_eq_ld, h1.read_unread, h2.read_unread, h3.read_unread, h4.read_unread, h8.read_unread, View.ld_unit_zero (S := S512x1024) hz, View.ld_unit_zero (S := S1x1024) hz, View.ld_unit_zero (S := S1x1) hz]

end Cases

variable (m : (ℓ : Loc nD τ sig) → Buf (Elt Ideal) ℓ) (c : Dev nD)

/-- The arguments, as launched. -/
abbrev gX : FVec Ideal S8192x1024 .f32 := m (c, Proc.tc.devRef main_arg0)
abbrev gF : FVec Ideal S8192x1024 .f32 := m (c, Proc.tc.devRef main_arg1)
abbrev gG : FVec Ideal S1x1024 .f32 := m (c, Proc.tc.devRef main_arg2)
abbrev gT : FVec Ideal S8192x1024 .f32 := m (c, Proc.tc.devRef main_arg3)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem ltN (t : Fin cfg0.N) : t.val < 16 := lt_of_lt_of_eq t.isLt N_0

/-- Row `r` of tile `j`. -/
abbrev row (j : ℕ) (h : j < 16) (r : Fin 512) : Fin 8192 := ⟨512 * j + r.val, by omega⟩

theorem read0 (f : Buf (Elt Ideal) ((c : Thread nD τ).loc (Pipeline.arrRef spec0 0))) (t : Fin cfg0.N) (r : Fin 512) (n : Fin 1024) :
    ((cfg0.win 0).blk t).view.read (Elt Ideal) f (ix2 r n) = (f : Vec Ideal S8192x1024 .f32) (ix2 (row t.val (ltN t) r) n) := by
  refine congrArg f ?_
  blk_ext [idx0 t]

theorem iblk0 (t : Fin cfg0.N) (r : Fin 512) (n : Fin 1024) : iblk m c 0 t (ix2 r n) = gX m c (ix2 (row t.val (ltN t) r) n) := by
  unfold iblk
  exact (read0 c (V m c (Pipeline.arrRef spec0 0)) t r n).trans (congrFun (V_main_arg0 m c) _)

theorem read1 (f : Buf (Elt Ideal) ((c : Thread nD τ).loc (Pipeline.arrRef spec0 1))) (t : Fin cfg0.N) (r : Fin 512) (n : Fin 1024) :
    ((cfg0.win 1).blk t).view.read (Elt Ideal) f (ix2 r n) = (f : Vec Ideal S8192x1024 .f32) (ix2 (row t.val (ltN t) r) n) := by
  refine congrArg f ?_
  blk_ext [idx1 t]

theorem iblk1 (t : Fin cfg0.N) (r : Fin 512) (n : Fin 1024) : iblk m c 1 t (ix2 r n) = gF m c (ix2 (row t.val (ltN t) r) n) := by
  unfold iblk
  exact (read1 c (V m c (Pipeline.arrRef spec0 1)) t r n).trans (congrFun (V_main_arg1 m c) _)

theorem read2 (f : Buf (Elt Ideal) ((c : Thread nD τ).loc (Pipeline.arrRef spec0 2))) (t : Fin cfg0.N) (n : Fin 1024) :
    ((cfg0.win 2).blk t).view.read (Elt Ideal) f (ix2 0 n) = (f : Vec Ideal S1x1024 .f32) (ix2 0 n) := by
  refine congrArg f ?_
  blk_ext [idx2 t]

theorem iblk2 (t : Fin cfg0.N) (n : Fin 1024) : iblk m c 2 t (ix2 0 n) = gG m c (ix2 0 n) := by
  unfold iblk
  exact (read2 c (V m c (Pipeline.arrRef spec0 2)) t n).trans (congrFun (V_main_arg2 m c) _)

theorem read3 (f : Buf (Elt Ideal) ((c : Thread nD τ).loc (Pipeline.arrRef spec0 3))) (t : Fin cfg0.N) (r : Fin 512) (n : Fin 1024) :
    ((cfg0.win 3).blk t).view.read (Elt Ideal) f (ix2 r n) = (f : Vec Ideal S8192x1024 .f32) (ix2 (row t.val (ltN t) r) n) := by
  refine congrArg f ?_
  blk_ext [idx3 t]

theorem iblk3 (t : Fin cfg0.N) (r : Fin 512) (n : Fin 1024) : iblk m c 3 t (ix2 r n) = gT m c (ix2 (row t.val (ltN t) r) n) := by
  unfold iblk
  exact (read3 c (V m c (Pipeline.arrRef spec0 3)) t r n).trans (congrFun (V_main_arg3 m c) _)

/-- The error of the step's output, -/
def err (X F : FVec Ideal S8192x1024 .f32) (g : FVec Ideal S1x1024 .f32) (T : FVec Ideal S8192x1024 .f32) (q : Fin 8192) (n : Fin 1024) : EReal :=
  X (ix2 q n) + F (ix2 q n) * Ideal.rsqrt (ms fun j => F (ix2 q j)) * g (ix2 0 n) - T (ix2 q n)

/-- the loss's gradient there, -/
def dOut (X F : FVec Ideal S8192x1024 .f32) (g : FVec Ideal S1x1024 .f32) (T : FVec Ideal S8192x1024 .f32) (q : Fin 8192) (n : Fin 1024) : EReal :=
  Ideal.div (err X F g T q n) len

/-- at the feed-forward block's output, -/
def dF (X F : FVec Ideal S8192x1024 .f32) (g : FVec Ideal S1x1024 .f32) (T : FVec Ideal S8192x1024 .f32) (q : Fin 8192) (n : Fin 1024) : EReal :=
  bwd (fun j => F (ix2 q j)) (fun j => dOut X F g T q j * g (ix2 0 j)) n

/-- at the norm's gains, a row's part of it, -/
def dGainRow (X F : FVec Ideal S8192x1024 .f32) (g : FVec Ideal S1x1024 .f32) (T : FVec Ideal S8192x1024 .f32) (n : Fin 1024) (q : Fin 8192) : EReal :=
  dOut X F g T q n * (F (ix2 q n) * Ideal.rsqrt (ms fun j => F (ix2 q j)))

/-- and the loss itself, tile by tile. -/
def lossPart (X F : FVec Ideal S8192x1024 .f32) (g : FVec Ideal S1x1024 .f32) (T : FVec Ideal S8192x1024 .f32) (t : ℕ) (h : t < 16) : EReal :=
  Ideal.div (half * ∑ r : Fin 512, ∑ n : Fin 1024, err X F g T (row t h r) n * err X F g T (row t h r) n) len

def loss (X F : FVec Ideal S8192x1024 .f32) (g : FVec Ideal S1x1024 .f32) (T : FVec Ideal S8192x1024 .f32) : EReal :=
  ∑ t ∈ Finset.range 16, if h : t < 16 then lossPart X F g T t h else 0

theorem tileErr (t : Fin cfg0.N) (r : Fin 512) (n : Fin 1024) :
    errTile (iblk m c 0 t) (iblk m c 1 t) (iblk m c 2 t) (iblk m c 3 t) r n = err (gX m c) (gF m c) (gG m c) (gT m c) (row t.val (ltN t) r) n := by
  unfold errTile
  simp only [iblk0, iblk1, iblk2, iblk3]
  rfl

theorem tileD (t : Fin cfg0.N) (r : Fin 512) (n : Fin 1024) :
    k0_pay10 (iblk m c 0 t) (iblk m c 1 t) (iblk m c 2 t) (iblk m c 3 t) (ix2 r n)
      = dOut (gX m c) (gF m c) (gG m c) (gT m c) (row t.val (ltN t) r) n := by
  rw [pay10_apply, tileErr]
  rfl

theorem tileF (t : Fin cfg0.N) (r : Fin 512) (n : Fin 1024) :
    k0_pay1 (k0_pay11 (iblk m c 0 t) (iblk m c 1 t) (iblk m c 2 t) (iblk m c 3 t)) (ix2 r n)
      = dF (gX m c) (gF m c) (gG m c) (gT m c) (row t.val (ltN t) r) n := by
  rw [pay1_apply]
  simp only [tileErr, iblk1, iblk2]
  rfl

/-- The arrays after the run: the gradient at the output, -/
theorem arrD : (dats m 0 c).arrAt 4 cfg0.N
    = (fun i : S8192x1024.Idx => dOut (gX m c) (gF m c) (gG m c) (gT m c) (i 0) (i 1) : Vec Ideal S8192x1024 .f32) := by
  refine (dats m 0 c).arrAt_eq_of_covers 4 _ (by decide +kernel) fun t hf y => ?_
  blk_simp
  rw [after0_4]
  obtain ⟨r, n, rfl⟩ : ∃ (r : Fin 512) (n : Fin 1024), y = ix2 r n := ⟨y 0, y 1, by funext a; fin_cases a <;> rfl⟩
  have e : ((cfg0.win 4).blk t).view.emb (ix2 r n) = ix2 (row t.val (ltN t) r) n := by blk_ext [idx4 t]
  rw [e]
  have o : (outsAt0 m c t.val t.isLt).1 = k0_pay10 (iblk m c 0 t) (iblk m c 1 t) (iblk m c 2 t) (iblk m c 3 t) := by
    by_cases h0 : t.val % 16 = 0
    · rw [outsAt0_A m c t h0 h0]
      dsimp only
      rw [outA4]
    · rw [outsAt0_B m c t h0 h0]
      dsimp only
      rw [outB4]
  rw [o]
  exact tileD m c t r n

/-- at the block's output, -/
theorem arrF : (dats m 0 c).arrAt 5 cfg0.N
    = (fun i : S8192x1024.Idx => dF (gX m c) (gF m c) (gG m c) (gT m c) (i 0) (i 1) : Vec Ideal S8192x1024 .bf16) := by
  refine (dats m 0 c).arrAt_eq_of_covers 5 _ (by decide +kernel) fun t hf y => ?_
  blk_simp
  rw [after0_5]
  obtain ⟨r, n, rfl⟩ : ∃ (r : Fin 512) (n : Fin 1024), y = ix2 r n := ⟨y 0, y 1, by funext a; fin_cases a <;> rfl⟩
  have e : ((cfg0.win 5).blk t).view.emb (ix2 r n) = ix2 (row t.val (ltN t) r) n := by blk_ext [idx5 t]
  rw [e]
  have o : (outsAt0 m c t.val t.isLt).2.1 = k0_pay1 (k0_pay11 (iblk m c 0 t) (iblk m c 1 t) (iblk m c 2 t) (iblk m c 3 t)) := by
    by_cases h0 : t.val % 16 = 0
    · rw [outsAt0_A m c t h0 h0]
      dsimp only
      rw [outA5]
    · rw [outsAt0_B m c t h0 h0]
      dsimp only
      rw [outB5]
  rw [o]
  exact tileF m c t r n

/-- What point `t` adds to the loss. -/
def part6 (n : Fin 1) (t : ℕ) : EReal :=
  if h : t < 16 then lossPart (gX m c) (gF m c) (gG m c) (gT m c) t h else 0

theorem part6_eq (t : Fin cfg0.N) (n : Fin 1) :
    lossTile (iblk m c 0 t) (iblk m c 1 t) (iblk m c 2 t) (iblk m c 3 t) = part6 m c n t.val := by
  unfold part6
  rw [dif_pos (ltN t)]
  unfold lossTile
  simp only [tileErr]
  rfl

theorem acc6 (n : Fin 1) : ∀ (t : ℕ) (h : t < cfg0.N),
    (outsAt0 m c t h).2.2.1 (ix2 0 n) = ∑ j ∈ Finset.range (t % 16 + 1), part6 m c n (16 * (t / 16) + j) := by
  refine Cert.Tiles.fold_runs (by decide) (fun t h => (outsAt0 m c t h).2.2.1 (ix2 0 n)) (part6 m c n) (fun t h e => ?_) fun t h e => ?_
  · show (outsAt0 m c t h).2.2.1 (ix2 0 n) = _
    rw [show outsAt0 m c t h = _ from outsAt0_A m c ⟨t, h⟩ e e]
    dsimp only
    rw [outA6, pay3_apply, pay2_apply, zero_add]
    exact part6_eq m c ⟨t, h⟩ n
  · show (outsAt0 m c (t + 1) h).2.2.1 (ix2 0 n) = (outsAt0 m c t _).2.2.1 (ix2 0 n) + _
    rw [show outsAt0 m c (t + 1) h = _ from outsAt0_B m c ⟨t + 1, h⟩ e e]
    dsimp only
    rw [outB6, pay3_apply]
    exact congrArg (_ + ·) (part6_eq m c ⟨t + 1, h⟩ n)

/-- the loss, -/
theorem arrL : (dats m 0 c).arrAt 6 cfg0.N
    = (fun i : S1x1.Idx => loss (gX m c) (gF m c) (gG m c) (gT m c) : Vec Ideal S1x1 .f32) := by
  refine (dats m 0 c).arrAt_eq_of_covers 6 _ (by decide +kernel) fun t hf y => ?_
  blk_simp
  rw [after0_6]
  have h15 : t.val % 16 = 15 := (flush0_6 t).mp hf
  have hN := ltN t
  obtain ⟨n, rfl⟩ : ∃ n : Fin 1, y = ix2 0 n :=
    ⟨y 1, by funext a; fin_cases a <;> [exact Fin.ext (by have h : (y 0).val < 1 := (y 0).isLt; show (y 0).val = 0; omega); rfl]⟩
  refine (acc6 m c n t.val t.isLt).trans ?_
  rw [h15, show t.val / 16 = 0 by omega]
  refine Finset.sum_congr rfl fun j _ => ?_
  rw [show 16 * 0 + j = j by omega]
  rfl

/-- What point `t` adds at a column. -/
def part7 (n : Fin 1024) (t : ℕ) : EReal :=
  if h : t < 16 then ∑ r : Fin 512, dGainRow (gX m c) (gF m c) (gG m c) (gT m c) n (row t h r) else 0

theorem part7_eq (t : Fin cfg0.N) (n : Fin 1024) :
    gainTile (iblk m c 0 t) (iblk m c 1 t) (iblk m c 2 t) (iblk m c 3 t) n = part7 m c n t.val := by
  unfold part7
  rw [dif_pos (ltN t)]
  unfold gainTile
  simp only [tileErr, iblk1]
  rfl

theorem acc7 (n : Fin 1024) : ∀ (t : ℕ) (h : t < cfg0.N),
    (outsAt0 m c t h).2.2.2 (ix2 0 n) = ∑ j ∈ Finset.range (t % 16 + 1), part7 m c n (16 * (t / 16) + j) := by
  refine Cert.Tiles.fold_runs (by decide) (fun t h => (outsAt0 m c t h).2.2.2 (ix2 0 n)) (part7 m c n) (fun t h e => ?_) fun t h e => ?_
  · show (outsAt0 m c t h).2.2.2 (ix2 0 n) = _
    rw [show outsAt0 m c t h = _ from outsAt0_A m c ⟨t, h⟩ e e]
    dsimp only
    rw [outA7, pay5_apply, pay4_apply, zero_add]
    exact part7_eq m c ⟨t, h⟩ n
  · show (outsAt0 m c (t + 1) h).2.2.2 (ix2 0 n) = (outsAt0 m c t _).2.2.2 (ix2 0 n) + _
    rw [show outsAt0 m c (t + 1) h = _ from outsAt0_B m c ⟨t + 1, h⟩ e e]
    dsimp only
    rw [outB7, pay5_apply]
    exact congrArg (_ + ·) (part7_eq m c ⟨t + 1, h⟩ n)

/-- and the gains' gradient. -/
theorem arrG : (dats m 0 c).arrAt 7 cfg0.N
    = (fun i : S1x1024.Idx => ∑ q : Fin 8192, dGainRow (gX m c) (gF m c) (gG m c) (gT m c) (i 1) q : Vec Ideal S1x1024 .f32) := by
  refine (dats m 0 c).arrAt_eq_of_covers 7 _ (by decide +kernel) fun t hf y => ?_
  blk_simp
  rw [after0_7]
  have h15 : t.val % 16 = 15 := (flush0_7 t).mp hf
  have hN := ltN t
  obtain ⟨n, rfl⟩ : ∃ n : Fin 1024, y = ix2 0 n :=
    ⟨y 1, by funext a; fin_cases a <;> [exact Fin.ext (by have h : (y 0).val < 1 := (y 0).isLt; show (y 0).val = 0; omega); rfl]⟩
  have e : ((cfg0.win 7).blk t).view.emb (ix2 0 n) = ix2 0 n := by blk_ext [idx7 t]
  rw [e]
  refine (acc7 m c n t.val t.isLt).trans ?_
  rw [h15, show t.val / 16 = 0 by omega]
  refine Cert.Tiles.sum_tiles (w := 512) rfl _ _ fun j hj => ?_
  unfold part7
  rw [dif_pos (show 16 * 0 + j < 16 by omega)]
  exact Finset.sum_congr rfl fun r _ => congrArg (fun q : Fin 8192 => dGainRow (gX m c) (gF m c) (gG m c) (gT m c) n q) (Fin.ext (by simp only []; omega))

open Cert.Reference32Ideal.Read

theorem ref6 (Y : FVec Ideal S8192x1024 .f32) (q : Fin 8192) (a : Fin 1) : val_main_v6 (F := Ideal) Y (ix2 q a) = ms fun j => Y (ix2 q j) := by
  pointwise [val_main_v6, val_main_v5, val_main_v4, val_main_v3, val_main_v2, val_main_v1, val_main_v0, val_main_cst, val_main_cst_0, val_main_cst_1]
  rfl

theorem ref7 (Y : FVec Ideal S8192x1024 .f32) (q : Fin 8192) (a : Fin 1) :
    val_main_v7 (F := Ideal) Y (ix2 q a) = Ideal.rsqrt (ms fun j => Y (ix2 q j)) := by
  pointwise [val_main_v7]
  rw [ref6]

theorem refErr (X Y : FVec Ideal S8192x1024 .f32) (g : FVec Ideal S1x1024 .f32) (T : FVec Ideal S8192x1024 .f32) (q : Fin 8192) (n : Fin 1024) :
    val_main_v16 (F := Ideal) X Y g T (ix2 q n) = err X Y g T q n := by
  pointwise [val_main_v16, val_main_v15, val_main_v14, val_main_v13, val_main_v12, val_main_v11]
  simp only [ref7]
  rfl

theorem scale (z : EReal) : Ideal.div half len * (two * z) = Ideal.div z len := by
  have h : ((1024 : ℝ)) ≠ 0 := by norm_num
  rw [half_eq, len_eq, two_eq, Ideal.div_coe h, Ideal.div_coe h, ← mul_assoc, ← EReal.coe_mul, ← EReal.coe_mul, mul_comm z]
  exact congrArg (fun q : ℝ => (q : EReal) * z) (by norm_num)

section
variable (X Y : FVec Ideal S8192x1024 .f32) (g : FVec Ideal S1x1024 .f32) (T : FVec Ideal S8192x1024 .f32)

/-- The reference's results: the gradient at the output, -/
theorem refD (q : Fin 8192) (n : Fin 1024) :
    val_main_v30 (F := Ideal) X Y g T (ix2 q n) = dOut X Y g T q n := by
  pointwise [val_main_v30, val_main_v29, val_main_v28, val_main_v27, val_main_v26, val_main_v25, val_main_v19, val_main_v18, val_main_cst_3, val_main_cst_8, val_main_cst_9, val_main_cst_10]
  simp only [refErr, mul_one]
  exact scale _

/-- at the block's output, -/
theorem refF (q : Fin 8192) (n : Fin 1024) :
    val_main_v50 (F := Ideal) X Y g T (ix2 q n) = dF X Y g T q n := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v10, val_main_v9, val_main_v8, val_main_cst_2, val_main_cst_12, val_main_cst_13, val_main_cst_14]
  simp only [Fin.sum_univ_one, ref6, ref7, refD]
  exact bwd_eq (fun j => Y (ix2 q j)) (fun j => dOut X Y g T q j * g (ix2 0 j)) n

/-- at the gains, -/
theorem refG (a : Fin 1) (n : Fin 1024) :
    val_main_v33 (F := Ideal) X Y g T (ix2 a n) = ∑ q : Fin 8192, dGainRow X Y g T n q := by
  obtain rfl : a = 0 := Subsingleton.elim _ _
  pointwise [val_main_v33, val_main_v32, val_main_v31, val_main_v12, val_main_v11, val_main_cst_11]
  simp only [ref7, refD]
  exact Finset.sum_congr rfl fun q _ => mul_comm _ _

/-- and the loss. -/
theorem refL (a b : Fin 1) : val_main_v51 (F := Ideal) X Y g T (ix2 a b) = loss X Y g T := by
  obtain rfl : a = 0 := Subsingleton.elim _ _
  obtain rfl : b = 0 := Subsingleton.elim _ _
  pointwise [val_main_v51, val_main_v24, val_main_v23, val_main_v22, val_main_v21, val_main_v20, val_main_v17, val_main_cst_4, val_main_cst_5, val_main_cst_6, val_main_cst_7]
  have h1 : ((1024 : ℝ)) ≠ 0 := by norm_num
  have h2 : (0 : ℝ) ≤ 1 / 2 := by norm_num
  have h3 : (0 : ℝ) ≤ 1 / 1024 := by norm_num
  simp only [refErr, len_eq, Ideal.div_coe h1]
  rw [show Ideal.ofBits .f32 0x3F000000#32 = _ from half_eq, mul_sum _ _ h2]
  unfold loss
  refine (Cert.Tiles.sum_tiles (n := 16) (w := 512) (by norm_num)
    (fun q : Fin 8192 => ((1 / 2 : ℝ) : EReal) * ((∑ n : Fin 1024, err X Y g T q n * err X Y g T q n) * ((1 / 1024 : ℝ) : EReal))) _ fun j hj => ?_).symm
  rw [dif_pos hj]
  unfold lossPart
  rw [len_eq, half_eq, Ideal.div_coe h1, mul_sum _ _ h2, mul_comm, mul_sum _ _ h3]
  exact Finset.sum_congr rfl fun r _ => by rw [mul_comm, mul_assoc]

end

end Cert.Kernel32Ideal.Val

end
-- ==== Proof.RowResults.lean ====
/- The claims about the launches that work row by row: each reference runs to the end, and of equal arguments the two programs' results are equal. -/
module

public import proofs.«01_k».proof.Defs
public import proofs.«01_k».proof.Proof.MergeSplit
public import proofs.«01_k».proof.Proof.InputGrad
public import proofs.«01_k».proof.Proof.ResGrad
public import proofs.«01_k».proof.Proof.LossGrad
public import proofs.«01_k».proof.Proof.Tiles
public import Idealize.ShloMosaic.Adequacy
public import Idealize.ShloMosaic.Init

@[expose] public section

set_option maxRecDepth 65536

noncomputable section

namespace Cert.Results

open Idealize.ShloMosaic Idealize.ShloMosaic.TcCoe Idealize.SL.Sem
open Cert.Tiles (eq_of_ix2)

theorem reference29_quiescent : Cert.quiescent_Reference29Ideal (hReference29Ideal := Cert.Reference29Ideal.Gen.facts) := fun m ρ _ =>
  (θ_run _ _ _).mono (fun r h => ⟨fun c => (h c).2.2.2.2, sem_eq_zero_of_no_sems rfl r.2⟩) (Cert.Reference29Ideal.Value.run m ρ)

open Cert.Kernel29Ideal.Val Cert.Reference29Ideal.Read in
/-- The gradients of the two branches, of the gate's argument and of its bias. -/
theorem d_merge : Cert.algebraic_Kernel29Ideal_Reference29Ideal (hKernel29Ideal := Cert.Kernel29Ideal.Gen.facts)
    (hReference29Ideal := Cert.Reference29Ideal.Gen.facts) := by
  intro m g m' g' _ hargs
  refine ⟨fun c => val_main_v26 (F := Ideal) (gD m c) (gG m c) (gB m c),
    fun c => val_main_v27 (F := Ideal) (gD m c) (gG m c) (gB m c),
    fun c => val_main_v28 (F := Ideal) (gD m c) (gU m c) (gV m c) (gG m c) (gB m c),
    fun c => val_main_v25 (F := Ideal) (gD m c) (gU m c) (gV m c) (gG m c) (gB m c),
    ?_, ?_⟩
  · refine (θ_run _ _ _).mono (fun r h c => ?_) (Cert.Kernel29Ideal.Value.run_blocks m g)
    exact ⟨(h c).1.trans ((arrFirst m c).trans (eq_of_ix2 _ _ (refFirst _ _ _)).symm),
      (h c).2.1.trans ((arrSecond m c).trans (eq_of_ix2 _ _ (refSecond _ _ _)).symm),
      (h c).2.2.1.trans ((arrGate m c).trans (eq_of_ix2 _ _ (refGate _ _ _ _ _)).symm),
      (h c).2.2.2.1.trans ((arrBias m c).trans (eq_of_ix2 _ (fun _ l => dBias (gD m c) (gU m c) (gV m c) (gG m c) (gB m c) l) (refBias _ _ _ _ _)).symm),
      (h c).2.2.2.2⟩
  · refine (θ_run _ _ _).mono (fun r h c => ?_) (Cert.Reference29Ideal.Value.run m' g')
    obtain ⟨e0, e1, e2, e3, e4⟩ := hargs c
    exact ⟨(h c).1.trans ((val_main_v26_eq _ _ _).trans (congr (congr (congrArg _ e0) e3) e4)),
      (h c).2.1.trans ((val_main_v27_eq _ _ _).trans (congr (congr (congrArg _ e0) e3) e4)),
      (h c).2.2.1.trans ((val_main_v28_eq _ _ _ _ _).trans (congr (congr (congr (congr (congrArg _ e0) e1) e2) e3) e4)),
      (h c).2.2.2.1.trans ((val_main_v25_eq _ _ _ _ _).trans (congr (congr (congr (congr (congrArg _ e0) e1) e2) e3) e4)),
      (h c).2.2.2.2⟩

theorem reference30_quiescent : Cert.quiescent_Reference30Ideal (hReference30Ideal := Cert.Reference30Ideal.Gen.facts) := fun m ρ _ =>
  (θ_run _ _ _).mono (fun r h => ⟨fun c => (h c).2.2, sem_eq_zero_of_no_sems rfl r.2⟩) (Cert.Reference30Ideal.Value.run m ρ)

open Cert.Kernel30Ideal.Val Cert.Reference30Ideal.Read in
/-- The gradients of the layer's input and of its norm's gains. -/
theorem d_x : Cert.algebraic_Kernel30Ideal_Reference30Ideal (hKernel30Ideal := Cert.Kernel30Ideal.Gen.facts)
    (hReference30Ideal := Cert.Reference30Ideal.Gen.facts) := by
  intro m g m' g' _ hargs
  refine ⟨fun c => val_main_v34 (F := Ideal) (gX m c) (gE m c) (gD m c) (gG m c),
    fun c => val_main_v17 (F := Ideal) (gX m c) (gD m c),
    ?_, ?_⟩
  · refine (θ_run _ _ _).mono (fun r h c => ?_) (Cert.Kernel30Ideal.Value.run_blocks m g)
    exact ⟨(h c).1.trans ((arrX m c).trans (eq_of_ix2 _ _ (refX _ _ _ _)).symm),
      (h c).2.1.trans ((arrG m c).trans (eq_of_ix2 _ (fun _ n => dGain (gX m c) (gD m c) n) (refG _ _)).symm),
      (h c).2.2⟩
  · refine (θ_run _ _ _).mono (fun r h c => ?_) (Cert.Reference30Ideal.Value.run m' g')
    obtain ⟨e0, e1, e2, e3⟩ := hargs c
    exact ⟨(h c).1.trans ((val_main_v34_eq _ _ _ _).trans (congr (congr (congr (congrArg _ e0) e1) e2) e3)),
      (h c).2.1.trans ((val_main_v17_eq _ _).trans (congr (congrArg _ e0) e2)),
      (h c).2.2⟩

theorem reference31_quiescent : Cert.quiescent_Reference31Ideal (hReference31Ideal := Cert.Reference31Ideal.Gen.facts) := fun m ρ _ =>
  (θ_run _ _ _).mono (fun r h => ⟨fun c => (h c).2.2.2.2, sem_eq_zero_of_no_sems rfl r.2⟩) (Cert.Reference31Ideal.Value.run m ρ)

open Cert.Kernel31Ideal.Val Cert.Reference31Ideal.Read in
/-- The gradients of the sum after the attention block, of the block's output and of two norms' gains. -/
theorem d_res1 : Cert.algebraic_Kernel31Ideal_Reference31Ideal (hKernel31Ideal := Cert.Kernel31Ideal.Gen.facts)
    (hReference31Ideal := Cert.Reference31Ideal.Gen.facts) := by
  intro m g m' g' _ hargs
  refine ⟨fun c => val_main_v34 (F := Ideal) (gO m c) (gD m c) (gX m c) (gN m c),
    fun c => val_main_v69 (F := Ideal) (gO m c) (gD m c) (gX m c) (gY m c) (gN m c) (gP m c),
    fun c => val_main_v17 (F := Ideal) (gD m c) (gX m c),
    fun c => val_main_v52 (F := Ideal) (gO m c) (gD m c) (gX m c) (gY m c) (gN m c),
    ?_, ?_⟩
  · refine (θ_run _ _ _).mono (fun r h c => ?_) (Cert.Kernel31Ideal.Value.run_blocks m g)
    exact ⟨(h c).1.trans ((arrSum m c).trans (eq_of_ix2 _ _ (refSum _ _ _ _)).symm),
      (h c).2.1.trans ((arrOut m c).trans (eq_of_ix2 _ _ (refOut _ _ _ _ _ _)).symm),
      (h c).2.2.1.trans ((arrPre m c).trans (eq_of_ix2 _ (fun _ n => ∑ q : Fin 8192, dPreRow (gD m c) (gX m c) n q) (refPre _ _)).symm),
      (h c).2.2.2.1.trans ((arrPost m c).trans (eq_of_ix2 _ (fun _ n => ∑ q : Fin 8192, dPostRow (gO m c) (gD m c) (gX m c) (gY m c) (gN m c) n q) (refPost _ _ _ _ _)).symm),
      (h c).2.2.2.2⟩
  · refine (θ_run _ _ _).mono (fun r h c => ?_) (Cert.Reference31Ideal.Value.run m' g')
    obtain ⟨e0, e1, e2, e3, e4, e5⟩ := hargs c
    exact ⟨(h c).1.trans ((val_main_v34_eq _ _ _ _).trans (congr (congr (congr (congrArg _ e0) e1) e2) e4)),
      (h c).2.1.trans ((val_main_v69_eq m' c).trans (congr (congr (congr (congr (congr (congrArg _ e0) e1) e2) e3) e4) e5)),
      (h c).2.2.1.trans ((val_main_v17_eq _ _).trans (congr (congrArg _ e1) e2)),
      (h c).2.2.2.1.trans ((val_main_v52_eq m' c).trans (congr (congr (congr (congr (congrArg _ e0) e1) e2) e3) e4)),
      (h c).2.2.2.2⟩

theorem reference32_quiescent : Cert.quiescent_Reference32Ideal (hReference32Ideal := Cert.Reference32Ideal.Gen.facts) := fun m ρ _ =>
  (θ_run _ _ _).mono (fun r h => ⟨fun c => (h c).2.2.2.2, sem_eq_zero_of_no_sems rfl r.2⟩) (Cert.Reference32Ideal.Value.run m ρ)

open Cert.Kernel32Ideal.Val Cert.Reference32Ideal.Read in
/-- The loss, and its gradients at the output, at the feed-forward block's output and at the norm's gains. -/
theorem loss_grad : Cert.algebraic_Kernel32Ideal_Reference32Ideal (hKernel32Ideal := Cert.Kernel32Ideal.Gen.facts)
    (hReference32Ideal := Cert.Reference32Ideal.Gen.facts) := by
  intro m g m' g' _ hargs
  refine ⟨fun c => val_main_v30 (F := Ideal) (gX m c) (gF m c) (gG m c) (gT m c),
    fun c => val_main_v50 (F := Ideal) (gX m c) (gF m c) (gG m c) (gT m c),
    fun c => val_main_v51 (F := Ideal) (gX m c) (gF m c) (gG m c) (gT m c),
    fun c => val_main_v33 (F := Ideal) (gX m c) (gF m c) (gG m c) (gT m c),
    ?_, ?_⟩
  · refine (θ_run _ _ _).mono (fun r h c => ?_) (Cert.Kernel32Ideal.Value.run_blocks m g)
    exact ⟨(h c).1.trans ((arrD m c).trans (eq_of_ix2 _ _ (refD _ _ _ _)).symm),
      (h c).2.1.trans ((arrF m c).trans (eq_of_ix2 _ _ (refF _ _ _ _)).symm),
      (h c).2.2.1.trans ((arrL m c).trans (eq_of_ix2 _ (fun _ _ => loss (gX m c) (gF m c) (gG m c) (gT m c)) (refL _ _ _ _)).symm),
      (h c).2.2.2.1.trans ((arrG m c).trans (eq_of_ix2 _ (fun _ n => ∑ q : Fin 8192, dGainRow (gX m c) (gF m c) (gG m c) (gT m c) n q) (refG _ _ _ _)).symm),
      (h c).2.2.2.2⟩
  · refine (θ_run _ _ _).mono (fun r h c => ?_) (Cert.Reference32Ideal.Value.run m' g')
    obtain ⟨e0, e1, e2, e3⟩ := hargs c
    exact ⟨(h c).1.trans ((val_main_v30_eq _ _ _ _).trans (congr (congr (congr (congrArg _ e0) e1) e2) e3)),
      (h c).2.1.trans ((val_main_v50_eq m' c).trans (congr (congr (congr (congrArg _ e0) e1) e2) e3)),
      (h c).2.2.1.trans ((val_main_v51_eq _ _ _ _).trans (congr (congr (congr (congrArg _ e0) e1) e2) e3)),
      (h c).2.2.2.1.trans ((val_main_v33_eq _ _ _ _).trans (congr (congr (congr (congrArg _ e0) e1) e2) e3)),
      (h c).2.2.2.2⟩

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Results
public import proofs.«01_k».proof.Proof.Finite
public import proofs.«01_k».proof.Proof.FfnResults
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.BranchResults
public import proofs.«01_k».proof.Proof.MixResults
public import proofs.«01_k».proof.Proof.AdamSmall
public import proofs.«01_k».proof.Proof.RowResults
public import Idealize.ShloMosaic.Adequacy
public import Idealize.ShloMosaic.Init

@[expose] public section

noncomputable section

namespace Cert.Proof

open Idealize.ShloMosaic Idealize.SL.Sem Cert.Kernel
open Cert.KernelIdeal.Val (up g0 g1 g2 g3 g4 g5 res_dqn res_dqr res_dkn res_dkr res_dv real_args)

attribute [local instance] Cert.Pre_finite.facts

/-- The reference runs to the end, keeps its arguments and leaves no signal behind. -/
theorem reference_quiescent : Cert.quiescent_ReferenceIdeal (hReferenceIdeal := Cert.ReferenceIdeal.Gen.facts) := fun m ρ _ =>
  (θ_run _ _ _).mono (fun r h => ⟨fun c => (h c).2.2.2.2.2, sem_eq_zero_of_no_sems rfl r.2⟩) (Cert.ReferenceIdeal.Value.run m ρ)

/-- The real numbers in an array. -/
abbrev rl {s : Shape} (a : FVec Ideal s .f32) : s.Idx → ℝ := fun i => (a i).toReal

/-- Of equal finite arguments the kernel's five results are the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hr := fun c => real_args _ _ _ _ _ _ (hpre c)
  refine ⟨fun c => Cert.ReferenceIdeal.Read.val_main_v70 (F := Ideal) (up (rl (g0 m c))) (up (rl (g1 m c))) (up (rl (g2 m c))) (up (rl (g3 m c))) (up (rl (g4 m c))) (up (rl (g5 m c))),
    fun c => Cert.ReferenceIdeal.Read.val_main_v65 (F := Ideal) (up (rl (g0 m c))) (up (rl (g1 m c))) (up (rl (g2 m c))) (up (rl (g3 m c))) (up (rl (g4 m c))) (up (rl (g5 m c))),
    fun c => Cert.ReferenceIdeal.Read.val_main_v68 (F := Ideal) (up (rl (g0 m c))) (up (rl (g1 m c))) (up (rl (g2 m c))) (up (rl (g3 m c))) (up (rl (g4 m c))) (up (rl (g5 m c))),
    fun c => Cert.ReferenceIdeal.Read.val_main_v66 (F := Ideal) (up (rl (g0 m c))) (up (rl (g1 m c))) (up (rl (g2 m c))) (up (rl (g3 m c))) (up (rl (g4 m c))) (up (rl (g5 m c))),
    fun c => Cert.ReferenceIdeal.Read.val_main_v48 (F := Ideal) (up (rl (g0 m c))) (up (rl (g1 m c))) (up (rl (g2 m c))) (up (rl (g3 m c))) (up (rl (g5 m c))),
    ?_, ?_⟩
  · refine (θ_run _ _ _).mono (fun r h c => ?_) (Cert.KernelIdeal.Value.run m g)
    obtain ⟨h0, h1, h2, h3, h4, h5⟩ := hr c
    obtain ⟨r0, r1, r2, r3, r4, rest⟩ := h c
    exact ⟨r0.trans (res_dqn m c _ _ _ _ _ _ h0 h1 h2 h3 h4 h5), r1.trans (res_dqr m c _ _ _ _ _ _ h0 h1 h2 h3 h4 h5),
      r2.trans (res_dkn m c _ _ _ _ _ _ h0 h1 h2 h3 h4 h5), r3.trans (res_dkr m c _ _ _ _ _ _ h0 h1 h2 h3 h4 h5),
      r4.trans (res_dv m c _ _ _ _ _ h0 h1 h2 h3 h5), rest⟩
  · refine (θ_run _ _ _).mono (fun r h c => ?_) (Cert.ReferenceIdeal.Value.run m' g')
    obtain ⟨h0, h1, h2, h3, h4, h5⟩ := hr c
    obtain ⟨e0, e1, e2, e3, e4, e5⟩ := hargs c
    replace h0 := e0.trans h0
    replace h1 := e1.trans h1
    replace h2 := e2.trans h2
    replace h3 := e3.trans h3
    replace h4 := e4.trans h4
    replace h5 := e5.trans h5
    obtain ⟨r0, r1, r2, r3, r4, rest⟩ := h c
    exact ⟨r0.trans ((Cert.ReferenceIdeal.Read.val_main_v70_eq m' c).trans (congr (congr (congr (congr (congr (congrArg _ h0) h1) h2) h3) h4) h5)),
      r1.trans ((Cert.ReferenceIdeal.Read.val_main_v65_eq m' c).trans (congr (congr (congr (congr (congr (congrArg _ h0) h1) h2) h3) h4) h5)),
      r2.trans ((Cert.ReferenceIdeal.Read.val_main_v68_eq m' c).trans (congr (congr (congr (congr (congr (congrArg _ h0) h1) h2) h3) h4) h5)),
      r3.trans ((Cert.ReferenceIdeal.Read.val_main_v66_eq m' c).trans (congr (congr (congr (congr (congr (congrArg _ h0) h1) h2) h3) h4) h5)),
      r4.trans ((Cert.ReferenceIdeal.Read.val_main_v48_eq m' c).trans (congr (congr (congr (congr (congrArg _ h0) h1) h2) h3) h5)), rest⟩

/-- Each named constant of the attention's backward pass is the rounding of the real number it stands for. -/
theorem preserves : Cert.preserves_Kernel_KernelIdeal :=
  ⟨IdealRules.named_const.statement Cert.KernelIdeal.κ "scale" .f32 0x3DD105EC#32 _ rfl,
    IdealRules.named_const.statement Cert.KernelIdeal.κ "log2e" .f32 0x3FB8AA3B#32 _ rfl,
    IdealRules.named_const.statement Cert.KernelIdeal.κ "scale_log2e" .f32 0x3E16C740#32 _ rfl⟩

open Cert.Results in
/-- The kernel programs and the references run to the end, keep their arguments and leave no signal behind; the idealized kernels
    are the kernels but for the constants named; and over the real numbers each kernel's results are its reference's. -/
theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts,
  Cert.Kernel15.Gen.facts, Cert.Kernel15Ideal.Gen.facts, Cert.Reference15Ideal.Gen.facts, Cert.Kernel16.Gen.facts,
  Cert.Kernel16Ideal.Gen.facts, Cert.Reference16Ideal.Gen.facts, Cert.Kernel17.Gen.facts, Cert.Kernel17Ideal.Gen.facts,
  Cert.Reference17Ideal.Gen.facts, Cert.Kernel18.Gen.facts, Cert.Kernel18Ideal.Gen.facts, Cert.Reference18Ideal.Gen.facts,
  Cert.Kernel19.Gen.facts, Cert.Kernel19Ideal.Gen.facts, Cert.Reference19Ideal.Gen.facts, Cert.Kernel20.Gen.facts,
  Cert.Kernel20Ideal.Gen.facts, Cert.Reference20Ideal.Gen.facts, Cert.Kernel21.Gen.facts, Cert.Kernel21Ideal.Gen.facts,
  Cert.Reference21Ideal.Gen.facts, Cert.Kernel22.Gen.facts, Cert.Kernel22Ideal.Gen.facts, Cert.Reference22Ideal.Gen.facts,
  Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Pre_finite.facts, Cert.Pre_finite5.facts,
  fun m ρ _ => Cert.Kernel.Gen.frame m ρ, fun m ρ _ => Cert.KernelIdeal.Gen.frame m ρ,
  fun m ρ _ => Cert.KernelIdeal.Gen.frame m ρ, reference_quiescent, fun m ρ _ => reference_quiescent m ρ trivial,
  fun m ρ _ => Cert.Kernel2.Gen.frame m ρ, fun m ρ _ => Cert.Kernel2Ideal.Gen.frame m ρ, reference2_quiescent,
  fun m ρ _ => Cert.Kernel3.Gen.frame m ρ, fun m ρ _ => Cert.Kernel3Ideal.Gen.frame m ρ, reference3_quiescent,
  fun m ρ _ => Cert.Kernel4.Gen.frame m ρ, fun m ρ _ => Cert.Kernel4Ideal.Gen.frame m ρ, reference4_quiescent,
  fun m ρ _ => Cert.Kernel5.Gen.frame m ρ, fun m ρ _ => Cert.Kernel5Ideal.Gen.frame m ρ,
  fun m ρ _ => Cert.Kernel5Ideal.Gen.frame m ρ, reference5_quiescent, fun m ρ _ => reference5_quiescent m ρ trivial,
  fun m ρ _ => Cert.Kernel6.Gen.frame m ρ, fun m ρ _ => Cert.Kernel6Ideal.Gen.frame m ρ, reference6_quiescent,
  fun m ρ _ => Cert.Kernel7.Gen.frame m ρ, fun m ρ _ => Cert.Kernel7Ideal.Gen.frame m ρ, reference7_quiescent,
  fun m ρ _ => Cert.Kernel8.Gen.frame m ρ, fun m ρ _ => Cert.Kernel8Ideal.Gen.frame m ρ, reference8_quiescent,
  fun m ρ _ => Cert.Kernel9.Gen.frame m ρ, fun m ρ _ => Cert.Kernel9Ideal.Gen.frame m ρ, reference9_quiescent,
  fun m ρ _ => Cert.Kernel10.Gen.frame m ρ, fun m ρ _ => Cert.Kernel10Ideal.Gen.frame m ρ, reference10_quiescent,
  fun m ρ _ => Cert.Kernel11.Gen.frame m ρ, fun m ρ _ => Cert.Kernel11Ideal.Gen.frame m ρ, reference11_quiescent,
  fun m ρ _ => Cert.Kernel12.Gen.frame m ρ, fun m ρ _ => Cert.Kernel12Ideal.Gen.frame m ρ, reference12_quiescent,
  fun m ρ _ => Cert.Kernel13.Gen.frame m ρ, fun m ρ _ => Cert.Kernel13Ideal.Gen.frame m ρ, reference13_quiescent,
  fun m ρ _ => Cert.Kernel14.Gen.frame m ρ, fun m ρ _ => Cert.Kernel14Ideal.Gen.frame m ρ, reference14_quiescent,
  fun m ρ _ => Cert.Kernel15.Gen.frame m ρ, fun m ρ _ => Cert.Kernel15Ideal.Gen.frame m ρ, reference15_quiescent,
  fun m ρ _ => Cert.Kernel16.Gen.frame m ρ, fun m ρ _ => Cert.Kernel16Ideal.Gen.frame m ρ, reference16_quiescent,
  fun m ρ _ => Cert.Kernel17.Gen.frame m ρ, fun m ρ _ => Cert.Kernel17Ideal.Gen.frame m ρ, reference17_quiescent,
  fun m ρ _ => Cert.Kernel18.Gen.frame m ρ, fun m ρ _ => Cert.Kernel18Ideal.Gen.frame m ρ, reference18_quiescent,
  fun m ρ _ => Cert.Kernel19.Gen.frame m ρ, fun m ρ _ => Cert.Kernel19Ideal.Gen.frame m ρ, reference19_quiescent,
  fun m ρ _ => Cert.Kernel20.Gen.frame m ρ, fun m ρ _ => Cert.Kernel20Ideal.Gen.frame m ρ, reference20_quiescent,
  fun m ρ _ => Cert.Kernel21.Gen.frame m ρ, fun m ρ _ => Cert.Kernel21Ideal.Gen.frame m ρ, reference21_quiescent,
  fun m ρ _ => Cert.Kernel22.Gen.frame m ρ, fun m ρ _ => Cert.Kernel22Ideal.Gen.frame m ρ, reference22_quiescent,
  fun m ρ _ => Cert.Kernel23.Gen.frame m ρ, fun m ρ _ => Cert.Kernel23Ideal.Gen.frame m ρ, reference23_quiescent,
  fun m ρ _ => Cert.Kernel24.Gen.frame m ρ, fun m ρ _ => Cert.Kernel24Ideal.Gen.frame m ρ, reference24_quiescent,
  fun m ρ _ => Cert.Kernel25.Gen.frame m ρ, fun m ρ _ => Cert.Kernel25Ideal.Gen.frame m ρ, reference25_quiescent,
  fun m ρ _ => Cert.Kernel26.Gen.frame m ρ, fun m ρ _ => Cert.Kernel26Ideal.Gen.frame m ρ, reference26_quiescent,
  fun m ρ _ => Cert.Kernel27.Gen.frame m ρ, fun m ρ _ => Cert.Kernel27Ideal.Gen.frame m ρ, reference27_quiescent,
  fun m ρ _ => Cert.Kernel28.Gen.frame m ρ, fun m ρ _ => Cert.Kernel28Ideal.Gen.frame m ρ, reference28_quiescent,
  fun m ρ _ => Cert.Kernel29.Gen.frame m ρ, fun m ρ _ => Cert.Kernel29Ideal.Gen.frame m ρ, reference29_quiescent,
  fun m ρ _ => Cert.Kernel30.Gen.frame m ρ, fun m ρ _ => Cert.Kernel30Ideal.Gen.frame m ρ, reference30_quiescent,
  fun m ρ _ => Cert.Kernel31.Gen.frame m ρ, fun m ρ _ => Cert.Kernel31Ideal.Gen.frame m ρ, reference31_quiescent,
  fun m ρ _ => Cert.Kernel32.Gen.frame m ρ, fun m ρ _ => Cert.Kernel32Ideal.Gen.frame m ρ, reference32_quiescent,
  preserves,
  value, trivial, up_grad, trivial, gate_grad, trivial, down_grad, trivial, act_grad, trivial, ffn_up, trivial, ffn_down,
  trivial, proj_qkv, trivial, mix_grad, trivial, qkv_grad, trivial, gates_grad, trivial, proj_gates, trivial, proj_lat,
  trivial, lat_grad,
  trivial, mix_out, trivial, merge_grad, trivial, out_grad, trivial, proj_sb, trivial, sb_out_grad, trivial, proj_sb_grad,
  trivial, ckv_grad, trivial, ukv_grad, trivial, proj_mla, trivial, mla_out_grad, trivial, mla_proj_grad, trivial, cq_grad,
  trivial, uq_grad, trivial, adamw_small, trivial, d_merge, trivial, d_x, trivial, d_res1, trivial, loss_grad⟩

end Cert.Proof

end
